-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_ConvInDw (m : (ℓ : Loc Cert.ConvInDw.nD Cert.ConvInDw.τ Cert.ConvInDw.sig) → Buf (Elt Bits) ℓ) : Prop :=
  True

def Pre_ConvInDwIdeal (m : (ℓ : Loc Cert.ConvInDwIdeal.nD Cert.ConvInDwIdeal.τ Cert.ConvInDwIdeal.sig) → Buf (Elt Ideal) ℓ) : Prop :=
  True

def Pre_ConvInDwRefIdeal (m : (ℓ : Loc Cert.ConvInDwRefIdeal.nD Cert.ConvInDwRefIdeal.τ Cert.ConvInDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_ConvOutDx (m : (ℓ : Loc Cert.ConvOutDx.nD Cert.ConvOutDx.τ Cert.ConvOutDx.sig) → Buf (Elt Bits) ℓ) : Prop :=
  True

def Pre_ConvOutDxIdeal (m : (ℓ : Loc Cert.ConvOutDxIdeal.nD Cert.ConvOutDxIdeal.τ Cert.ConvOutDxIdeal.sig) → Buf (Elt Ideal) ℓ) : Prop :=
  True

def Pre_ConvOutDxRefIdeal (m : (ℓ : Loc Cert.ConvOutDxRefIdeal.nD Cert.ConvOutDxRefIdeal.τ Cert.ConvOutDxRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_ConvNorm (m : (ℓ : Loc Cert.ConvNorm.nD Cert.ConvNorm.τ Cert.ConvNorm.sig) → Buf (Elt Bits) ℓ) : Prop :=
  True

def Pre_ConvNormIdeal (m : (ℓ : Loc Cert.ConvNormIdeal.nD Cert.ConvNormIdeal.τ Cert.ConvNormIdeal.sig) → Buf (Elt Ideal) ℓ) : Prop :=
  True

def Pre_ConvNormRefIdeal (m : (ℓ : Loc Cert.ConvNormRefIdeal.nD Cert.ConvNormRefIdeal.τ Cert.ConvNormRefIdeal.sig) → Buf (Elt Ideal) ℓ) : Prop :=
  True

def Pre_QkvNorm (m : (ℓ : Loc Cert.QkvNorm.nD Cert.QkvNorm.τ Cert.QkvNorm.sig) → Buf (Elt Bits) ℓ) : Prop :=
  True

def Pre_QkvNormIdeal (m : (ℓ : Loc Cert.QkvNormIdeal.nD Cert.QkvNormIdeal.τ Cert.QkvNormIdeal.sig) → Buf (Elt Ideal) ℓ) : Prop :=
  True

def Pre_QkvNormRefIdeal (m : (ℓ : Loc Cert.QkvNormRefIdeal.nD Cert.QkvNormRefIdeal.τ Cert.QkvNormRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateRefIdeal (m : (ℓ : Loc Cert.ConvGateRefIdeal.nD Cert.ConvGateRefIdeal.τ Cert.ConvGateRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_cotangent [hPre_finite_cotangent : Cert.Pre_finite_cotangent.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_cotangent.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_cotangent [hPre_finite_cotangent : Cert.Pre_finite_cotangent.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_cotangent.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2))) = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_ConvInDw [hConvInDw : Cert.ConvInDw.Facts] : Prop :=
  ∀ (m : (ℓ : Loc Cert.ConvInDw.nD Cert.ConvInDw.τ Cert.ConvInDw.sig) → Buf (Elt Bits) ℓ) (g : Dev Cert.ConvInDw.nD → PrngReg), Pre_ConvInDw m →
    θ_run (Cert.ConvInDw.defs (F := Bits)) (onTc (τ := Cert.ConvInDw.τ) (Cert.ConvInDw.main (F := Bits))) ⟨m, fun _ => 0, g⟩ (fun r => (∀ c : Dev Cert.ConvInDw.nD,
      r.2.mem ((c.tc : Thread Cert.ConvInDw.nD Cert.ConvInDw.τ).loc Cert.ConvInDw.main_arg0) = m ((c.tc : Thread Cert.ConvInDw.nD Cert.ConvInDw.τ).loc Cert.ConvInDw.main_arg0)
      ∧ r.2.mem ((c.tc : Thread Cert.ConvInDw.nD Cert.ConvInDw.τ).loc Cert.ConvInDw.main_arg1) = m ((c.tc : Thread Cert.ConvInDw.nD Cert.ConvInDw.τ).loc Cert.ConvInDw.main_arg1))
      ∧ r.2.sem = fun _ => 0)

def quiescent_ConvInDwIdeal [hConvInDwIdeal : Cert.ConvInDwIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg), Pre_ConvInDwIdeal m →
    θ_run (Cert.ConvInDwIdeal.defs (F := Ideal)) (onTc (τ := Cert.ConvInDwIdeal.τ) (Cert.ConvInDwIdeal.main (F := Ideal))) ⟨m, fun _ => 0, g⟩ (fun r => (∀ c : Dev Cert.ConvInDwIdeal.nD,
      r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
      ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ r.2.sem = fun _ => 0)

def quiescent_ConvInDwRefIdeal [hConvInDwRefIdeal : Cert.ConvInDwRefIdeal.Facts] : Prop :=
  ∀ (m : (ℓ : Loc Cert.ConvInDwRefIdeal.nD Cert.ConvInDwRefIdeal.τ Cert.ConvInDwRefIdeal.sig) → Buf (Elt Ideal) ℓ) (g : Dev Cert.ConvInDwRefIdeal.nD → PrngReg), Pre_ConvInDwRefIdeal m →
    θ_run (Cert.ConvInDwRefIdeal.defs (F := Ideal)) (onTc (τ := Cert.ConvInDwRefIdeal.τ) (Cert.ConvInDwRefIdeal.main (F := Ideal))) ⟨m, fun _ => 0, g⟩ (fun r => (∀ c : Dev Cert.ConvInDwRefIdeal.nD,
      r.2.mem ((c.tc : Thread Cert.ConvInDwRefIdeal.nD Cert.ConvInDwRefIdeal.τ).loc Cert.ConvInDwRefIdeal.main_arg0) = m ((c.tc : Thread Cert.ConvInDwRefIdeal.nD Cert.ConvInDwRefIdeal.τ).loc Cert.ConvInDwRefIdeal.main_arg0)
      ∧ r.2.mem ((c.tc : Thread Cert.ConvInDwRefIdeal.nD Cert.ConvInDwRefIdeal.τ).loc Cert.ConvInDwRefIdeal.main_arg1) = m ((c.tc : Thread Cert.ConvInDwRefIdeal.nD Cert.ConvInDwRefIdeal.τ).loc Cert.ConvInDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_ConvOutDx [hConvOutDx : Cert.ConvOutDx.Facts] : Prop :=
  ∀ (m : (ℓ : Loc Cert.ConvOutDx.nD Cert.ConvOutDx.τ Cert.ConvOutDx.sig) → Buf (Elt Bits) ℓ) (g : Dev Cert.ConvOutDx.nD → PrngReg), Pre_ConvOutDx m →
    θ_run (Cert.ConvOutDx.defs (F := Bits)) (onTc (τ := Cert.ConvOutDx.τ) (Cert.ConvOutDx.main (F := Bits))) ⟨m, fun _ => 0, g⟩ (fun r => (∀ c : Dev Cert.ConvOutDx.nD,
      r.2.mem ((c.tc : Thread Cert.ConvOutDx.nD Cert.ConvOutDx.τ).loc Cert.ConvOutDx.main_arg0) = m ((c.tc : Thread Cert.ConvOutDx.nD Cert.ConvOutDx.τ).loc Cert.ConvOutDx.main_arg0)
      ∧ r.2.mem ((c.tc : Thread Cert.ConvOutDx.nD Cert.ConvOutDx.τ).loc Cert.ConvOutDx.main_arg1) = m ((c.tc : Thread Cert.ConvOutDx.nD Cert.ConvOutDx.τ).loc Cert.ConvOutDx.main_arg1))
      ∧ r.2.sem = fun _ => 0)

def quiescent_ConvOutDxIdeal [hConvOutDxIdeal : Cert.ConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg), Pre_ConvOutDxIdeal m →
    θ_run (Cert.ConvOutDxIdeal.defs (F := Ideal)) (onTc (τ := Cert.ConvOutDxIdeal.τ) (Cert.ConvOutDxIdeal.main (F := Ideal))) ⟨m, fun _ => 0, g⟩ (fun r => (∀ c : Dev Cert.ConvOutDxIdeal.nD,
      r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
      ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ r.2.sem = fun _ => 0)

def quiescent_ConvOutDxRefIdeal [hConvOutDxRefIdeal : Cert.ConvOutDxRefIdeal.Facts] : Prop :=
  ∀ (m : (ℓ : Loc Cert.ConvOutDxRefIdeal.nD Cert.ConvOutDxRefIdeal.τ Cert.ConvOutDxRefIdeal.sig) → Buf (Elt Ideal) ℓ) (g : Dev Cert.ConvOutDxRefIdeal.nD → PrngReg), Pre_ConvOutDxRefIdeal m →
    θ_run (Cert.ConvOutDxRefIdeal.defs (F := Ideal)) (onTc (τ := Cert.ConvOutDxRefIdeal.τ) (Cert.ConvOutDxRefIdeal.main (F := Ideal))) ⟨m, fun _ => 0, g⟩ (fun r => (∀ c : Dev Cert.ConvOutDxRefIdeal.nD,
      r.2.mem ((c.tc : Thread Cert.ConvOutDxRefIdeal.nD Cert.ConvOutDxRefIdeal.τ).loc Cert.ConvOutDxRefIdeal.main_arg0) = m ((c.tc : Thread Cert.ConvOutDxRefIdeal.nD Cert.ConvOutDxRefIdeal.τ).loc Cert.ConvOutDxRefIdeal.main_arg0)
      ∧ r.2.mem ((c.tc : Thread Cert.ConvOutDxRefIdeal.nD Cert.ConvOutDxRefIdeal.τ).loc Cert.ConvOutDxRefIdeal.main_arg1) = m ((c.tc : Thread Cert.ConvOutDxRefIdeal.nD Cert.ConvOutDxRefIdeal.τ).loc Cert.ConvOutDxRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4))
      ∧ r.2.sem = fun _ => 0)

def quiescent_ConvNorm [hConvNorm : Cert.ConvNorm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2)
      ∧ r.2.mem ((c.tc : Thread Cert.ConvNorm.nD Cert.ConvNorm.τ).loc Cert.ConvNorm.main_arg3) = m ((c.tc : Thread Cert.ConvNorm.nD Cert.ConvNorm.τ).loc Cert.ConvNorm.main_arg3)
      ∧ r.2.mem ((c.tc : Thread Cert.ConvNorm.nD Cert.ConvNorm.τ).loc Cert.ConvNorm.main_arg4) = m ((c.tc : Thread Cert.ConvNorm.nD Cert.ConvNorm.τ).loc Cert.ConvNorm.main_arg4))
      ∧ r.2.sem = fun _ => 0)

def quiescent_ConvNormIdeal [hConvNormIdeal : Cert.ConvNormIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4))
      ∧ r.2.sem = fun _ => 0)

def quiescent_ConvNormRefIdeal [hConvNormRefIdeal : Cert.ConvNormRefIdeal.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4))
      ∧ r.2.sem = fun _ => 0)

def quiescent_QkvNorm [hQkvNorm : Cert.QkvNorm.Facts] : Prop :=
  ∀ (m : (ℓ : Loc Cert.QkvNorm.nD Cert.QkvNorm.τ Cert.QkvNorm.sig) → Buf (Elt Bits) ℓ) (g : Dev Cert.QkvNorm.nD → PrngReg), Pre_QkvNorm m →
    θ_run (Cert.QkvNorm.defs (F := Bits)) (onTc (τ := Cert.QkvNorm.τ) (Cert.QkvNorm.main (F := Bits))) ⟨m, fun _ => 0, g⟩ (fun r => (∀ c : Dev Cert.QkvNorm.nD,
      r.2.mem ((c.tc : Thread Cert.QkvNorm.nD Cert.QkvNorm.τ).loc Cert.QkvNorm.main_arg0) = m ((c.tc : Thread Cert.QkvNorm.nD Cert.QkvNorm.τ).loc Cert.QkvNorm.main_arg0)
      ∧ r.2.mem ((c.tc : Thread Cert.QkvNorm.nD Cert.QkvNorm.τ).loc Cert.QkvNorm.main_arg1) = m ((c.tc : Thread Cert.QkvNorm.nD Cert.QkvNorm.τ).loc Cert.QkvNorm.main_arg1)
      ∧ r.2.mem ((c.tc : Thread Cert.QkvNorm.nD Cert.QkvNorm.τ).loc Cert.QkvNorm.main_arg2) = m ((c.tc : Thread Cert.QkvNorm.nD Cert.QkvNorm.τ).loc Cert.QkvNorm.main_arg2)
      ∧ r.2.mem ((c.tc : Thread Cert.QkvNorm.nD Cert.QkvNorm.τ).loc Cert.QkvNorm.main_arg3) = m ((c.tc : Thread Cert.QkvNorm.nD Cert.QkvNorm.τ).loc Cert.QkvNorm.main_arg3)
      ∧ r.2.mem ((c.tc : Thread Cert.QkvNorm.nD Cert.QkvNorm.τ).loc Cert.QkvNorm.main_arg4) = m ((c.tc : Thread Cert.QkvNorm.nD Cert.QkvNorm.τ).loc Cert.QkvNorm.main_arg4))
      ∧ r.2.sem = fun _ => 0)

def quiescent_QkvNormIdeal [hQkvNormIdeal : Cert.QkvNormIdeal.Facts] : Prop :=
  ∀ (m : (ℓ : Loc Cert.QkvNormIdeal.nD Cert.QkvNormIdeal.τ Cert.QkvNormIdeal.sig) → Buf (Elt Ideal) ℓ) (g : Dev Cert.QkvNormIdeal.nD → PrngReg), Pre_QkvNormIdeal m →
    θ_run (Cert.QkvNormIdeal.defs (F := Ideal)) (onTc (τ := Cert.QkvNormIdeal.τ) (Cert.QkvNormIdeal.main (F := Ideal))) ⟨m, fun _ => 0, g⟩ (fun r => (∀ c : Dev Cert.QkvNormIdeal.nD,
      r.2.mem ((c.tc : Thread Cert.QkvNormIdeal.nD Cert.QkvNormIdeal.τ).loc Cert.QkvNormIdeal.main_arg0) = m ((c.tc : Thread Cert.QkvNormIdeal.nD Cert.QkvNormIdeal.τ).loc Cert.QkvNormIdeal.main_arg0)
      ∧ r.2.mem ((c.tc : Thread Cert.QkvNormIdeal.nD Cert.QkvNormIdeal.τ).loc Cert.QkvNormIdeal.main_arg1) = m ((c.tc : Thread Cert.QkvNormIdeal.nD Cert.QkvNormIdeal.τ).loc Cert.QkvNormIdeal.main_arg1)
      ∧ r.2.mem ((c.tc : Thread Cert.QkvNormIdeal.nD Cert.QkvNormIdeal.τ).loc Cert.QkvNormIdeal.main_arg2) = m ((c.tc : Thread Cert.QkvNormIdeal.nD Cert.QkvNormIdeal.τ).loc Cert.QkvNormIdeal.main_arg2)
      ∧ r.2.mem ((c.tc : Thread Cert.QkvNormIdeal.nD Cert.QkvNormIdeal.τ).loc Cert.QkvNormIdeal.main_arg3) = m ((c.tc : Thread Cert.QkvNormIdeal.nD Cert.QkvNormIdeal.τ).loc Cert.QkvNormIdeal.main_arg3)
      ∧ r.2.mem ((c.tc : Thread Cert.QkvNormIdeal.nD Cert.QkvNormIdeal.τ).loc Cert.QkvNormIdeal.main_arg4) = m ((c.tc : Thread Cert.QkvNormIdeal.nD Cert.QkvNormIdeal.τ).loc Cert.QkvNormIdeal.main_arg4))
      ∧ r.2.sem = fun _ => 0)

def quiescent_QkvNormRefIdeal [hQkvNormRefIdeal : Cert.QkvNormRefIdeal.Facts] : Prop :=
  ∀ (m : (ℓ : Loc Cert.QkvNormRefIdeal.nD Cert.QkvNormRefIdeal.τ Cert.QkvNormRefIdeal.sig) → Buf (Elt Ideal) ℓ) (g : Dev Cert.QkvNormRefIdeal.nD → PrngReg), Pre_QkvNormRefIdeal m →
    θ_run (Cert.QkvNormRefIdeal.defs (F := Ideal)) (onTc (τ := Cert.QkvNormRefIdeal.τ) (Cert.QkvNormRefIdeal.main (F := Ideal))) ⟨m, fun _ => 0, g⟩ (fun r => (∀ c : Dev Cert.QkvNormRefIdeal.nD,
      r.2.mem ((c.tc : Thread Cert.QkvNormRefIdeal.nD Cert.QkvNormRefIdeal.τ).loc Cert.QkvNormRefIdeal.main_arg0) = m ((c.tc : Thread Cert.QkvNormRefIdeal.nD Cert.QkvNormRefIdeal.τ).loc Cert.QkvNormRefIdeal.main_arg0)
      ∧ r.2.mem ((c.tc : Thread Cert.QkvNormRefIdeal.nD Cert.QkvNormRefIdeal.τ).loc Cert.QkvNormRefIdeal.main_arg1) = m ((c.tc : Thread Cert.QkvNormRefIdeal.nD Cert.QkvNormRefIdeal.τ).loc Cert.QkvNormRefIdeal.main_arg1)
      ∧ r.2.mem ((c.tc : Thread Cert.QkvNormRefIdeal.nD Cert.QkvNormRefIdeal.τ).loc Cert.QkvNormRefIdeal.main_arg2) = m ((c.tc : Thread Cert.QkvNormRefIdeal.nD Cert.QkvNormRefIdeal.τ).loc Cert.QkvNormRefIdeal.main_arg2)
      ∧ r.2.mem ((c.tc : Thread Cert.QkvNormRefIdeal.nD Cert.QkvNormRefIdeal.τ).loc Cert.QkvNormRefIdeal.main_arg3) = m ((c.tc : Thread Cert.QkvNormRefIdeal.nD Cert.QkvNormRefIdeal.τ).loc Cert.QkvNormRefIdeal.main_arg3)
      ∧ r.2.mem ((c.tc : Thread Cert.QkvNormRefIdeal.nD Cert.QkvNormRefIdeal.τ).loc Cert.QkvNormRefIdeal.main_arg4) = m ((c.tc : Thread Cert.QkvNormRefIdeal.nD Cert.QkvNormRefIdeal.τ).loc Cert.QkvNormRefIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnBwdIdeal_pre_finite_cotangent [hFfnBwdIdeal : Cert.FfnBwdIdeal.Facts] [hPre_finite_cotangent : Cert.Pre_finite_cotangent.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_cotangent m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2))
      ∧ r.2.sem = fun _ => 0)

def quiescent_FfnBwdRefIdeal_pre_finite_cotangent [hFfnBwdRefIdeal : Cert.FfnBwdRefIdeal.Facts] [hPre_finite_cotangent : Cert.Pre_finite_cotangent.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_cotangent m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v76) = v0 c
          ∧ r.2.mem ((c.tc : Thread Cert.ConvRefIdeal.nD Cert.ConvRefIdeal.τ).loc Cert.ConvRefIdeal.main_v77) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v6) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v6) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_ConvInDw_ConvInDwIdeal : Prop :=
  True

def algebraic_ConvInDwIdeal_ConvInDwRefIdeal [hConvInDwIdeal : Cert.ConvInDwIdeal.Facts] [hConvInDwRefIdeal : Cert.ConvInDwRefIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg)
    (m' : (ℓ : Loc Cert.ConvInDwRefIdeal.nD Cert.ConvInDwRefIdeal.τ Cert.ConvInDwRefIdeal.sig) → Buf (Elt Ideal) ℓ) (g' : Dev Cert.ConvInDwRefIdeal.nD → PrngReg), Pre_ConvInDwIdeal m →
    (∀ c : Dev Cert.ConvInDwIdeal.nD,
      m' ((c.tc : Thread Cert.ConvInDwRefIdeal.nD Cert.ConvInDwRefIdeal.τ).loc Cert.ConvInDwRefIdeal.main_arg0) = m ((c.tc : Thread Cert.ConvInDwIdeal.nD Cert.ConvInDwIdeal.τ).loc Cert.ConvInDwIdeal.main_arg0)
      ∧ m' ((c.tc : Thread Cert.ConvInDwRefIdeal.nD Cert.ConvInDwRefIdeal.τ).loc Cert.ConvInDwRefIdeal.main_arg1) = m ((c.tc : Thread Cert.ConvInDwIdeal.nD Cert.ConvInDwIdeal.τ).loc Cert.ConvInDwIdeal.main_arg1)) →
    ∃ (v0 : (c : Dev Cert.ConvInDwIdeal.nD) → Buf (Elt Ideal) ((c.tc : Thread Cert.ConvInDwIdeal.nD Cert.ConvInDwIdeal.τ).loc Cert.ConvInDwIdeal.main_v0)),
      θ_run (Cert.ConvInDwIdeal.defs (F := Ideal)) (onTc (τ := Cert.ConvInDwIdeal.τ) (Cert.ConvInDwIdeal.main (F := Ideal))) ⟨m, fun _ => 0, g⟩ (fun r => ∀ c : Dev Cert.ConvInDwIdeal.nD,
          r.2.mem ((c.tc : Thread Cert.ConvInDwIdeal.nD Cert.ConvInDwIdeal.τ).loc Cert.ConvInDwIdeal.main_v0) = v0 c
          ∧ r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
          ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ θ_run (Cert.ConvInDwRefIdeal.defs (F := Ideal)) (onTc (τ := Cert.ConvInDwRefIdeal.τ) (Cert.ConvInDwRefIdeal.main (F := Ideal))) ⟨m', fun _ => 0, g'⟩ (fun r => ∀ c : Dev Cert.ConvInDwRefIdeal.nD,
          r.2.mem ((c.tc : Thread Cert.ConvInDwRefIdeal.nD Cert.ConvInDwRefIdeal.τ).loc Cert.ConvInDwRefIdeal.main_v6) = v0 c
          ∧ r.2.mem ((c.tc : Thread Cert.ConvInDwRefIdeal.nD Cert.ConvInDwRefIdeal.τ).loc Cert.ConvInDwRefIdeal.main_arg0) = m' ((c.tc : Thread Cert.ConvInDwRefIdeal.nD Cert.ConvInDwRefIdeal.τ).loc Cert.ConvInDwRefIdeal.main_arg0)
          ∧ r.2.mem ((c.tc : Thread Cert.ConvInDwRefIdeal.nD Cert.ConvInDwRefIdeal.τ).loc Cert.ConvInDwRefIdeal.main_arg1) = m' ((c.tc : Thread Cert.ConvInDwRefIdeal.nD Cert.ConvInDwRefIdeal.τ).loc Cert.ConvInDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v6) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v7) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_ConvOutDx_ConvOutDxIdeal : Prop :=
  True

def algebraic_ConvOutDxIdeal_ConvOutDxRefIdeal [hConvOutDxIdeal : Cert.ConvOutDxIdeal.Facts] [hConvOutDxRefIdeal : Cert.ConvOutDxRefIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg)
    (m' : (ℓ : Loc Cert.ConvOutDxRefIdeal.nD Cert.ConvOutDxRefIdeal.τ Cert.ConvOutDxRefIdeal.sig) → Buf (Elt Ideal) ℓ) (g' : Dev Cert.ConvOutDxRefIdeal.nD → PrngReg), Pre_ConvOutDxIdeal m →
    (∀ c : Dev Cert.ConvOutDxIdeal.nD,
      m' ((c.tc : Thread Cert.ConvOutDxRefIdeal.nD Cert.ConvOutDxRefIdeal.τ).loc Cert.ConvOutDxRefIdeal.main_arg0) = m ((c.tc : Thread Cert.ConvOutDxIdeal.nD Cert.ConvOutDxIdeal.τ).loc Cert.ConvOutDxIdeal.main_arg0)
      ∧ m' ((c.tc : Thread Cert.ConvOutDxRefIdeal.nD Cert.ConvOutDxRefIdeal.τ).loc Cert.ConvOutDxRefIdeal.main_arg1) = m ((c.tc : Thread Cert.ConvOutDxIdeal.nD Cert.ConvOutDxIdeal.τ).loc Cert.ConvOutDxIdeal.main_arg1)) →
    ∃ (v0 : (c : Dev Cert.ConvOutDxIdeal.nD) → Buf (Elt Ideal) ((c.tc : Thread Cert.ConvOutDxIdeal.nD Cert.ConvOutDxIdeal.τ).loc Cert.ConvOutDxIdeal.main_v0)),
      θ_run (Cert.ConvOutDxIdeal.defs (F := Ideal)) (onTc (τ := Cert.ConvOutDxIdeal.τ) (Cert.ConvOutDxIdeal.main (F := Ideal))) ⟨m, fun _ => 0, g⟩ (fun r => ∀ c : Dev Cert.ConvOutDxIdeal.nD,
          r.2.mem ((c.tc : Thread Cert.ConvOutDxIdeal.nD Cert.ConvOutDxIdeal.τ).loc Cert.ConvOutDxIdeal.main_v0) = v0 c
          ∧ r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
          ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ θ_run (Cert.ConvOutDxRefIdeal.defs (F := Ideal)) (onTc (τ := Cert.ConvOutDxRefIdeal.τ) (Cert.ConvOutDxRefIdeal.main (F := Ideal))) ⟨m', fun _ => 0, g'⟩ (fun r => ∀ c : Dev Cert.ConvOutDxRefIdeal.nD,
          r.2.mem ((c.tc : Thread Cert.ConvOutDxRefIdeal.nD Cert.ConvOutDxRefIdeal.τ).loc Cert.ConvOutDxRefIdeal.main_v7) = v0 c
          ∧ r.2.mem ((c.tc : Thread Cert.ConvOutDxRefIdeal.nD Cert.ConvOutDxRefIdeal.τ).loc Cert.ConvOutDxRefIdeal.main_arg0) = m' ((c.tc : Thread Cert.ConvOutDxRefIdeal.nD Cert.ConvOutDxRefIdeal.τ).loc Cert.ConvOutDxRefIdeal.main_arg0)
          ∧ r.2.mem ((c.tc : Thread Cert.ConvOutDxRefIdeal.nD Cert.ConvOutDxRefIdeal.τ).loc Cert.ConvOutDxRefIdeal.main_arg1) = m' ((c.tc : Thread Cert.ConvOutDxRefIdeal.nD Cert.ConvOutDxRefIdeal.τ).loc Cert.ConvOutDxRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v6) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v5) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)) →
    ∃ (v0 : (c : Dev Cert.ConvOutIdeal.nD) → Buf (Elt Ideal) ((c.tc : Thread Cert.ConvOutIdeal.nD Cert.ConvOutIdeal.τ).loc Cert.ConvOutIdeal.main_v0_0)) (v1 : (c : Dev Cert.ConvOutIdeal.nD) → Buf (Elt Ideal) ((c.tc : Thread Cert.ConvOutIdeal.nD Cert.ConvOutIdeal.τ).loc Cert.ConvOutIdeal.main_v0_1)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0_0) = v0 c
          ∧ r.2.mem ((c.tc : Thread Cert.ConvOutIdeal.nD Cert.ConvOutIdeal.τ).loc Cert.ConvOutIdeal.main_v0_1) = v1 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v5) = v0 c
          ∧ r.2.mem ((c.tc : Thread Cert.ConvOutRefIdeal.nD Cert.ConvOutRefIdeal.τ).loc Cert.ConvOutRefIdeal.main_v20) = v1 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v8) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v0_0)) (v1 : (c : Dev Cert.AttnOutIdeal.nD) → Buf (Elt Ideal) ((c.tc : Thread Cert.AttnOutIdeal.nD Cert.AttnOutIdeal.τ).loc Cert.AttnOutIdeal.main_v0_1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0_0) = v0 c
          ∧ r.2.mem ((c.tc : Thread Cert.AttnOutIdeal.nD Cert.AttnOutIdeal.τ).loc Cert.AttnOutIdeal.main_v0_1) = v1 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v9) = v0 c
          ∧ r.2.mem ((c.tc : Thread Cert.AttnOutRefIdeal.nD Cert.AttnOutRefIdeal.τ).loc Cert.AttnOutRefIdeal.main_v24) = v1 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v5) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)) →
    ∃ (v0 : (c : Dev Cert.FfnNormIdeal.nD) → Buf (Elt Ideal) ((c.tc : Thread Cert.FfnNormIdeal.nD Cert.FfnNormIdeal.τ).loc Cert.FfnNormIdeal.main_v0_0)) (v1 : (c : Dev Cert.FfnNormIdeal.nD) → Buf (Elt Ideal) ((c.tc : Thread Cert.FfnNormIdeal.nD Cert.FfnNormIdeal.τ).loc Cert.FfnNormIdeal.main_v0_1)) (v2 : (c : Dev Cert.FfnNormIdeal.nD) → Buf (Elt Ideal) ((c.tc : Thread Cert.FfnNormIdeal.nD Cert.FfnNormIdeal.τ).loc Cert.FfnNormIdeal.main_v1)) (v3 : (c : Dev Cert.FfnNormIdeal.nD) → Buf (Elt Ideal) ((c.tc : Thread Cert.FfnNormIdeal.nD Cert.FfnNormIdeal.τ).loc Cert.FfnNormIdeal.main_v2)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0_0) = v0 c
          ∧ r.2.mem ((c.tc : Thread Cert.FfnNormIdeal.nD Cert.FfnNormIdeal.τ).loc Cert.FfnNormIdeal.main_v0_1) = v1 c
          ∧ r.2.mem ((c.tc : Thread Cert.FfnNormIdeal.nD Cert.FfnNormIdeal.τ).loc Cert.FfnNormIdeal.main_v1) = v2 c
          ∧ r.2.mem ((c.tc : Thread Cert.FfnNormIdeal.nD Cert.FfnNormIdeal.τ).loc Cert.FfnNormIdeal.main_v2) = v3 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v43) = v0 c
          ∧ r.2.mem ((c.tc : Thread Cert.FfnNormRefIdeal.nD Cert.FfnNormRefIdeal.τ).loc Cert.FfnNormRefIdeal.main_v44) = v1 c
          ∧ r.2.mem ((c.tc : Thread Cert.FfnNormRefIdeal.nD Cert.FfnNormRefIdeal.τ).loc Cert.FfnNormRefIdeal.main_v28) = v2 c
          ∧ r.2.mem ((c.tc : Thread Cert.FfnNormRefIdeal.nD Cert.FfnNormRefIdeal.τ).loc Cert.FfnNormRefIdeal.main_v45) = v3 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4))

def preserves_ConvNorm_ConvNormIdeal : Prop :=
  True

def algebraic_ConvNormIdeal_ConvNormRefIdeal [hConvNormIdeal : Cert.ConvNormIdeal.Facts] [hConvNormRefIdeal : Cert.ConvNormRefIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)
      ∧ m' ((c.tc : Thread Cert.ConvNormRefIdeal.nD Cert.ConvNormRefIdeal.τ).loc Cert.ConvNormRefIdeal.main_arg3) = m ((c.tc : Thread Cert.ConvNormIdeal.nD Cert.ConvNormIdeal.τ).loc Cert.ConvNormIdeal.main_arg3)
      ∧ m' ((c.tc : Thread Cert.ConvNormRefIdeal.nD Cert.ConvNormRefIdeal.τ).loc Cert.ConvNormRefIdeal.main_arg4) = m ((c.tc : Thread Cert.ConvNormIdeal.nD Cert.ConvNormIdeal.τ).loc Cert.ConvNormIdeal.main_arg4)) →
    ∃ (v0 : (c : Dev Cert.ConvNormIdeal.nD) → Buf (Elt Ideal) ((c.tc : Thread Cert.ConvNormIdeal.nD Cert.ConvNormIdeal.τ).loc Cert.ConvNormIdeal.main_v0_0)) (v1 : (c : Dev Cert.ConvNormIdeal.nD) → Buf (Elt Ideal) ((c.tc : Thread Cert.ConvNormIdeal.nD Cert.ConvNormIdeal.τ).loc Cert.ConvNormIdeal.main_v0_1)) (v2 : (c : Dev Cert.ConvNormIdeal.nD) → Buf (Elt Ideal) ((c.tc : Thread Cert.ConvNormIdeal.nD Cert.ConvNormIdeal.τ).loc Cert.ConvNormIdeal.main_v1)) (v3 : (c : Dev Cert.ConvNormIdeal.nD) → Buf (Elt Ideal) ((c.tc : Thread Cert.ConvNormIdeal.nD Cert.ConvNormIdeal.τ).loc Cert.ConvNormIdeal.main_v2)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v0_0) = v0 c
          ∧ r.2.mem ((c.tc : Thread Cert.ConvNormIdeal.nD Cert.ConvNormIdeal.τ).loc Cert.ConvNormIdeal.main_v0_1) = v1 c
          ∧ r.2.mem ((c.tc : Thread Cert.ConvNormIdeal.nD Cert.ConvNormIdeal.τ).loc Cert.ConvNormIdeal.main_v1) = v2 c
          ∧ r.2.mem ((c.tc : Thread Cert.ConvNormIdeal.nD Cert.ConvNormIdeal.τ).loc Cert.ConvNormIdeal.main_v2) = v3 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
          ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
          ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v43) = v0 c
          ∧ r.2.mem ((c.tc : Thread Cert.ConvNormRefIdeal.nD Cert.ConvNormRefIdeal.τ).loc Cert.ConvNormRefIdeal.main_v44) = v1 c
          ∧ r.2.mem ((c.tc : Thread Cert.ConvNormRefIdeal.nD Cert.ConvNormRefIdeal.τ).loc Cert.ConvNormRefIdeal.main_v28) = v2 c
          ∧ r.2.mem ((c.tc : Thread Cert.ConvNormRefIdeal.nD Cert.ConvNormRefIdeal.τ).loc Cert.ConvNormRefIdeal.main_v45) = v3 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2)
          ∧ r.2.mem ((c.tc : Thread Cert.ConvNormRefIdeal.nD Cert.ConvNormRefIdeal.τ).loc Cert.ConvNormRefIdeal.main_arg3) = m' ((c.tc : Thread Cert.ConvNormRefIdeal.nD Cert.ConvNormRefIdeal.τ).loc Cert.ConvNormRefIdeal.main_arg3)
          ∧ r.2.mem ((c.tc : Thread Cert.ConvNormRefIdeal.nD Cert.ConvNormRefIdeal.τ).loc Cert.ConvNormRefIdeal.main_arg4) = m' ((c.tc : Thread Cert.ConvNormRefIdeal.nD Cert.ConvNormRefIdeal.τ).loc Cert.ConvNormRefIdeal.main_arg4))

def preserves_QkvNorm_QkvNormIdeal : Prop :=
  True

def algebraic_QkvNormIdeal_QkvNormRefIdeal [hQkvNormIdeal : Cert.QkvNormIdeal.Facts] [hQkvNormRefIdeal : Cert.QkvNormRefIdeal.Facts] : Prop :=
  ∀ (m : (ℓ : Loc Cert.QkvNormIdeal.nD Cert.QkvNormIdeal.τ Cert.QkvNormIdeal.sig) → Buf (Elt Ideal) ℓ) (g : Dev Cert.QkvNormIdeal.nD → PrngReg)
    (m' : (ℓ : Loc Cert.QkvNormRefIdeal.nD Cert.QkvNormRefIdeal.τ Cert.QkvNormRefIdeal.sig) → Buf (Elt Ideal) ℓ) (g' : Dev Cert.QkvNormRefIdeal.nD → PrngReg), Pre_QkvNormIdeal m →
    (∀ c : Dev Cert.QkvNormIdeal.nD,
      m' ((c.tc : Thread Cert.QkvNormRefIdeal.nD Cert.QkvNormRefIdeal.τ).loc Cert.QkvNormRefIdeal.main_arg0) = m ((c.tc : Thread Cert.QkvNormIdeal.nD Cert.QkvNormIdeal.τ).loc Cert.QkvNormIdeal.main_arg0)
      ∧ m' ((c.tc : Thread Cert.QkvNormRefIdeal.nD Cert.QkvNormRefIdeal.τ).loc Cert.QkvNormRefIdeal.main_arg1) = m ((c.tc : Thread Cert.QkvNormIdeal.nD Cert.QkvNormIdeal.τ).loc Cert.QkvNormIdeal.main_arg1)
      ∧ m' ((c.tc : Thread Cert.QkvNormRefIdeal.nD Cert.QkvNormRefIdeal.τ).loc Cert.QkvNormRefIdeal.main_arg2) = m ((c.tc : Thread Cert.QkvNormIdeal.nD Cert.QkvNormIdeal.τ).loc Cert.QkvNormIdeal.main_arg2)
      ∧ m' ((c.tc : Thread Cert.QkvNormRefIdeal.nD Cert.QkvNormRefIdeal.τ).loc Cert.QkvNormRefIdeal.main_arg3) = m ((c.tc : Thread Cert.QkvNormIdeal.nD Cert.QkvNormIdeal.τ).loc Cert.QkvNormIdeal.main_arg3)
      ∧ m' ((c.tc : Thread Cert.QkvNormRefIdeal.nD Cert.QkvNormRefIdeal.τ).loc Cert.QkvNormRefIdeal.main_arg4) = m ((c.tc : Thread Cert.QkvNormIdeal.nD Cert.QkvNormIdeal.τ).loc Cert.QkvNormIdeal.main_arg4)) →
    ∃ (v0 : (c : Dev Cert.QkvNormIdeal.nD) → Buf (Elt Ideal) ((c.tc : Thread Cert.QkvNormIdeal.nD Cert.QkvNormIdeal.τ).loc Cert.QkvNormIdeal.main_v0_0)) (v1 : (c : Dev Cert.QkvNormIdeal.nD) → Buf (Elt Ideal) ((c.tc : Thread Cert.QkvNormIdeal.nD Cert.QkvNormIdeal.τ).loc Cert.QkvNormIdeal.main_v0_1)) (v2 : (c : Dev Cert.QkvNormIdeal.nD) → Buf (Elt Ideal) ((c.tc : Thread Cert.QkvNormIdeal.nD Cert.QkvNormIdeal.τ).loc Cert.QkvNormIdeal.main_v1)) (v3 : (c : Dev Cert.QkvNormIdeal.nD) → Buf (Elt Ideal) ((c.tc : Thread Cert.QkvNormIdeal.nD Cert.QkvNormIdeal.τ).loc Cert.QkvNormIdeal.main_v2)),
      θ_run (Cert.QkvNormIdeal.defs (F := Ideal)) (onTc (τ := Cert.QkvNormIdeal.τ) (Cert.QkvNormIdeal.main (F := Ideal))) ⟨m, fun _ => 0, g⟩ (fun r => ∀ c : Dev Cert.QkvNormIdeal.nD,
          r.2.mem ((c.tc : Thread Cert.QkvNormIdeal.nD Cert.QkvNormIdeal.τ).loc Cert.QkvNormIdeal.main_v0_0) = v0 c
          ∧ r.2.mem ((c.tc : Thread Cert.QkvNormIdeal.nD Cert.QkvNormIdeal.τ).loc Cert.QkvNormIdeal.main_v0_1) = v1 c
          ∧ r.2.mem ((c.tc : Thread Cert.QkvNormIdeal.nD Cert.QkvNormIdeal.τ).loc Cert.QkvNormIdeal.main_v1) = v2 c
          ∧ r.2.mem ((c.tc : Thread Cert.QkvNormIdeal.nD Cert.QkvNormIdeal.τ).loc Cert.QkvNormIdeal.main_v2) = v3 c
          ∧ r.2.mem ((c.tc : Thread Cert.QkvNormIdeal.nD Cert.QkvNormIdeal.τ).loc Cert.QkvNormIdeal.main_arg0) = m ((c.tc : Thread Cert.QkvNormIdeal.nD Cert.QkvNormIdeal.τ).loc Cert.QkvNormIdeal.main_arg0)
          ∧ r.2.mem ((c.tc : Thread Cert.QkvNormIdeal.nD Cert.QkvNormIdeal.τ).loc Cert.QkvNormIdeal.main_arg1) = m ((c.tc : Thread Cert.QkvNormIdeal.nD Cert.QkvNormIdeal.τ).loc Cert.QkvNormIdeal.main_arg1)
          ∧ r.2.mem ((c.tc : Thread Cert.QkvNormIdeal.nD Cert.QkvNormIdeal.τ).loc Cert.QkvNormIdeal.main_arg2) = m ((c.tc : Thread Cert.QkvNormIdeal.nD Cert.QkvNormIdeal.τ).loc Cert.QkvNormIdeal.main_arg2)
          ∧ r.2.mem ((c.tc : Thread Cert.QkvNormIdeal.nD Cert.QkvNormIdeal.τ).loc Cert.QkvNormIdeal.main_arg3) = m ((c.tc : Thread Cert.QkvNormIdeal.nD Cert.QkvNormIdeal.τ).loc Cert.QkvNormIdeal.main_arg3)
          ∧ r.2.mem ((c.tc : Thread Cert.QkvNormIdeal.nD Cert.QkvNormIdeal.τ).loc Cert.QkvNormIdeal.main_arg4) = m ((c.tc : Thread Cert.QkvNormIdeal.nD Cert.QkvNormIdeal.τ).loc Cert.QkvNormIdeal.main_arg4))
      ∧ θ_run (Cert.QkvNormRefIdeal.defs (F := Ideal)) (onTc (τ := Cert.QkvNormRefIdeal.τ) (Cert.QkvNormRefIdeal.main (F := Ideal))) ⟨m', fun _ => 0, g'⟩ (fun r => ∀ c : Dev Cert.QkvNormRefIdeal.nD,
          r.2.mem ((c.tc : Thread Cert.QkvNormRefIdeal.nD Cert.QkvNormRefIdeal.τ).loc Cert.QkvNormRefIdeal.main_v43) = v0 c
          ∧ r.2.mem ((c.tc : Thread Cert.QkvNormRefIdeal.nD Cert.QkvNormRefIdeal.τ).loc Cert.QkvNormRefIdeal.main_v44) = v1 c
          ∧ r.2.mem ((c.tc : Thread Cert.QkvNormRefIdeal.nD Cert.QkvNormRefIdeal.τ).loc Cert.QkvNormRefIdeal.main_v28) = v2 c
          ∧ r.2.mem ((c.tc : Thread Cert.QkvNormRefIdeal.nD Cert.QkvNormRefIdeal.τ).loc Cert.QkvNormRefIdeal.main_v45) = v3 c
          ∧ r.2.mem ((c.tc : Thread Cert.QkvNormRefIdeal.nD Cert.QkvNormRefIdeal.τ).loc Cert.QkvNormRefIdeal.main_arg0) = m' ((c.tc : Thread Cert.QkvNormRefIdeal.nD Cert.QkvNormRefIdeal.τ).loc Cert.QkvNormRefIdeal.main_arg0)
          ∧ r.2.mem ((c.tc : Thread Cert.QkvNormRefIdeal.nD Cert.QkvNormRefIdeal.τ).loc Cert.QkvNormRefIdeal.main_arg1) = m' ((c.tc : Thread Cert.QkvNormRefIdeal.nD Cert.QkvNormRefIdeal.τ).loc Cert.QkvNormRefIdeal.main_arg1)
          ∧ r.2.mem ((c.tc : Thread Cert.QkvNormRefIdeal.nD Cert.QkvNormRefIdeal.τ).loc Cert.QkvNormRefIdeal.main_arg2) = m' ((c.tc : Thread Cert.QkvNormRefIdeal.nD Cert.QkvNormRefIdeal.τ).loc Cert.QkvNormRefIdeal.main_arg2)
          ∧ r.2.mem ((c.tc : Thread Cert.QkvNormRefIdeal.nD Cert.QkvNormRefIdeal.τ).loc Cert.QkvNormRefIdeal.main_arg3) = m' ((c.tc : Thread Cert.QkvNormRefIdeal.nD Cert.QkvNormRefIdeal.τ).loc Cert.QkvNormRefIdeal.main_arg3)
          ∧ r.2.mem ((c.tc : Thread Cert.QkvNormRefIdeal.nD Cert.QkvNormRefIdeal.τ).loc Cert.QkvNormRefIdeal.main_arg4) = m' ((c.tc : Thread Cert.QkvNormRefIdeal.nD Cert.QkvNormRefIdeal.τ).loc Cert.QkvNormRefIdeal.main_arg4))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v38) = v0 c
          ∧ r.2.mem ((c.tc : Thread Cert.FfnOutRefIdeal.nD Cert.FfnOutRefIdeal.τ).loc Cert.FfnOutRefIdeal.main_v32) = v1 c
          ∧ r.2.mem ((c.tc : Thread Cert.FfnOutRefIdeal.nD Cert.FfnOutRefIdeal.τ).loc Cert.FfnOutRefIdeal.main_v53) = v2 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_ConvGate_ConvGateIdeal : Prop :=
  True

def algebraic_ConvGateIdeal_ConvGateRefIdeal [hConvGateIdeal : Cert.ConvGateIdeal.Facts] [hConvGateRefIdeal : Cert.ConvGateRefIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)) →
    ∃ (v0 : (c : Dev Cert.ConvGateIdeal.nD) → Buf (Elt Ideal) ((c.tc : Thread Cert.ConvGateIdeal.nD Cert.ConvGateIdeal.τ).loc Cert.ConvGateIdeal.main_v0)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v0) = v0 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v33) = v0 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v0)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v14) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v0_0)) (v2 : (c : Dev Cert.LossHeadIdeal.nD) → Buf (Elt Ideal) ((c.tc : Thread Cert.LossHeadIdeal.nD Cert.LossHeadIdeal.τ).loc Cert.LossHeadIdeal.main_v0_1)) (v3 : (c : Dev Cert.LossHeadIdeal.nD) → Buf (Elt Ideal) ((c.tc : Thread Cert.LossHeadIdeal.nD Cert.LossHeadIdeal.τ).loc Cert.LossHeadIdeal.main_v4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_v0_1) = v2 c
          ∧ r.2.mem ((c.tc : Thread Cert.LossHeadIdeal.nD Cert.LossHeadIdeal.τ).loc Cert.LossHeadIdeal.main_v4) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v25) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v37) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_FfnBwd_FfnBwdIdeal : Prop :=
  True

def algebraic_FfnBwdIdeal_FfnBwdRefIdeal_pre_finite_cotangent [hFfnBwdIdeal : Cert.FfnBwdIdeal.Facts] [hFfnBwdRefIdeal : Cert.FfnBwdRefIdeal.Facts] [hPre_finite_cotangent : Cert.Pre_finite_cotangent.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_cotangent m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v75) = v0 c
          ∧ r.2.mem ((c.tc : Thread Cert.FfnBwdRefIdeal.nD Cert.FfnBwdRefIdeal.τ).loc Cert.FfnBwdRefIdeal.main_v76) = v1 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2))

def Claim : Prop :=
  ∃ (hConvBwd : Cert.ConvBwd.Facts) (hConvBwdIdeal : Cert.ConvBwdIdeal.Facts) (hConvRefIdeal : Cert.ConvRefIdeal.Facts) (hFfnInDw : Cert.FfnInDw.Facts) (hFfnInDwIdeal : Cert.FfnInDwIdeal.Facts) (hFfnInDwRefIdeal : Cert.FfnInDwRefIdeal.Facts) (hFfnDownDw : Cert.FfnDownDw.Facts) (hFfnDownDwIdeal : Cert.FfnDownDwIdeal.Facts) (hFfnDownDwRefIdeal : Cert.FfnDownDwRefIdeal.Facts) (hConvInDw : Cert.ConvInDw.Facts) (hConvInDwIdeal : Cert.ConvInDwIdeal.Facts) (hConvInDwRefIdeal : Cert.ConvInDwRefIdeal.Facts) (hOutDw : Cert.OutDw.Facts) (hOutDwIdeal : Cert.OutDwIdeal.Facts) (hOutDwRefIdeal : Cert.OutDwRefIdeal.Facts) (hQkvDw : Cert.QkvDw.Facts) (hQkvDwIdeal : Cert.QkvDwIdeal.Facts) (hQkvDwRefIdeal : Cert.QkvDwRefIdeal.Facts) (hFfnDownDx : Cert.FfnDownDx.Facts) (hFfnDownDxIdeal : Cert.FfnDownDxIdeal.Facts) (hFfnDownDxRefIdeal : Cert.FfnDownDxRefIdeal.Facts) (hConvOutDx : Cert.ConvOutDx.Facts) (hConvOutDxIdeal : Cert.ConvOutDxIdeal.Facts) (hConvOutDxRefIdeal : Cert.ConvOutDxRefIdeal.Facts) (hAttnOutDx : Cert.AttnOutDx.Facts) (hAttnOutDxIdeal : Cert.AttnOutDxIdeal.Facts) (hAttnOutDxRefIdeal : Cert.AttnOutDxRefIdeal.Facts) (hConvIn : Cert.ConvIn.Facts) (hConvInIdeal : Cert.ConvInIdeal.Facts) (hConvInRefIdeal : Cert.ConvInRefIdeal.Facts) (hConvOut : Cert.ConvOut.Facts) (hConvOutIdeal : Cert.ConvOutIdeal.Facts) (hConvOutRefIdeal : Cert.ConvOutRefIdeal.Facts) (hQkv : Cert.Qkv.Facts) (hQkvIdeal : Cert.QkvIdeal.Facts) (hQkvRefIdeal : Cert.QkvRefIdeal.Facts) (hAttnOut : Cert.AttnOut.Facts) (hAttnOutIdeal : Cert.AttnOutIdeal.Facts) (hAttnOutRefIdeal : Cert.AttnOutRefIdeal.Facts) (hFfnIn : Cert.FfnIn.Facts) (hFfnInIdeal : Cert.FfnInIdeal.Facts) (hFfnInRefIdeal : Cert.FfnInRefIdeal.Facts) (hFfnNorm : Cert.FfnNorm.Facts) (hFfnNormIdeal : Cert.FfnNormIdeal.Facts) (hFfnNormRefIdeal : Cert.FfnNormRefIdeal.Facts) (hConvNorm : Cert.ConvNorm.Facts) (hConvNormIdeal : Cert.ConvNormIdeal.Facts) (hConvNormRefIdeal : Cert.ConvNormRefIdeal.Facts) (hQkvNorm : Cert.QkvNorm.Facts) (hQkvNormIdeal : Cert.QkvNormIdeal.Facts) (hQkvNormRefIdeal : Cert.QkvNormRefIdeal.Facts) (hFfnOut : Cert.FfnOut.Facts) (hFfnOutIdeal : Cert.FfnOutIdeal.Facts) (hFfnOutRefIdeal : Cert.FfnOutRefIdeal.Facts) (hConvGate : Cert.ConvGate.Facts) (hConvGateIdeal : Cert.ConvGateIdeal.Facts) (hConvGateRefIdeal : Cert.ConvGateRefIdeal.Facts) (hFirstNorm : Cert.FirstNorm.Facts) (hFirstNormIdeal : Cert.FirstNormIdeal.Facts) (hFirstNormRefIdeal : Cert.FirstNormRefIdeal.Facts) (hLossHead : Cert.LossHead.Facts) (hLossHeadIdeal : Cert.LossHeadIdeal.Facts) (hLossHeadRefIdeal : Cert.LossHeadRefIdeal.Facts) (hAdamwSmall : Cert.AdamwSmall.Facts) (hAdamwSmallIdeal : Cert.AdamwSmallIdeal.Facts) (hAdamwSmallRefIdeal : Cert.AdamwSmallRefIdeal.Facts) (hFfnBwd : Cert.FfnBwd.Facts) (hFfnBwdIdeal : Cert.FfnBwdIdeal.Facts) (hFfnBwdRefIdeal : Cert.FfnBwdRefIdeal.Facts) (hPre_finite_cotangent : Cert.Pre_finite_cotangent.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_ConvInDw (hConvInDw := hConvInDw)
    ∧ quiescent_ConvInDwIdeal (hConvInDwIdeal := hConvInDwIdeal)
    ∧ quiescent_ConvInDwRefIdeal (hConvInDwRefIdeal := hConvInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_ConvOutDx (hConvOutDx := hConvOutDx)
    ∧ quiescent_ConvOutDxIdeal (hConvOutDxIdeal := hConvOutDxIdeal)
    ∧ quiescent_ConvOutDxRefIdeal (hConvOutDxRefIdeal := hConvOutDxRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_ConvNorm (hConvNorm := hConvNorm)
    ∧ quiescent_ConvNormIdeal (hConvNormIdeal := hConvNormIdeal)
    ∧ quiescent_ConvNormRefIdeal (hConvNormRefIdeal := hConvNormRefIdeal)
    ∧ quiescent_QkvNorm (hQkvNorm := hQkvNorm)
    ∧ quiescent_QkvNormIdeal (hQkvNormIdeal := hQkvNormIdeal)
    ∧ quiescent_QkvNormRefIdeal (hQkvNormRefIdeal := hQkvNormRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_ConvGate (hConvGate := hConvGate)
    ∧ quiescent_ConvGateIdeal (hConvGateIdeal := hConvGateIdeal)
    ∧ quiescent_ConvGateRefIdeal (hConvGateRefIdeal := hConvGateRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_FfnBwd (hFfnBwd := hFfnBwd)
    ∧ quiescent_FfnBwdIdeal (hFfnBwdIdeal := hFfnBwdIdeal)
    ∧ quiescent_FfnBwdIdeal_pre_finite_cotangent (hFfnBwdIdeal := hFfnBwdIdeal) (hPre_finite_cotangent := hPre_finite_cotangent)
    ∧ quiescent_FfnBwdRefIdeal (hFfnBwdRefIdeal := hFfnBwdRefIdeal)
    ∧ quiescent_FfnBwdRefIdeal_pre_finite_cotangent (hFfnBwdRefIdeal := hFfnBwdRefIdeal) (hPre_finite_cotangent := hPre_finite_cotangent)
    ∧ preserves_ConvBwd_ConvBwdIdeal
    ∧ algebraic_ConvBwdIdeal_ConvRefIdeal (hConvBwdIdeal := hConvBwdIdeal) (hConvRefIdeal := hConvRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_ConvInDw_ConvInDwIdeal
    ∧ algebraic_ConvInDwIdeal_ConvInDwRefIdeal (hConvInDwIdeal := hConvInDwIdeal) (hConvInDwRefIdeal := hConvInDwRefIdeal)
    ∧ preserves_OutDw_OutDwIdeal
    ∧ algebraic_OutDwIdeal_OutDwRefIdeal (hOutDwIdeal := hOutDwIdeal) (hOutDwRefIdeal := hOutDwRefIdeal)
    ∧ preserves_QkvDw_QkvDwIdeal
    ∧ algebraic_QkvDwIdeal_QkvDwRefIdeal (hQkvDwIdeal := hQkvDwIdeal) (hQkvDwRefIdeal := hQkvDwRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_ConvOutDx_ConvOutDxIdeal
    ∧ algebraic_ConvOutDxIdeal_ConvOutDxRefIdeal (hConvOutDxIdeal := hConvOutDxIdeal) (hConvOutDxRefIdeal := hConvOutDxRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_ConvIn_ConvInIdeal
    ∧ algebraic_ConvInIdeal_ConvInRefIdeal (hConvInIdeal := hConvInIdeal) (hConvInRefIdeal := hConvInRefIdeal)
    ∧ preserves_ConvOut_ConvOutIdeal
    ∧ algebraic_ConvOutIdeal_ConvOutRefIdeal (hConvOutIdeal := hConvOutIdeal) (hConvOutRefIdeal := hConvOutRefIdeal)
    ∧ preserves_Qkv_QkvIdeal
    ∧ algebraic_QkvIdeal_QkvRefIdeal (hQkvIdeal := hQkvIdeal) (hQkvRefIdeal := hQkvRefIdeal)
    ∧ preserves_AttnOut_AttnOutIdeal
    ∧ algebraic_AttnOutIdeal_AttnOutRefIdeal (hAttnOutIdeal := hAttnOutIdeal) (hAttnOutRefIdeal := hAttnOutRefIdeal)
    ∧ preserves_FfnIn_FfnInIdeal
    ∧ algebraic_FfnInIdeal_FfnInRefIdeal (hFfnInIdeal := hFfnInIdeal) (hFfnInRefIdeal := hFfnInRefIdeal)
    ∧ preserves_FfnNorm_FfnNormIdeal
    ∧ algebraic_FfnNormIdeal_FfnNormRefIdeal (hFfnNormIdeal := hFfnNormIdeal) (hFfnNormRefIdeal := hFfnNormRefIdeal)
    ∧ preserves_ConvNorm_ConvNormIdeal
    ∧ algebraic_ConvNormIdeal_ConvNormRefIdeal (hConvNormIdeal := hConvNormIdeal) (hConvNormRefIdeal := hConvNormRefIdeal)
    ∧ preserves_QkvNorm_QkvNormIdeal
    ∧ algebraic_QkvNormIdeal_QkvNormRefIdeal (hQkvNormIdeal := hQkvNormIdeal) (hQkvNormRefIdeal := hQkvNormRefIdeal)
    ∧ preserves_FfnOut_FfnOutIdeal
    ∧ algebraic_FfnOutIdeal_FfnOutRefIdeal (hFfnOutIdeal := hFfnOutIdeal) (hFfnOutRefIdeal := hFfnOutRefIdeal)
    ∧ preserves_ConvGate_ConvGateIdeal
    ∧ algebraic_ConvGateIdeal_ConvGateRefIdeal (hConvGateIdeal := hConvGateIdeal) (hConvGateRefIdeal := hConvGateRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_FfnBwd_FfnBwdIdeal
    ∧ algebraic_FfnBwdIdeal_FfnBwdRefIdeal_pre_finite_cotangent (hFfnBwdIdeal := hFfnBwdIdeal) (hFfnBwdRefIdeal := hFfnBwdRefIdeal) (hPre_finite_cotangent := hPre_finite_cotangent)
-- ==== Pre_finite_cotangent.lean ====
abbrev S8192x5632 : Shape := ⟨2, ![8192, 5632]⟩
abbrev S8192x2816 : Shape := ⟨2, ![8192, 2816]⟩
abbrev S3x2816 : Shape := ⟨2, ![3, 2816]⟩
abbrev S_ : Shape := ⟨0, ![]⟩

class Facts : Prop where
  slices_S8192x5632_S8192x2816_0_2816 : S8192x5632.Slices ![0, 2816] S8192x2816
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel

variable [Facts]

def fn {F : FTy → Type} [FloatOps F] (main_arg0 : FVec F S8192x5632 .bf16) (main_arg1 : FVec F S8192x2816 .bf16) (main_arg2 : FVec F S3x2816 .f32) : IVec S_ 1 :=
  let main_v0 : FVec F S8192x2816 .bf16 := (extractStridedSlice S8192x2816 ![0, 2816] · slices_S8192x5632_S8192x2816_0_2816) main_arg0
  let main_v1 : FVec F S8192x2816 .f32 := (extf .f32 · bitsLt_bf16_f32) main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_cst_0 : FVec F S_ .f32 := constant S_ .f32 0xFF800000#32
  let main_v4 : FVec F S8192x2816 .f32 := broadcastInDim S8192x2816 ![] bcast_S_S8192x2816 main_cst_0
  let main_v5 : IVec S8192x2816 1 := cmpf .ogt main_v1 main_v4
  let main_v6 : IVec S8192x2816 1 := andi main_v3 main_v5
  let main_c : IVec S_ 1 := constantI S_ 1 1#1
  let main_v7 : IVec S_ 1 := (fun x v => Host.reduce IntOp.andi x v reducesTo_S8192x2816_S_d0_1 h_S_) main_v6 main_c
  let main_v8 : FVec F S8192x2816 .f32 := (extf .f32 · bitsLt_bf16_f32) main_arg1
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  let main_cst_2 : FVec F S_ .f32 := constant S_ .f32 0xFF800000#32
  let main_v11 : FVec F S8192x2816 .f32 := broadcastInDim S8192x2816 ![] bcast_S_S8192x2816 main_cst_2
  let main_v12 : IVec S8192x2816 1 := cmpf .ogt main_v8 main_v11
  let main_v13 : IVec S8192x2816 1 := andi main_v10 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v7 main_v14
  main_v15
-- ==== ConvBwd.lean ====
abbrev S8192x3072 : Shape := ⟨2, ![8192, 3072]⟩
abbrev S8192x1024 : Shape := ⟨2, ![8192, 1024]⟩
abbrev S3x1024 : Shape := ⟨2, ![3, 1024]⟩
abbrev S8x1024 : Shape := ⟨2, ![8, 1024]⟩
abbrev S256x3072 : Shape := ⟨2, ![256, 3072]⟩
abbrev S16x3072 : Shape := ⟨2, ![16, 3072]⟩
abbrev S256x1024 : Shape := ⟨2, ![256, 1024]⟩
abbrev S16x1024 : Shape := ⟨2, ![16, 1024]⟩
abbrev S1x1024 : Shape := ⟨2, ![1, 1024]⟩
abbrev S16x2048 : Shape := ⟨2, ![16, 2048]⟩
abbrev S2x2048 : Shape := ⟨2, ![2, 2048]⟩
abbrev S2x1024 : Shape := ⟨2, ![2, 1024]⟩
abbrev S8x1 : Shape := ⟨2, ![8, 1]⟩
abbrev S248x1024 : Shape := ⟨2, ![248, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S8192x3072, .bf16⟩
  | .hbm, ⟨4, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdIdeal.lean ====
abbrev S8192x3072 : Shape := ⟨2, ![8192, 3072]⟩
abbrev S8192x1024 : Shape := ⟨2, ![8192, 1024]⟩
abbrev S3x1024 : Shape := ⟨2, ![3, 1024]⟩
abbrev S8x1024 : Shape := ⟨2, ![8, 1024]⟩
abbrev S256x3072 : Shape := ⟨2, ![256, 3072]⟩
abbrev S16x3072 : Shape := ⟨2, ![16, 3072]⟩
abbrev S256x1024 : Shape := ⟨2, ![256, 1024]⟩
abbrev S16x1024 : Shape := ⟨2, ![16, 1024]⟩
abbrev S1x1024 : Shape := ⟨2, ![1, 1024]⟩
abbrev S16x2048 : Shape := ⟨2, ![16, 2048]⟩
abbrev S2x2048 : Shape := ⟨2, ![2, 2048]⟩
abbrev S2x1024 : Shape := ⟨2, ![2, 1024]⟩
abbrev S8x1 : Shape := ⟨2, ![8, 1]⟩
abbrev S248x1024 : Shape := ⟨2, ![248, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S8192x3072, .bf16⟩
  | .hbm, ⟨4, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S8192x3072 : Shape := ⟨2, ![8192, 3072]⟩
abbrev S8192x1024 : Shape := ⟨2, ![8192, 1024]⟩
abbrev S3x1024 : Shape := ⟨2, ![3, 1024]⟩
abbrev S4x2048x3072 : Shape := ⟨3, ![4, 2048, 3072]⟩
abbrev S4x2048x1024 : Shape := ⟨3, ![4, 2048, 1024]⟩
abbrev S1x1024 : Shape := ⟨2, ![1, 1024]⟩
abbrev S1024 : Shape := ⟨1, ![1024]⟩
abbrev S4x2x1024 : Shape := ⟨3, ![4, 2, 1024]⟩
abbrev S_ : Shape := ⟨0, ![]⟩
abbrev S4x2046x1024 : Shape := ⟨3, ![4, 2046, 1024]⟩
abbrev S1x1x1024 : Shape := ⟨3, ![1, 1, 1024]⟩
abbrev S4x1x1024 : Shape := ⟨3, ![4, 1, 1024]⟩
abbrev S4x2047x1024 : Shape := ⟨3, ![4, 2047, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S8192x3072, .f32⟩
  | .hbm, ⟨4, _⟩ => ⟨S4x2048x3072, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S1x1024, .f32⟩
  | .hbm, ⟨10, _⟩ => ⟨S1024, .f32⟩
  | .hbm, ⟨11, _⟩ => ⟨S4x2x1024, .f32⟩
  | .hbm, ⟨12, _⟩ => ⟨S_, .f32⟩
  | .hbm, ⟨13, _⟩ => ⟨S4x2x1024, .f32⟩
  | .hbm, ⟨14, _⟩ => ⟨S4x2046x1024, .f32⟩
  | .hbm, ⟨15, _⟩ => ⟨S4x2048x1024, .f32⟩
  | .hbm, ⟨16, _⟩ => ⟨S_, .f32⟩
  | .hbm, ⟨17, _⟩ => ⟨S4x2x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S1x1024, .f32⟩
  | .hbm, ⟨22, _⟩ => ⟨S1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x2047x1024, .f32⟩
  | .hbm, ⟨27, _⟩ => ⟨S4x2048x1024, .f32⟩
  | .hbm, ⟨28, _⟩ => ⟨S_, .f32⟩
  | .hbm, ⟨29, _⟩ => ⟨S4x1x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S8192x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S1024, .f32⟩
  | .hbm, ⟨50, _⟩ => ⟨S1x1x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S3x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S4x1x1024, .f32⟩
  | .hbm, ⟨65, _⟩ => ⟨S4x2047x1024, .f32⟩
  | .hbm, ⟨66, _⟩ => ⟨S_, .f32⟩
  | .hbm, ⟨67, _⟩ => ⟨S4x2048x1024, .f32⟩
  | .hbm, ⟨68, _⟩ => ⟨S4x2048x1024, .f32⟩
  | .hbm, ⟨69, _⟩ => ⟨S1x1024, .f32⟩
  | .hbm, ⟨70, _⟩ => ⟨S_, .f32⟩
  | .hbm, ⟨71, _⟩ => ⟨S3x1024, .f32⟩
  | .hbm, ⟨72, _⟩ => ⟨S3x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S_, .f32⟩
  | .hbm, ⟨77, _⟩ => ⟨S1024, .f32⟩
  | .hbm, ⟨78, _⟩ => ⟨S1x1x1024, .f32⟩
  | .hbm, ⟨79, _⟩ => ⟨S_, .f32⟩
  | .hbm, ⟨80, _⟩ => ⟨S1024, .f32⟩
  | .hbm, ⟨81, _⟩ => ⟨S4x2x1024, .f32⟩
  | .hbm, ⟨82, _⟩ => ⟨S4x2046x1024, .f32⟩
  | .hbm, ⟨83, _⟩ => ⟨S_, .f32⟩
  | .hbm, ⟨84, _⟩ => ⟨S4x2048x1024, .f32⟩
  | .hbm, ⟨85, _⟩ => ⟨S4x2048x1024, .f32⟩
  | .hbm, ⟨86, _⟩ => ⟨S1x1024, .f32⟩
  | .hbm, ⟨87, _⟩ => ⟨S_, .f32⟩
  | .hbm, ⟨88, _⟩ => ⟨S3x1024, .f32⟩
  | .hbm, ⟨89, _⟩ => ⟨S3x1024, .f32⟩
  | .hbm, ⟨90, _⟩ => ⟨S4x2048x1024, .f32⟩
  | .hbm, ⟨91, _⟩ => ⟨S4x2048x1024, .f32⟩
  | .hbm, ⟨92, _⟩ => ⟨S4x2048x3072, .f32⟩
  | .hbm, ⟨93, _⟩ => ⟨S8192x3072, .f32⟩
  | .hbm, ⟨94, _⟩ => ⟨S8192x3072, .bf16⟩
  | .hbm, ⟨95, _⟩ => ⟨S_, .i32⟩
  | .hbm, ⟨96, _⟩ => ⟨S_, .f32⟩
  | .hbm, ⟨97, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c : Ref sig .tc := ⟨.hbm, 95, rfl⟩
abbrev main_call0_v0 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== FfnInDw.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvInDw.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDwRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvDw.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QkvDwRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDownDx.lean ====
abbrev S8192x1024 : Shape := ⟨2, ![8192, 1024]⟩
abbrev S4x2816x1024 : Shape := ⟨3, ![4, 2816, 1024]⟩
abbrev S8192x2816 : Shape := ⟨2, ![8192, 2816]⟩
abbrev S1024x1024 : Shape := ⟨2, ![1024, 1024]⟩
abbrev S1x2816x1024 : Shape := ⟨3, ![1, 2816, 1024]⟩
abbrev S1024x2816 : Shape := ⟨2, ![1024, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S8192x1024 : Shape := ⟨2, ![8192, 1024]⟩
abbrev S4x2816x1024 : Shape := ⟨3, ![4, 2816, 1024]⟩
abbrev S1x2816x1024 : Shape := ⟨3, ![1, 2816, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2816x1024, .bf16⟩
  | .hbm, ⟨2, _⟩ => ⟨S1x2816x1024, .bf16⟩
  | .hbm, ⟨3, _⟩ => ⟨S2816x1024, .bf16⟩
  | .hbm, ⟨4, _⟩ => ⟨S_, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvOutDx.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOutDxRefIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S_, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnOutDx.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxRefIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S_, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvIn.lean ====
abbrev S8192x1024 : Shape := ⟨2, ![8192, 1024]⟩
abbrev S2x1024x3072 : Shape := ⟨3, ![2, 1024, 3072]⟩
abbrev S8192x3072 : Shape := ⟨2, ![8192, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInRefIdeal.lean ====
abbrev S8192x1024 : Shape := ⟨2, ![8192, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x3072, .bf16⟩
  | .hbm, ⟨2, _⟩ => ⟨S1x1024x3072, .bf16⟩
  | .hbm, ⟨3, _⟩ => ⟨S1024x3072, .bf16⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ConvOut.lean ====
abbrev S8192x1024 : Shape := ⟨2, ![8192, 1024]⟩
abbrev S2x1024x1024 : Shape := ⟨3, ![2, 1024, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ConvOutRefIdeal.lean ====
abbrev S8192x1024 : Shape := ⟨2, ![8192, 1024]⟩
abbrev S2x1024x1024 : Shape := ⟨3, ![2, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .hbm, ⟨3, _⟩ => ⟨S1x1024, .f32⟩
  | .hbm, ⟨4, _⟩ => ⟨S1x1024x1024, .bf16⟩
  | .hbm, ⟨5, _⟩ => ⟨S1024x1024, .bf16⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Qkv.lean ====
abbrev S8192x1024 : Shape := ⟨2, ![8192, 1024]⟩
abbrev S2x1024x1536 : Shape := ⟨3, ![2, 1024, 1536]⟩
abbrev S1x1536 : Shape := ⟨2, ![1, 1536]⟩
abbrev S8192x1536 : Shape := ⟨2, ![8192, 1536]⟩
abbrev S1024x1024 : Shape := ⟨2, ![1024, 1024]⟩
abbrev S1x1024x768 : Shape := ⟨3, ![1, 1024, 768]⟩
abbrev S1x768 : Shape := ⟨2, ![1, 768]⟩
abbrev S1024x768 : Shape := ⟨2, ![1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2x1024x1536, .bf16⟩
  | .hbm, ⟨2, _⟩ => ⟨S1x1536, .f32⟩
  | .hbm, ⟨3, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x768, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvRefIdeal.lean ====
abbrev S8192x1024 : Shape := ⟨2, ![8192, 1024]⟩
abbrev S2x1024x1536 : Shape := ⟨3, ![2, 1024, 1536]⟩
abbrev S1x1536 : Shape := ⟨2, ![1, 1536]⟩
abbrev S1x1024x1536 : Shape := ⟨3, ![1, 1024, 1536]⟩
abbrev S1024x1536 : Shape := ⟨2, ![1024, 1536]⟩
abbrev S8192x1536 : Shape := ⟨2, ![8192, 1536]⟩
abbrev S1536 : Shape := ⟨1, ![1536]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1536, .bf16⟩
  | .hbm, ⟨2, _⟩ => ⟨S1x1536, .f32⟩
  | .hbm, ⟨3, _⟩ => ⟨S1x1024x1536, .bf16⟩
  | .hbm, ⟨4, _⟩ => ⟨S1024x1536, .bf16⟩
  | .hbm, ⟨5, _⟩ => ⟨S8192x1024, .f32⟩
  | .hbm, ⟨6, _⟩ => ⟨S1024x1536, .f32⟩
  | .hbm, ⟨7, _⟩ => ⟨S8192x1536, .f32⟩
  | .hbm, ⟨8, _⟩ => ⟨S1536, .f32⟩
  | .hbm, ⟨9, _⟩ => ⟨S1x1536, .f32⟩
  | .hbm, ⟨10, _⟩ => ⟨S8192x1536, .f32⟩
  | .hbm, ⟨11, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AttnOut.lean ====
abbrev S8192x1024 : Shape := ⟨2, ![8192, 1024]⟩
abbrev S2x1024x1024 : Shape := ⟨3, ![2, 1024, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== AttnOutRefIdeal.lean ====
abbrev S8192x1024 : Shape := ⟨2, ![8192, 1024]⟩
abbrev S2x1024x1024 : Shape := ⟨3, ![2, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024x1024, .bf16⟩
  | .hbm, ⟨6, _⟩ => ⟨S1024x1024, .bf16⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== FfnIn.lean ====
abbrev S8192x1024 : Shape := ⟨2, ![8192, 1024]⟩
abbrev S4x1024x5632 : Shape := ⟨3, ![4, 1024, 5632]⟩
abbrev S8192x5632 : Shape := ⟨2, ![8192, 5632]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S8192x1024 : Shape := ⟨2, ![8192, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x5632, .bf16⟩
  | .hbm, ⟨2, _⟩ => ⟨S1x1024x5632, .bf16⟩
  | .hbm, ⟨3, _⟩ => ⟨S1024x5632, .bf16⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnNorm.lean ====
abbrev S8192x1024 : Shape := ⟨2, ![8192, 1024]⟩
abbrev S8192x5632 : Shape := ⟨2, ![8192, 5632]⟩
abbrev S4x1024x5632 : Shape := ⟨3, ![4, 1024, 5632]⟩
abbrev S1x1024 : Shape := ⟨2, ![1, 1024]⟩
abbrev S8x1024 : Shape := ⟨2, ![8, 1024]⟩
abbrev S512x1024 : Shape := ⟨2, ![512, 1024]⟩
abbrev S512x5632 : Shape := ⟨2, ![512, 5632]⟩
abbrev S1x1024x5632 : Shape := ⟨3, ![1, 1024, 5632]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S1024x5632 : Shape := ⟨2, ![1024, 5632]⟩
abbrev S32x8x1024 : Shape := ⟨3, ![32, 8, 1024]⟩
abbrev S_ : Shape := ⟨0, ![]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S4x1024x5632, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S1x1024x5632, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnNormIdeal.lean ====
abbrev S8192x1024 : Shape := ⟨2, ![8192, 1024]⟩
abbrev S8192x5632 : Shape := ⟨2, ![8192, 5632]⟩
abbrev S4x1024x5632 : Shape := ⟨3, ![4, 1024, 5632]⟩
abbrev S1x1024 : Shape := ⟨2, ![1, 1024]⟩
abbrev S8x1024 : Shape := ⟨2, ![8, 1024]⟩
abbrev S512x1024 : Shape := ⟨2, ![512, 1024]⟩
abbrev S512x5632 : Shape := ⟨2, ![512, 5632]⟩
abbrev S1x1024x5632 : Shape := ⟨3, ![1, 1024, 5632]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S1024x5632 : Shape := ⟨2, ![1024, 5632]⟩
abbrev S32x8x1024 : Shape := ⟨3, ![32, 8, 1024]⟩
abbrev S_ : Shape := ⟨0, ![]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S4x1024x5632, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S1x1024x5632, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnNormRefIdeal.lean ====
abbrev S8192x1024 : Shape := ⟨2, ![8192, 1024]⟩
abbrev S8192x5632 : Shape := ⟨2, ![8192, 5632]⟩
abbrev S4x1024x5632 : Shape := ⟨3, ![4, 1024, 5632]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x5632 : Shape := ⟨3, ![1, 1024, 5632]⟩
abbrev S1024x5632 : Shape := ⟨2, ![1024, 5632]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S4x1024x5632, .bf16⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024x5632, .bf16⟩
  | .hbm, ⟨27, _⟩ => ⟨S1024x5632, .bf16⟩
  | .hbm, ⟨28, _⟩ => ⟨S1024x5632, .f32⟩
  | .hbm, ⟨29, _⟩ => ⟨S8192x5632, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S_, .f32⟩
  | .hbm, ⟨60, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== ConvNorm.lean ====
abbrev S8192x1024 : Shape := ⟨2, ![8192, 1024]⟩
abbrev S8192x3072 : Shape := ⟨2, ![8192, 3072]⟩
abbrev S2x1024x3072 : Shape := ⟨3, ![2, 1024, 3072]⟩
abbrev S1x1024 : Shape := ⟨2, ![1, 1024]⟩
abbrev S8x1024 : Shape := ⟨2, ![8, 1024]⟩
abbrev S512x1024 : Shape := ⟨2, ![512, 1024]⟩
abbrev S512x3072 : Shape := ⟨2, ![512, 3072]⟩
abbrev S1x1024x3072 : Shape := ⟨3, ![1, 1024, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S1024x3072 : Shape := ⟨2, ![1024, 3072]⟩
abbrev S32x8x1024 : Shape := ⟨3, ![32, 8, 1024]⟩
abbrev S_ : Shape := ⟨0, ![]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S2x1024x3072, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S1x1024x3072, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvNormIdeal.lean ====
abbrev S8192x1024 : Shape := ⟨2, ![8192, 1024]⟩
abbrev S8192x3072 : Shape := ⟨2, ![8192, 3072]⟩
abbrev S2x1024x3072 : Shape := ⟨3, ![2, 1024, 3072]⟩
abbrev S1x1024 : Shape := ⟨2, ![1, 1024]⟩
abbrev S8x1024 : Shape := ⟨2, ![8, 1024]⟩
abbrev S512x1024 : Shape := ⟨2, ![512, 1024]⟩
abbrev S512x3072 : Shape := ⟨2, ![512, 3072]⟩
abbrev S1x1024x3072 : Shape := ⟨3, ![1, 1024, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S1024x3072 : Shape := ⟨2, ![1024, 3072]⟩
abbrev S32x8x1024 : Shape := ⟨3, ![32, 8, 1024]⟩
abbrev S_ : Shape := ⟨0, ![]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S2x1024x3072, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S1x1024x3072, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvNormRefIdeal.lean ====
abbrev S8192x1024 : Shape := ⟨2, ![8192, 1024]⟩
abbrev S8192x3072 : Shape := ⟨2, ![8192, 3072]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x3072 : Shape := ⟨3, ![1, 1024, 3072]⟩
abbrev S1024x3072 : Shape := ⟨2, ![1024, 3072]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S2x1024x3072, .bf16⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024x3072, .bf16⟩
  | .hbm, ⟨27, _⟩ => ⟨S1024x3072, .bf16⟩
  | .hbm, ⟨28, _⟩ => ⟨S1024x3072, .f32⟩
  | .hbm, ⟨29, _⟩ => ⟨S8192x3072, .f32⟩
  | .hbm, ⟨30, _⟩ => ⟨S8192x3072, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S_, .f32⟩
  | .hbm, ⟨60, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== QkvNorm.lean ====
abbrev S8192x1024 : Shape := ⟨2, ![8192, 1024]⟩
abbrev S8192x1536 : Shape := ⟨2, ![8192, 1536]⟩
abbrev S2x1024x1536 : Shape := ⟨3, ![2, 1024, 1536]⟩
abbrev S1x1024 : Shape := ⟨2, ![1, 1024]⟩
abbrev S8x1024 : Shape := ⟨2, ![8, 1024]⟩
abbrev S512x1024 : Shape := ⟨2, ![512, 1024]⟩
abbrev S512x1536 : Shape := ⟨2, ![512, 1536]⟩
abbrev S1x1024x1536 : Shape := ⟨3, ![1, 1024, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S1024x1536 : Shape := ⟨2, ![1024, 1536]⟩
abbrev S32x8x1024 : Shape := ⟨3, ![32, 8, 1024]⟩
abbrev S_ : Shape := ⟨0, ![]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1536, .bf16⟩
  | .hbm, ⟨2, _⟩ => ⟨S2x1024x1536, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S1x1024x1536, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QkvNormRefIdeal.lean ====
abbrev S8192x1024 : Shape := ⟨2, ![8192, 1024]⟩
abbrev S8192x1536 : Shape := ⟨2, ![8192, 1536]⟩
abbrev S2x1024x1536 : Shape := ⟨3, ![2, 1024, 1536]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x1536 : Shape := ⟨3, ![1, 1024, 1536]⟩
abbrev S1024x1536 : Shape := ⟨2, ![1024, 1536]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .bf16⟩
  | .hbm, ⟨2, _⟩ => ⟨S2x1024x1536, .bf16⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024x1536, .bf16⟩
  | .hbm, ⟨27, _⟩ => ⟨S1024x1536, .bf16⟩
  | .hbm, ⟨28, _⟩ => ⟨S1024x1536, .f32⟩
  | .hbm, ⟨29, _⟩ => ⟨S8192x1536, .f32⟩
  | .hbm, ⟨30, _⟩ => ⟨S8192x1536, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S_, .f32⟩
  | .hbm, ⟨60, _⟩ => ⟨S1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== FfnOut.lean ====
abbrev S8192x5632 : Shape := ⟨2, ![8192, 5632]⟩
abbrev S3x2816 : Shape := ⟨2, ![3, 2816]⟩
abbrev S4x2816x1024 : Shape := ⟨3, ![4, 2816, 1024]⟩
abbrev S8192x1024 : Shape := ⟨2, ![8192, 1024]⟩
abbrev S1x1024 : Shape := ⟨2, ![1, 1024]⟩
abbrev S8192x2816 : Shape := ⟨2, ![8192, 2816]⟩
abbrev S512x5632 : Shape := ⟨2, ![512, 5632]⟩
abbrev S16x5632 : Shape := ⟨2, ![16, 5632]⟩
abbrev S1x2816x1024 : Shape := ⟨3, ![1, 2816, 1024]⟩
abbrev S512x1024 : Shape := ⟨2, ![512, 1024]⟩
abbrev S512x2816 : Shape := ⟨2, ![512, 2816]⟩
abbrev S16x2816 : Shape := ⟨2, ![16, 2816]⟩
abbrev S2x2816 : Shape := ⟨2, ![2, 2816]⟩
abbrev S256x2816 : Shape := ⟨2, ![256, 2816]⟩
abbrev S512x256 : Shape := ⟨2, ![512, 256]⟩
abbrev S8x1 : Shape := ⟨2, ![8, 1]⟩
abbrev S8x2816 : Shape := ⟨2, ![8, 2816]⟩
abbrev S1x2816 : Shape := ⟨2, ![1, 2816]⟩
abbrev S248x2816 : Shape := ⟨2, ![248, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S4x2816x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x2816, .bf16⟩
  | .hbm, ⟨7, _⟩ => ⟨S8192x1024, .bf16⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S3x2816, .f32⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | .local _ .vmem, ⟨14, _⟩ => ⟨S512x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnOutRefIdeal.lean ====
abbrev S8192x5632 : Shape := ⟨2, ![8192, 5632]⟩
abbrev S3x2816 : Shape := ⟨2, ![3, 2816]⟩
abbrev S4x2816x1024 : Shape := ⟨3, ![4, 2816, 1024]⟩
abbrev S8192x1024 : Shape := ⟨2, ![8192, 1024]⟩
abbrev S1x1024 : Shape := ⟨2, ![1, 1024]⟩
abbrev S4x2048x5632 : Shape := ⟨3, ![4, 2048, 5632]⟩
abbrev S4x2048x2816 : Shape := ⟨3, ![4, 2048, 2816]⟩
abbrev S1x2816 : Shape := ⟨2, ![1, 2816]⟩
abbrev S2816 : Shape := ⟨1, ![2816]⟩
abbrev S4x2x2816 : Shape := ⟨3, ![4, 2, 2816]⟩
abbrev S_ : Shape := ⟨0, ![]⟩
abbrev S4x2046x2816 : Shape := ⟨3, ![4, 2046, 2816]⟩
abbrev S1x1x2816 : Shape := ⟨3, ![1, 1, 2816]⟩
abbrev S4x1x2816 : Shape := ⟨3, ![4, 1, 2816]⟩
abbrev S4x2047x2816 : Shape := ⟨3, ![4, 2047, 2816]⟩
abbrev S8192x2816 : Shape := ⟨2, ![8192, 2816]⟩
abbrev S1x2816x1024 : Shape := ⟨3, ![1, 2816, 1024]⟩
abbrev S2816x1024 : Shape := ⟨2, ![2816, 1024]⟩
abbrev S1024 : Shape := ⟨1, ![1024]⟩
abbrev S8192 : Shape := ⟨1, ![8192]⟩
abbrev S8192x1 : Shape := ⟨2, ![8192, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S4x2816x1024, .bf16⟩
  | .hbm, ⟨3, _⟩ => ⟨S8192x1024, .f32⟩
  | .hbm, ⟨4, _⟩ => ⟨S1x1024, .f32⟩
  | .hbm, ⟨5, _⟩ => ⟨S8192x5632, .f32⟩
  | .hbm, ⟨6, _⟩ => ⟨S4x2048x5632, .f32⟩
  | .hbm, ⟨7, _⟩ => ⟨S4x2048x2816, .f32⟩
  | .hbm, ⟨8, _⟩ => ⟨S4x2048x2816, .f32⟩
  | .hbm, ⟨9, _⟩ => ⟨S1x2816, .f32⟩
  | .hbm, ⟨10, _⟩ => ⟨S2816, .f32⟩
  | .hbm, ⟨11, _⟩ => ⟨S4x2x2816, .f32⟩
  | .hbm, ⟨12, _⟩ => ⟨S_, .f32⟩
  | .hbm, ⟨13, _⟩ => ⟨S4x2x2816, .f32⟩
  | .hbm, ⟨14, _⟩ => ⟨S4x2046x2816, .f32⟩
  | .hbm, ⟨15, _⟩ => ⟨S4x2048x2816, .f32⟩
  | .hbm, ⟨16, _⟩ => ⟨S1x1x2816, .f32⟩
  | .hbm, ⟨17, _⟩ => ⟨S4x2048x2816, .f32⟩
  | .hbm, ⟨18, _⟩ => ⟨S4x2048x2816, .f32⟩
  | .hbm, ⟨19, _⟩ => ⟨S1x2816, .f32⟩
  | .hbm, ⟨20, _⟩ => ⟨S2816, .f32⟩
  | .hbm, ⟨21, _⟩ => ⟨S4x1x2816, .f32⟩
  | .hbm, ⟨22, _⟩ => ⟨S_, .f32⟩
  | .hbm, ⟨23, _⟩ => ⟨S4x1x2816, .f32⟩
  | .hbm, ⟨24, _⟩ => ⟨S4x2047x2816, .f32⟩
  | .hbm, ⟨25, _⟩ => ⟨S4x2048x2816, .f32⟩
  | .hbm, ⟨26, _⟩ => ⟨S1x1x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S8192x2816, .f32⟩
  | .hbm, ⟨47, _⟩ => ⟨S8192x2816, .bf16⟩
  | .hbm, ⟨48, _⟩ => ⟨S1x2816x1024, .bf16⟩
  | .hbm, ⟨49, _⟩ => ⟨S2816x1024, .bf16⟩
  | .hbm, ⟨50, _⟩ => ⟨S8192x2816, .f32⟩
  | .hbm, ⟨51, _⟩ => ⟨S2816x1024, .f32⟩
  | .hbm, ⟨52, _⟩ => ⟨S8192x1024, .f32⟩
  | .hbm, ⟨53, _⟩ => ⟨S8192x1024, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_1 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== ConvGate.lean ====
abbrev S8192x3072 : Shape := ⟨2, ![8192, 3072]⟩
abbrev S3x1024 : Shape := ⟨2, ![3, 1024]⟩
abbrev S8192x1024 : Shape := ⟨2, ![8192, 1024]⟩
abbrev S256x3072 : Shape := ⟨2, ![256, 3072]⟩
abbrev S16x3072 : Shape := ⟨2, ![16, 3072]⟩
abbrev S256x1024 : Shape := ⟨2, ![256, 1024]⟩
abbrev S16x2048 : Shape := ⟨2, ![16, 2048]⟩
abbrev S2x2048 : Shape := ⟨2, ![2, 2048]⟩
abbrev S2x1024 : Shape := ⟨2, ![2, 1024]⟩
abbrev S8x1 : Shape := ⟨2, ![8, 1]⟩
abbrev S1x1024 : Shape := ⟨2, ![1, 1024]⟩
abbrev S8x1024 : Shape := ⟨2, ![8, 1024]⟩
abbrev S248x1024 : Shape := ⟨2, ![248, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvGateRefIdeal.lean ====
abbrev S8192x3072 : Shape := ⟨2, ![8192, 3072]⟩
abbrev S3x1024 : Shape := ⟨2, ![3, 1024]⟩
abbrev S4x2048x3072 : Shape := ⟨3, ![4, 2048, 3072]⟩
abbrev S4x2048x1024 : Shape := ⟨3, ![4, 2048, 1024]⟩
abbrev S1x1024 : Shape := ⟨2, ![1, 1024]⟩
abbrev S1024 : Shape := ⟨1, ![1024]⟩
abbrev S4x2x1024 : Shape := ⟨3, ![4, 2, 1024]⟩
abbrev S_ : Shape := ⟨0, ![]⟩
abbrev S4x2046x1024 : Shape := ⟨3, ![4, 2046, 1024]⟩
abbrev S1x1x1024 : Shape := ⟨3, ![1, 1, 1024]⟩
abbrev S4x1x1024 : Shape := ⟨3, ![4, 1, 1024]⟩
abbrev S4x2047x1024 : Shape := ⟨3, ![4, 2047, 1024]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x3072, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S1x1024, .f32⟩
  | .hbm, ⟨9, _⟩ => ⟨S1024, .f32⟩
  | .hbm, ⟨10, _⟩ => ⟨S4x2x1024, .f32⟩
  | .hbm, ⟨11, _⟩ => ⟨S_, .f32⟩
  | .hbm, ⟨12, _⟩ => ⟨S4x2x1024, .f32⟩
  | .hbm, ⟨13, _⟩ => ⟨S4x2046x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S4x1x1024, .f32⟩
  | .hbm, ⟨21, _⟩ => ⟨S_, .f32⟩
  | .hbm, ⟨22, _⟩ => ⟨S4x1x1024, .f32⟩
  | .hbm, ⟨23, _⟩ => ⟨S4x2047x1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S8192x1024, .f32⟩
  | .hbm, ⟨37, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== FirstNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamwSmall.lean ====
abbrev S1x24x1024 : Shape := ⟨3, ![1, 24, 1024]⟩
abbrev S1x8x1024 : Shape := ⟨3, ![1, 8, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S1x24x1024, .f32⟩
  | .hbm, ⟨5, _⟩ => ⟨S1x24x1024, .f32⟩
  | .hbm, ⟨6, _⟩ => ⟨S1x24x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | _, _ => ⟨S1x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwSmallRefIdeal.lean ====
abbrev S1x24x1024 : Shape := ⟨3, ![1, 24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S_, .f32⟩
  | .hbm, ⟨5, _⟩ => ⟨S1x24x1024, .f32⟩
  | .hbm, ⟨6, _⟩ => ⟨S1x24x1024, .f32⟩
  | .hbm, ⟨7, _⟩ => ⟨S_, .f32⟩
  | .hbm, ⟨8, _⟩ => ⟨S1x24x1024, .f32⟩
  | .hbm, ⟨9, _⟩ => ⟨S1x24x1024, .f32⟩
  | .hbm, ⟨10, _⟩ => ⟨S1x24x1024, .f32⟩
  | .hbm, ⟨11, _⟩ => ⟨S_, .f32⟩
  | .hbm, ⟨12, _⟩ => ⟨S1x24x1024, .f32⟩
  | .hbm, ⟨13, _⟩ => ⟨S1x24x1024, .f32⟩
  | .hbm, ⟨14, _⟩ => ⟨S1x24x1024, .f32⟩
  | .hbm, ⟨15, _⟩ => ⟨S_, .f32⟩
  | .hbm, ⟨16, _⟩ => ⟨S1x24x1024, .f32⟩
  | .hbm, ⟨17, _⟩ => ⟨S1x24x1024, .f32⟩
  | .hbm, ⟨18, _⟩ => ⟨S1x24x1024, .f32⟩
  | .hbm, ⟨19, _⟩ => ⟨S_, .f32⟩
  | .hbm, ⟨20, _⟩ => ⟨S1x24x1024, .f32⟩
  | .hbm, ⟨21, _⟩ => ⟨S1x24x1024, .f32⟩
  | .hbm, ⟨22, _⟩ => ⟨S_, .f32⟩
  | .hbm, ⟨23, _⟩ => ⟨S1x24x1024, .f32⟩
  | .hbm, ⟨24, _⟩ => ⟨S1x24x1024, .f32⟩
  | .hbm, ⟨25, _⟩ => ⟨S1x24x1024, .f32⟩
  | .hbm, ⟨26, _⟩ => ⟨S_, .f32⟩
  | .hbm, ⟨27, _⟩ => ⟨S1x24x1024, .f32⟩
  | .hbm, ⟨28, _⟩ => ⟨S1x24x1024, .f32⟩
  | .hbm, ⟨29, _⟩ => ⟨S1x24x1024, .f32⟩
  | .hbm, ⟨30, _⟩ => ⟨S_, .f32⟩
  | .hbm, ⟨31, _⟩ => ⟨S1x24x1024, .f32⟩
  | .hbm, ⟨32, _⟩ => ⟨S1x24x1024, .f32⟩
  | .hbm, ⟨33, _⟩ => ⟨S1x24x1024, .f32⟩
  | .hbm, ⟨34, _⟩ => ⟨S_, .f32⟩
  | .hbm, ⟨35, _⟩ => ⟨S1x24x1024, .f32⟩
  | .hbm, ⟨36, _⟩ => ⟨S1x24x1024, .f32⟩
  | _, _ => ⟨S1x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnBwd.lean ====
abbrev S8192x5632 : Shape := ⟨2, ![8192, 5632]⟩
abbrev S8192x2816 : Shape := ⟨2, ![8192, 2816]⟩
abbrev S3x2816 : Shape := ⟨2, ![3, 2816]⟩
abbrev S8x2816 : Shape := ⟨2, ![8, 2816]⟩
abbrev S256x5632 : Shape := ⟨2, ![256, 5632]⟩
abbrev S16x5632 : Shape := ⟨2, ![16, 5632]⟩
abbrev S256x2816 : Shape := ⟨2, ![256, 2816]⟩
abbrev S16x2816 : Shape := ⟨2, ![16, 2816]⟩
abbrev S512x256 : Shape := ⟨2, ![512, 256]⟩
abbrev S1x256 : Shape := ⟨2, ![1, 256]⟩
abbrev S256x256 : Shape := ⟨2, ![256, 256]⟩
abbrev S16x256 : Shape := ⟨2, ![16, 256]⟩
abbrev S2x256 : Shape := ⟨2, ![2, 256]⟩
abbrev S8x1 : Shape := ⟨2, ![8, 1]⟩
abbrev S8x256 : Shape := ⟨2, ![8, 256]⟩
abbrev S248x256 : Shape := ⟨2, ![248, 256]⟩
abbrev S256 : Shape := ⟨1, ![256]⟩

abbrev nBuf : Space → Nat
  | .hbm => 5
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S3x2816, .f32⟩
  | .hbm, ⟨3, _⟩ => ⟨S8192x5632, .bf16⟩
  | .hbm, ⟨4, _⟩ => ⟨S8x2816, .f32⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S16x5632, .bf16⟩
  | .local _ .vmem, ⟨5, _⟩ => ⟨S16x5632, .bf16⟩
  | .local _ .vmem, ⟨6, _⟩ => ⟨S256x2816, .bf16⟩
  | .local _ .vmem, ⟨7, _⟩ => ⟨S256x2816, .bf16⟩
  | .local _ .vmem, ⟨8, _⟩ => ⟨S16x2816, .bf16⟩
  | .local _ .vmem, ⟨9, _⟩ => ⟨S16x2816, .bf16⟩
  | .local _ .vmem, ⟨10, _⟩ => ⟨S3x2816, .f32⟩
  | .local _ .vmem, ⟨11, _⟩ => ⟨S256x5632, .bf16⟩
  | .local _ .vmem, ⟨12, _⟩ => ⟨S256x5632, .bf16⟩
  | .local _ .vmem, ⟨13, _⟩ => ⟨S8x2816, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnBwdRefIdeal.lean ====
abbrev S8192x5632 : Shape := ⟨2, ![8192, 5632]⟩
abbrev S8192x2816 : Shape := ⟨2, ![8192, 2816]⟩
abbrev S3x2816 : Shape := ⟨2, ![3, 2816]⟩
abbrev S4x2048x5632 : Shape := ⟨3, ![4, 2048, 5632]⟩
abbrev S4x2048x2816 : Shape := ⟨3, ![4, 2048, 2816]⟩
abbrev S1x2816 : Shape := ⟨2, ![1, 2816]⟩
abbrev S2816 : Shape := ⟨1, ![2816]⟩
abbrev S4x2x2816 : Shape := ⟨3, ![4, 2, 2816]⟩
abbrev S_ : Shape := ⟨0, ![]⟩
abbrev S4x2046x2816 : Shape := ⟨3, ![4, 2046, 2816]⟩
abbrev S1x1x2816 : Shape := ⟨3, ![1, 1, 2816]⟩
abbrev S4x1x2816 : Shape := ⟨3, ![4, 1, 2816]⟩
abbrev S4x2047x2816 : Shape := ⟨3, ![4, 2047, 2816]⟩
abbrev S8x2816 : Shape := ⟨2, ![8, 2816]⟩

abbrev nBuf : Space → Nat
  | .hbm => 112
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S3x2816, .f32⟩
  | .hbm, ⟨3, _⟩ => ⟨S8192x5632, .f32⟩
  | .hbm, ⟨4, _⟩ => ⟨S4x2048x5632, .f32⟩
  | .hbm, ⟨5, _⟩ => ⟨S4x2048x2816, .f32⟩
  | .hbm, ⟨6, _⟩ => ⟨S4x2048x2816, .f32⟩
  | .hbm, ⟨7, _⟩ => ⟨S1x2816, .f32⟩
  | .hbm, ⟨8, _⟩ => ⟨S2816, .f32⟩
  | .hbm, ⟨9, _⟩ => ⟨S4x2x2816, .f32⟩
  | .hbm, ⟨10, _⟩ => ⟨S_, .f32⟩
  | .hbm, ⟨11, _⟩ => ⟨S4x2x2816, .f32⟩
  | .hbm, ⟨12, _⟩ => ⟨S4x2046x2816, .f32⟩
  | .hbm, ⟨13, _⟩ => ⟨S4x2048x2816, .f32⟩
  | .hbm, ⟨14, _⟩ => ⟨S_, .f32⟩
  | .hbm, ⟨15, _⟩ => ⟨S4x2x2816, .f32⟩
  | .hbm, ⟨16, _⟩ => ⟨S1x1x2816, .f32⟩
  | .hbm, ⟨17, _⟩ => ⟨S4x2048x2816, .f32⟩
  | .hbm, ⟨18, _⟩ => ⟨S4x2048x2816, .f32⟩
  | .hbm, ⟨19, _⟩ => ⟨S1x2816, .f32⟩
  | .hbm, ⟨20, _⟩ => ⟨S2816, .f32⟩
  | .hbm, ⟨21, _⟩ => ⟨S4x1x2816, .f32⟩
  | .hbm, ⟨22, _⟩ => ⟨S_, .f32⟩
  | .hbm, ⟨23, _⟩ => ⟨S4x1x2816, .f32⟩
  | .hbm, ⟨24, _⟩ => ⟨S4x2047x2816, .f32⟩
  | .hbm, ⟨25, _⟩ => ⟨S4x2048x2816, .f32⟩
  | .hbm, ⟨26, _⟩ => ⟨S_, .f32⟩
  | .hbm, ⟨27, _⟩ => ⟨S4x1x2816, .f32⟩
  | .hbm, ⟨28, _⟩ => ⟨S1x1x2816, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S1x2816, .f32⟩
  | .hbm, ⟨33, _⟩ => ⟨S2816, .f32⟩
  | .hbm, ⟨34, _⟩ => ⟨S1x1x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S_, .f32⟩
  | .hbm, ⟨44, _⟩ => ⟨S4x2048x2816, .f32⟩
  | .hbm, ⟨45, _⟩ => ⟨S4x2048x2816, .f32⟩
  | .hbm, ⟨46, _⟩ => ⟨S_, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S8192x2816, .f32⟩
  | .hbm, ⟨53, _⟩ => ⟨S8192x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S4x2048x2816, .f32⟩
  | .hbm, ⟨61, _⟩ => ⟨S4x2048x2816, .f32⟩
  | .hbm, ⟨62, _⟩ => ⟨S4x2048x2816, .f32⟩
  | .hbm, ⟨63, _⟩ => ⟨S4x2048x2816, .f32⟩
  | .hbm, ⟨64, _⟩ => ⟨S_, .f32⟩
  | .hbm, ⟨65, _⟩ => ⟨S2816, .f32⟩
  | .hbm, ⟨66, _⟩ => ⟨S1x1x2816, .f32⟩
  | .hbm, ⟨67, _⟩ => ⟨S_, .f32⟩
  | .hbm, ⟨68, _⟩ => ⟨S2816, .f32⟩
  | .hbm, ⟨69, _⟩ => ⟨S1x2816, .f32⟩
  | .hbm, ⟨70, _⟩ => ⟨S_, .f32⟩
  | .hbm, ⟨71, _⟩ => ⟨S3x2816, .f32⟩
  | .hbm, ⟨72, _⟩ => ⟨S4x2048x2816, .f32⟩
  | .hbm, ⟨73, _⟩ => ⟨S4x2048x2816, .f32⟩
  | .hbm, ⟨74, _⟩ => ⟨S4x2048x2816, .f32⟩
  | .hbm, ⟨75, _⟩ => ⟨S_, .f32⟩
  | .hbm, ⟨76, _⟩ => ⟨S2816, .f32⟩
  | .hbm, ⟨77, _⟩ => ⟨S1x1x2816, .f32⟩
  | .hbm, ⟨78, _⟩ => ⟨S_, .f32⟩
  | .hbm, ⟨79, _⟩ => ⟨S2816, .f32⟩
  | .hbm, ⟨80, _⟩ => ⟨S4x1x2816, .f32⟩
  | .hbm, ⟨81, _⟩ => ⟨S4x2047x2816, .f32⟩
  | .hbm, ⟨82, _⟩ => ⟨S_, .f32⟩
  | .hbm, ⟨83, _⟩ => ⟨S4x2048x2816, .f32⟩
  | .hbm, ⟨84, _⟩ => ⟨S4x2048x2816, .f32⟩
  | .hbm, ⟨85, _⟩ => ⟨S1x2816, .f32⟩
  | .hbm, ⟨86, _⟩ => ⟨S_, .f32⟩
  | .hbm, ⟨87, _⟩ => ⟨S3x2816, .f32⟩
  | .hbm, ⟨88, _⟩ => ⟨S3x2816, .f32⟩
  | .hbm, ⟨89, _⟩ => ⟨S4x2048x2816, .f32⟩
  | .hbm, ⟨90, _⟩ => ⟨S4x2048x2816, .f32⟩
  | .hbm, ⟨91, _⟩ => ⟨S4x2048x2816, .f32⟩
  | .hbm, ⟨92, _⟩ => ⟨S_, .f32⟩
  | .hbm, ⟨93, _⟩ => ⟨S2816, .f32⟩
  | .hbm, ⟨94, _⟩ => ⟨S1x1x2816, .f32⟩
  | .hbm, ⟨95, _⟩ => ⟨S_, .f32⟩
  | .hbm, ⟨96, _⟩ => ⟨S2816, .f32⟩
  | .hbm, ⟨97, _⟩ => ⟨S4x2x2816, .f32⟩
  | .hbm, ⟨98, _⟩ => ⟨S4x2046x2816, .f32⟩
  | .hbm, ⟨99, _⟩ => ⟨S_, .f32⟩
  | .hbm, ⟨100, _⟩ => ⟨S4x2048x2816, .f32⟩
  | .hbm, ⟨101, _⟩ => ⟨S4x2048x2816, .f32⟩
  | .hbm, ⟨102, _⟩ => ⟨S1x2816, .f32⟩
  | .hbm, ⟨103, _⟩ => ⟨S_, .f32⟩
  | .hbm, ⟨104, _⟩ => ⟨S3x2816, .f32⟩
  | .hbm, ⟨105, _⟩ => ⟨S3x2816, .f32⟩
  | .hbm, ⟨106, _⟩ => ⟨S4x2048x5632, .f32⟩
  | .hbm, ⟨107, _⟩ => ⟨S8192x5632, .f32⟩
  | .hbm, ⟨108, _⟩ => ⟨S8192x5632, .bf16⟩
  | .hbm, ⟨109, _⟩ => ⟨S_, .i32⟩
  | .hbm, ⟨110, _⟩ => ⟨S_, .f32⟩
  | .hbm, ⟨111, _⟩ => ⟨S8x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c : Ref sig .tc := ⟨.hbm, 109, rfl⟩
abbrev main_call2_v0 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== Proof.Common.Blocks.lean ====
/-
  Reading blocks and matrices by the numbers of their rows and columns. An array of rank two is read with `rd2` at two
  natural numbers (outside the array it reads 0), so that two places of an array are compared by arithmetic on their row
  and column numbers. The lemmas on stores say what a list of stores through rectangles leaves at a row and a column.
-/
module

public import Idealize.ShloMosaic.Lib.Pointwise
public import Idealize.ShloMosaic.Lib.Pipeline.Value
public import Idealize.ShloMosaic.Lib.Pipeline.FrameBody
public import Idealize.ShloMosaic.Lib.Writes

@[expose] public section

noncomputable section

namespace Cert.Common

open Idealize.ShloMosaic

/-- The entry of a matrix at row `n` and column `l`, and 0 outside the matrix. -/
def rd2 {M N : ℕ} (X : (⟨2, ![M, N]⟩ : Shape).Idx → EReal) (n l : ℕ) : EReal :=
  if h : n < M ∧ l < N then X (ix2 ⟨n, h.1⟩ ⟨l, h.2⟩) else 0

/-- An entry at a canonical index is the entry at its two numbers. -/
theorem eq_rd2 {M N : ℕ} (X : (⟨2, ![M, N]⟩ : Shape).Idx → EReal) (a : Fin M) (b : Fin N) :
    X (ix2 a b) = rd2 X a.val b.val := by
  unfold rd2; rw [dif_pos ⟨a.isLt, b.isLt⟩]

/-- An entry at any index is the entry at its two numbers. -/
theorem eq_rd2' {M N : ℕ} (X : (⟨2, ![M, N]⟩ : Shape).Idx → EReal) (j : (⟨2, ![M, N]⟩ : Shape).Idx) :
    X j = rd2 X (j 0).val (j 1).val := by
  exact (congrArg X (eq_ix2 j)).trans (eq_rd2 X (j 0) (j 1))

/-- Entries at equal numbers are equal. -/
theorem rd2_congr {M N : ℕ} (X : (⟨2, ![M, N]⟩ : Shape).Idx → EReal) {n n' l l' : ℕ} (hn : n = n') (hl : l = l') :
    rd2 X n l = rd2 X n' l' := by subst hn; subst hl; rfl

/-- Two matrices with the same entries at all row and column numbers are the same. -/
theorem ext_rd2 {M N : ℕ} (X Y : (⟨2, ![M, N]⟩ : Shape).Idx → EReal)
    (h : ∀ n l, n < M → l < N → rd2 X n l = rd2 Y n l) : X = Y := by
  funext j
  rw [eq_rd2' X j, eq_rd2' Y j]
  exact h _ _ (j 0).isLt (j 1).isLt

/-- A choice by the equality of two small numbers as 32-bit words is the choice by their equality. -/
theorem select_eq_ofNat {α : Type} {n k : ℕ} (hn : n < 4294967296) (hk : k < 4294967296) (a b : α) :
    Scalar.select (IntOp.cmpi .eq (BitVec.ofNat 32 n) (BitVec.ofNat 32 k)) a b = if n = k then a else b := by
  by_cases h : n = k
  · subst h; simp [Scalar.select, IntOp.cmpi]
  · have hb : ¬ BitVec.ofNat 32 n = BitVec.ofNat 32 k := fun e => h (by
      have := congrArg BitVec.toNat e
      simpa [Nat.mod_eq_of_lt hn, Nat.mod_eq_of_lt hk] using this)
    simp [Scalar.select, IntOp.cmpi, beq_eq_false_iff_ne.mpr hb, h]

variable {Val : EltTy → Type} {e : EltTy} {M N : ℕ}

/-- A rectangle's place of an index, as row and column. -/
theorem unit2_emb (a b p q : ℕ) (inb : ∀ k, (![a, b] : Fin 2 → ℕ) k + (![p, q] : Fin 2 → ℕ) k ≤ (⟨2, ![M, N]⟩ : Shape).size k)
    (r : Fin M) (l : Fin N) (h : a ≤ r.val ∧ r.val < a + p ∧ b ≤ l.val ∧ l.val < b + q) :
    (Rect.unit (s := ⟨2, ![M, N]⟩) ![a, b] ![p, q] inb).emb (ix2 (n0 := p) (n1 := q) ⟨r.val - a, by omega⟩ ⟨l.val - b, by omega⟩)
      = ix2 r l := by
  funext k
  apply Fin.ext
  match k with
  | ⟨0, _⟩ => show a + 1 * (r.val - a) = r.val; omega
  | ⟨1, _⟩ => show b + 1 * (l.val - b) = l.val; omega

/-- A row and a column lie in a rectangle when both lie in its ranges. -/
theorem unit2_mem (a b p q : ℕ) (inb : ∀ k, (![a, b] : Fin 2 → ℕ) k + (![p, q] : Fin 2 → ℕ) k ≤ (⟨2, ![M, N]⟩ : Shape).size k)
    (r : Fin M) (l : Fin N) :
    ix2 r l ∈ (Rect.unit (s := ⟨2, ![M, N]⟩) ![a, b] ![p, q] inb).set
      ↔ a ≤ r.val ∧ r.val < a + p ∧ b ≤ l.val ∧ l.val < b + q := by
  rw [Rect.mem_set_unit]
  constructor
  · intro h
    have h0 := h 0
    have h1 := h 1
    exact ⟨h0.1, h0.2, h1.1, h1.2⟩
  · intro h k
    match k with
    | ⟨0, _⟩ => exact ⟨h.1, h.2.1⟩
    | ⟨1, _⟩ => exact ⟨h.2.2.1, h.2.2.2⟩

/-- What a list of stores leaves at a row and a column, the last store first: its payload inside its rectangle, and what
    the earlier stores leave outside of it. -/
theorem canon_unit2 [∀ e, Nonempty (Val e)] (a b p q : ℕ)
    (inb : ∀ k, (![a, b] : Fin 2 → ℕ) k + (![p, q] : Fin 2 → ℕ) k ≤ (⟨2, ![M, N]⟩ : Shape).size k)
    (w : (⟨2, ![p, q]⟩ : Shape).Idx → Val e) (L : List (View.Piece Val ⟨2, ![M, N]⟩ e)) (r : Fin M) (l : Fin N) :
    View.canon ((⟨Rect.unit (s := ⟨2, ![M, N]⟩) ![a, b] ![p, q] inb, w⟩ : View.Piece Val ⟨2, ![M, N]⟩ e) :: L) (ix2 r l)
      = if h : a ≤ r.val ∧ r.val < a + p ∧ b ≤ l.val ∧ l.val < b + q then
          w (ix2 (n0 := p) (n1 := q) ⟨r.val - a, by omega⟩ ⟨l.val - b, by omega⟩)
        else View.canon L (ix2 r l) := by
  split
  · rename_i h
    have := View.canon_cons_emb (Val := Val) (Rect.unit (s := ⟨2, ![M, N]⟩) ![a, b] ![p, q] inb) w L
      (ix2 (n0 := p) (n1 := q) ⟨r.val - a, by omega⟩ ⟨l.val - b, by omega⟩)
    rwa [unit2_emb a b p q inb r l h] at this
  · rename_i h
    exact View.canon_cons_of_not_mem _ L fun hm => h ((unit2_mem a b p q inb r l).mp hm)

/-- The same for stores over a buffer that held something before. -/
theorem read_writes_unit2 {sig : RefSig} {κ : Kind} {sp : Space} (v : View sig κ sp ⟨2, ![M, N]⟩ e) (f : v.ty.Contents Val)
    (a b p q : ℕ) (inb : ∀ k, (![a, b] : Fin 2 → ℕ) k + (![p, q] : Fin 2 → ℕ) k ≤ (⟨2, ![M, N]⟩ : Shape).size k)
    (w : (⟨2, ![p, q]⟩ : Shape).Idx → Val e) (L : List (View.Piece Val ⟨2, ![M, N]⟩ e)) (r : Fin M) (l : Fin N) :
    v.read Val (v.writes Val f ((⟨Rect.unit (s := ⟨2, ![M, N]⟩) ![a, b] ![p, q] inb, w⟩ : View.Piece Val ⟨2, ![M, N]⟩ e) :: L)) (ix2 r l)
      = if h : a ≤ r.val ∧ r.val < a + p ∧ b ≤ l.val ∧ l.val < b + q then
          w (ix2 (n0 := p) (n1 := q) ⟨r.val - a, by omega⟩ ⟨l.val - b, by omega⟩)
        else v.read Val (v.writes Val f L) (ix2 r l) := by
  split
  · rename_i h
    have := View.read_writes_cons_emb v f (Rect.unit (s := ⟨2, ![M, N]⟩) ![a, b] ![p, q] inb) w L
      (ix2 (n0 := p) (n1 := q) ⟨r.val - a, by omega⟩ ⟨l.val - b, by omega⟩)
    rwa [unit2_emb a b p q inb r l h] at this
  · rename_i h
    rw [View.writes_cons]
    exact View.read_slice_write_of_not_mem _ _ _ _ (by
      rw [Rect.map_emb_univ]; exact fun hm => h ((unit2_mem a b p q inb r l).mp hm))

/-- A load of a rectangle of a buffer whose stores cover it. -/
theorem readCov_unit2 {sig : RefSig} {κ : Kind} {sp : Space} (v : View sig κ sp ⟨2, ![M, N]⟩ e) [∀ e, Nonempty (Val e)]
    (L : List (View.Piece Val ⟨2, ![M, N]⟩ e)) (a b p q : ℕ)
    (inb : ∀ k, (![a, b] : Fin 2 → ℕ) k + (![p, q] : Fin 2 → ℕ) k ≤ (⟨2, ![M, N]⟩ : Shape).size k) (r : Fin p) (l : Fin q) :
    v.readCov L (Rect.unit (s := ⟨2, ![M, N]⟩) ![a, b] ![p, q] inb).toLoadRect (ix2 (n0 := p) (n1 := q) r l)
      = View.canon L (ix2 ⟨a + r.val, lt_of_lt_of_le (Nat.add_lt_add_left r.isLt a) (inb 0)⟩
        ⟨b + l.val, lt_of_lt_of_le (Nat.add_lt_add_left l.isLt b) (inb 1)⟩) := by
  rw [View.readCov_eq_canon']
  refine congrArg (View.canon L) ?_
  funext k
  apply Fin.ext
  match k with
  | ⟨0, _⟩ => show a + 1 * r.val = a + r.val; omega
  | ⟨1, _⟩ => show b + 1 * l.val = b + l.val; omega

/-- A load of a whole block reads the block. -/
theorem ld_zero2 (X : (⟨2, ![M, N]⟩ : Shape).Idx → Val e)
    (inb : ∀ k, (![0, 0] : Fin 2 → ℕ) k + (![M, N] : Fin 2 → ℕ) k ≤ (⟨2, ![M, N]⟩ : Shape).size k) (r : Fin M) (l : Fin N) :
    View.ld X (Rect.unit (s := ⟨2, ![M, N]⟩) ![0, 0] ![M, N] inb) (ix2 r l) = X (ix2 r l) := by
  refine congrArg X ?_
  funext k
  apply Fin.ext
  match k with
  | ⟨0, _⟩ => show 0 + 1 * r.val = r.val; omega
  | ⟨1, _⟩ => show 0 + 1 * l.val = l.val; omega

end Cert.Common

end
-- ==== Proof.Conv.Spec.lean ====
/-
  The gradient of the gated short convolution in plain formulas. The input `A` holds for each of the 8192 rows (four
  sequences of 2048 positions each) the gate in lanes 0–1023, the factor `c` in lanes 1024–2047 and the factor `v` in
  lanes 2048–3071. With `u = c * v` the forward pass is `gate * (w2 * u[n] + w1 * u[n-1] + w0 * u[n-2])`, where rows of
  an earlier sequence count as 0. `DY` is the cotangent of the result and `W` holds the three taps.
-/
module

public import proofs.«01_k».proof.Proof.Common.Blocks

@[expose] public section

noncomputable section

namespace Cert.ConvSpec

open Idealize.ShloMosaic Cert.Common

abbrev Wide := (⟨2, ![8192, 3072]⟩ : Shape).Idx → EReal
abbrev Rows := (⟨2, ![8192, 1024]⟩ : Shape).Idx → EReal
abbrev Taps := (⟨2, ![3, 1024]⟩ : Shape).Idx → EReal

variable (A : Wide) (DY : Rows) (W : Taps)

/-- The convolution's input at a row and lane. -/
def u (n l : ℕ) : EReal := rd2 A n (1024 + l) * rd2 A n (2048 + l)

/-- The input `k` positions earlier in the same sequence, 0 before the sequence starts. -/
def uBack (k n l : ℕ) : EReal := if n % 2048 < k then 0 else u A (n - k) l

/-- The convolution. -/
def conv (n l : ℕ) : EReal := rd2 W 2 l * u A n l + rd2 W 1 l * uBack A 1 n l + rd2 W 0 l * uBack A 2 n l

/-- The cotangent of the convolution. -/
def dz (n l : ℕ) : EReal := rd2 DY n l * rd2 A n l

/-- That cotangent `k` positions later in the same sequence, 0 after the sequence ends. -/
def dzAhead (k n l : ℕ) : EReal := if 2048 ≤ n % 2048 + k then 0 else dz A DY (n + k) l

/-- The cotangent of the convolution's input. -/
def du (n l : ℕ) : EReal := rd2 W 2 l * dz A DY n l + rd2 W 1 l * dzAhead A DY 1 n l + rd2 W 0 l * dzAhead A DY 2 n l

/-- The gradient with respect to the input, at a row and one of the 3072 lanes. -/
def dx (n j : ℕ) : EReal :=
  if j < 1024 then rd2 DY n j * conv A W n j
  else if j < 2048 then du A DY W n (j - 1024) * rd2 A n (j + 1024)
  else du A DY W n (j - 2048) * rd2 A n (j - 1024)

/-- What row `n` gives to the gradient of tap `k` in lane `l`. -/
def dwRow (k l n : ℕ) : EReal := dz A DY n l * uBack A (2 - k) n l

/-- The gradient with respect to the taps: rows 3–7 of the padded result are 0. -/
def dw (k l : ℕ) : EReal := if k < 3 then ∑ n ∈ Finset.range 8192, dwRow A DY k l n else 0

end Cert.ConvSpec

end
-- ==== Proof.Conv.Pay.lean ====
/-
  What one grid point of the convolution's backward kernel computes, read entry by entry: each intermediate block is the
  formula of `Cert.ConvSpec` at the block's rows.
-/
module

public import proofs.«01_k».proof.Proof.Gen.ConvBwdIdeal.Value
public import proofs.«01_k».proof.Proof.Conv.Spec

@[expose] public section

set_option maxRecDepth 16384

noncomputable section

open Idealize.ShloMosaic Idealize.ShloMosaic.TcCoe Idealize.SL.Sem

namespace Cert.ConvBwdIdeal.KernelValue

open Cert.ConvBwdIdeal Cert.ConvBwdIdeal.Gen Cert.Common Cert.ConvSpec

/-- The six input blocks of grid point `t` are cut from the arrays `A`, `DY`, `W`: rows `256 t …` of `A` and `DY`, the 16
    rows before and after them, and all of `W`. The neighbouring rows matter only inside a sequence. -/
structure Blocks (t : ℕ) (A : Wide) (DY : Rows) (W : Taps) (x0 : Vec Ideal S256x3072 .bf16) (x1 : Vec Ideal S16x3072 .bf16)
    (x2 : Vec Ideal S16x3072 .bf16) (x3 : Vec Ideal S256x1024 .bf16) (x4 : Vec Ideal S16x1024 .bf16) (x5 : Vec Ideal S3x1024 .f32) : Prop where
  lt : t < 32
  h0 : ∀ (r : Fin 256) (l : Fin 3072), x0 (ix2 r l) = rd2 A (256 * t + r.val) l.val
  h1 : t % 8 ≠ 0 → ∀ (r : Fin 16) (l : Fin 3072), x1 (ix2 r l) = rd2 A (256 * t - 16 + r.val) l.val
  h2 : t % 8 ≠ 7 → ∀ (r : Fin 16) (l : Fin 3072), x2 (ix2 r l) = rd2 A (256 * t + 256 + r.val) l.val
  h3 : ∀ (r : Fin 256) (l : Fin 1024), x3 (ix2 r l) = rd2 DY (256 * t + r.val) l.val
  h4 : t % 8 ≠ 7 → ∀ (r : Fin 16) (l : Fin 1024), x4 (ix2 r l) = rd2 DY (256 * t + 256 + r.val) l.val
  h5 : ∀ (r : Fin 3) (l : Fin 1024), x5 (ix2 r l) = rd2 W r.val l.val

/-- The factor that drops the rows before a sequence's first block. -/
theorem pay2_eq (i : grid0.Coords) : k0_pay2 (F := Ideal) i = if (i 0).val % 8 = 0 then 0 else 1 := by
  have hi : (i 0).val < 32 := (i 0).isLt
  have key : ∀ n : Fin 32, (Scalar.extui (Scalar.cmpi .ne (Scalar.select (Scalar.andi (Scalar.xori
      (Scalar.cmpi .slt (Scalar.remsi (BitVec.ofNat 32 n.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32)) (Scalar.select (Scalar.cmpi .eq 8#32 0#32) 1#32 8#32))
      (Scalar.remsi (BitVec.ofNat 32 n.val) (Scalar.select (Scalar.cmpi .eq 8#32 0#32) 1#32 8#32))) 0#32) : BitVec 32)
      = if n.val % 8 = 0 then 0#32 else 1#32 := by decide +kernel
  unfold k0_pay2
  dsimp only
  have := key ⟨(i 0).val, hi⟩
  dsimp only at this
  rw [this]
  split <;> pointwise <;> simp

/-- The factor that drops the rows after a sequence's last block. -/
theorem pay3_eq (i : grid0.Coords) : k0_pay3 (F := Ideal) i = if (i 0).val % 8 = 7 then 0 else 1 := by
  have hi : (i 0).val < 32 := (i 0).isLt
  have key : ∀ n : Fin 32, (Scalar.extui (Scalar.cmpi .ne (Scalar.select (Scalar.andi (Scalar.xori
      (Scalar.cmpi .slt (Scalar.remsi (BitVec.ofNat 32 n.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32)) (Scalar.select (Scalar.cmpi .eq 8#32 0#32) 1#32 8#32))
      (Scalar.remsi (BitVec.ofNat 32 n.val) (Scalar.select (Scalar.cmpi .eq 8#32 0#32) 1#32 8#32))) 7#32) : BitVec 32)
      = if n.val % 8 = 7 then 0#32 else 1#32 := by decide +kernel
  unfold k0_pay3
  dsimp only
  have := key ⟨(i 0).val, hi⟩
  dsimp only at this
  rw [this]
  split <;> pointwise <;> simp

variable {t : ℕ} {A : Wide} {DY : Rows} {W : Taps} {x0 : Vec Ideal S256x3072 .bf16} {x1 : Vec Ideal S16x3072 .bf16}
    {x2 : Vec Ideal S16x3072 .bf16} {x3 : Vec Ideal S256x1024 .bf16} {x4 : Vec Ideal S16x1024 .bf16} {x5 : Vec Ideal S3x1024 .f32}

abbrev lanesB (x0 : Vec Ideal S256x3072 .bf16) := View.ld x0 (Rect.unit ![0, 0] ![256, 1024] inb_S256x3072_S256x1024_0_0)
abbrev lanesC (x0 : Vec Ideal S256x3072 .bf16) := View.ld x0 (Rect.unit ![0, 1024] ![256, 1024] inb_S256x3072_S256x1024_0_1024)
abbrev lanesV (x0 : Vec Ideal S256x3072 .bf16) := View.ld x0 (Rect.unit ![0, 2048] ![256, 1024] inb_S256x3072_S256x1024_0_2048)
abbrev haloCV (x1 : Vec Ideal S16x3072 .bf16) := View.ld x1 (Rect.unit ![0, 1024] ![16, 2048] inb_S16x3072_S16x2048_0_1024)
abbrev haloB (x2 : Vec Ideal S16x3072 .bf16) := View.ld x2 (Rect.unit ![0, 0] ![16, 1024] inb_S16x3072_S16x1024_0_0)
abbrev wholeDy (x3 : Vec Ideal S256x1024 .bf16) := View.ld x3 (Rect.unit ![0, 0] ![256, 1024] inb_S256x1024_S256x1024_0_0)
abbrev haloDy (x4 : Vec Ideal S16x1024 .bf16) := View.ld x4 (Rect.unit ![0, 0] ![16, 1024] inb_S16x1024_S16x1024_0_0)

/-- The convolution's input in the block. -/
theorem u_block (B : Blocks t A DY W x0 x1 x2 x3 x4 x5) (r : Fin 256) (l : Fin 1024) :
    k0_pay7 (F := Ideal) (k0_pay5 (lanesC x0)) (lanesV x0) (ix2 r l) = u A (256 * t + r.val) l.val := by
  unfold_payloads
  pointwise [lanesC, lanesV]
  simp only [B.h0]
  rfl

/-- The cotangent of the convolution in the block. -/
theorem dz_block (B : Blocks t A DY W x0 x1 x2 x3 x4 x5) (r : Fin 256) (l : Fin 1024) :
    k0_pay13 (F := Ideal) (k0_pay4 (lanesB x0)) (wholeDy x3) (ix2 r l) = dz A DY (256 * t + r.val) l.val := by
  unfold_payloads
  pointwise [lanesB, wholeDy]
  simp only [B.h0, B.h3]
  unfold dz
  first | rfl | exact mul_comm _ _

/-- The last two rows before the block, 0 where the block starts a sequence. -/
theorem before_block (B : Blocks t A DY W x0 x1 x2 x3 x4 x5) (r : Fin 2) (l : Fin 1024) :
    k0_pay8 (F := Ideal) (if t % 8 = 0 then (0 : EReal) else 1) (haloCV x1) (ix2 r l)
      = if t % 8 = 0 then 0 else u A (256 * t + r.val - 2) l.val := by
  have ht := B.lt
  unfold_payloads
  pointwise [haloCV]
  split
  · simp
  · rename_i h
    simp only [B.h1 h, mul_one]
    unfold u
    congr 1 <;> exact rd2_congr _ (by omega) (by omega)

/-- The first two rows after the block, 0 where the block ends a sequence. -/
theorem after_block (B : Blocks t A DY W x0 x1 x2 x3 x4 x5) (r : Fin 2) (l : Fin 1024) :
    k0_pay14 (F := Ideal) (if t % 8 = 7 then (0 : EReal) else 1) (haloDy x4) (haloB x2) (ix2 r l)
      = if t % 8 = 7 then 0 else dz A DY (256 * t + 256 + r.val) l.val := by
  have ht := B.lt
  unfold_payloads
  pointwise [haloDy, haloB]
  split
  · simp
  · rename_i h
    simp only [B.h2 h, B.h4 h, mul_one]
    rfl

/-- The block moved down one row. -/
theorem back1_block (B : Blocks t A DY W x0 x1 x2 x3 x4 x5) (r : Fin 256) (l : Fin 1024) :
    k0_pay9 (F := Ideal) (if t % 8 = 0 then (0 : EReal) else 1) (k0_pay5 (lanesC x0)) (lanesV x0) (haloCV x1) (ix2 r l)
      = uBack A 1 (256 * t + r.val) l.val := by
  have ht := B.lt
  have hr := r.isLt
  unfold k0_pay9
  pointwise
  simp only [u_block B, before_block B, select_eq_ofNat (show r.val < 4294967296 by omega) (show 0 < 4294967296 by omega)]
  unfold uBack
  split_ifs <;> first | (exfalso; omega) | (congr 1 <;> omega) | rfl

/-- The block moved down two rows. -/
theorem back2_block (B : Blocks t A DY W x0 x1 x2 x3 x4 x5) (r : Fin 256) (l : Fin 1024) :
    k0_pay10 (F := Ideal) (if t % 8 = 0 then (0 : EReal) else 1) (k0_pay5 (lanesC x0)) (lanesV x0) (haloCV x1) (ix2 r l)
      = uBack A 2 (256 * t + r.val) l.val := by
  have ht := B.lt
  have hr := r.isLt
  unfold k0_pay10
  pointwise
  simp only [u_block B, before_block B, select_eq_ofNat (show r.val < 4294967296 by omega) (show 0 < 4294967296 by omega),
    select_eq_ofNat (show r.val < 4294967296 by omega) (show 1 < 4294967296 by omega)]
  unfold uBack
  split_ifs <;> first | (exfalso; omega) | (congr 1 <;> omega) | rfl

/-- The block moved up two rows. -/
theorem ahead2_block (B : Blocks t A DY W x0 x1 x2 x3 x4 x5) (r : Fin 256) (l : Fin 1024) :
    k0_pay15 (F := Ideal) (if t % 8 = 7 then (0 : EReal) else 1) (k0_pay4 (lanesB x0)) (wholeDy x3) (haloDy x4) (haloB x2) (ix2 r l)
      = dzAhead A DY 2 (256 * t + r.val) l.val := by
  have ht := B.lt
  have hr := r.isLt
  unfold k0_pay15
  pointwise
  simp only [dz_block B, after_block B, select_eq_ofNat (show r.val - 248 < 4294967296 by omega) (show 6 < 4294967296 by omega),
    select_eq_ofNat (show r.val - 248 < 4294967296 by omega) (show 7 < 4294967296 by omega)]
  unfold dzAhead
  split_ifs <;> first | (exfalso; omega) | (congr 1 <;> omega) | rfl

/-- Tap 2 and tap 1 of the cotangent of the convolution's input. -/
theorem du21_block (B : Blocks t A DY W x0 x1 x2 x3 x4 x5) (r : Fin 256) (l : Fin 1024) :
    k0_pay16 (F := Ideal) (if t % 8 = 7 then (0 : EReal) else 1) (View.ld x5 (Rect.unit ![1, 0] ![1, 1024] inb_S3x1024_S1x1024_1_0))
        (View.ld x5 (Rect.unit ![2, 0] ![1, 1024] inb_S3x1024_S1x1024_2_0)) (k0_pay4 (lanesB x0)) (wholeDy x3) (haloDy x4) (haloB x2) (ix2 r l)
      = rd2 W 2 l.val * dz A DY (256 * t + r.val) l.val + rd2 W 1 l.val * dzAhead A DY 1 (256 * t + r.val) l.val := by
  have ht := B.lt
  have hr := r.isLt
  unfold k0_pay16
  pointwise
  simp only [dz_block B, after_block B, B.h5, select_eq_ofNat (show r.val - 248 < 4294967296 by omega) (show 7 < 4294967296 by omega)]
  congr 2
  unfold dzAhead
  split_ifs <;> first | (exfalso; omega) | (congr 1 <;> omega) | rfl

/-- The cotangent of the convolution's input in the block. -/
theorem du_block (B : Blocks t A DY W x0 x1 x2 x3 x4 x5) (r : Fin 256) (l : Fin 1024) :
    k0_pay17 (F := Ideal) (View.ld x5 (Rect.unit ![0, 0] ![1, 1024] inb_S3x1024_S1x1024_0_0))
      (k0_pay15 (F := Ideal) (if t % 8 = 7 then (0 : EReal) else 1) (k0_pay4 (lanesB x0)) (wholeDy x3) (haloDy x4) (haloB x2))
      (k0_pay16 (F := Ideal) (if t % 8 = 7 then (0 : EReal) else 1) (View.ld x5 (Rect.unit ![1, 0] ![1, 1024] inb_S3x1024_S1x1024_1_0))
        (View.ld x5 (Rect.unit ![2, 0] ![1, 1024] inb_S3x1024_S1x1024_2_0)) (k0_pay4 (lanesB x0)) (wholeDy x3) (haloDy x4) (haloB x2)) (ix2 r l)
      = du A DY W (256 * t + r.val) l.val := by
  unfold k0_pay17
  pointwise
  simp only [du21_block B, ahead2_block B, B.h5]
  rfl

/-- The convolution in the block. -/
theorem conv_block (B : Blocks t A DY W x0 x1 x2 x3 x4 x5) (r : Fin 256) (l : Fin 1024) :
    k0_pay11 (F := Ideal) (if t % 8 = 0 then (0 : EReal) else 1) (View.ld x5 (Rect.unit ![0, 0] ![1, 1024] inb_S3x1024_S1x1024_0_0))
      (View.ld x5 (Rect.unit ![1, 0] ![1, 1024] inb_S3x1024_S1x1024_1_0)) (View.ld x5 (Rect.unit ![2, 0] ![1, 1024] inb_S3x1024_S1x1024_2_0))
      (k0_pay5 (lanesC x0)) (lanesV x0) (haloCV x1) (ix2 r l)
      = conv A W (256 * t + r.val) l.val := by
  unfold k0_pay11
  pointwise
  simp only [u_block B, back1_block B, back2_block B, B.h5]
  rfl

end Cert.ConvBwdIdeal.KernelValue
-- ==== Proof.Conv.Out.lean ====
/-
  What one grid point of the convolution's backward kernel leaves in its two output buffers: the rows of the input's
  gradient, and the taps' gradient with this block's rows added.
-/
module

public import proofs.«01_k».proof.Proof.Conv.Pay

@[expose] public section

set_option maxRecDepth 16384

noncomputable section

open Idealize.ShloMosaic Idealize.ShloMosaic.TcCoe Idealize.SL.Sem

namespace Cert.ConvBwdIdeal.KernelValue

open Cert.ConvBwdIdeal Cert.ConvBwdIdeal.Gen Cert.Common Cert.ConvSpec

variable {t : ℕ} {A : Wide} {DY : Rows} {W : Taps} {x0 : Vec Ideal S256x3072 .bf16} {x1 : Vec Ideal S16x3072 .bf16}
    {x2 : Vec Ideal S16x3072 .bf16} {x3 : Vec Ideal S256x1024 .bf16} {x4 : Vec Ideal S16x1024 .bf16} {x5 : Vec Ideal S3x1024 .f32}

/-- A sum over a block's rows is a sum over the rows' numbers. -/
theorem sum_block (f : ℕ → EReal) (n : ℕ) : ∑ r : Fin 256, f (n + r.val) = ∑ r ∈ Finset.range 256, f (n + r) :=
  (Finset.sum_range fun r => f (n + r)).symm

/-- A row of the taps' gradient, as a load or a store sees it. -/
theorem row_ix (k : ℕ) (hk : k < 8) (inb : ∀ a, (![k, 0] : Fin 2 → ℕ) a + (![1, 1024] : Fin 2 → ℕ) a ≤ S8x1024.size a) (r : Fin 1)
    (l : Fin 1024) : (Rect.unit (s := S8x1024) ![k, 0] ![1, 1024] inb).emb (ix2 r l) = ix2 ⟨k, hk⟩ l := by
  funext a
  apply Fin.ext
  match a with
  | ⟨0, _⟩ => show k + 1 * r.val = k; omega
  | ⟨1, _⟩ => show 0 + 1 * l.val = l.val; omega

/-- The zero block. -/
theorem pay21_eq (j : S8x1024.Idx) : k0_pay21 (F := Ideal) j = 0 := by
  unfold k0_pay21
  pointwise

/-- The taps' gradient adds what the block's rows give: tap 0. -/
theorem pay22_block (B : Blocks t A DY W x0 x1 x2 x3 x4 x5) (acc : Vec Ideal S1x1024 .f32) (r : Fin 1) (l : Fin 1024) :
    k0_pay22 (F := Ideal) (k0_pay10 (if t % 8 = 0 then (0 : EReal) else 1) (k0_pay5 (lanesC x0)) (lanesV x0) (haloCV x1))
      (k0_pay13 (k0_pay4 (lanesB x0)) (wholeDy x3)) acc (ix2 r l)
      = acc (ix2 r l) + ∑ n ∈ Finset.range 256, dwRow A DY 0 l.val (256 * t + n) := by
  rw [← sum_block]
  unfold k0_pay22
  pointwise
  simp only [dz_block B, back2_block B]
  rfl

/-- Tap 1. -/
theorem pay23_block (B : Blocks t A DY W x0 x1 x2 x3 x4 x5) (acc : Vec Ideal S1x1024 .f32) (r : Fin 1) (l : Fin 1024) :
    k0_pay23 (F := Ideal) (k0_pay9 (if t % 8 = 0 then (0 : EReal) else 1) (k0_pay5 (lanesC x0)) (lanesV x0) (haloCV x1))
      (k0_pay13 (k0_pay4 (lanesB x0)) (wholeDy x3)) acc (ix2 r l)
      = acc (ix2 r l) + ∑ n ∈ Finset.range 256, dwRow A DY 1 l.val (256 * t + n) := by
  rw [← sum_block]
  unfold k0_pay23
  pointwise
  simp only [dz_block B, back1_block B]
  rfl

/-- Tap 2. -/
theorem pay1_block (B : Blocks t A DY W x0 x1 x2 x3 x4 x5) (acc : Vec Ideal S1x1024 .f32) (r : Fin 1) (l : Fin 1024) :
    k0_pay1 (F := Ideal) (k0_pay24 acc) (k0_pay25 (k0_pay7 (k0_pay5 (lanesC x0)) (lanesV x0))
      (k0_pay13 (k0_pay4 (lanesB x0)) (wholeDy x3))) (ix2 r l)
      = acc (ix2 r l) + ∑ n ∈ Finset.range 256, dwRow A DY 2 l.val (256 * t + n) := by
  rw [← sum_block]
  unfold k0_pay1 k0_pay24 k0_pay25
  pointwise
  simp only [dz_block B, u_block B]
  unfold dwRow uBack
  simp

/-- The rows of the input's gradient that a grid point writes (the first point). -/
theorem out6_A (c : Dev nD) (i : grid0.Coords) (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (hc0 : cond0_0 i)
    (hi : (i 0).val = t) (B : Blocks t A DY W x0 x1 x2 x3 x4 x5) (r : Fin 256) (j : Fin 3072) :
    out0_A_6 (F := Ideal) c i arg1 harg1 arg2 harg2 arg3 harg3 arg4 harg4 arg5 harg5 arg6 harg6 arg7 harg7 arg8 harg8 hc0 x0 x1 x2 x3 x4 x5 (ix2 r j) = dx A DY W (256 * t + r.val) j.val := by
  have hj := j.isLt
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg1.read_unread, harg2.read_unread, harg3.read_unread, harg4.read_unread, harg5.read_unread,
    harg6.read_unread, pay2_eq, pay3_eq, hi]
  rw [canon_unit2, canon_unit2, canon_unit2]
  unfold dx
  by_cases h1 : j.val < 1024
  · rw [dif_neg (by omega), dif_neg (by omega), dif_pos (by omega), if_pos h1]
    unfold k0_pay18
    pointwise
    simp only [conv_block B]
    unfold k0_pay12
    pointwise
    simp only [B.h3]
  by_cases h2 : j.val < 2048
  · rw [dif_neg (by omega), dif_pos (by omega), if_neg h1, if_pos h2]
    unfold k0_pay19
    pointwise
    simp only [du_block B]
    unfold k0_pay6
    pointwise
    simp only [B.h0]
    exact congr (congrArg _ (congr (congrArg _ (by omega)) (by omega))) (rd2_congr _ (by omega) (by omega))
  · rw [dif_pos (by omega), if_neg h1, if_neg h2]
    unfold k0_pay20
    pointwise
    simp only [du_block B]
    unfold k0_pay5
    pointwise
    simp only [B.h0]
    exact congr (congrArg _ (congr (congrArg _ (by omega)) (by omega))) (rd2_congr _ (by omega) (by omega))

/-- The rows of the input's gradient that a grid point writes (a later point). -/
theorem out6_B (c : Dev nD) (i : grid0.Coords) (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (hc0 : ¬cond0_0 i)
    (hi : (i 0).val = t) (B : Blocks t A DY W x0 x1 x2 x3 x4 x5) (xo : Vec Ideal S8x1024 .f32) (r : Fin 256) (j : Fin 3072) :
    out0_B_6 (F := Ideal) c i arg1 harg1 arg2 harg2 arg3 harg3 arg4 harg4 arg5 harg5 arg6 harg6 arg7 harg7 arg8 harg8 hc0 x0 x1 x2 x3 x4 x5 xo (ix2 r j) = dx A DY W (256 * t + r.val) j.val := by
  have hj := j.isLt
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo)]
  unfold kernelRun0_B
  dsimp only
  sl_unfold_words
  simp only [View.readAt_eq_ld, harg1.read_unread, harg2.read_unread, harg3.read_unread, harg4.read_unread, harg5.read_unread,
    harg6.read_unread, pay2_eq, pay3_eq, hi]
  rw [canon_unit2, canon_unit2, canon_unit2]
  unfold dx
  by_cases h1 : j.val < 1024
  · rw [dif_neg (by omega), dif_neg (by omega), dif_pos (by omega), if_pos h1]
    unfold k0_pay18
    pointwise
    simp only [conv_block B]
    unfold k0_pay12
    pointwise
    simp only [B.h3]
  by_cases h2 : j.val < 2048
  · rw [dif_neg (by omega), dif_pos (by omega), if_neg h1, if_pos h2]
    unfold k0_pay19
    pointwise
    simp only [du_block B]
    unfold k0_pay6
    pointwise
    simp only [B.h0]
    exact congr (congrArg _ (congr (congrArg _ (by omega)) (by omega))) (rd2_congr _ (by omega) (by omega))
  · rw [dif_pos (by omega), if_neg h1, if_neg h2]
    unfold k0_pay20
    pointwise
    simp only [du_block B]
    unfold k0_pay5
    pointwise
    simp only [B.h0]
    exact congr (congrArg _ (congr (congrArg _ (by omega)) (by omega))) (rd2_congr _ (by omega) (by omega))

/-- The first grid point leaves its own rows' part of the taps' gradient. -/
theorem out7_A (c : Dev nD) (i : grid0.Coords) (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (hc0 : cond0_0 i)
    (hi : (i 0).val = t) (B : Blocks t A DY W x0 x1 x2 x3 x4 x5) (k : Fin 8) (l : Fin 1024) :
    out0_A_7 (F := Ideal) c i arg1 harg1 arg2 harg2 arg3 harg3 arg4 harg4 arg5 harg5 arg6 harg6 arg7 harg7 arg8 harg8 hc0 x0 x1 x2 x3 x4 x5 (ix2 k l)
      = if k.val < 3 then ∑ n ∈ Finset.range 256, dwRow A DY k.val l.val (256 * t + n) else 0 := by
  have hk := k.isLt
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg1.read_unread, harg2.read_unread, harg3.read_unread, harg4.read_unread, harg5.read_unread,
    harg6.read_unread, pay2_eq, pay3_eq, hi]
  rw [canon_unit2, canon_unit2, canon_unit2, canon_unit2]
  by_cases h2 : k.val = 2
  · obtain rfl : k = 2 := Fin.ext h2
    rw [dif_pos (by simp [l.isLt]), pay1_block B, if_pos (show ((2 : Fin 8) : ℕ) < 3 by decide), readCov_unit2,
      canon_unit2, canon_unit2, canon_unit2, dif_neg (by simp), dif_neg (by simp), dif_pos (by simp [l.isLt]), pay21_eq, zero_add]
    rfl
  by_cases h1 : k.val = 1
  · obtain rfl : k = 1 := Fin.ext h1
    rw [dif_neg (by simp), dif_pos (by simp [l.isLt]), pay23_block B, if_pos (show ((1 : Fin 8) : ℕ) < 3 by decide), readCov_unit2,
      canon_unit2, canon_unit2, dif_neg (by simp), dif_pos (by simp [l.isLt]), pay21_eq, zero_add]
    rfl
  by_cases h0 : k.val = 0
  · obtain rfl : k = 0 := Fin.ext h0
    rw [dif_neg (by simp), dif_neg (by simp), dif_pos (by simp [l.isLt]), pay22_block B, if_pos (show ((0 : Fin 8) : ℕ) < 3 by decide), readCov_unit2,
      canon_unit2, dif_pos (by simp [l.isLt]), pay21_eq, zero_add]
    rfl
  · rw [dif_neg (by omega), dif_neg (by omega), dif_neg (by omega), dif_pos (by omega), pay21_eq, if_neg (show ¬k.val < 3 by omega)]

/-- A later grid point adds its own rows' part to the taps' gradient that the point before left. -/
theorem out7_B (c : Dev nD) (i : grid0.Coords) (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S8x1024 .f32) (harg8 : arg8.IsWhole) (hc0 : ¬cond0_0 i)
    (hi : (i 0).val = t) (B : Blocks t A DY W x0 x1 x2 x3 x4 x5) (xo : Vec Ideal S8x1024 .f32) (k : Fin 8) (l : Fin 1024) :
    out0_B_7 (F := Ideal) c i arg1 harg1 arg2 harg2 arg3 harg3 arg4 harg4 arg5 harg5 arg6 harg6 arg7 harg7 arg8 harg8 hc0 x0 x1 x2 x3 x4 x5 xo (ix2 k l)
      = if k.val < 3 then xo (ix2 k l) + ∑ n ∈ Finset.range 256, dwRow A DY k.val l.val (256 * t + n) else xo (ix2 k l) := by
  have hk := k.isLt
  unfold out0_B_7
  unfold kernelRun0_B
  dsimp only
  sl_unfold_words
  simp only [View.readAt_eq_ld, harg1.read_unread, harg2.read_unread, harg3.read_unread, harg4.read_unread, harg5.read_unread,
    harg6.read_unread, harg8.read_unread, pay2_eq, pay3_eq, hi]
  rw [read_writes_unit2, read_writes_unit2, read_writes_unit2]
  have hr : ∀ k' : Fin 8, ∀ l', View.read (Elt Ideal) arg8.view (harg8.unread xo) (ix2 k' l') = xo (ix2 k' l') := fun k' l' =>
    congrFun (harg8.read_unread xo) _
  by_cases h2 : k.val = 2
  · obtain rfl : k = 2 := Fin.ext h2
    rw [dif_pos (by simp [l.isLt]), pay1_block B, if_pos (show ((2 : Fin 8) : ℕ) < 3 by decide)]
    exact congrArg (· + _) (congrArg xo (row_ix 2 (by omega) _ _ _))
  by_cases h1 : k.val = 1
  · obtain rfl : k = 1 := Fin.ext h1
    rw [dif_neg (by simp), dif_pos (by simp [l.isLt]), pay23_block B, if_pos (show ((1 : Fin 8) : ℕ) < 3 by decide)]
    exact congrArg (· + _) (congrArg xo (row_ix 1 (by omega) _ _ _))
  by_cases h0 : k.val = 0
  · obtain rfl : k = 0 := Fin.ext h0
    rw [dif_neg (by simp), dif_neg (by simp), dif_pos (by simp [l.isLt]), pay22_block B, if_pos (show ((0 : Fin 8) : ℕ) < 3 by decide)]
    exact congrArg (· + _) (congrArg xo (row_ix 0 (by omega) _ _ _))
  · rw [dif_neg (by omega), dif_neg (by omega), dif_neg (by omega), if_neg (show ¬k.val < 3 by omega)]
    exact hr k l

end Cert.ConvBwdIdeal.KernelValue
-- ==== Proof.Conv.Array.lean ====
/-
  The convolution's backward kernel over its whole grid: the two result arrays are the input's gradient and the taps'
  gradient of `Cert.ConvSpec` at the arguments.
-/
module

public import proofs.«01_k».proof.Proof.Conv.Out

@[expose] public section

set_option maxRecDepth 16384

noncomputable section

open Idealize.ShloMosaic Idealize.ShloMosaic.TcCoe Idealize.SL.Sem
open Idealize.ShloMosaic.Pipeline (Dat)

namespace Cert.ConvBwdIdeal.KernelValue

open Cert.ConvBwdIdeal Cert.ConvBwdIdeal.Gen Cert.Common Cert.ConvSpec

variable (m : (ℓ : Loc nD τ sig) → Buf (Elt Ideal) ℓ) (ρ : Dev nD → PrngReg)

/-- The joined gates and values. -/
abbrev argA (c : Dev nD) : Wide := m ((c : Thread nD τ).loc main_arg0)
/-- The cotangent. -/
abbrev argDY (c : Dev nD) : Rows := m ((c : Thread nD τ).loc main_arg1)
/-- The taps. -/
abbrev argW (c : Dev nD) : Taps := m ((c : Thread nD τ).loc main_arg2)

/-- The grid's coordinate is the point's number. -/
theorem coord0 : ∀ t : Fin cfg0.N, (grid0.coords t 0).val = t.val :=
  (by decide +kernel : ∀ t : Fin grid0.N, (grid0.coords t 0).val = t.val)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, (t.val % 8 ≠ 0 → win0_1.index t 0 = 16 * t.val - 1) ∧ win0_1.index t 1 = 0 :=
  (by decide +kernel : ∀ t : Fin grid0.N, (t.val % 8 ≠ 0 → win0_1.index t 0 = 16 * t.val - 1) ∧ win0_1.index t 1 = 0)
theorem index2 : ∀ t : Fin cfg0.N, (t.val % 8 ≠ 7 → win0_2.index t 0 = 16 * t.val + 16) ∧ win0_2.index t 1 = 0 :=
  (by decide +kernel : ∀ t : Fin grid0.N, (t.val % 8 ≠ 7 → win0_2.index t 0 = 16 * t.val + 16) ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, (t.val % 8 ≠ 7 → win0_4.index t 0 = 16 * t.val + 16) ∧ win0_4.index t 1 = 0 :=
  (by decide +kernel : ∀ t : Fin grid0.N, (t.val % 8 ≠ 7 → win0_4.index t 0 = 16 * t.val + 16) ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

/-- The blocks a grid point reads are those rows of the arguments. -/
theorem blocks (c : Dev nD) (t : Fin cfg0.N) :
    Blocks t.val (argA m c) (argDY m c) (argW m c) (iblk m c 0 t) (iblk m c 1 t) (iblk m c 2 t) (iblk m c 3 t) (iblk m c 4 t) (iblk m c 5 t) := by
  have hN : cfg0.N = 32 := N_0
  have ht := t.isLt
  constructor
  · omega
  · intro r l
    unfold iblk
    rw [View.read_apply]
    refine (eq_rd2' (argA m c) _).trans (rd2_congr _ ?_ ?_)
    · show win0_0.index t 0 * 256 + 1 * r.val = 256 * t.val + r.val; rw [(index0 t).1]; omega
    · show win0_0.index t 1 * 3072 + 1 * l.val = l.val; rw [(index0 t).2]; omega
  · intro h r l
    unfold iblk
    rw [View.read_apply]
    refine (eq_rd2' (argA m c) _).trans (rd2_congr _ ?_ ?_)
    · show win0_1.index t 0 * 16 + 1 * r.val = 256 * t.val - 16 + r.val; rw [(index1 t).1 h]; omega
    · show win0_1.index t 1 * 3072 + 1 * l.val = l.val; rw [(index1 t).2]; omega
  · intro h r l
    unfold iblk
    rw [View.read_apply]
    refine (eq_rd2' (argA m c) _).trans (rd2_congr _ ?_ ?_)
    · show win0_2.index t 0 * 16 + 1 * r.val = 256 * t.val + 256 + r.val; rw [(index2 t).1 h]; omega
    · show win0_2.index t 1 * 3072 + 1 * l.val = l.val; rw [(index2 t).2]; omega
  · intro r l
    unfold iblk
    rw [View.read_apply]
    refine (eq_rd2' (argDY m c) _).trans (rd2_congr _ ?_ ?_)
    · show win0_3.index t 0 * 256 + 1 * r.val = 256 * t.val + r.val; rw [(index3 t).1]; omega
    · show win0_3.index t 1 * 1024 + 1 * l.val = l.val; rw [(index3 t).2]; omega
  · intro h r l
    unfold iblk
    rw [View.read_apply]
    refine (eq_rd2' (argDY m c) _).trans (rd2_congr _ ?_ ?_)
    · show win0_4.index t 0 * 16 + 1 * r.val = 256 * t.val + 256 + r.val; rw [(index4 t).1 h]; omega
    · show win0_4.index t 1 * 1024 + 1 * l.val = l.val; rw [(index4 t).2]; omega
  · intro r l
    unfold iblk
    rw [View.read_apply]
    refine (eq_rd2' (argW m c) _).trans (rd2_congr _ ?_ ?_)
    · show win0_5.index t 0 * 3 + 1 * r.val = r.val; rw [(index5 t).1]; omega
    · show win0_5.index t 1 * 1024 + 1 * l.val = l.val; rw [(index5 t).2]; omega

/-- The input's gradient as an array. -/
def dxArr (A : Wide) (DY : Rows) (W : Taps) : Vec Ideal S8192x3072 .bf16 := fun j => dx A DY W (j 0).val (j 1).val

/-- The taps' gradient as an array. -/
def dwArr (A : Wide) (DY : Rows) : Vec Ideal S8x1024 .f32 := fun j => dw A DY (j 0).val (j 1).val

/-- After a grid point the first output buffer holds its rows of the input's gradient. -/
theorem outs6 (c : Dev nD) (t : Fin cfg0.N) (r : Fin 256) (j : Fin 3072) :
    (outsAt0 m c t.val t.isLt).1 (ix2 r j) = dx (argA m c) (argDY m c) (argW m c) (256 * t.val + r.val) j.val := by
  by_cases h0 : t.val % 32 = 0
  · rw [outsAt0_A m c t h0]
    dsimp only
    exact out6_A c _ _ _ _ _ _ _ _ _ _ _ _ _ _ _ _ _ _ (coord0 t) (blocks m c t) r j
  · rw [outsAt0_B m c t h0]
    dsimp only
    exact out6_B c _ _ _ _ _ _ _ _ _ _ _ _ _ _ _ _ _ _ (coord0 t) (blocks m c t) _ r j

/-- After grid point `n` the second output buffer holds the part of the taps' gradient of the rows so far. -/
theorem outs7 (c : Dev nD) (k : Fin 8) (l : Fin 1024) : ∀ (n : ℕ) (hn : n < cfg0.N),
    (outsAt0 m c n hn).2 (ix2 k l)
      = if k.val < 3 then ∑ i ∈ Finset.range (256 * (n + 1)), dwRow (argA m c) (argDY m c) k.val l.val i else 0
  | 0, hn => by
    rw [outsAt0_A m c ⟨0, hn⟩ rfl]
    dsimp only
    refine (out7_A c _ _ _ _ _ _ _ _ _ _ _ _ _ _ _ _ _ _ (coord0 ⟨0, hn⟩) (blocks m c ⟨0, hn⟩) k l).trans ?_
    simp
  | n + 1, hn => by
    have hN : cfg0.N = 32 := N_0
    have h0 : ¬(⟨n + 1, hn⟩ : Fin cfg0.N).val % 32 = 0 := by dsimp only; omega
    rw [outsAt0_B m c ⟨n + 1, hn⟩ h0]
    dsimp only
    refine (out7_B c _ _ _ _ _ _ _ _ _ _ _ _ _ _ _ _ _ _ (coord0 ⟨n + 1, hn⟩) (blocks m c ⟨n + 1, hn⟩) _ k l).trans ?_
    have ih := outs7 c k l n (Nat.lt_of_succ_lt hn)
    show (if k.val < 3 then (outsAt0 m c n _).2 (ix2 k l) + _ else (outsAt0 m c n _).2 (ix2 k l)) = _
    rw [ih]
    split
    · rw [show 256 * (n + 1 + 1) = 256 * (n + 1) + 256 by omega, Finset.sum_range_add]
    · rfl

/-- The first result array is the input's gradient. -/
theorem final6 (c : Dev nD) : (dats m 0 c).arrAt 6 cfg0.N = dxArr (argA m c) (argDY m c) (argW m c) := by
  have hN : cfg0.N = 32 := N_0
  refine (dats m 0 c).arrAt_eq_of_cover 6 _ (fun t _ => ?_) fun i => ?_
  · rw [Value.flushed6]
    funext j
    have hj : j = ix2 (j 0) (j 1) := eq_ix2 j
    show (outsAt0 m c t.val t.isLt).1 j = dxArr _ _ _ (((cfg0.win 6).blk t).view.emb j)
    rw [hj]
    refine (outs6 m c t (j 0) (j 1)).trans ?_
    unfold dxArr
    refine congr (congrArg _ ?_) ?_
    · show 256 * t.val + (j 0).val = win0_6.index t 0 * 256 + 1 * (j 0).val; rw [(index6 t).1]; omega
    · show (j 1).val = win0_6.index t 1 * 3072 + 1 * (j 1).val; rw [(index6 t).2]; omega
  · have h0 : (i 0 : Nat) < 8192 := (i 0).isLt
    have h1 : (i 1 : Nat) < 3072 := (i 1).isLt
    let p : Fin cfg0.N := ⟨(i 0).val / 256, by omega⟩
    refine ⟨p, ?_, ?_⟩
    · exact (by decide +kernel : ∀ t : Fin grid0.N, (cfg0.win 6).flush t = true) _
    · show i ∈ ((View.whole main_v0_0).slice (win0_6.rect p)).set
      rw [View.set_slice_whole, Rect.mem_set_unit]
      intro a
      match a with
      | ⟨0, _⟩ =>
        show win0_6.index p 0 * 256 ≤ (i 0 : Nat) ∧ (i 0 : Nat) < win0_6.index p 0 * 256 + 256
        rw [(index6 p).1]; show (i 0).val / 256 * 256 ≤ (i 0 : Nat) ∧ (i 0 : Nat) < (i 0).val / 256 * 256 + 256; omega
      | ⟨1, _⟩ =>
        show win0_6.index p 1 * 3072 ≤ (i 1 : Nat) ∧ (i 1 : Nat) < win0_6.index p 1 * 3072 + 3072
        rw [(index6 p).2]; omega

/-- The second result array is the taps' gradient. -/
theorem final7 (c : Dev nD) : (dats m 0 c).arrAt 7 cfg0.N = dwArr (argA m c) (argDY m c) := by
  have hN : cfg0.N = 32 := N_0
  refine (dats m 0 c).arrAt_eq_of_cover 7 _ (fun t hf => ?_) fun i => ?_
  · have h31 : t.val = 31 := by
      have h := (flush0_7 t).mp hf
      omega
    rw [Value.flushed7]
    funext j
    have hj : j = ix2 (j 0) (j 1) := eq_ix2 j
    show (outsAt0 m c t.val t.isLt).2 j = dwArr _ _ (((cfg0.win 7).blk t).view.emb j)
    rw [hj]
    refine (outs7 m c (j 0) (j 1) t.val t.isLt).trans ?_
    unfold dwArr
    have e0 : ((((cfg0.win 7).blk t).view.emb (ix2 (j 0) (j 1))) 0).val = (j 0).val := by
      show win0_7.index t 0 * 8 + 1 * (j 0).val = (j 0).val; rw [(index7 t).1]; omega
    have e1 : ((((cfg0.win 7).blk t).view.emb (ix2 (j 0) (j 1))) 1).val = (j 1).val := by
      show win0_7.index t 1 * 1024 + 1 * (j 1).val = (j 1).val; rw [(index7 t).2]; omega
    rw [h31]
    exact (congr (congrArg (dw (argA m c) (argDY m c)) e0) e1).symm
  · have h0 : (i 0 : Nat) < 8 := (i 0).isLt
    have h1 : (i 1 : Nat) < 1024 := (i 1).isLt
    let p : Fin cfg0.N := ⟨31, by omega⟩
    refine ⟨p, (flush0_7 _).mpr rfl, ?_⟩
    show i ∈ ((View.whole main_v0_1).slice (win0_7.rect p)).set
    rw [View.set_slice_whole, Rect.mem_set_unit]
    intro a
    match a with
    | ⟨0, _⟩ =>
      show win0_7.index p 0 * 8 ≤ (i 0 : Nat) ∧ (i 0 : Nat) < win0_7.index p 0 * 8 + 8
      rw [(index7 p).1]; omega
    | ⟨1, _⟩ =>
      show win0_7.index p 1 * 1024 ≤ (i 1 : Nat) ∧ (i 1 : Nat) < win0_7.index p 1 * 1024 + 1024
      rw [(index7 p).2]; omega

/-- The run: both results, and the arguments unchanged. -/
theorem run : θ_run defs (onTc (τ := τ) (main (F := Ideal))) ⟨m, fun _ => 0, ρ⟩ fun r => ∀ c : Dev nD,
      r.2.mem ((c : Thread nD τ).loc main_v0_0) = dxArr (argA m c) (argDY m c) (argW m c)
      ∧ r.2.mem ((c : Thread nD τ).loc main_v0_1) = dwArr (argA m c) (argDY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final6 m c), (h c).2.1.trans (final7 m c), (h c).2.2⟩) (Value.run_blocks m ρ)

end Cert.ConvBwdIdeal.KernelValue
-- ==== Proof.Common.Sums.lean ====
/-
  Sums over the rows of a batch of sequences, as sums over a range of row numbers.
-/
module

public import Idealize.ShloMosaic.Lib.Pointwise
public import Mathlib.Algebra.BigOperators.Fin

@[expose] public section

noncomputable section

open Idealize.ShloMosaic

namespace Cert.Common

/-- A host sum over the first two of three axes, read at an entry of the third. -/
theorem hostReduceAdd_01 {n0 n1 n2 : ℕ} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ b : Fin n0, ∑ s : Fin n1, v (ix3 b s l) := by
  refine congrArg (init + ·) ?_
  refine (Finset.sum_filter_eq_sum_of_fiber _ (fun k : Fin n0 × Fin n1 => ix3 k.1 k.2 l)
    (fun _ _ e => Prod.ext (congrFun e 0) (congrFun e 1)) (fun i => ?_) v).trans ?_
  · constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- Sequences of `T` rows laid one after another: a sum over sequence and position is a sum over the rows. -/
theorem sum_rows (J T : ℕ) (f : ℕ → EReal) :
    ∑ b : Fin J, ∑ s : Fin T, f (b.val * T + s.val) = ∑ n ∈ Finset.range (J * T), f n := by
  induction J with
  | zero => simp
  | succ J ih =>
    rw [Fin.sum_univ_castSucc, Nat.succ_mul, Finset.sum_range_add]
    simp only [Fin.val_castSucc, Fin.val_last]
    rw [ih, Finset.sum_range fun x => f (J * T + x)]

end Cert.Common

end
-- ==== Proof.Conv.Ref.lean ====
/-
  The reference gradient of the gated convolution, read entry by entry: it is the formula of `Cert.ConvSpec`.
-/
module

public import proofs.«01_k».proof.Proof.Conv.Spec
public import proofs.«01_k».proof.Proof.Common.Sums
public import proofs.«01_k».proof.Proof.Gen.ConvRefIdeal.Read

@[expose] public section

set_option maxRecDepth 16384

noncomputable section

open Idealize.ShloMosaic Idealize.ShloMosaic.TcCoe Idealize.SL.Sem

namespace Cert.ConvRefIdeal.RefValue

open Cert.ConvRefIdeal Cert.ConvRefIdeal.Read Cert.Common Cert.ConvSpec

variable (A : Wide) (DY : Rows) (W : Taps)

section
variable (b : Fin 4) (s : Fin 2048) (l : Fin 1024)

/-- The output gate. -/
theorem ref_b : val_main_v2 (F := Ideal) A (ix3 b s l) = rd2 A (b.val * 2048 + s.val) l.val := by
  unfold val_main_v2 val_main_v1 val_main_v0
  pointwise
  exact eq_rd2 A _ _

/-- The input gate. -/
theorem ref_c : val_main_v3 (F := Ideal) A (ix3 b s l) = rd2 A (b.val * 2048 + s.val) (1024 + l.val) := by
  unfold val_main_v3 val_main_v1 val_main_v0
  pointwise
  exact eq_rd2 A _ _

/-- The value. -/
theorem ref_v : val_main_v4 (F := Ideal) A (ix3 b s l) = rd2 A (b.val * 2048 + s.val) (2048 + l.val) := by
  unfold val_main_v4 val_main_v1 val_main_v0
  pointwise
  exact eq_rd2 A _ _

/-- The convolution's input. -/
theorem ref_u : val_main_v5 (F := Ideal) A (ix3 b s l) = u A (b.val * 2048 + s.val) l.val := by
  unfold val_main_v5
  pointwise
  rw [ref_c, ref_v]
  rfl

/-- The input two positions earlier. -/
theorem ref_u2 : val_main_v11 (F := Ideal) A (ix3 b s l) = uBack A 2 (b.val * 2048 + s.val) l.val := by
  have hs := s.isLt
  unfold val_main_v11 val_main_v9 val_main_v10 val_main_cst
  pointwise
  simp only [ref_u]
  unfold uBack
  split_ifs <;> first | (exfalso; omega) | rfl | (congr 1; omega)

/-- The input one position earlier. -/
theorem ref_u1 : val_main_v21 (F := Ideal) A (ix3 b s l) = uBack A 1 (b.val * 2048 + s.val) l.val := by
  have hs := s.isLt
  unfold val_main_v21 val_main_v19 val_main_v20 val_main_cst_1
  pointwise
  simp only [ref_u]
  unfold uBack
  split_ifs <;> first | (exfalso; omega) | rfl | (congr 1; omega)

/-- The taps, spread over all rows. -/
theorem ref_w0 : val_main_v59 (F := Ideal) W (ix3 b s l) = rd2 W 0 l.val := by
  unfold val_main_v59 val_main_v13 val_main_v7 val_main_v6
  pointwise
  exact eq_rd2 W _ _
theorem ref_w0' : val_main_v14 (F := Ideal) W (ix3 b s l) = rd2 W 0 l.val := by
  unfold val_main_v14 val_main_v13 val_main_v7 val_main_v6
  pointwise
  exact eq_rd2 W _ _
theorem ref_w1 : val_main_v46 (F := Ideal) W (ix3 b s l) = rd2 W 1 l.val := by
  unfold val_main_v46 val_main_v23 val_main_v17 val_main_v16
  pointwise
  exact eq_rd2 W _ _
theorem ref_w1' : val_main_v24 (F := Ideal) W (ix3 b s l) = rd2 W 1 l.val := by
  unfold val_main_v24 val_main_v23 val_main_v17 val_main_v16
  pointwise
  exact eq_rd2 W _ _
theorem ref_w2 : val_main_v38 (F := Ideal) W (ix3 b s l) = rd2 W 2 l.val := by
  unfold val_main_v38 val_main_v29 val_main_v28 val_main_v27
  pointwise
  exact eq_rd2 W _ _
theorem ref_w2' : val_main_v30 (F := Ideal) W (ix3 b s l) = rd2 W 2 l.val := by
  unfold val_main_v30 val_main_v29 val_main_v28 val_main_v27
  pointwise
  exact eq_rd2 W _ _

/-- The convolution: the reference adds the taps' products first to last. -/
theorem ref_conv : val_main_v32 (F := Ideal) A W (ix3 b s l) = conv A W (b.val * 2048 + s.val) l.val := by
  unfold val_main_v32 val_main_v31 val_main_v26 val_main_v25 val_main_v15
  pointwise
  rw [ref_w0', ref_w1', ref_w2', ref_u, ref_u1, ref_u2]
  unfold conv
  rw [add_comm, add_comm (rd2 W 0 l.val * _), add_assoc]

/-- The cotangent. -/
theorem ref_dy : val_main_v35 (F := Ideal) DY (ix3 b s l) = rd2 DY (b.val * 2048 + s.val) l.val := by
  unfold val_main_v35 val_main_v34
  pointwise
  exact eq_rd2 DY _ _

/-- The convolution's cotangent. -/
theorem ref_dz : val_main_v36 (F := Ideal) A DY (ix3 b s l) = dz A DY (b.val * 2048 + s.val) l.val := by
  unfold val_main_v36
  pointwise
  rw [ref_b, ref_dy]
  exact mul_comm _ _

/-- That cotangent one position later, times tap 1. -/
theorem ref_dz1 : val_main_v54 (F := Ideal) A DY W (ix3 b s l)
    = rd2 W 1 l.val * dzAhead A DY 1 (b.val * 2048 + s.val) l.val := by
  have hs := s.isLt
  unfold val_main_v54 val_main_v53 val_main_v47 val_main_cst_8
  pointwise
  simp only [ref_w1, ref_dz]
  unfold dzAhead
  split_ifs <;> first | (exfalso; omega) | (rw [mul_zero]) | (congr 2; omega)

/-- That cotangent two positions later, times tap 0. -/
theorem ref_dz2 : val_main_v67 (F := Ideal) A DY W (ix3 b s l)
    = rd2 W 0 l.val * dzAhead A DY 2 (b.val * 2048 + s.val) l.val := by
  have hs := s.isLt
  unfold val_main_v67 val_main_v66 val_main_v60 val_main_cst_12
  pointwise
  simp only [ref_w0, ref_dz]
  unfold dzAhead
  split_ifs <;> first | (exfalso; omega) | (rw [mul_zero]) | (congr 2; omega)

/-- The cotangent of the convolution's input. -/
theorem ref_du : val_main_v68 (F := Ideal) A DY W (ix3 b s l) = du A DY W (b.val * 2048 + s.val) l.val := by
  unfold val_main_v68 val_main_v55 val_main_v39
  pointwise
  rw [ref_w2, ref_dz, ref_dz1, ref_dz2]
  rfl

end

/-- The first result: the gradient with respect to the joined gates and values. -/
theorem ref_dx (n : Fin 8192) (j : Fin 3072) : val_main_v76 (F := Ideal) A DY W (ix2 n j) = dx A DY W n.val j.val := by
  have hn := n.isLt
  have hj := j.isLt
  unfold val_main_v76 val_main_v75 val_main_v74 val_main_v73 val_main_v72 val_main_v37
  pointwise
  simp only [ref_dy, ref_conv, ref_du, ref_v, ref_c]
  have e : n.val / 2048 * 2048 + n.val % 2048 = n.val := by omega
  rw [e]
  unfold dx
  split_ifs <;> try (exfalso; omega)
  · rfl
  · exact congrArg _ (rd2_congr _ rfl (by omega))
  · rw [mul_comm]
    exact congr (congrArg _ (congrArg _ (by omega))) (rd2_congr _ rfl (by omega))

/-- The sum over all rows for tap 2. -/
theorem ref_dw2 (l : Fin 1024) : val_main_v43 (F := Ideal) A DY (ix1 l) = ∑ n ∈ Finset.range 8192, dwRow A DY 2 l.val n := by
  rw [show (8192 : ℕ) = 4 * 2048 from rfl, ← sum_rows]
  unfold val_main_v43 val_main_v42 val_main_v41 val_main_v40 val_main_cst_4 val_main_cst_3
  pointwise
  rw [hostReduceAdd_01]
  pointwise
  rw [hostReduceAdd_01]
  pointwise
  simp only [Finset.univ_unique, Finset.sum_singleton, ref_dz, ref_u]
  unfold dwRow uBack
  simp

/-- The sum over all rows for tap 1. -/
theorem ref_dw1 (l : Fin 1024) : val_main_v51 (F := Ideal) A DY (ix1 l) = ∑ n ∈ Finset.range 8192, dwRow A DY 1 l.val n := by
  rw [show (8192 : ℕ) = 4 * 2048 from rfl, ← sum_rows]
  unfold val_main_v51 val_main_v50 val_main_v49 val_main_v48 val_main_cst_7 val_main_cst_6
  pointwise
  rw [hostReduceAdd_01]
  pointwise
  rw [hostReduceAdd_01]
  pointwise
  simp only [Finset.univ_unique, Finset.sum_singleton, ref_dz, ref_u1]
  rfl

/-- The sum over all rows for tap 0. -/
theorem ref_dw0 (l : Fin 1024) : val_main_v64 (F := Ideal) A DY (ix1 l) = ∑ n ∈ Finset.range 8192, dwRow A DY 0 l.val n := by
  rw [show (8192 : ℕ) = 4 * 2048 from rfl, ← sum_rows]
  unfold val_main_v64 val_main_v63 val_main_v62 val_main_v61 val_main_cst_11 val_main_cst_10
  pointwise
  rw [hostReduceAdd_01]
  pointwise
  rw [hostReduceAdd_01]
  pointwise
  simp only [Finset.univ_unique, Finset.sum_singleton, ref_dz, ref_u2]
  rfl

/-- The second result: the gradient with respect to the taps, padded to eight rows. -/
theorem ref_dw (k : Fin 8) (l : Fin 1024) : val_main_v77 (F := Ideal) A DY (ix2 k l) = dw A DY k.val l.val := by
  have hk := k.isLt
  unfold val_main_v77 val_main_v71 val_main_v70 val_main_v58 val_main_v45 val_main_v57 val_main_v44 val_main_v56 val_main_v69
    val_main_cst_13 val_main_cst_9 val_main_cst_5 val_main_call0_v0 val_main_c
  pointwise
  unfold dw
  by_cases h2 : k.val = 2
  · simp [h2, ref_dw2]
  by_cases h1 : k.val = 1
  · simp [h1, ref_dw1]
  by_cases h0 : k.val = 0
  · simp [h0, ref_dw0]
  · rw [dif_neg (by omega), if_neg (by omega)]
    show ((((0#32 : BitVec 32).toInt : ℝ)) : EReal) = 0
    simp

end Cert.ConvRefIdeal.RefValue
-- ==== Proof.Conv.Claim.lean ====
/-
  The kernel's run and the reference's run side by side: the gradient of the gated convolution.
-/
module

public import proofs.«01_k».proof.Defs
public import proofs.«01_k».proof.Proof.Conv.Array
public import proofs.«01_k».proof.Proof.Conv.Ref
public import proofs.«01_k».proof.Proof.Gen.ConvRefIdeal.Run

@[expose] public section

noncomputable section

open Idealize.ShloMosaic Idealize.ShloMosaic.TcCoe Idealize.SL.Sem

namespace Cert.ConvClaim

open Cert.Common Cert.ConvSpec Cert.ConvBwdIdeal.KernelValue Cert.ConvRefIdeal.RefValue

/-- The reference's first result is the input's gradient, as an array. -/
theorem ref_dxArr (A : Wide) (DY : Rows) (W : Taps) : Cert.ConvRefIdeal.Read.val_main_v76 (F := Ideal) A DY W = dxArr A DY W := by
  funext j
  have hj : j = ix2 (j 0) (j 1) := eq_ix2 j
  rw [hj]
  exact ref_dx A DY W (j 0) (j 1)

/-- The reference's second result is the taps' gradient, as an array. -/
theorem ref_dwArr (A : Wide) (DY : Rows) : Cert.ConvRefIdeal.Read.val_main_v77 (F := Ideal) A DY = dwArr A DY := by
  funext j
  have hj : j = ix2 (j 0) (j 1) := eq_ix2 j
  rw [hj]
  exact ref_dw A DY (j 0) (j 1)

/-- Both programs end with the same two gradients. -/
theorem algebraic : Cert.algebraic_ConvBwdIdeal_ConvRefIdeal (hConvBwdIdeal := Cert.ConvBwdIdeal.Gen.facts)
    (hConvRefIdeal := Cert.ConvRefIdeal.Gen.facts) := fun m g m' g' _ hag =>
  ⟨fun c => dxArr (argA m c) (argDY m c) (argW m c), fun c => dwArr (argA m c) (argDY m c), run m g,
    (θ_run _ _ _).mono (fun _ h c => by
      obtain ⟨e0, e1, e2⟩ := hag c
      obtain ⟨h0, h1, h2⟩ := h c
      refine ⟨h0.trans ?_, h1.trans ?_, h2⟩
      · rw [Cert.ConvRefIdeal.Read.val_main_v76_eq, e0, e1, e2]
        exact ref_dxArr _ _ _
      · rw [Cert.ConvRefIdeal.Read.val_main_v77_eq, e0, e1]
        exact ref_dwArr _ _) (Cert.ConvRefIdeal.Value.run m' g')⟩

end Cert.ConvClaim

end
-- ==== Proof.Common.Product.lean ====
/-
  Products of two matrices, entry by entry: the entry is a sum over the shared axis, written over the numbers below its
  length so that a sum made block after block is the whole sum.
-/
module

public import proofs.«01_k».proof.Proof.Common.Blocks

@[expose] public section

noncomputable section

namespace Cert.Common

open Idealize.ShloMosaic

/-- The entry of a stack of matrices at layer `g`, row `n` and column `l`, and 0 outside the stack. -/
def rd3 {G M N : ℕ} (X : (⟨3, ![G, M, N]⟩ : Shape).Idx → EReal) (g n l : ℕ) : EReal :=
  if h : g < G ∧ n < M ∧ l < N then X (ix3 ⟨g, h.1⟩ ⟨n, h.2.1⟩ ⟨l, h.2.2⟩) else 0

/-- An entry at a canonical index is the entry at its three numbers. -/
theorem eq_rd3 {G M N : ℕ} (X : (⟨3, ![G, M, N]⟩ : Shape).Idx → EReal) (g : Fin G) (a : Fin M) (b : Fin N) :
    X (ix3 g a b) = rd3 X g.val a.val b.val := by
  unfold rd3; rw [dif_pos ⟨g.isLt, a.isLt, b.isLt⟩]

/-- An entry at any index is the entry at its three numbers. -/
theorem eq_rd3' {G M N : ℕ} (X : (⟨3, ![G, M, N]⟩ : Shape).Idx → EReal) (j : (⟨3, ![G, M, N]⟩ : Shape).Idx) :
    X j = rd3 X (j 0).val (j 1).val (j 2).val := by
  refine (congrArg X ?_).trans (eq_rd3 X (j 0) (j 1) (j 2))
  funext k
  match k with
  | ⟨0, _⟩ => rfl
  | ⟨1, _⟩ => rfl
  | ⟨2, _⟩ => rfl

/-- Entries of a stack at equal numbers are equal. -/
theorem rd3_congr {G M N : ℕ} (X : (⟨3, ![G, M, N]⟩ : Shape).Idx → EReal) {g g' n n' l l' : ℕ} (hg : g = g') (hn : n = n')
    (hl : l = l') : rd3 X g n l = rd3 X g' n' l' := by subst hg; subst hn; subst hl; rfl

/-- The first `K` terms of the entry (n, l) of the product of `A` transposed and `B`. -/
def mulTN {K₁ M N : ℕ} (A : (⟨2, ![K₁, M]⟩ : Shape).Idx → EReal) (B : (⟨2, ![K₁, N]⟩ : Shape).Idx → EReal) (K n l : ℕ) : EReal :=
  ∑ k ∈ Finset.range K, rd2 A k n * rd2 B k l

/-- The entry (n, l) of the product of `A` and layer `g` of `W` transposed, over `K` terms. -/
def mulNT {M K₁ G N : ℕ} (A : (⟨2, ![M, K₁]⟩ : Shape).Idx → EReal) (W : (⟨3, ![G, N, K₁]⟩ : Shape).Idx → EReal) (g K n l : ℕ) : EReal :=
  ∑ k ∈ Finset.range K, rd2 A n k * rd3 W g l k

/-- The entry (n, l) of the product of `A` and layer `g` of `W`, over `K` terms. -/
def mulNN {M K₁ G N : ℕ} (A : (⟨2, ![M, K₁]⟩ : Shape).Idx → EReal) (W : (⟨3, ![G, K₁, N]⟩ : Shape).Idx → EReal) (g K n l : ℕ) : EReal :=
  ∑ k ∈ Finset.range K, rd2 A n k * rd3 W g k l

/-- A block's terms after the terms before it. -/
theorem mulTN_add {K₁ M N : ℕ} (A : (⟨2, ![K₁, M]⟩ : Shape).Idx → EReal) (B : (⟨2, ![K₁, N]⟩ : Shape).Idx → EReal) (K J n l : ℕ) :
    mulTN A B (K + J) n l = mulTN A B K n l + ∑ k : Fin J, rd2 A (K + k.val) n * rd2 B (K + k.val) l := by
  unfold mulTN
  rw [Finset.sum_range_add, Finset.sum_range (fun x => rd2 A (K + x) n * rd2 B (K + x) l)]

/-- The first block's terms. -/
theorem mulTN_first {K₁ M N : ℕ} (A : (⟨2, ![K₁, M]⟩ : Shape).Idx → EReal) (B : (⟨2, ![K₁, N]⟩ : Shape).Idx → EReal) (J n l : ℕ) :
    ∑ k : Fin J, rd2 A k.val n * rd2 B k.val l = mulTN A B J n l := by
  unfold mulTN
  rw [Finset.sum_range]

/-- The terms over the indices of an axis are the terms over the numbers below its length. -/
theorem mulNT_sum {M K₁ G N : ℕ} (A : (⟨2, ![M, K₁]⟩ : Shape).Idx → EReal) (W : (⟨3, ![G, N, K₁]⟩ : Shape).Idx → EReal) (g J n l : ℕ) :
    ∑ k : Fin J, rd2 A n k.val * rd3 W g l k.val = mulNT A W g J n l := by
  unfold mulNT
  rw [Finset.sum_range]
theorem mulNN_sum {M K₁ G N : ℕ} (A : (⟨2, ![M, K₁]⟩ : Shape).Idx → EReal) (W : (⟨3, ![G, K₁, N]⟩ : Shape).Idx → EReal) (g J n l : ℕ) :
    ∑ k : Fin J, rd2 A n k.val * rd3 W g k.val l = mulNN A W g J n l := by
  unfold mulNN
  rw [Finset.sum_range]

/-- The RMS norm of a row `y` of 1024 numbers at column `l`, with gain `g`: the number over the root of the mean square
    (plus a small number), times the gain. -/
def rmsRow (y : ℕ → EReal) (g : EReal) (l : ℕ) : EReal :=
  y l * Ideal.rsqrt (Ideal.div (∑ x : Fin 1024, y x.val * y x.val) (Ideal.ofBits FTy.f32 1149239296#32)
    + Ideal.ofBits FTy.f32 925353388#32) * g

/-- A load of a whole block of a stack reads the block. -/
theorem ld_zero3 {Val : EltTy → Type} {e : EltTy} {G M N : ℕ} (X : (⟨3, ![G, M, N]⟩ : Shape).Idx → Val e)
    (inb : ∀ k, (![0, 0, 0] : Fin 3 → ℕ) k + (![G, M, N] : Fin 3 → ℕ) k ≤ (⟨3, ![G, M, N]⟩ : Shape).size k) :
    View.ld X (Rect.unit (s := ⟨3, ![G, M, N]⟩) ![0, 0, 0] ![G, M, N] inb) = X := by
  funext j
  refine congrArg X ?_
  funext k
  apply Fin.ext
  match k with
  | ⟨0, _⟩ => show 0 + 1 * (j 0).val = (j 0).val; omega
  | ⟨1, _⟩ => show 0 + 1 * (j 1).val = (j 1).val; omega
  | ⟨2, _⟩ => show 0 + 1 * (j 2).val = (j 2).val; omega

end Cert.Common

end
-- ==== Proof.Mm.FfnInDw.lean ====
/-
  The gradient of the feed-forward part's first weight: the transposed activations times the cotangent, made over four blocks of rows
  that are added up in a scratch buffer. Kernel and reference both end with the sum over all 8192 rows.
-/
module

public import proofs.«01_k».proof.Defs
public import proofs.«01_k».proof.Proof.Common.Product
public import proofs.«01_k».proof.Proof.Gen.FfnInDwIdeal.Value
public import proofs.«01_k».proof.Proof.Gen.FfnInDwRefIdeal.Run
public import proofs.«01_k».proof.Proof.Gen.FfnInDwRefIdeal.Read

@[expose] public section

set_option maxRecDepth 16384

noncomputable section

open Idealize.ShloMosaic Idealize.ShloMosaic.TcCoe Idealize.SL.Sem
open Idealize.ShloMosaic.Pipeline (Dat)

namespace Cert.FfnInDwIdeal.KernelValue

open Cert.FfnInDwIdeal Cert.FfnInDwIdeal.Gen Cert.Common

variable (m : (ℓ : Loc nD τ sig) → Buf (Elt Ideal) ℓ) (ρ : Dev nD → PrngReg)

/-- The activations. -/
abbrev argA (c : Dev nD) : Vec Ideal S8192x1024 .bf16 := m ((c : Thread nD τ).loc main_arg0)
/-- The cotangent. -/
abbrev argB (c : Dev nD) : Vec Ideal S8192x5632 .bf16 := m ((c : Thread nD τ).loc main_arg1)

theorem index0 : ∀ t : Fin cfg0.N, win0_0.index t 0 = t.val % 4 ∧ win0_0.index t 1 = t.val / 16 :=
  (by decide +kernel : ∀ t : Fin grid0.N, win0_0.index t 0 = t.val % 4 ∧ win0_0.index t 1 = t.val / 16)
theorem index1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem index2 : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)

/-- One grid point's product of its two blocks. -/
theorem dot (v0 : Vec Ideal S2048x1024 .bf16) (v1 : Vec Ideal S2048x1408 .bf16) (r : Fin 1024) (l : Fin 1408) :
    k0_pay1 v0 v1 (ix2 r l) = ∑ k : Fin 2048, v0 (ix2 k r) * v1 (ix2 k l) := by
  unfold k0_pay1
  pointwise

/-- The rows of the activations that a grid point reads. -/
theorem block0 (c : Dev nD) (t : Fin cfg0.N) (k : Fin 2048) (r : Fin 1024) :
    (iblk m c 0 t : Vec Ideal S2048x1024 .bf16) (ix2 k r)
      = rd2 (argA m c) (2048 * (t.val % 4) + k.val) (1024 * (t.val / 16) + r.val) := by
  unfold iblk
  rw [View.read_apply]
  refine (eq_rd2' (argA m c) _).trans (rd2_congr _ ?_ ?_)
  · show win0_0.index t 0 * 2048 + 1 * k.val = _; rw [(index0 t).1]; omega
  · show win0_0.index t 1 * 1024 + 1 * r.val = _; rw [(index0 t).2]; omega

/-- The rows of the cotangent that a grid point reads. -/
theorem block1 (c : Dev nD) (t : Fin cfg0.N) (k : Fin 2048) (l : Fin 1408) :
    (iblk m c 1 t : Vec Ideal S2048x1408 .bf16) (ix2 k l)
      = rd2 (argB m c) (2048 * (t.val % 4) + k.val) (1408 * (t.val / 4 % 4) + l.val) := by
  unfold iblk
  rw [View.read_apply]
  refine (eq_rd2' (argB m c) _).trans (rd2_congr _ ?_ ?_)
  · show win0_1.index t 0 * 2048 + 1 * k.val = _; rw [(index1 t).1]; omega
  · show win0_1.index t 1 * 1408 + 1 * l.val = _; rw [(index1 t).2]; omega

/-- A grid point's product, in the arguments' rows and columns. -/
theorem part (c : Dev nD) (t : Fin cfg0.N) (r : Fin 1024) (l : Fin 1408) :
    k0_pay1 (iblk m c 0 t : Vec Ideal S2048x1024 .bf16) (iblk m c 1 t : Vec Ideal S2048x1408 .bf16) (ix2 r l)
      = ∑ k : Fin 2048, rd2 (argA m c) (2048 * (t.val % 4) + k.val) (1024 * (t.val / 16) + r.val)
          * rd2 (argB m c) (2048 * (t.val % 4) + k.val) (1408 * (t.val / 4 % 4) + l.val) := by
  rw [dot]
  simp only [block0, block1]

/-- A load of a whole block is the block. -/
theorem ld0 (X : Vec Ideal S2048x1024 .bf16) :
    View.ld X (Rect.unit (s := S2048x1024) ![0, 0] S2048x1024.size inb_S2048x1024_S2048x1024_0_0) = X := by
  refine funext fun j => ?_
  rw [eq_ix2 j]
  exact ld_zero2 X _ _ _
theorem ld1 (X : Vec Ideal S2048x1408 .bf16) :
    View.ld X (Rect.unit (s := S2048x1408) ![0, 0] S2048x1408.size inb_S2048x1408_S2048x1408_0_0) = X := by
  refine funext fun j => ?_
  rw [eq_ix2 j]
  exact ld_zero2 X _ _ _

/-- After a block of rows the scratch buffer holds the terms of the rows so far. -/
theorem acc (c : Dev nD) (r : Fin 1024) (l : Fin 1408) : ∀ (n : ℕ) (hn : n < cfg0.N),
    (outsAt0 m c n hn).2 (ix2 r l) = mulTN (argA m c) (argB m c) (2048 * (n % 4) + 2048) (1024 * (n / 16) + r.val) (1408 * (n / 4 % 4) + l.val) := by
  have start : ∀ t : Fin cfg0.N, t.val % 4 = 0 → (outsAt0 m c t.val t.isLt).2 (ix2 r l)
      = mulTN (argA m c) (argB m c) (2048 * (t.val % 4) + 2048) (1024 * (t.val / 16) + r.val) (1408 * (t.val / 4 % 4) + l.val) := fun t h0 => by
    rw [outsAt0_A m c t h0 (by omega) (by omega)]
    dsimp only
    unfold sout0_A_0
    rw [View.read_writes_eq_canon _ _ _ (scover0_A_0 c _ _ _ _ _ _ _ _ _ _ _ _ _ _)]
    unfold kernelRun0_A
    dsimp only
    sl_unfold_words
    simp only [View.readAt_eq_ld, Memref.IsWhole.read_unread]
    rw [canon_unit2, dif_pos (by omega)]
    unfold k0_pay2
    pointwise
    refine (congrArg₂ (fun a b => k0_pay1 a b (ix2 r l)) (ld0 _) (ld1 _)).trans ((part m c t r l).trans ?_)
    rw [h0, ← mulTN_first]
    simp only [Nat.mul_zero, Nat.zero_add]
  have step : ∀ t : Fin cfg0.N, (h0 : ¬t.val % 4 = 0) → (outsAt0 m c t.val t.isLt).2 (ix2 r l)
      = (outsAt0 m c (t.val - 1) (Nat.lt_of_le_of_lt (Nat.sub_le _ _) t.isLt)).2 (ix2 r l) + k0_pay1 (iblk m c 0 t : Vec Ideal S2048x1024 .bf16) (iblk m c 1 t : Vec Ideal S2048x1408 .bf16) (ix2 r l) := fun t h0 => by
    by_cases h2 : t.val % 4 = 3
    · rw [outsAt0_C m c t h0 (by omega) h2]
      dsimp only
      unfold sout0_C_0
      rw [View.read_writes_eq_canon _ _ _ (scover0_C_0 c _ _ _ _ _ _ _ _ _ _ _ _ _ _ _)]
      unfold kernelRun0_C
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
    · rw [outsAt0_B m c t h0 (by omega) h2]
      dsimp only
      unfold sout0_B_0
      rw [View.read_writes_eq_canon _ _ _ (scover0_B_0 c _ _ _ _ _ _ _ _ _ _ _ _ _ _ _)]
      unfold kernelRun0_B
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
  intro n
  induction n with
  | zero => exact fun hn => start ⟨0, hn⟩ rfl
  | succ n ih =>
    intro hn
    by_cases h0 : (n + 1) % 4 = 0
    · exact start ⟨n + 1, hn⟩ h0
    · refine (step ⟨n + 1, hn⟩ h0).trans ?_
      rw [part]
      refine (congrArg (· + _) (ih (Nat.lt_of_succ_lt hn))).trans ?_
      have e1 : (n + 1) % 4 = n % 4 + 1 := by omega
      have e2 : (n + 1) / 16 = n / 16 := by omega
      have e3 : (n + 1) / 4 = n / 4 := by omega
      show _ + ∑ k : Fin 2048, rd2 _ (2048 * ((n + 1) % 4) + k.val) (1024 * ((n + 1) / 16) + r.val) * rd2 _ (2048 * ((n + 1) % 4) + k.val) (1408 * ((n + 1) / 4 % 4) + l.val) = _
      rw [e1, e2, e3, Nat.mul_add 2048 (n % 4) 1, Nat.mul_one]
      exact (mulTN_add _ _ _ _ _ _).symm

/-- The last block of rows leaves the whole sum in the output buffer. -/
theorem last (c : Dev nD) (t : Fin cfg0.N) (h2 : t.val % 4 = 3) (r : Fin 1024) (l : Fin 1408) :
    (outsAt0 m c t.val t.isLt).1 (ix2 r l) = mulTN (argA m c) (argB m c) 8192 (1024 * (t.val / 16) + r.val) (1408 * (t.val / 4 % 4) + l.val) := by
  have h := acc m c r l t.val t.isLt
  rw [h2] at h
  refine Eq.trans ?_ h
  rw [outsAt0_C m c t (by omega) (by omega) h2]
  dsimp only
  unfold out0_C_2 sout0_C_0
  rw [View.read_writes_eq_canon _ _ _ (cover0_C_2 c _ _ _ _ _ _ _ _ _ _ _ _ _ _ _),
    View.read_writes_eq_canon _ _ _ (scover0_C_0 c _ _ _ _ _ _ _ _ _ _ _ _ _ _ _)]
  unfold kernelRun0_C
  dsimp only
  sl_unfold_words
  rw [canon_unit2, dif_pos (by omega)]
  unfold k0_pay4
  pointwise
  rw [readCov_unit2]
  refine congrArg _ ?_
  congr 1 <;> exact Fin.ext (by simp)

/-- The gradient as an array. -/
def Arr (A : Vec Ideal S8192x1024 .bf16) (B : Vec Ideal S8192x5632 .bf16) : Vec Ideal S1024x5632 .bf16 := fun j =>
  mulTN A B 8192 (j 0).val (j 1).val

/-- The result array is the gradient. -/
theorem final (c : Dev nD) : (dats m 0 c).arrAt 2 cfg0.N = Arr (argA m c) (argB m c) := by
  refine (dats m 0 c).arrAt_eq_of_cover 2 _ (fun t hf => ?_) fun i => (Value.covered_iff2 i).2 (by
    have h0 : (i 0).val < 1024 := (i 0).isLt; have h1 : (i 1).val < 5632 := (i 1).isLt; omega)
  rw [Value.flushed2]
  funext j
  have hj : j = ix2 (j 0) (j 1) := eq_ix2 j
  show (outsAt0 m c t.val t.isLt).1 j = Arr _ _ (((cfg0.win 2).blk t).view.emb j)
  rw [hj]
  refine (last m c t (by have h := (flush0_2 t).mp hf; omega) (j 0) (j 1)).trans ?_
  unfold Arr
  refine congr (congrArg _ ?_) ?_
  · show _ = win0_2.index t 0 * 1024 + 1 * (j 0).val; rw [(index2 t).1]; omega
  · show _ = win0_2.index t 1 * 1408 + 1 * (j 1).val; rw [(index2 t).2]; omega

/-- The reference's result is the gradient. -/
theorem ref (A : Vec Ideal S8192x1024 .bf16) (B : Vec Ideal S8192x5632 .bf16) :
    Cert.FfnInDwRefIdeal.Read.val_main_v6 (F := Ideal) A B = Arr A B := by
  funext j
  rw [eq_ix2 j]
  unfold Arr
  rw [← mulTN_first, Cert.FfnInDwRefIdeal.Read.val_main_v6_apply, Cert.FfnInDwRefIdeal.Read.val_main_v5_apply, Cert.FfnInDwRefIdeal.Read.val_main_v4_apply]
  refine Finset.sum_congr rfl fun k _ => (mul_comm _ _).trans ?_
  exact congr (congrArg HMul.hMul ((eq_rd2' A _).trans (rd2_congr A rfl rfl))) ((eq_rd2' B _).trans (rd2_congr B rfl rfl))

end Cert.FfnInDwIdeal.KernelValue

namespace Cert.FfnInDwClaim

open Cert.FfnInDwIdeal.KernelValue

/-- Both programs end with the same gradient. -/
theorem algebraic : Cert.algebraic_FfnInDwIdeal_FfnInDwRefIdeal (hFfnInDwIdeal := Cert.FfnInDwIdeal.Gen.facts)
    (hFfnInDwRefIdeal := Cert.FfnInDwRefIdeal.Gen.facts) := fun m g m' g' _ hag =>
  ⟨fun c => Arr (argA m c) (argB m c),
    (θ_run _ _ _).mono (fun _ h c => ⟨(h c).1.trans (final m c), (h c).2⟩) (Cert.FfnInDwIdeal.Value.run_blocks m g),
    (θ_run _ _ _).mono (fun _ h c => by
      obtain ⟨e0, e1⟩ := hag c
      obtain ⟨h0, h2⟩ := h c
      refine ⟨h0.trans ?_, h2⟩
      rw [Cert.FfnInDwRefIdeal.Read.val_main_v6_eq, e0, e1]
      exact ref _ _) (Cert.FfnInDwRefIdeal.Value.run m' g')⟩

end Cert.FfnInDwClaim

end
-- ==== Proof.Mm.FfnDownDw.lean ====
/-
  The gradient of the feed-forward part's second weight: the transposed activations times the cotangent, made over four blocks of rows
  that are added up in a scratch buffer. Kernel and reference both end with the sum over all 8192 rows.
-/
module

public import proofs.«01_k».proof.Defs
public import proofs.«01_k».proof.Proof.Common.Product
public import proofs.«01_k».proof.Proof.Gen.FfnDownDwIdeal.Value
public import proofs.«01_k».proof.Proof.Gen.FfnDownDwRefIdeal.Run
public import proofs.«01_k».proof.Proof.Gen.FfnDownDwRefIdeal.Read

@[expose] public section

set_option maxRecDepth 16384

noncomputable section

open Idealize.ShloMosaic Idealize.ShloMosaic.TcCoe Idealize.SL.Sem
open Idealize.ShloMosaic.Pipeline (Dat)

namespace Cert.FfnDownDwIdeal.KernelValue

open Cert.FfnDownDwIdeal Cert.FfnDownDwIdeal.Gen Cert.Common

variable (m : (ℓ : Loc nD τ sig) → Buf (Elt Ideal) ℓ) (ρ : Dev nD → PrngReg)

/-- The activations. -/
abbrev argA (c : Dev nD) : Vec Ideal S8192x2816 .bf16 := m ((c : Thread nD τ).loc main_arg0)
/-- The cotangent. -/
abbrev argB (c : Dev nD) : Vec Ideal S8192x1024 .bf16 := m ((c : Thread nD τ).loc main_arg1)

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = t.val / 4 % 1 :=
  (by decide +kernel : ∀ t : Fin grid0.N, win0_1.index t 0 = t.val % 4 ∧ win0_1.index t 1 = t.val / 4 % 1)
theorem index2 : ∀ t : Fin cfg0.N, win0_2.index t 0 = t.val / 4 ∧ win0_2.index t 1 = t.val / 4 % 1 :=
  (by decide +kernel : ∀ t : Fin grid0.N, win0_2.index t 0 = t.val / 4 ∧ win0_2.index t 1 = t.val / 4 % 1)

/-- One grid point's product of its two blocks. -/
theorem dot (v0 : Vec Ideal S2048x1408 .bf16) (v1 : Vec Ideal S2048x1024 .bf16) (r : Fin 1408) (l : Fin 1024) :
    k0_pay1 v0 v1 (ix2 r l) = ∑ k : Fin 2048, v0 (ix2 k r) * v1 (ix2 k l) := by
  unfold k0_pay1
  pointwise

/-- The rows of the activations that a grid point reads. -/
theorem block0 (c : Dev nD) (t : Fin cfg0.N) (k : Fin 2048) (r : Fin 1408) :
    (iblk m c 0 t : Vec Ideal S2048x1408 .bf16) (ix2 k r)
      = rd2 (argA m c) (2048 * (t.val % 4) + k.val) (1408 * (t.val / 4) + r.val) := by
  unfold iblk
  rw [View.read_apply]
  refine (eq_rd2' (argA m c) _).trans (rd2_congr _ ?_ ?_)
  · show win0_0.index t 0 * 2048 + 1 * k.val = _; rw [(index0 t).1]; omega
  · show win0_0.index t 1 * 1408 + 1 * r.val = _; rw [(index0 t).2]; omega

/-- The rows of the cotangent that a grid point reads. -/
theorem block1 (c : Dev nD) (t : Fin cfg0.N) (k : Fin 2048) (l : Fin 1024) :
    (iblk m c 1 t : Vec Ideal S2048x1024 .bf16) (ix2 k l)
      = rd2 (argB m c) (2048 * (t.val % 4) + k.val) (1024 * (t.val / 4 % 1) + l.val) := by
  unfold iblk
  rw [View.read_apply]
  refine (eq_rd2' (argB m c) _).trans (rd2_congr _ ?_ ?_)
  · show win0_1.index t 0 * 2048 + 1 * k.val = _; rw [(index1 t).1]; omega
  · show win0_1.index t 1 * 1024 + 1 * l.val = _; rw [(index1 t).2]; omega

/-- A grid point's product, in the arguments' rows and columns. -/
theorem part (c : Dev nD) (t : Fin cfg0.N) (r : Fin 1408) (l : Fin 1024) :
    k0_pay1 (iblk m c 0 t : Vec Ideal S2048x1408 .bf16) (iblk m c 1 t : Vec Ideal S2048x1024 .bf16) (ix2 r l)
      = ∑ k : Fin 2048, rd2 (argA m c) (2048 * (t.val % 4) + k.val) (1408 * (t.val / 4) + r.val)
          * rd2 (argB m c) (2048 * (t.val % 4) + k.val) (1024 * (t.val / 4 % 1) + l.val) := by
  rw [dot]
  simp only [block0, block1]

/-- A load of a whole block is the block. -/
theorem ld0 (X : Vec Ideal S2048x1408 .bf16) :
    View.ld X (Rect.unit (s := S2048x1408) ![0, 0] S2048x1408.size inb_S2048x1408_S2048x1408_0_0) = X := by
  refine funext fun j => ?_
  rw [eq_ix2 j]
  exact ld_zero2 X _ _ _
theorem ld1 (X : Vec Ideal S2048x1024 .bf16) :
    View.ld X (Rect.unit (s := S2048x1024) ![0, 0] S2048x1024.size inb_S2048x1024_S2048x1024_0_0) = X := by
  refine funext fun j => ?_
  rw [eq_ix2 j]
  exact ld_zero2 X _ _ _

/-- After a block of rows the scratch buffer holds the terms of the rows so far. -/
theorem acc (c : Dev nD) (r : Fin 1408) (l : Fin 1024) : ∀ (n : ℕ) (hn : n < cfg0.N),
    (outsAt0 m c n hn).2 (ix2 r l) = mulTN (argA m c) (argB m c) (2048 * (n % 4) + 2048) (1408 * (n / 4) + r.val) (1024 * (n / 4 % 1) + l.val) := by
  have start : ∀ t : Fin cfg0.N, t.val % 4 = 0 → (outsAt0 m c t.val t.isLt).2 (ix2 r l)
      = mulTN (argA m c) (argB m c) (2048 * (t.val % 4) + 2048) (1408 * (t.val / 4) + r.val) (1024 * (t.val / 4 % 1) + l.val) := fun t h0 => by
    rw [outsAt0_A m c t h0 (by omega) (by omega)]
    dsimp only
    unfold sout0_A_0
    rw [View.read_writes_eq_canon _ _ _ (scover0_A_0 c _ _ _ _ _ _ _ _ _ _ _ _ _ _)]
    unfold kernelRun0_A
    dsimp only
    sl_unfold_words
    simp only [View.readAt_eq_ld, Memref.IsWhole.read_unread]
    rw [canon_unit2, dif_pos (by omega)]
    unfold k0_pay2
    pointwise
    refine (congrArg₂ (fun a b => k0_pay1 a b (ix2 r l)) (ld0 _) (ld1 _)).trans ((part m c t r l).trans ?_)
    rw [h0, ← mulTN_first]
    simp only [Nat.mul_zero, Nat.zero_add, Nat.mod_one]
  have step : ∀ t : Fin cfg0.N, (h0 : ¬t.val % 4 = 0) → (outsAt0 m c t.val t.isLt).2 (ix2 r l)
      = (outsAt0 m c (t.val - 1) (Nat.lt_of_le_of_lt (Nat.sub_le _ _) t.isLt)).2 (ix2 r l) + k0_pay1 (iblk m c 0 t : Vec Ideal S2048x1408 .bf16) (iblk m c 1 t : Vec Ideal S2048x1024 .bf16) (ix2 r l) := fun t h0 => by
    by_cases h2 : t.val % 4 = 3
    · rw [outsAt0_C m c t h0 (by omega) h2]
      dsimp only
      unfold sout0_C_0
      rw [View.read_writes_eq_canon _ _ _ (scover0_C_0 c _ _ _ _ _ _ _ _ _ _ _ _ _ _ _)]
      unfold kernelRun0_C
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
    · rw [outsAt0_B m c t h0 (by omega) h2]
      dsimp only
      unfold sout0_B_0
      rw [View.read_writes_eq_canon _ _ _ (scover0_B_0 c _ _ _ _ _ _ _ _ _ _ _ _ _ _ _)]
      unfold kernelRun0_B
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
  intro n
  induction n with
  | zero => exact fun hn => start ⟨0, hn⟩ rfl
  | succ n ih =>
    intro hn
    by_cases h0 : (n + 1) % 4 = 0
    · exact start ⟨n + 1, hn⟩ h0
    · refine (step ⟨n + 1, hn⟩ h0).trans ?_
      rw [part]
      refine (congrArg (· + _) (ih (Nat.lt_of_succ_lt hn))).trans ?_
      have e1 : (n + 1) % 4 = n % 4 + 1 := by omega
      have e2 : (n + 1) / 4 = n / 4 := by omega
      show _ + ∑ k : Fin 2048, rd2 _ (2048 * ((n + 1) % 4) + k.val) (1408 * ((n + 1) / 4) + r.val) * rd2 _ (2048 * ((n + 1) % 4) + k.val) (1024 * ((n + 1) / 4 % 1) + l.val) = _
      rw [e1, e2, Nat.mul_add 2048 (n % 4) 1, Nat.mul_one]
      exact (mulTN_add _ _ _ _ _ _).symm

/-- The last block of rows leaves the whole sum in the output buffer. -/
theorem last (c : Dev nD) (t : Fin cfg0.N) (h2 : t.val % 4 = 3) (r : Fin 1408) (l : Fin 1024) :
    (outsAt0 m c t.val t.isLt).1 (ix2 r l) = mulTN (argA m c) (argB m c) 8192 (1408 * (t.val / 4) + r.val) (1024 * (t.val / 4 % 1) + l.val) := by
  have h := acc m c r l t.val t.isLt
  rw [h2] at h
  refine Eq.trans ?_ h
  rw [outsAt0_C m c t (by omega) (by omega) h2]
  dsimp only
  unfold out0_C_2 sout0_C_0
  rw [View.read_writes_eq_canon _ _ _ (cover0_C_2 c _ _ _ _ _ _ _ _ _ _ _ _ _ _ _),
    View.read_writes_eq_canon _ _ _ (scover0_C_0 c _ _ _ _ _ _ _ _ _ _ _ _ _ _ _)]
  unfold kernelRun0_C
  dsimp only
  sl_unfold_words
  rw [canon_unit2, dif_pos (by omega)]
  unfold k0_pay4
  pointwise
  rw [readCov_unit2]
  refine congrArg _ ?_
  congr 1 <;> exact Fin.ext (by simp)

/-- The gradient as an array. -/
def Arr (A : Vec Ideal S8192x2816 .bf16) (B : Vec Ideal S8192x1024 .bf16) : Vec Ideal S2816x1024 .bf16 := fun j =>
  mulTN A B 8192 (j 0).val (j 1).val

/-- The result array is the gradient. -/
theorem final (c : Dev nD) : (dats m 0 c).arrAt 2 cfg0.N = Arr (argA m c) (argB m c) := by
  refine (dats m 0 c).arrAt_eq_of_cover 2 _ (fun t hf => ?_) fun i => (Value.covered_iff2 i).2 (by
    have h0 : (i 0).val < 2816 := (i 0).isLt; have h1 : (i 1).val < 1024 := (i 1).isLt; omega)
  rw [Value.flushed2]
  funext j
  have hj : j = ix2 (j 0) (j 1) := eq_ix2 j
  show (outsAt0 m c t.val t.isLt).1 j = Arr _ _ (((cfg0.win 2).blk t).view.emb j)
  rw [hj]
  refine (last m c t (by have h := (flush0_2 t).mp hf; omega) (j 0) (j 1)).trans ?_
  unfold Arr
  refine congr (congrArg _ ?_) ?_
  · show _ = win0_2.index t 0 * 1408 + 1 * (j 0).val; rw [(index2 t).1]; omega
  · show _ = win0_2.index t 1 * 1024 + 1 * (j 1).val; rw [(index2 t).2]; omega

/-- The reference's result is the gradient. -/
theorem ref (A : Vec Ideal S8192x2816 .bf16) (B : Vec Ideal S8192x1024 .bf16) :
    Cert.FfnDownDwRefIdeal.Read.val_main_v6 (F := Ideal) A B = Arr A B := by
  funext j
  rw [eq_ix2 j]
  unfold Arr
  rw [← mulTN_first, Cert.FfnDownDwRefIdeal.Read.val_main_v6_apply, Cert.FfnDownDwRefIdeal.Read.val_main_v5_apply, Cert.FfnDownDwRefIdeal.Read.val_main_v4_apply]
  refine Finset.sum_congr rfl fun k _ => (mul_comm _ _).trans ?_
  exact congr (congrArg HMul.hMul ((eq_rd2' A _).trans (rd2_congr A rfl rfl))) ((eq_rd2' B _).trans (rd2_congr B rfl rfl))

end Cert.FfnDownDwIdeal.KernelValue

namespace Cert.FfnDownDwClaim

open Cert.FfnDownDwIdeal.KernelValue

/-- Both programs end with the same gradient. -/
theorem algebraic : Cert.algebraic_FfnDownDwIdeal_FfnDownDwRefIdeal (hFfnDownDwIdeal := Cert.FfnDownDwIdeal.Gen.facts)
    (hFfnDownDwRefIdeal := Cert.FfnDownDwRefIdeal.Gen.facts) := fun m g m' g' _ hag =>
  ⟨fun c => Arr (argA m c) (argB m c),
    (θ_run _ _ _).mono (fun _ h c => ⟨(h c).1.trans (final m c), (h c).2⟩) (Cert.FfnDownDwIdeal.Value.run_blocks m g),
    (θ_run _ _ _).mono (fun _ h c => by
      obtain ⟨e0, e1⟩ := hag c
      obtain ⟨h0, h2⟩ := h c
      refine ⟨h0.trans ?_, h2⟩
      rw [Cert.FfnDownDwRefIdeal.Read.val_main_v6_eq, e0, e1]
      exact ref _ _) (Cert.FfnDownDwRefIdeal.Value.run m' g')⟩

end Cert.FfnDownDwClaim

end
-- ==== Proof.Mm.ConvInDw.lean ====
/-
  The gradient of the convolution's first weight: the transposed activations times the cotangent, made over four blocks of rows
  that are added up in a scratch buffer. Kernel and reference both end with the sum over all 8192 rows.
-/
module

public import proofs.«01_k».proof.Defs
public import proofs.«01_k».proof.Proof.Common.Product
public import proofs.«01_k».proof.Proof.Gen.ConvInDwIdeal.Value
public import proofs.«01_k».proof.Proof.Gen.ConvInDwRefIdeal.Run
public import proofs.«01_k».proof.Proof.Gen.ConvInDwRefIdeal.Read

@[expose] public section

set_option maxRecDepth 16384

noncomputable section

open Idealize.ShloMosaic Idealize.ShloMosaic.TcCoe Idealize.SL.Sem
open Idealize.ShloMosaic.Pipeline (Dat)

namespace Cert.ConvInDwIdeal.KernelValue

open Cert.ConvInDwIdeal Cert.ConvInDwIdeal.Gen Cert.Common

variable (m : (ℓ : Loc nD τ sig) → Buf (Elt Ideal) ℓ) (ρ : Dev nD → PrngReg)

/-- The activations. -/
abbrev argA (c : Dev nD) : Vec Ideal S8192x1024 .bf16 := m ((c : Thread nD τ).loc main_arg0)
/-- The cotangent. -/
abbrev argB (c : Dev nD) : Vec Ideal S8192x3072 .bf16 := m ((c : Thread nD τ).loc main_arg1)

theorem index0 : ∀ t : Fin cfg0.N, win0_0.index t 0 = t.val % 4 ∧ win0_0.index t 1 = t.val / 8 :=
  (by decide +kernel : ∀ t : Fin grid0.N, win0_0.index t 0 = t.val % 4 ∧ win0_0.index t 1 = t.val / 8)
theorem index1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem index2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- One grid point's product of its two blocks. -/
theorem dot (v0 : Vec Ideal S2048x1024 .bf16) (v1 : Vec Ideal S2048x1536 .bf16) (r : Fin 1024) (l : Fin 1536) :
    k0_pay1 v0 v1 (ix2 r l) = ∑ k : Fin 2048, v0 (ix2 k r) * v1 (ix2 k l) := by
  unfold k0_pay1
  pointwise

/-- The rows of the activations that a grid point reads. -/
theorem block0 (c : Dev nD) (t : Fin cfg0.N) (k : Fin 2048) (r : Fin 1024) :
    (iblk m c 0 t : Vec Ideal S2048x1024 .bf16) (ix2 k r)
      = rd2 (argA m c) (2048 * (t.val % 4) + k.val) (1024 * (t.val / 8) + r.val) := by
  unfold iblk
  rw [View.read_apply]
  refine (eq_rd2' (argA m c) _).trans (rd2_congr _ ?_ ?_)
  · show win0_0.index t 0 * 2048 + 1 * k.val = _; rw [(index0 t).1]; omega
  · show win0_0.index t 1 * 1024 + 1 * r.val = _; rw [(index0 t).2]; omega

/-- The rows of the cotangent that a grid point reads. -/
theorem block1 (c : Dev nD) (t : Fin cfg0.N) (k : Fin 2048) (l : Fin 1536) :
    (iblk m c 1 t : Vec Ideal S2048x1536 .bf16) (ix2 k l)
      = rd2 (argB m c) (2048 * (t.val % 4) + k.val) (1536 * (t.val / 4 % 2) + l.val) := by
  unfold iblk
  rw [View.read_apply]
  refine (eq_rd2' (argB m c) _).trans (rd2_congr _ ?_ ?_)
  · show win0_1.index t 0 * 2048 + 1 * k.val = _; rw [(index1 t).1]; omega
  · show win0_1.index t 1 * 1536 + 1 * l.val = _; rw [(index1 t).2]; omega

/-- A grid point's product, in the arguments' rows and columns. -/
theorem part (c : Dev nD) (t : Fin cfg0.N) (r : Fin 1024) (l : Fin 1536) :
    k0_pay1 (iblk m c 0 t : Vec Ideal S2048x1024 .bf16) (iblk m c 1 t : Vec Ideal S2048x1536 .bf16) (ix2 r l)
      = ∑ k : Fin 2048, rd2 (argA m c) (2048 * (t.val % 4) + k.val) (1024 * (t.val / 8) + r.val)
          * rd2 (argB m c) (2048 * (t.val % 4) + k.val) (1536 * (t.val / 4 % 2) + l.val) := by
  rw [dot]
  simp only [block0, block1]

/-- A load of a whole block is the block. -/
theorem ld0 (X : Vec Ideal S2048x1024 .bf16) :
    View.ld X (Rect.unit (s := S2048x1024) ![0, 0] S2048x1024.size inb_S2048x1024_S2048x1024_0_0) = X := by
  refine funext fun j => ?_
  rw [eq_ix2 j]
  exact ld_zero2 X _ _ _
theorem ld1 (X : Vec Ideal S2048x1536 .bf16) :
    View.ld X (Rect.unit (s := S2048x1536) ![0, 0] S2048x1536.size inb_S2048x1536_S2048x1536_0_0) = X := by
  refine funext fun j => ?_
  rw [eq_ix2 j]
  exact ld_zero2 X _ _ _

/-- After a block of rows the scratch buffer holds the terms of the rows so far. -/
theorem acc (c : Dev nD) (r : Fin 1024) (l : Fin 1536) : ∀ (n : ℕ) (hn : n < cfg0.N),
    (outsAt0 m c n hn).2 (ix2 r l) = mulTN (argA m c) (argB m c) (2048 * (n % 4) + 2048) (1024 * (n / 8) + r.val) (1536 * (n / 4 % 2) + l.val) := by
  have start : ∀ t : Fin cfg0.N, t.val % 4 = 0 → (outsAt0 m c t.val t.isLt).2 (ix2 r l)
      = mulTN (argA m c) (argB m c) (2048 * (t.val % 4) + 2048) (1024 * (t.val / 8) + r.val) (1536 * (t.val / 4 % 2) + l.val) := fun t h0 => by
    rw [outsAt0_A m c t h0 (by omega) (by omega)]
    dsimp only
    unfold sout0_A_0
    rw [View.read_writes_eq_canon _ _ _ (scover0_A_0 c _ _ _ _ _ _ _ _ _ _ _ _ _ _)]
    unfold kernelRun0_A
    dsimp only
    sl_unfold_words
    simp only [View.readAt_eq_ld, Memref.IsWhole.read_unread]
    rw [canon_unit2, dif_pos (by omega)]
    unfold k0_pay2
    pointwise
    refine (congrArg₂ (fun a b => k0_pay1 a b (ix2 r l)) (ld0 _) (ld1 _)).trans ((part m c t r l).trans ?_)
    rw [h0, ← mulTN_first]
    simp only [Nat.mul_zero, Nat.zero_add]
  have step : ∀ t : Fin cfg0.N, (h0 : ¬t.val % 4 = 0) → (outsAt0 m c t.val t.isLt).2 (ix2 r l)
      = (outsAt0 m c (t.val - 1) (Nat.lt_of_le_of_lt (Nat.sub_le _ _) t.isLt)).2 (ix2 r l) + k0_pay1 (iblk m c 0 t : Vec Ideal S2048x1024 .bf16) (iblk m c 1 t : Vec Ideal S2048x1536 .bf16) (ix2 r l) := fun t h0 => by
    by_cases h2 : t.val % 4 = 3
    · rw [outsAt0_C m c t h0 (by omega) h2]
      dsimp only
      unfold sout0_C_0
      rw [View.read_writes_eq_canon _ _ _ (scover0_C_0 c _ _ _ _ _ _ _ _ _ _ _ _ _ _ _)]
      unfold kernelRun0_C
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
    · rw [outsAt0_B m c t h0 (by omega) h2]
      dsimp only
      unfold sout0_B_0
      rw [View.read_writes_eq_canon _ _ _ (scover0_B_0 c _ _ _ _ _ _ _ _ _ _ _ _ _ _ _)]
      unfold kernelRun0_B
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
  intro n
  induction n with
  | zero => exact fun hn => start ⟨0, hn⟩ rfl
  | succ n ih =>
    intro hn
    by_cases h0 : (n + 1) % 4 = 0
    · exact start ⟨n + 1, hn⟩ h0
    · refine (step ⟨n + 1, hn⟩ h0).trans ?_
      rw [part]
      refine (congrArg (· + _) (ih (Nat.lt_of_succ_lt hn))).trans ?_
      have e1 : (n + 1) % 4 = n % 4 + 1 := by omega
      have e2 : (n + 1) / 8 = n / 8 := by omega
      have e3 : (n + 1) / 4 = n / 4 := by omega
      show _ + ∑ k : Fin 2048, rd2 _ (2048 * ((n + 1) % 4) + k.val) (1024 * ((n + 1) / 8) + r.val) * rd2 _ (2048 * ((n + 1) % 4) + k.val) (1536 * ((n + 1) / 4 % 2) + l.val) = _
      rw [e1, e2, e3, Nat.mul_add 2048 (n % 4) 1, Nat.mul_one]
      exact (mulTN_add _ _ _ _ _ _).symm

/-- The last block of rows leaves the whole sum in the output buffer. -/
theorem last (c : Dev nD) (t : Fin cfg0.N) (h2 : t.val % 4 = 3) (r : Fin 1024) (l : Fin 1536) :
    (outsAt0 m c t.val t.isLt).1 (ix2 r l) = mulTN (argA m c) (argB m c) 8192 (1024 * (t.val / 8) + r.val) (1536 * (t.val / 4 % 2) + l.val) := by
  have h := acc m c r l t.val t.isLt
  rw [h2] at h
  refine Eq.trans ?_ h
  rw [outsAt0_C m c t (by omega) (by omega) h2]
  dsimp only
  unfold out0_C_2 sout0_C_0
  rw [View.read_writes_eq_canon _ _ _ (cover0_C_2 c _ _ _ _ _ _ _ _ _ _ _ _ _ _ _),
    View.read_writes_eq_canon _ _ _ (scover0_C_0 c _ _ _ _ _ _ _ _ _ _ _ _ _ _ _)]
  unfold kernelRun0_C
  dsimp only
  sl_unfold_words
  rw [canon_unit2, dif_pos (by omega)]
  unfold k0_pay4
  pointwise
  rw [readCov_unit2]
  refine congrArg _ ?_
  congr 1 <;> exact Fin.ext (by simp)

/-- The gradient as an array. -/
def Arr (A : Vec Ideal S8192x1024 .bf16) (B : Vec Ideal S8192x3072 .bf16) : Vec Ideal S1024x3072 .bf16 := fun j =>
  mulTN A B 8192 (j 0).val (j 1).val

/-- The result array is the gradient. -/
theorem final (c : Dev nD) : (dats m 0 c).arrAt 2 cfg0.N = Arr (argA m c) (argB m c) := by
  refine (dats m 0 c).arrAt_eq_of_cover 2 _ (fun t hf => ?_) fun i => (Value.covered_iff2 i).2 (by
    have h0 : (i 0).val < 1024 := (i 0).isLt; have h1 : (i 1).val < 3072 := (i 1).isLt; omega)
  rw [Value.flushed2]
  funext j
  have hj : j = ix2 (j 0) (j 1) := eq_ix2 j
  show (outsAt0 m c t.val t.isLt).1 j = Arr _ _ (((cfg0.win 2).blk t).view.emb j)
  rw [hj]
  refine (last m c t (by have h := (flush0_2 t).mp hf; omega) (j 0) (j 1)).trans ?_
  unfold Arr
  refine congr (congrArg _ ?_) ?_
  · show _ = win0_2.index t 0 * 1024 + 1 * (j 0).val; rw [(index2 t).1]; omega
  · show _ = win0_2.index t 1 * 1536 + 1 * (j 1).val; rw [(index2 t).2]; omega

/-- The reference's result is the gradient. -/
theorem ref (A : Vec Ideal S8192x1024 .bf16) (B : Vec Ideal S8192x3072 .bf16) :
    Cert.ConvInDwRefIdeal.Read.val_main_v6 (F := Ideal) A B = Arr A B := by
  funext j
  rw [eq_ix2 j]
  unfold Arr
  rw [← mulTN_first, Cert.ConvInDwRefIdeal.Read.val_main_v6_apply, Cert.ConvInDwRefIdeal.Read.val_main_v5_apply, Cert.ConvInDwRefIdeal.Read.val_main_v4_apply]
  refine Finset.sum_congr rfl fun k _ => (mul_comm _ _).trans ?_
  exact congr (congrArg HMul.hMul ((eq_rd2' A _).trans (rd2_congr A rfl rfl))) ((eq_rd2' B _).trans (rd2_congr B rfl rfl))

end Cert.ConvInDwIdeal.KernelValue

namespace Cert.ConvInDwClaim

open Cert.ConvInDwIdeal.KernelValue

/-- Both programs end with the same gradient. -/
theorem algebraic : Cert.algebraic_ConvInDwIdeal_ConvInDwRefIdeal (hConvInDwIdeal := Cert.ConvInDwIdeal.Gen.facts)
    (hConvInDwRefIdeal := Cert.ConvInDwRefIdeal.Gen.facts) := fun m g m' g' _ hag =>
  ⟨fun c => Arr (argA m c) (argB m c),
    (θ_run _ _ _).mono (fun _ h c => ⟨(h c).1.trans (final m c), (h c).2⟩) (Cert.ConvInDwIdeal.Value.run_blocks m g),
    (θ_run _ _ _).mono (fun _ h c => by
      obtain ⟨e0, e1⟩ := hag c
      obtain ⟨h0, h2⟩ := h c
      refine ⟨h0.trans ?_, h2⟩
      rw [Cert.ConvInDwRefIdeal.Read.val_main_v6_eq, e0, e1]
      exact ref _ _) (Cert.ConvInDwRefIdeal.Value.run m' g')⟩

end Cert.ConvInDwClaim

end
-- ==== Proof.Mm.OutDw.lean ====
/-
  The gradient of the second weight of the convolution and of the attention: the transposed activations times the cotangent, made over four blocks of rows
  that are added up in a scratch buffer. Kernel and reference both end with the sum over all 8192 rows.
-/
module

public import proofs.«01_k».proof.Defs
public import proofs.«01_k».proof.Proof.Common.Product
public import proofs.«01_k».proof.Proof.Gen.OutDwIdeal.Value
public import proofs.«01_k».proof.Proof.Gen.OutDwRefIdeal.Run
public import proofs.«01_k».proof.Proof.Gen.OutDwRefIdeal.Read

@[expose] public section

set_option maxRecDepth 16384

noncomputable section

open Idealize.ShloMosaic Idealize.ShloMosaic.TcCoe Idealize.SL.Sem
open Idealize.ShloMosaic.Pipeline (Dat)

namespace Cert.OutDwIdeal.KernelValue

open Cert.OutDwIdeal Cert.OutDwIdeal.Gen Cert.Common

variable (m : (ℓ : Loc nD τ sig) → Buf (Elt Ideal) ℓ) (ρ : Dev nD → PrngReg)

/-- The activations. -/
abbrev argA (c : Dev nD) : Vec Ideal S8192x1024 .bf16 := m ((c : Thread nD τ).loc main_arg0)
/-- The cotangent. -/
abbrev argB (c : Dev nD) : Vec Ideal S8192x1024 .bf16 := m ((c : Thread nD τ).loc main_arg1)

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = t.val / 4 % 1 :=
  (by decide +kernel : ∀ t : Fin grid0.N, win0_1.index t 0 = t.val % 4 ∧ win0_1.index t 1 = t.val / 4 % 1)
theorem index2 : ∀ t : Fin cfg0.N, win0_2.index t 0 = t.val / 4 ∧ win0_2.index t 1 = t.val / 4 % 1 :=
  (by decide +kernel : ∀ t : Fin grid0.N, win0_2.index t 0 = t.val / 4 ∧ win0_2.index t 1 = t.val / 4 % 1)

/-- One grid point's product of its two blocks. -/
theorem dot (v0 : Vec Ideal S2048x1024 .bf16) (v1 : Vec Ideal S2048x1024 .bf16) (r : Fin 1024) (l : Fin 1024) :
    k0_pay1 v0 v1 (ix2 r l) = ∑ k : Fin 2048, v0 (ix2 k r) * v1 (ix2 k l) := by
  unfold k0_pay1
  pointwise

/-- The rows of the activations that a grid point reads. -/
theorem block0 (c : Dev nD) (t : Fin cfg0.N) (k : Fin 2048) (r : Fin 1024) :
    (iblk m c 0 t : Vec Ideal S2048x1024 .bf16) (ix2 k r)
      = rd2 (argA m c) (2048 * (t.val % 4) + k.val) (1024 * (t.val / 4) + r.val) := by
  unfold iblk
  rw [View.read_apply]
  refine (eq_rd2' (argA m c) _).trans (rd2_congr _ ?_ ?_)
  · show win0_0.index t 0 * 2048 + 1 * k.val = _; rw [(index0 t).1]; omega
  · show win0_0.index t 1 * 1024 + 1 * r.val = _; rw [(index0 t).2]; omega

/-- The rows of the cotangent that a grid point reads. -/
theorem block1 (c : Dev nD) (t : Fin cfg0.N) (k : Fin 2048) (l : Fin 1024) :
    (iblk m c 1 t : Vec Ideal S2048x1024 .bf16) (ix2 k l)
      = rd2 (argB m c) (2048 * (t.val % 4) + k.val) (1024 * (t.val / 4 % 1) + l.val) := by
  unfold iblk
  rw [View.read_apply]
  refine (eq_rd2' (argB m c) _).trans (rd2_congr _ ?_ ?_)
  · show win0_1.index t 0 * 2048 + 1 * k.val = _; rw [(index1 t).1]; omega
  · show win0_1.index t 1 * 1024 + 1 * l.val = _; rw [(index1 t).2]; omega

/-- A grid point's product, in the arguments' rows and columns. -/
theorem part (c : Dev nD) (t : Fin cfg0.N) (r : Fin 1024) (l : Fin 1024) :
    k0_pay1 (iblk m c 0 t : Vec Ideal S2048x1024 .bf16) (iblk m c 1 t : Vec Ideal S2048x1024 .bf16) (ix2 r l)
      = ∑ k : Fin 2048, rd2 (argA m c) (2048 * (t.val % 4) + k.val) (1024 * (t.val / 4) + r.val)
          * rd2 (argB m c) (2048 * (t.val % 4) + k.val) (1024 * (t.val / 4 % 1) + l.val) := by
  rw [dot]
  simp only [block0, block1]

/-- A load of a whole block is the block. -/
theorem ld0 (X : Vec Ideal S2048x1024 .bf16) :
    View.ld X (Rect.unit (s := S2048x1024) ![0, 0] S2048x1024.size inb_S2048x1024_S2048x1024_0_0) = X := by
  refine funext fun j => ?_
  rw [eq_ix2 j]
  exact ld_zero2 X _ _ _
theorem ld1 (X : Vec Ideal S2048x1024 .bf16) :
    View.ld X (Rect.unit (s := S2048x1024) ![0, 0] S2048x1024.size inb_S2048x1024_S2048x1024_0_0) = X := by
  refine funext fun j => ?_
  rw [eq_ix2 j]
  exact ld_zero2 X _ _ _

/-- After a block of rows the scratch buffer holds the terms of the rows so far. -/
theorem acc (c : Dev nD) (r : Fin 1024) (l : Fin 1024) : ∀ (n : ℕ) (hn : n < cfg0.N),
    (outsAt0 m c n hn).2 (ix2 r l) = mulTN (argA m c) (argB m c) (2048 * (n % 4) + 2048) (1024 * (n / 4) + r.val) (1024 * (n / 4 % 1) + l.val) := by
  have start : ∀ t : Fin cfg0.N, t.val % 4 = 0 → (outsAt0 m c t.val t.isLt).2 (ix2 r l)
      = mulTN (argA m c) (argB m c) (2048 * (t.val % 4) + 2048) (1024 * (t.val / 4) + r.val) (1024 * (t.val / 4 % 1) + l.val) := fun t h0 => by
    have hN : cfg0.N = 4 := N_0
    have ht := t.isLt
    rw [outsAt0_A m c t h0 (by omega) (by omega)]
    dsimp only
    unfold sout0_A_0
    rw [View.read_writes_eq_canon _ _ _ (scover0_A_0 c _ _ _ _ _ _ _ _ _ _ _ _ _ _)]
    unfold kernelRun0_A
    dsimp only
    sl_unfold_words
    simp only [View.readAt_eq_ld, Memref.IsWhole.read_unread]
    rw [canon_unit2, dif_pos (by omega)]
    unfold k0_pay2
    pointwise
    refine (congrArg₂ (fun a b => k0_pay1 a b (ix2 r l)) (ld0 _) (ld1 _)).trans ((part m c t r l).trans ?_)
    rw [h0, ← mulTN_first]
    simp only [Nat.mul_zero, Nat.zero_add, Nat.mod_one]
  have step : ∀ t : Fin cfg0.N, (h0 : ¬t.val % 4 = 0) → (outsAt0 m c t.val t.isLt).2 (ix2 r l)
      = (outsAt0 m c (t.val - 1) (Nat.lt_of_le_of_lt (Nat.sub_le _ _) t.isLt)).2 (ix2 r l) + k0_pay1 (iblk m c 0 t : Vec Ideal S2048x1024 .bf16) (iblk m c 1 t : Vec Ideal S2048x1024 .bf16) (ix2 r l) := fun t h0 => by
    have hN : cfg0.N = 4 := N_0
    have ht := t.isLt
    by_cases h2 : t.val % 4 = 3
    · rw [outsAt0_C m c t h0 (by omega) h2]
      dsimp only
      unfold sout0_C_0
      rw [View.read_writes_eq_canon _ _ _ (scover0_C_0 c _ _ _ _ _ _ _ _ _ _ _ _ _ _ _)]
      unfold kernelRun0_C
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
    · rw [outsAt0_B m c t h0 (by omega) h2]
      dsimp only
      unfold sout0_B_0
      rw [View.read_writes_eq_canon _ _ _ (scover0_B_0 c _ _ _ _ _ _ _ _ _ _ _ _ _ _ _)]
      unfold kernelRun0_B
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
  intro n
  induction n with
  | zero => exact fun hn => start ⟨0, hn⟩ rfl
  | succ n ih =>
    intro hn
    by_cases h0 : (n + 1) % 4 = 0
    · exact start ⟨n + 1, hn⟩ h0
    · refine (step ⟨n + 1, hn⟩ h0).trans ?_
      rw [part]
      refine (congrArg (· + _) (ih (Nat.lt_of_succ_lt hn))).trans ?_
      have e1 : (n + 1) % 4 = n % 4 + 1 := by omega
      have e2 : (n + 1) / 4 = n / 4 := by omega
      show _ + ∑ k : Fin 2048, rd2 _ (2048 * ((n + 1) % 4) + k.val) (1024 * ((n + 1) / 4) + r.val) * rd2 _ (2048 * ((n + 1) % 4) + k.val) (1024 * ((n + 1) / 4 % 1) + l.val) = _
      rw [e1, e2, Nat.mul_add 2048 (n % 4) 1, Nat.mul_one]
      exact (mulTN_add _ _ _ _ _ _).symm

/-- The last block of rows leaves the whole sum in the output buffer. -/
theorem last (c : Dev nD) (t : Fin cfg0.N) (h2 : t.val % 4 = 3) (r : Fin 1024) (l : Fin 1024) :
    (outsAt0 m c t.val t.isLt).1 (ix2 r l) = mulTN (argA m c) (argB m c) 8192 (1024 * (t.val / 4) + r.val) (1024 * (t.val / 4 % 1) + l.val) := by
  have h := acc m c r l t.val t.isLt
  rw [h2] at h
  refine Eq.trans ?_ h
  rw [outsAt0_C m c t (by omega) (by omega) h2]
  dsimp only
  unfold out0_C_2 sout0_C_0
  rw [View.read_writes_eq_canon _ _ _ (cover0_C_2 c _ _ _ _ _ _ _ _ _ _ _ _ _ _ _),
    View.read_writes_eq_canon _ _ _ (scover0_C_0 c _ _ _ _ _ _ _ _ _ _ _ _ _ _ _)]
  unfold kernelRun0_C
  dsimp only
  sl_unfold_words
  rw [canon_unit2, dif_pos (by omega)]
  unfold k0_pay4
  pointwise
  rw [readCov_unit2]
  refine congrArg _ ?_
  congr 1 <;> exact Fin.ext (by simp)

/-- The gradient as an array. -/
def Arr (A : Vec Ideal S8192x1024 .bf16) (B : Vec Ideal S8192x1024 .bf16) : Vec Ideal S1024x1024 .bf16 := fun j =>
  mulTN A B 8192 (j 0).val (j 1).val

/-- The result array is the gradient. -/
theorem final (c : Dev nD) : (dats m 0 c).arrAt 2 cfg0.N = Arr (argA m c) (argB m c) := by
  refine (dats m 0 c).arrAt_eq_of_cover 2 _ (fun t hf => ?_) fun i => (Value.covered_iff2 i).2 (by
    have h0 : (i 0).val < 1024 := (i 0).isLt; have h1 : (i 1).val < 1024 := (i 1).isLt; omega)
  rw [Value.flushed2]
  funext j
  have hj : j = ix2 (j 0) (j 1) := eq_ix2 j
  show (outsAt0 m c t.val t.isLt).1 j = Arr _ _ (((cfg0.win 2).blk t).view.emb j)
  rw [hj]
  refine (last m c t (by have h := (flush0_2 t).mp hf; omega) (j 0) (j 1)).trans ?_
  unfold Arr
  refine congr (congrArg _ ?_) ?_
  · show _ = win0_2.index t 0 * 1024 + 1 * (j 0).val; rw [(index2 t).1]; omega
  · show _ = win0_2.index t 1 * 1024 + 1 * (j 1).val; rw [(index2 t).2]; omega

/-- The reference's result is the gradient. -/
theorem ref (A : Vec Ideal S8192x1024 .bf16) (B : Vec Ideal S8192x1024 .bf16) :
    Cert.OutDwRefIdeal.Read.val_main_v6 (F := Ideal) A B = Arr A B := by
  funext j
  rw [eq_ix2 j]
  unfold Arr
  rw [← mulTN_first, Cert.OutDwRefIdeal.Read.val_main_v6_apply, Cert.OutDwRefIdeal.Read.val_main_v5_apply, Cert.OutDwRefIdeal.Read.val_main_v4_apply]
  refine Finset.sum_congr rfl fun k _ => (mul_comm _ _).trans ?_
  exact congr (congrArg HMul.hMul ((eq_rd2' A _).trans (rd2_congr A rfl rfl))) ((eq_rd2' B _).trans (rd2_congr B rfl rfl))

end Cert.OutDwIdeal.KernelValue

namespace Cert.OutDwClaim

open Cert.OutDwIdeal.KernelValue

/-- Both programs end with the same gradient. -/
theorem algebraic : Cert.algebraic_OutDwIdeal_OutDwRefIdeal (hOutDwIdeal := Cert.OutDwIdeal.Gen.facts)
    (hOutDwRefIdeal := Cert.OutDwRefIdeal.Gen.facts) := fun m g m' g' _ hag =>
  ⟨fun c => Arr (argA m c) (argB m c),
    (θ_run _ _ _).mono (fun _ h c => ⟨(h c).1.trans (final m c), (h c).2⟩) (Cert.OutDwIdeal.Value.run_blocks m g),
    (θ_run _ _ _).mono (fun _ h c => by
      obtain ⟨e0, e1⟩ := hag c
      obtain ⟨h0, h2⟩ := h c
      refine ⟨h0.trans ?_, h2⟩
      rw [Cert.OutDwRefIdeal.Read.val_main_v6_eq, e0, e1]
      exact ref _ _) (Cert.OutDwRefIdeal.Value.run m' g')⟩

end Cert.OutDwClaim

end
-- ==== Proof.Mm.QkvDw.lean ====
/-
  The gradient of the attention's first weight: the transposed activations times the cotangent, made over four blocks of rows
  that are added up in a scratch buffer. Kernel and reference both end with the sum over all 8192 rows.
-/
module

public import proofs.«01_k».proof.Defs
public import proofs.«01_k».proof.Proof.Common.Product
public import proofs.«01_k».proof.Proof.Gen.QkvDwIdeal.Value
public import proofs.«01_k».proof.Proof.Gen.QkvDwRefIdeal.Run
public import proofs.«01_k».proof.Proof.Gen.QkvDwRefIdeal.Read

@[expose] public section

set_option maxRecDepth 16384

noncomputable section

open Idealize.ShloMosaic Idealize.ShloMosaic.TcCoe Idealize.SL.Sem
open Idealize.ShloMosaic.Pipeline (Dat)

namespace Cert.QkvDwIdeal.KernelValue

open Cert.QkvDwIdeal Cert.QkvDwIdeal.Gen Cert.Common

variable (m : (ℓ : Loc nD τ sig) → Buf (Elt Ideal) ℓ) (ρ : Dev nD → PrngReg)

/-- The activations. -/
abbrev argA (c : Dev nD) : Vec Ideal S8192x1024 .bf16 := m ((c : Thread nD τ).loc main_arg0)
/-- The cotangent. -/
abbrev argB (c : Dev nD) : Vec Ideal S8192x1536 .bf16 := m ((c : Thread nD τ).loc main_arg1)

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = t.val / 4 % 1 :=
  (by decide +kernel : ∀ t : Fin grid0.N, win0_1.index t 0 = t.val % 4 ∧ win0_1.index t 1 = t.val / 4 % 1)
theorem index2 : ∀ t : Fin cfg0.N, win0_2.index t 0 = t.val / 4 ∧ win0_2.index t 1 = t.val / 4 % 1 :=
  (by decide +kernel : ∀ t : Fin grid0.N, win0_2.index t 0 = t.val / 4 ∧ win0_2.index t 1 = t.val / 4 % 1)

/-- One grid point's product of its two blocks. -/
theorem dot (v0 : Vec Ideal S2048x1024 .bf16) (v1 : Vec Ideal S2048x1536 .bf16) (r : Fin 1024) (l : Fin 1536) :
    k0_pay1 v0 v1 (ix2 r l) = ∑ k : Fin 2048, v0 (ix2 k r) * v1 (ix2 k l) := by
  unfold k0_pay1
  pointwise

/-- The rows of the activations that a grid point reads. -/
theorem block0 (c : Dev nD) (t : Fin cfg0.N) (k : Fin 2048) (r : Fin 1024) :
    (iblk m c 0 t : Vec Ideal S2048x1024 .bf16) (ix2 k r)
      = rd2 (argA m c) (2048 * (t.val % 4) + k.val) (1024 * (t.val / 4) + r.val) := by
  unfold iblk
  rw [View.read_apply]
  refine (eq_rd2' (argA m c) _).trans (rd2_congr _ ?_ ?_)
  · show win0_0.index t 0 * 2048 + 1 * k.val = _; rw [(index0 t).1]; omega
  · show win0_0.index t 1 * 1024 + 1 * r.val = _; rw [(index0 t).2]; omega

/-- The rows of the cotangent that a grid point reads. -/
theorem block1 (c : Dev nD) (t : Fin cfg0.N) (k : Fin 2048) (l : Fin 1536) :
    (iblk m c 1 t : Vec Ideal S2048x1536 .bf16) (ix2 k l)
      = rd2 (argB m c) (2048 * (t.val % 4) + k.val) (1536 * (t.val / 4 % 1) + l.val) := by
  unfold iblk
  rw [View.read_apply]
  refine (eq_rd2' (argB m c) _).trans (rd2_congr _ ?_ ?_)
  · show win0_1.index t 0 * 2048 + 1 * k.val = _; rw [(index1 t).1]; omega
  · show win0_1.index t 1 * 1536 + 1 * l.val = _; rw [(index1 t).2]; omega

/-- A grid point's product, in the arguments' rows and columns. -/
theorem part (c : Dev nD) (t : Fin cfg0.N) (r : Fin 1024) (l : Fin 1536) :
    k0_pay1 (iblk m c 0 t : Vec Ideal S2048x1024 .bf16) (iblk m c 1 t : Vec Ideal S2048x1536 .bf16) (ix2 r l)
      = ∑ k : Fin 2048, rd2 (argA m c) (2048 * (t.val % 4) + k.val) (1024 * (t.val / 4) + r.val)
          * rd2 (argB m c) (2048 * (t.val % 4) + k.val) (1536 * (t.val / 4 % 1) + l.val) := by
  rw [dot]
  simp only [block0, block1]

/-- A load of a whole block is the block. -/
theorem ld0 (X : Vec Ideal S2048x1024 .bf16) :
    View.ld X (Rect.unit (s := S2048x1024) ![0, 0] S2048x1024.size inb_S2048x1024_S2048x1024_0_0) = X := by
  refine funext fun j => ?_
  rw [eq_ix2 j]
  exact ld_zero2 X _ _ _
theorem ld1 (X : Vec Ideal S2048x1536 .bf16) :
    View.ld X (Rect.unit (s := S2048x1536) ![0, 0] S2048x1536.size inb_S2048x1536_S2048x1536_0_0) = X := by
  refine funext fun j => ?_
  rw [eq_ix2 j]
  exact ld_zero2 X _ _ _

/-- After a block of rows the scratch buffer holds the terms of the rows so far. -/
theorem acc (c : Dev nD) (r : Fin 1024) (l : Fin 1536) : ∀ (n : ℕ) (hn : n < cfg0.N),
    (outsAt0 m c n hn).2 (ix2 r l) = mulTN (argA m c) (argB m c) (2048 * (n % 4) + 2048) (1024 * (n / 4) + r.val) (1536 * (n / 4 % 1) + l.val) := by
  have start : ∀ t : Fin cfg0.N, t.val % 4 = 0 → (outsAt0 m c t.val t.isLt).2 (ix2 r l)
      = mulTN (argA m c) (argB m c) (2048 * (t.val % 4) + 2048) (1024 * (t.val / 4) + r.val) (1536 * (t.val / 4 % 1) + l.val) := fun t h0 => by
    have hN : cfg0.N = 4 := N_0
    have ht := t.isLt
    rw [outsAt0_A m c t h0 (by omega) (by omega)]
    dsimp only
    unfold sout0_A_0
    rw [View.read_writes_eq_canon _ _ _ (scover0_A_0 c _ _ _ _ _ _ _ _ _ _ _ _ _ _)]
    unfold kernelRun0_A
    dsimp only
    sl_unfold_words
    simp only [View.readAt_eq_ld, Memref.IsWhole.read_unread]
    rw [canon_unit2, dif_pos (by omega)]
    unfold k0_pay2
    pointwise
    refine (congrArg₂ (fun a b => k0_pay1 a b (ix2 r l)) (ld0 _) (ld1 _)).trans ((part m c t r l).trans ?_)
    rw [h0, ← mulTN_first]
    simp only [Nat.mul_zero, Nat.zero_add, Nat.mod_one]
  have step : ∀ t : Fin cfg0.N, (h0 : ¬t.val % 4 = 0) → (outsAt0 m c t.val t.isLt).2 (ix2 r l)
      = (outsAt0 m c (t.val - 1) (Nat.lt_of_le_of_lt (Nat.sub_le _ _) t.isLt)).2 (ix2 r l) + k0_pay1 (iblk m c 0 t : Vec Ideal S2048x1024 .bf16) (iblk m c 1 t : Vec Ideal S2048x1536 .bf16) (ix2 r l) := fun t h0 => by
    have hN : cfg0.N = 4 := N_0
    have ht := t.isLt
    by_cases h2 : t.val % 4 = 3
    · rw [outsAt0_C m c t h0 (by omega) h2]
      dsimp only
      unfold sout0_C_0
      rw [View.read_writes_eq_canon _ _ _ (scover0_C_0 c _ _ _ _ _ _ _ _ _ _ _ _ _ _ _)]
      unfold kernelRun0_C
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
    · rw [outsAt0_B m c t h0 (by omega) h2]
      dsimp only
      unfold sout0_B_0
      rw [View.read_writes_eq_canon _ _ _ (scover0_B_0 c _ _ _ _ _ _ _ _ _ _ _ _ _ _ _)]
      unfold kernelRun0_B
      dsimp only
      sl_unfold_words
      simp only [View.readAt_eq_ld, Memref.IsWhole.read_unread]
      rw [canon_unit2, dif_pos (by omega)]
      unfold k0_pay3
      pointwise
      exact congr (congrArg HAdd.hAdd (congrFun ((Memref.isWhole_whole cc0_scratch0).read_unread _) _))
        (congrArg₂ (fun a b => k0_pay1 a b (ix2 r l)) (ld0 _) (ld1 _))
  intro n
  induction n with
  | zero => exact fun hn => start ⟨0, hn⟩ rfl
  | succ n ih =>
    intro hn
    by_cases h0 : (n + 1) % 4 = 0
    · exact start ⟨n + 1, hn⟩ h0
    · refine (step ⟨n + 1, hn⟩ h0).trans ?_
      rw [part]
      refine (congrArg (· + _) (ih (Nat.lt_of_succ_lt hn))).trans ?_
      have e1 : (n + 1) % 4 = n % 4 + 1 := by omega
      have e2 : (n + 1) / 4 = n / 4 := by omega
      show _ + ∑ k : Fin 2048, rd2 _ (2048 * ((n + 1) % 4) + k.val) (1024 * ((n + 1) / 4) + r.val) * rd2 _ (2048 * ((n + 1) % 4) + k.val) (1536 * ((n + 1) / 4 % 1) + l.val) = _
      rw [e1, e2, Nat.mul_add 2048 (n % 4) 1, Nat.mul_one]
      exact (mulTN_add _ _ _ _ _ _).symm

/-- The last block of rows leaves the whole sum in the output buffer. -/
theorem last (c : Dev nD) (t : Fin cfg0.N) (h2 : t.val % 4 = 3) (r : Fin 1024) (l : Fin 1536) :
    (outsAt0 m c t.val t.isLt).1 (ix2 r l) = mulTN (argA m c) (argB m c) 8192 (1024 * (t.val / 4) + r.val) (1536 * (t.val / 4 % 1) + l.val) := by
  have h := acc m c r l t.val t.isLt
  rw [h2] at h
  refine Eq.trans ?_ h
  rw [outsAt0_C m c t (by omega) (by omega) h2]
  dsimp only
  unfold out0_C_2 sout0_C_0
  rw [View.read_writes_eq_canon _ _ _ (cover0_C_2 c _ _ _ _ _ _ _ _ _ _ _ _ _ _ _),
    View.read_writes_eq_canon _ _ _ (scover0_C_0 c _ _ _ _ _ _ _ _ _ _ _ _ _ _ _)]
  unfold kernelRun0_C
  dsimp only
  sl_unfold_words
  rw [canon_unit2, dif_pos (by omega)]
  unfold k0_pay4
  pointwise
  rw [readCov_unit2]
  refine congrArg _ ?_
  congr 1 <;> exact Fin.ext (by simp)

/-- The gradient as an array. -/
def Arr (A : Vec Ideal S8192x1024 .bf16) (B : Vec Ideal S8192x1536 .bf16) : Vec Ideal S1024x1536 .bf16 := fun j =>
  mulTN A B 8192 (j 0).val (j 1).val

/-- The result array is the gradient. -/
theorem final (c : Dev nD) : (dats m 0 c).arrAt 2 cfg0.N = Arr (argA m c) (argB m c) := by
  refine (dats m 0 c).arrAt_eq_of_cover 2 _ (fun t hf => ?_) fun i => (Value.covered_iff2 i).2 (by
    have h0 : (i 0).val < 1024 := (i 0).isLt; have h1 : (i 1).val < 1536 := (i 1).isLt; omega)
  rw [Value.flushed2]
  funext j
  have hj : j = ix2 (j 0) (j 1) := eq_ix2 j
  show (outsAt0 m c t.val t.isLt).1 j = Arr _ _ (((cfg0.win 2).blk t).view.emb j)
  rw [hj]
  refine (last m c t (by have h := (flush0_2 t).mp hf; omega) (j 0) (j 1)).trans ?_
  unfold Arr
  refine congr (congrArg _ ?_) ?_
  · show _ = win0_2.index t 0 * 1024 + 1 * (j 0).val; rw [(index2 t).1]; omega
  · show _ = win0_2.index t 1 * 1536 + 1 * (j 1).val; rw [(index2 t).2]; omega

/-- The reference's result is the gradient. -/
theorem ref (A : Vec Ideal S8192x1024 .bf16) (B : Vec Ideal S8192x1536 .bf16) :
    Cert.QkvDwRefIdeal.Read.val_main_v6 (F := Ideal) A B = Arr A B := by
  funext j
  rw [eq_ix2 j]
  unfold Arr
  rw [← mulTN_first, Cert.QkvDwRefIdeal.Read.val_main_v6_apply, Cert.QkvDwRefIdeal.Read.val_main_v5_apply, Cert.QkvDwRefIdeal.Read.val_main_v4_apply]
  refine Finset.sum_congr rfl fun k _ => (mul_comm _ _).trans ?_
  exact congr (congrArg HMul.hMul ((eq_rd2' A _).trans (rd2_congr A rfl rfl))) ((eq_rd2' B _).trans (rd2_congr B rfl rfl))

end Cert.QkvDwIdeal.KernelValue

namespace Cert.QkvDwClaim

open Cert.QkvDwIdeal.KernelValue

/-- Both programs end with the same gradient. -/
theorem algebraic : Cert.algebraic_QkvDwIdeal_QkvDwRefIdeal (hQkvDwIdeal := Cert.QkvDwIdeal.Gen.facts)
    (hQkvDwRefIdeal := Cert.QkvDwRefIdeal.Gen.facts) := fun m g m' g' _ hag =>
  ⟨fun c => Arr (argA m c) (argB m c),
    (θ_run _ _ _).mono (fun _ h c => ⟨(h c).1.trans (final m c), (h c).2⟩) (Cert.QkvDwIdeal.Value.run_blocks m g),
    (θ_run _ _ _).mono (fun _ h c => by
      obtain ⟨e0, e1⟩ := hag c
      obtain ⟨h0, h2⟩ := h c
      refine ⟨h0.trans ?_, h2⟩
      rw [Cert.QkvDwRefIdeal.Read.val_main_v6_eq, e0, e1]
      exact ref _ _) (Cert.QkvDwRefIdeal.Value.run m' g')⟩

end Cert.QkvDwClaim

end
-- ==== Proof.Mm.FfnDownDx.lean ====
/-
  The gradient of the input of the feed-forward part's second product: the cotangent times the transposed weight. A grid point computes one tile over
  the whole shared axis; kernel and reference both end with the whole product.
-/
module

public import proofs.«01_k».proof.Defs
public import proofs.«01_k».proof.Proof.Common.Product
public import proofs.«01_k».proof.Proof.Gen.FfnDownDxIdeal.Value
public import proofs.«01_k».proof.Proof.Gen.FfnDownDxRefIdeal.Run
public import proofs.«01_k».proof.Proof.Gen.FfnDownDxRefIdeal.Read

@[expose] public section

set_option maxRecDepth 16384

noncomputable section

open Idealize.ShloMosaic Idealize.ShloMosaic.TcCoe Idealize.SL.Sem
open Idealize.ShloMosaic.Pipeline (Dat)

namespace Cert.FfnDownDxIdeal.KernelValue

open Cert.FfnDownDxIdeal Cert.FfnDownDxIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S4x2816x1024 .bf16 := m ((c : Thread nD τ).loc main_arg1)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = 3 ∧ win0_1.index t 1 = t.val / 8 ∧ win0_1.index t 2 = 0 :=
  (by decide +kernel : ∀ t : Fin grid0.N, win0_1.index t 0 = 3 ∧ win0_1.index t 1 = t.val / 8 ∧ win0_1.index t 2 = 0)
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- What a grid point reads of argument 0. -/
theorem block0 (c : Dev nD) (t : Fin cfg0.N) (p : Fin 1024) (q : Fin 1024) :
    (iblk m c 0 t : Vec Ideal S1024x1024 .bf16) (ix2 p q) = rd2 (argA m c) (1024 * (t.val % 8) + p.val) q.val := by
  unfold iblk
  rw [View.read_apply]
  refine (eq_rd2' (argA m c) _).trans (rd2_congr _ ?_ ?_)
  · show win0_0.index t 0 * 1024 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 2816) (s : Fin 1024) :
    (iblk m c 1 t : Vec Ideal S1x2816x1024 .bf16) (ix3 p q s) = rd3 (argW m c) 3 (2816 * (t.val / 8) + q.val) s.val := by
  unfold iblk
  rw [View.read_apply]
  refine (eq_rd3' (argW m c) _).trans (rd3_congr _ ?_ ?_ ?_)
  · show win0_1.index t 0 * 1 + 1 * p.val = _; rw [(index1 t).1]; omega
  · show win0_1.index t 1 * 2816 + 1 * q.val = _; rw [(index1 t).2.1]; omega
  · show win0_1.index t 2 * 1024 + 1 * s.val = _; rw [(index1 t).2.2]; omega

/-- The tile's entry, from the blocks. -/
theorem pay (x0 : Vec Ideal S1024x1024 .bf16) (x1 : Vec Ideal S1x2816x1024 .bf16) (r : Fin 1024) (l : Fin 2816) :
    k0_pay1 x0 x1 (ix2 r l) = (∑ k : Fin 1024, x0 (ix2 r k) * x1 (ix3 0 l k)) := by
  unfold k0_pay1
  pointwise

theorem ld_r0_0 (X : Vec Ideal S1024x1024 .bf16) : View.ld X r0_0 = X := funext fun j => by rw [eq_ix2 j]; exact ld_zero2 X _ _ _
theorem ld_r0_1 (X : Vec Ideal S1x2816x1024 .bf16) : View.ld X r0_1 = X := ld_zero3 X _

/-- The result's entry at row `n` and column `l`. -/
def entry (A : Vec Ideal S8192x1024 .bf16) (W : Vec Ideal S4x2816x1024 .bf16) (n l : ℕ) : EReal := mulNT A W 3 1024 n l

/-- The tile's entry is the result's entry. -/
theorem tile (c : Dev nD) (t : Fin cfg0.N) (r : Fin 1024) (l : Fin 2816) :
    k0_pay1 (iblk m c 0 t : Vec Ideal S1024x1024 .bf16) (iblk m c 1 t : Vec Ideal S1x2816x1024 .bf16) (ix2 r l) = entry (argA m c) (argW m c) (1024 * (t.val % 8) + r.val) (2816 * (t.val / 8) + l.val) := by
  rw [pay]
  simp only [block0, block1]
  unfold entry
  rw [← mulNT_sum]

/-- The result as an array. -/
def Arr (A : Vec Ideal S8192x1024 .bf16) (W : Vec Ideal S4x2816x1024 .bf16) : Vec Ideal S8192x2816 .bf16 := fun j => entry A W (j 0).val (j 1).val

/-- The tile that a grid point writes, entry by entry. -/
theorem out2_at (x0 : Vec Ideal S1024x1024 .bf16) (x1 : Vec Ideal S1x2816x1024 .bf16) (r : Fin 1024) (l : Fin 2816) :
    out0_2 x0 x1 (ix2 r l) = k0_pay1 x0 x1 (ix2 r l) := by
  unfold out0_2
  rw [canon_unit2, dif_pos (by have := r.isLt; have := l.isLt; omega)]
  simp only [ld_r0_0, ld_r0_1]
  rfl

/-- The array after the run. -/
theorem final2 (c : Dev nD) : (dats m 0 c).arrAt 2 cfg0.N = Arr (argA m c) (argW m c) := by
  have hN : cfg0.N = 8 := N_0
  refine (dats m 0 c).arrAt_eq_of_cover 2 _ (fun t _ => ?_) fun i => ?_
  · rw [Value.flushed2]
    funext j
    obtain ⟨r, l, hj⟩ : ∃ (r : Fin 1024) (l : Fin 2816), j = ix2 r l := ⟨j 0, j 1, eq_ix2 j⟩
    show out0_2 _ _ j = Arr (argA m c) (argW m c) (((cfg0.win 2).blk t).view.emb j)
    rw [hj]
    refine (out2_at _ _ r l).trans ?_
    refine (tile m c t r l).trans ?_
    unfold Arr
    refine congr (congrArg _ ?_) ?_
    · show _ = win0_2.index t 0 * 1024 + 1 * r.val; rw [(index2 t).1]; omega
    · show _ = win0_2.index t 1 * 2816 + 1 * l.val; rw [(index2 t).2]; omega
  · have h0 : (i 0 : Nat) < 8192 := (i 0).isLt
    have h1 : (i 1 : Nat) < 2816 := (i 1).isLt
    let p : Fin cfg0.N := ⟨(i 1).val / 2816 * 8 + (i 0).val / 1024, by omega⟩
    have hp : p.val = (i 1).val / 2816 * 8 + (i 0).val / 1024 := rfl
    refine ⟨p, (by decide +kernel : ∀ t : Fin grid0.N, (cfg0.win 2).flush t = true) _, ?_⟩
    show i ∈ ((View.whole main_v0).slice (win0_2.rect p)).set
    rw [View.set_slice_whole, Rect.mem_set_unit]
    intro a
    match a with
    | ⟨0, _⟩ =>
      show win0_2.index p 0 * 1024 ≤ (i 0 : Nat) ∧ (i 0 : Nat) < win0_2.index p 0 * 1024 + 1024
      rw [(index2 p).1, hp]; omega
    | ⟨1, _⟩ =>
      show win0_2.index p 1 * 2816 ≤ (i 1 : Nat) ∧ (i 1 : Nat) < win0_2.index p 1 * 2816 + 2816
      rw [(index2 p).2, hp]; omega

open Cert.FfnDownDxRefIdeal.Read in
/-- The reference's entry. -/
theorem ref_entry (x0 : Vec Ideal S8192x1024 .bf16) (x1 : Vec Ideal S4x2816x1024 .bf16) (r : Fin 8192) (l : Fin 2816) :
    val_main_v7 (F := Ideal) x0 x1 (ix2 r l) = entry x0 x1 r.val l.val := by
  have h : val_main_v7 (F := Ideal) x0 x1 (ix2 r l) = (∑ k : Fin 1024, x0 (ix2 r k) * x1 (ix3 3 l k)) := by
    unfold val_main_v7 val_main_v6 val_main_v5 val_main_v3 val_main_v1 val_main_v0
    pointwise
  rw [h]
  unfold entry
  rw [← mulNT_sum]
  simp only [eq_rd2, eq_rd3]
  rfl

/-- The reference's result is the product. -/
theorem ref (x0 : Vec Ideal S8192x1024 .bf16) (x1 : Vec Ideal S4x2816x1024 .bf16) : Cert.FfnDownDxRefIdeal.Read.val_main_v7 (F := Ideal) x0 x1 = Arr x0 x1 := by
  funext j
  rw [eq_ix2 j]
  exact ref_entry x0 x1 (j 0) (j 1)

end Cert.FfnDownDxIdeal.KernelValue

namespace Cert.FfnDownDxClaim

open Cert.FfnDownDxIdeal.KernelValue

/-- Both programs end with the same array. -/
theorem algebraic : Cert.algebraic_FfnDownDxIdeal_FfnDownDxRefIdeal (hFfnDownDxIdeal := Cert.FfnDownDxIdeal.Gen.facts)
    (hFfnDownDxRefIdeal := Cert.FfnDownDxRefIdeal.Gen.facts) := fun m g m' g' _ hag =>
  ⟨fun c => Arr (argA m c) (argW m c),
    (θ_run _ _ _).mono (fun _ h c => ⟨(h c).1.trans (final2 m c), (h c).2⟩) (Cert.FfnDownDxIdeal.Value.run_blocks m g),
    (θ_run _ _ _).mono (fun _ h c => by
      obtain ⟨e0, e1⟩ := hag c
      obtain ⟨h0, h2⟩ := h c
      refine ⟨h0.trans ?_, h2⟩
      rw [Cert.FfnDownDxRefIdeal.Read.val_main_v7_eq, e0, e1]
      exact ref _ _) (Cert.FfnDownDxRefIdeal.Value.run m' g')⟩

end Cert.FfnDownDxClaim

end
-- ==== Proof.Mm.ConvOutDx.lean ====
/-
  The gradient of the input of the convolution's second product: the cotangent times the transposed weight. A grid point computes one tile over
  the whole shared axis; kernel and reference both end with the whole product.
-/
module

public import proofs.«01_k».proof.Defs
public import proofs.«01_k».proof.Proof.Common.Product
public import proofs.«01_k».proof.Proof.Gen.ConvOutDxIdeal.Value
public import proofs.«01_k».proof.Proof.Gen.ConvOutDxRefIdeal.Run
public import proofs.«01_k».proof.Proof.Gen.ConvOutDxRefIdeal.Read

@[expose] public section

set_option maxRecDepth 16384

noncomputable section

open Idealize.ShloMosaic Idealize.ShloMosaic.TcCoe Idealize.SL.Sem
open Idealize.ShloMosaic.Pipeline (Dat)

namespace Cert.ConvOutDxIdeal.KernelValue

open Cert.ConvOutDxIdeal Cert.ConvOutDxIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S2x1024x1024 .bf16 := m ((c : Thread nD τ).loc main_arg1)

theorem index0 : ∀ t : Fin cfg0.N, win0_0.index t 0 = t.val / 1 ∧ win0_0.index t 1 = 0 :=
  (by decide +kernel : ∀ t : Fin grid0.N, win0_0.index t 0 = t.val / 1 ∧ win0_0.index t 1 = 0)
theorem index1 : ∀ t : Fin cfg0.N, win0_1.index t 0 = 1 ∧ win0_1.index t 1 = t.val % 1 ∧ win0_1.index t 2 = 0 :=
  (by decide +kernel : ∀ t : Fin grid0.N, win0_1.index t 0 = 1 ∧ win0_1.index t 1 = t.val % 1 ∧ win0_1.index t 2 = 0)
theorem index2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)

/-- What a grid point reads of argument 0. -/
theorem block0 (c : Dev nD) (t : Fin cfg0.N) (p : Fin 512) (q : Fin 1024) :
    (iblk m c 0 t : Vec Ideal S512x1024 .bf16) (ix2 p q) = rd2 (argA m c) (512 * (t.val / 1) + p.val) q.val := by
  unfold iblk
  rw [View.read_apply]
  refine (eq_rd2' (argA m c) _).trans (rd2_congr _ ?_ ?_)
  · show win0_0.index t 0 * 512 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 1024) (s : Fin 1024) :
    (iblk m c 1 t : Vec Ideal S1x1024x1024 .bf16) (ix3 p q s) = rd3 (argW m c) 1 (1024 * (t.val % 1) + q.val) s.val := by
  unfold iblk
  rw [View.read_apply]
  refine (eq_rd3' (argW m c) _).trans (rd3_congr _ ?_ ?_ ?_)
  · show win0_1.index t 0 * 1 + 1 * p.val = _; rw [(index1 t).1]; omega
  · show win0_1.index t 1 * 1024 + 1 * q.val = _; rw [(index1 t).2.1]; omega
  · show win0_1.index t 2 * 1024 + 1 * s.val = _; rw [(index1 t).2.2]; omega

/-- The tile's entry, from the blocks. -/
theorem pay (x0 : Vec Ideal S512x1024 .bf16) (x1 : Vec Ideal S1x1024x1024 .bf16) (r : Fin 512) (l : Fin 1024) :
    k0_pay1 x0 x1 (ix2 r l) = (∑ k : Fin 1024, x0 (ix2 r k) * x1 (ix3 0 l k)) := by
  unfold k0_pay1
  pointwise

theorem ld_r0_0 (X : Vec Ideal S512x1024 .bf16) : View.ld X r0_0 = X := funext fun j => by rw [eq_ix2 j]; exact ld_zero2 X _ _ _
theorem ld_r0_1 (X : Vec Ideal S1x1024x1024 .bf16) : View.ld X r0_1 = X := ld_zero3 X _

/-- The result's entry at row `n` and column `l`. -/
def entry (A : Vec Ideal S8192x1024 .bf16) (W : Vec Ideal S2x1024x1024 .bf16) (n l : ℕ) : EReal := mulNT A W 1 1024 n l

/-- The tile's entry is the result's entry. -/
theorem tile (c : Dev nD) (t : Fin cfg0.N) (r : Fin 512) (l : Fin 1024) :
    k0_pay1 (iblk m c 0 t : Vec Ideal S512x1024 .bf16) (iblk m c 1 t : Vec Ideal S1x1024x1024 .bf16) (ix2 r l) = entry (argA m c) (argW m c) (512 * (t.val / 1) + r.val) (1024 * (t.val % 1) + l.val) := by
  rw [pay]
  simp only [block0, block1]
  unfold entry
  rw [← mulNT_sum]

/-- The result as an array. -/
def Arr (A : Vec Ideal S8192x1024 .bf16) (W : Vec Ideal S2x1024x1024 .bf16) : Vec Ideal S8192x1024 .bf16 := fun j => entry A W (j 0).val (j 1).val

/-- The tile that a grid point writes, entry by entry. -/
theorem out2_at (x0 : Vec Ideal S512x1024 .bf16) (x1 : Vec Ideal S1x1024x1024 .bf16) (r : Fin 512) (l : Fin 1024) :
    out0_2 x0 x1 (ix2 r l) = k0_pay1 x0 x1 (ix2 r l) := by
  unfold out0_2
  rw [canon_unit2, dif_pos (by have := r.isLt; have := l.isLt; omega)]
  simp only [ld_r0_0, ld_r0_1]
  rfl

/-- The array after the run. -/
theorem final2 (c : Dev nD) : (dats m 0 c).arrAt 2 cfg0.N = Arr (argA m c) (argW m c) := by
  have hN : cfg0.N = 16 := N_0
  refine (dats m 0 c).arrAt_eq_of_cover 2 _ (fun t _ => ?_) fun i => ?_
  · rw [Value.flushed2]
    funext j
    obtain ⟨r, l, hj⟩ : ∃ (r : Fin 512) (l : Fin 1024), j = ix2 r l := ⟨j 0, j 1, eq_ix2 j⟩
    show out0_2 _ _ j = Arr (argA m c) (argW m c) (((cfg0.win 2).blk t).view.emb j)
    rw [hj]
    refine (out2_at _ _ r l).trans ?_
    refine (tile m c t r l).trans ?_
    unfold Arr
    refine congr (congrArg _ ?_) ?_
    · show _ = win0_2.index t 0 * 512 + 1 * r.val; rw [(index2 t).1]; omega
    · show _ = win0_2.index t 1 * 1024 + 1 * l.val; rw [(index2 t).2]; omega
  · have h0 : (i 0 : Nat) < 8192 := (i 0).isLt
    have h1 : (i 1 : Nat) < 1024 := (i 1).isLt
    let p : Fin cfg0.N := ⟨(i 0).val / 512 * 1 + (i 1).val / 1024, by omega⟩
    have hp : p.val = (i 0).val / 512 * 1 + (i 1).val / 1024 := rfl
    refine ⟨p, (by decide +kernel : ∀ t : Fin grid0.N, (cfg0.win 2).flush t = true) _, ?_⟩
    show i ∈ ((View.whole main_v0).slice (win0_2.rect p)).set
    rw [View.set_slice_whole, Rect.mem_set_unit]
    intro a
    match a with
    | ⟨0, _⟩ =>
      show win0_2.index p 0 * 512 ≤ (i 0 : Nat) ∧ (i 0 : Nat) < win0_2.index p 0 * 512 + 512
      rw [(index2 p).1, hp]; omega
    | ⟨1, _⟩ =>
      show win0_2.index p 1 * 1024 ≤ (i 1 : Nat) ∧ (i 1 : Nat) < win0_2.index p 1 * 1024 + 1024
      rw [(index2 p).2, hp]; omega

open Cert.ConvOutDxRefIdeal.Read in
/-- The reference's entry. -/
theorem ref_entry (x0 : Vec Ideal S8192x1024 .bf16) (x1 : Vec Ideal S2x1024x1024 .bf16) (r : Fin 8192) (l : Fin 1024) :
    val_main_v7 (F := Ideal) x0 x1 (ix2 r l) = entry x0 x1 r.val l.val := by
  have h : val_main_v7 (F := Ideal) x0 x1 (ix2 r l) = (∑ k : Fin 1024, x0 (ix2 r k) * x1 (ix3 1 l k)) := by
    unfold val_main_v7 val_main_v6 val_main_v5 val_main_v3 val_main_v1 val_main_v0
    pointwise
  rw [h]
  unfold entry
  rw [← mulNT_sum]
  simp only [eq_rd2, eq_rd3]
  rfl

/-- The reference's result is the product. -/
theorem ref (x0 : Vec Ideal S8192x1024 .bf16) (x1 : Vec Ideal S2x1024x1024 .bf16) : Cert.ConvOutDxRefIdeal.Read.val_main_v7 (F := Ideal) x0 x1 = Arr x0 x1 := by
  funext j
  rw [eq_ix2 j]
  exact ref_entry x0 x1 (j 0) (j 1)

end Cert.ConvOutDxIdeal.KernelValue

namespace Cert.ConvOutDxClaim

open Cert.ConvOutDxIdeal.KernelValue

/-- Both programs end with the same array. -/
theorem algebraic : Cert.algebraic_ConvOutDxIdeal_ConvOutDxRefIdeal (hConvOutDxIdeal := Cert.ConvOutDxIdeal.Gen.facts)
    (hConvOutDxRefIdeal := Cert.ConvOutDxRefIdeal.Gen.facts) := fun m g m' g' _ hag =>
  ⟨fun c => Arr (argA m c) (argW m c),
    (θ_run _ _ _).mono (fun _ h c => ⟨(h c).1.trans (final2 m c), (h c).2⟩) (Cert.ConvOutDxIdeal.Value.run_blocks m g),
    (θ_run _ _ _).mono (fun _ h c => by
      obtain ⟨e0, e1⟩ := hag c
      obtain ⟨h0, h2⟩ := h c
      refine ⟨h0.trans ?_, h2⟩
      rw [Cert.ConvOutDxRefIdeal.Read.val_main_v7_eq, e0, e1]
      exact ref _ _) (Cert.ConvOutDxRefIdeal.Value.run m' g')⟩

end Cert.ConvOutDxClaim

end
-- ==== Proof.Mm.AttnOutDx.lean ====
/-
  The gradient of the input of the attention's second product: the cotangent times the transposed weight. A grid point computes one tile over
  the whole shared axis; kernel and reference both end with the whole product.
-/
module

public import proofs.«01_k».proof.Defs
public import proofs.«01_k».proof.Proof.Common.Product
public import proofs.«01_k».proof.Proof.Gen.AttnOutDxIdeal.Value
public import proofs.«01_k».proof.Proof.Gen.AttnOutDxRefIdeal.Run
public import proofs.«01_k».proof.Proof.Gen.AttnOutDxRefIdeal.Read

@[expose] public section

set_option maxRecDepth 16384

noncomputable section

open Idealize.ShloMosaic Idealize.ShloMosaic.TcCoe Idealize.SL.Sem
open Idealize.ShloMosaic.Pipeline (Dat)

namespace Cert.AttnOutDxIdeal.KernelValue

open Cert.AttnOutDxIdeal Cert.AttnOutDxIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S2x1024x1024 .bf16 := m ((c : Thread nD τ).loc main_arg1)

theorem index0 : ∀ t : Fin cfg0.N, win0_0.index t 0 = t.val / 1 ∧ win0_0.index t 1 = 0 :=
  (by decide +kernel : ∀ t : Fin grid0.N, win0_0.index t 0 = t.val / 1 ∧ win0_0.index t 1 = 0)
theorem index1 : ∀ t : Fin cfg0.N, win0_1.index t 0 = 1 ∧ win0_1.index t 1 = t.val % 1 ∧ win0_1.index t 2 = 0 :=
  (by decide +kernel : ∀ t : Fin grid0.N, win0_1.index t 0 = 1 ∧ win0_1.index t 1 = t.val % 1 ∧ win0_1.index t 2 = 0)
theorem index2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)

/-- What a grid point reads of argument 0. -/
theorem block0 (c : Dev nD) (t : Fin cfg0.N) (p : Fin 512) (q : Fin 1024) :
    (iblk m c 0 t : Vec Ideal S512x1024 .bf16) (ix2 p q) = rd2 (argA m c) (512 * (t.val / 1) + p.val) q.val := by
  unfold iblk
  rw [View.read_apply]
  refine (eq_rd2' (argA m c) _).trans (rd2_congr _ ?_ ?_)
  · show win0_0.index t 0 * 512 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 1024) (s : Fin 1024) :
    (iblk m c 1 t : Vec Ideal S1x1024x1024 .bf16) (ix3 p q s) = rd3 (argW m c) 1 (1024 * (t.val % 1) + q.val) s.val := by
  unfold iblk
  rw [View.read_apply]
  refine (eq_rd3' (argW m c) _).trans (rd3_congr _ ?_ ?_ ?_)
  · show win0_1.index t 0 * 1 + 1 * p.val = _; rw [(index1 t).1]; omega
  · show win0_1.index t 1 * 1024 + 1 * q.val = _; rw [(index1 t).2.1]; omega
  · show win0_1.index t 2 * 1024 + 1 * s.val = _; rw [(index1 t).2.2]; omega

/-- The tile's entry, from the blocks. -/
theorem pay (x0 : Vec Ideal S512x1024 .bf16) (x1 : Vec Ideal S1x1024x1024 .bf16) (r : Fin 512) (l : Fin 1024) :
    k0_pay1 x0 x1 (ix2 r l) = (∑ k : Fin 1024, x0 (ix2 r k) * x1 (ix3 0 l k)) := by
  unfold k0_pay1
  pointwise

theorem ld_r0_0 (X : Vec Ideal S512x1024 .bf16) : View.ld X r0_0 = X := funext fun j => by rw [eq_ix2 j]; exact ld_zero2 X _ _ _
theorem ld_r0_1 (X : Vec Ideal S1x1024x1024 .bf16) : View.ld X r0_1 = X := ld_zero3 X _

/-- The result's entry at row `n` and column `l`. -/
def entry (A : Vec Ideal S8192x1024 .bf16) (W : Vec Ideal S2x1024x1024 .bf16) (n l : ℕ) : EReal := mulNT A W 1 1024 n l

/-- The tile's entry is the result's entry. -/
theorem tile (c : Dev nD) (t : Fin cfg0.N) (r : Fin 512) (l : Fin 1024) :
    k0_pay1 (iblk m c 0 t : Vec Ideal S512x1024 .bf16) (iblk m c 1 t : Vec Ideal S1x1024x1024 .bf16) (ix2 r l) = entry (argA m c) (argW m c) (512 * (t.val / 1) + r.val) (1024 * (t.val % 1) + l.val) := by
  rw [pay]
  simp only [block0, block1]
  unfold entry
  rw [← mulNT_sum]

/-- The result as an array. -/
def Arr (A : Vec Ideal S8192x1024 .bf16) (W : Vec Ideal S2x1024x1024 .bf16) : Vec Ideal S8192x1024 .f32 := fun j => entry A W (j 0).val (j 1).val

/-- The tile that a grid point writes, entry by entry. -/
theorem out2_at (x0 : Vec Ideal S512x1024 .bf16) (x1 : Vec Ideal S1x1024x1024 .bf16) (r : Fin 512) (l : Fin 1024) :
    out0_2 x0 x1 (ix2 r l) = k0_pay1 x0 x1 (ix2 r l) := by
  unfold out0_2
  rw [canon_unit2, dif_pos (by have := r.isLt; have := l.isLt; omega)]
  simp only [ld_r0_0, ld_r0_1]
  rfl

/-- The array after the run. -/
theorem final2 (c : Dev nD) : (dats m 0 c).arrAt 2 cfg0.N = Arr (argA m c) (argW m c) := by
  have hN : cfg0.N = 16 := N_0
  refine (dats m 0 c).arrAt_eq_of_cover 2 _ (fun t _ => ?_) fun i => ?_
  · rw [Value.flushed2]
    funext j
    obtain ⟨r, l, hj⟩ : ∃ (r : Fin 512) (l : Fin 1024), j = ix2 r l := ⟨j 0, j 1, eq_ix2 j⟩
    show out0_2 _ _ j = Arr (argA m c) (argW m c) (((cfg0.win 2).blk t).view.emb j)
    rw [hj]
    refine (out2_at _ _ r l).trans ?_
    refine (tile m c t r l).trans ?_
    unfold Arr
    refine congr (congrArg _ ?_) ?_
    · show _ = win0_2.index t 0 * 512 + 1 * r.val; rw [(index2 t).1]; omega
    · show _ = win0_2.index t 1 * 1024 + 1 * l.val; rw [(index2 t).2]; omega
  · have h0 : (i 0 : Nat) < 8192 := (i 0).isLt
    have h1 : (i 1 : Nat) < 1024 := (i 1).isLt
    let p : Fin cfg0.N := ⟨(i 0).val / 512 * 1 + (i 1).val / 1024, by omega⟩
    have hp : p.val = (i 0).val / 512 * 1 + (i 1).val / 1024 := rfl
    refine ⟨p, (by decide +kernel : ∀ t : Fin grid0.N, (cfg0.win 2).flush t = true) _, ?_⟩
    show i ∈ ((View.whole main_v0).slice (win0_2.rect p)).set
    rw [View.set_slice_whole, Rect.mem_set_unit]
    intro a
    match a with
    | ⟨0, _⟩ =>
      show win0_2.index p 0 * 512 ≤ (i 0 : Nat) ∧ (i 0 : Nat) < win0_2.index p 0 * 512 + 512
      rw [(index2 p).1, hp]; omega
    | ⟨1, _⟩ =>
      show win0_2.index p 1 * 1024 ≤ (i 1 : Nat) ∧ (i 1 : Nat) < win0_2.index p 1 * 1024 + 1024
      rw [(index2 p).2, hp]; omega

open Cert.AttnOutDxRefIdeal.Read in
/-- The reference's entry. -/
theorem ref_entry (x0 : Vec Ideal S8192x1024 .bf16) (x1 : Vec Ideal S2x1024x1024 .bf16) (r : Fin 8192) (l : Fin 1024) :
    val_main_v6 (F := Ideal) x0 x1 (ix2 r l) = entry x0 x1 r.val l.val := by
  have h : val_main_v6 (F := Ideal) x0 x1 (ix2 r l) = (∑ k : Fin 1024, x0 (ix2 r k) * x1 (ix3 1 l k)) := by
    unfold val_main_v6 val_main_v5 val_main_v3 val_main_v1 val_main_v0
    pointwise
  rw [h]
  unfold entry
  rw [← mulNT_sum]
  simp only [eq_rd2, eq_rd3]
  rfl

/-- The reference's result is the product. -/
theorem ref (x0 : Vec Ideal S8192x1024 .bf16) (x1 : Vec Ideal S2x1024x1024 .bf16) : Cert.AttnOutDxRefIdeal.Read.val_main_v6 (F := Ideal) x0 x1 = Arr x0 x1 := by
  funext j
  rw [eq_ix2 j]
  exact ref_entry x0 x1 (j 0) (j 1)

end Cert.AttnOutDxIdeal.KernelValue

namespace Cert.AttnOutDxClaim

open Cert.AttnOutDxIdeal.KernelValue

/-- Both programs end with the same array. -/
theorem algebraic : Cert.algebraic_AttnOutDxIdeal_AttnOutDxRefIdeal (hAttnOutDxIdeal := Cert.AttnOutDxIdeal.Gen.facts)
    (hAttnOutDxRefIdeal := Cert.AttnOutDxRefIdeal.Gen.facts) := fun m g m' g' _ hag =>
  ⟨fun c => Arr (argA m c) (argW m c),
    (θ_run _ _ _).mono (fun _ h c => ⟨(h c).1.trans (final2 m c), (h c).2⟩) (Cert.AttnOutDxIdeal.Value.run_blocks m g),
    (θ_run _ _ _).mono (fun _ h c => by
      obtain ⟨e0, e1⟩ := hag c
      obtain ⟨h0, h2⟩ := h c
      refine ⟨h0.trans ?_, h2⟩
      rw [Cert.AttnOutDxRefIdeal.Read.val_main_v6_eq, e0, e1]
      exact ref _ _) (Cert.AttnOutDxRefIdeal.Value.run m' g')⟩

end Cert.AttnOutDxClaim

end
-- ==== Proof.Mm.ConvIn.lean ====
/-
  The convolution's first product. A grid point computes one tile over
  the whole shared axis; kernel and reference both end with the whole product.
-/
module

public import proofs.«01_k».proof.Defs
public import proofs.«01_k».proof.Proof.Common.Product
public import proofs.«01_k».proof.Proof.Gen.ConvInIdeal.Value
public import proofs.«01_k».proof.Proof.Gen.ConvInRefIdeal.Run
public import proofs.«01_k».proof.Proof.Gen.ConvInRefIdeal.Read

@[expose] public section

set_option maxRecDepth 16384

noncomputable section

open Idealize.ShloMosaic Idealize.ShloMosaic.TcCoe Idealize.SL.Sem
open Idealize.ShloMosaic.Pipeline (Dat)

namespace Cert.ConvInIdeal.KernelValue

open Cert.ConvInIdeal Cert.ConvInIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S2x1024x3072 .bf16 := m ((c : Thread nD τ).loc main_arg1)

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 1 ∧ win0_1.index t 1 = 0 ∧ win0_1.index t 2 = t.val % 4 :=
  (by decide +kernel : ∀ t : Fin grid0.N, win0_1.index t 0 = 1 ∧ win0_1.index t 1 = 0 ∧ win0_1.index t 2 = t.val % 4)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- What a grid point reads of argument 0. -/
theorem block0 (c : Dev nD) (t : Fin cfg0.N) (p : Fin 1024) (q : Fin 1024) :
    (iblk m c 0 t : Vec Ideal S1024x1024 .bf16) (ix2 p q) = rd2 (argA m c) (1024 * (t.val / 4) + p.val) q.val := by
  unfold iblk
  rw [View.read_apply]
  refine (eq_rd2' (argA m c) _).trans (rd2_congr _ ?_ ?_)
  · show win0_0.index t 0 * 1024 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 1024) (s : Fin 768) :
    (iblk m c 1 t : Vec Ideal S1x1024x768 .bf16) (ix3 p q s) = rd3 (argW m c) 1 q.val (768 * (t.val % 4) + s.val) := by
  unfold iblk
  rw [View.read_apply]
  refine (eq_rd3' (argW m c) _).trans (rd3_congr _ ?_ ?_ ?_)
  · show win0_1.index t 0 * 1 + 1 * p.val = _; rw [(index1 t).1]; omega
  · show win0_1.index t 1 * 1024 + 1 * q.val = _; rw [(index1 t).2.1]; omega
  · show win0_1.index t 2 * 768 + 1 * s.val = _; rw [(index1 t).2.2]; omega

/-- The tile's entry, from the blocks. -/
theorem pay (x0 : Vec Ideal S1024x1024 .bf16) (x1 : Vec Ideal S1x1024x768 .bf16) (r : Fin 1024) (l : Fin 768) :
    k0_pay1 x0 x1 (ix2 r l) = (∑ k : Fin 1024, x0 (ix2 r k) * x1 (ix3 0 k l)) := by
  unfold k0_pay1
  pointwise

theorem ld_r0_0 (X : Vec Ideal S1024x1024 .bf16) : View.ld X r0_0 = X := funext fun j => by rw [eq_ix2 j]; exact ld_zero2 X _ _ _
theorem ld_r0_1 (X : Vec Ideal S1x1024x768 .bf16) : View.ld X r0_1 = X := ld_zero3 X _

/-- The result's entry at row `n` and column `l`. -/
def entry (A : Vec Ideal S8192x1024 .bf16) (W : Vec Ideal S2x1024x3072 .bf16) (n l : ℕ) : EReal := mulNN A W 1 1024 n l

/-- The tile's entry is the result's entry. -/
theorem tile (c : Dev nD) (t : Fin cfg0.N) (r : Fin 1024) (l : Fin 768) :
    k0_pay1 (iblk m c 0 t : Vec Ideal S1024x1024 .bf16) (iblk m c 1 t : Vec Ideal S1x1024x768 .bf16) (ix2 r l) = entry (argA m c) (argW m c) (1024 * (t.val / 4) + r.val) (768 * (t.val % 4) + l.val) := by
  rw [pay]
  simp only [block0, block1]
  unfold entry
  rw [← mulNN_sum]

/-- The result as an array. -/
def Arr (A : Vec Ideal S8192x1024 .bf16) (W : Vec Ideal S2x1024x3072 .bf16) : Vec Ideal S8192x3072 .bf16 := fun j => entry A W (j 0).val (j 1).val

/-- The tile that a grid point writes, entry by entry. -/
theorem out2_at (x0 : Vec Ideal S1024x1024 .bf16) (x1 : Vec Ideal S1x1024x768 .bf16) (r : Fin 1024) (l : Fin 768) :
    out0_2 x0 x1 (ix2 r l) = k0_pay1 x0 x1 (ix2 r l) := by
  unfold out0_2
  rw [canon_unit2, dif_pos (by have := r.isLt; have := l.isLt; omega)]
  simp only [ld_r0_0, ld_r0_1]
  rfl

/-- The array after the run. -/
theorem final2 (c : Dev nD) : (dats m 0 c).arrAt 2 cfg0.N = Arr (argA m c) (argW m c) := by
  have hN : cfg0.N = 32 := N_0
  refine (dats m 0 c).arrAt_eq_of_cover 2 _ (fun t _ => ?_) fun i => ?_
  · rw [Value.flushed2]
    funext j
    obtain ⟨r, l, hj⟩ : ∃ (r : Fin 1024) (l : Fin 768), j = ix2 r l := ⟨j 0, j 1, eq_ix2 j⟩
    show out0_2 _ _ j = Arr (argA m c) (argW m c) (((cfg0.win 2).blk t).view.emb j)
    rw [hj]
    refine (out2_at _ _ r l).trans ?_
    refine (tile m c t r l).trans ?_
    unfold Arr
    refine congr (congrArg _ ?_) ?_
    · show _ = win0_2.index t 0 * 1024 + 1 * r.val; rw [(index2 t).1]; omega
    · show _ = win0_2.index t 1 * 768 + 1 * l.val; rw [(index2 t).2]; omega
  · have h0 : (i 0 : Nat) < 8192 := (i 0).isLt
    have h1 : (i 1 : Nat) < 3072 := (i 1).isLt
    let p : Fin cfg0.N := ⟨(i 0).val / 1024 * 4 + (i 1).val / 768, by omega⟩
    have hp : p.val = (i 0).val / 1024 * 4 + (i 1).val / 768 := rfl
    refine ⟨p, (by decide +kernel : ∀ t : Fin grid0.N, (cfg0.win 2).flush t = true) _, ?_⟩
    show i ∈ ((View.whole main_v0).slice (win0_2.rect p)).set
    rw [View.set_slice_whole, Rect.mem_set_unit]
    intro a
    match a with
    | ⟨0, _⟩ =>
      show win0_2.index p 0 * 1024 ≤ (i 0 : Nat) ∧ (i 0 : Nat) < win0_2.index p 0 * 1024 + 1024
      rw [(index2 p).1, hp]; omega
    | ⟨1, _⟩ =>
      show win0_2.index p 1 * 768 ≤ (i 1 : Nat) ∧ (i 1 : Nat) < win0_2.index p 1 * 768 + 768
      rw [(index2 p).2, hp]; omega

open Cert.ConvInRefIdeal.Read in
/-- The reference's entry. -/
theorem ref_entry (x0 : Vec Ideal S8192x1024 .bf16) (x1 : Vec Ideal S2x1024x3072 .bf16) (r : Fin 8192) (l : Fin 3072) :
    val_main_v5 (F := Ideal) x0 x1 (ix2 r l) = entry x0 x1 r.val l.val := by
  have h : val_main_v5 (F := Ideal) x0 x1 (ix2 r l) = (∑ k : Fin 1024, x0 (ix2 r k) * x1 (ix3 1 k l)) := by
    unfold val_main_v5 val_main_v4 val_main_v3 val_main_v2 val_main_v1 val_main_v0
    pointwise
  rw [h]
  unfold entry
  rw [← mulNN_sum]
  simp only [eq_rd2, eq_rd3]
  rfl

/-- The reference's result is the product. -/
theorem ref (x0 : Vec Ideal S8192x1024 .bf16) (x1 : Vec Ideal S2x1024x3072 .bf16) : Cert.ConvInRefIdeal.Read.val_main_v5 (F := Ideal) x0 x1 = Arr x0 x1 := by
  funext j
  rw [eq_ix2 j]
  exact ref_entry x0 x1 (j 0) (j 1)

end Cert.ConvInIdeal.KernelValue

namespace Cert.ConvInClaim

open Cert.ConvInIdeal.KernelValue

/-- Both programs end with the same array. -/
theorem algebraic : Cert.algebraic_ConvInIdeal_ConvInRefIdeal (hConvInIdeal := Cert.ConvInIdeal.Gen.facts)
    (hConvInRefIdeal := Cert.ConvInRefIdeal.Gen.facts) := fun m g m' g' _ hag =>
  ⟨fun c => Arr (argA m c) (argW m c),
    (θ_run _ _ _).mono (fun _ h c => ⟨(h c).1.trans (final2 m c), (h c).2⟩) (Cert.ConvInIdeal.Value.run_blocks m g),
    (θ_run _ _ _).mono (fun _ h c => by
      obtain ⟨e0, e1⟩ := hag c
      obtain ⟨h0, h2⟩ := h c
      refine ⟨h0.trans ?_, h2⟩
      rw [Cert.ConvInRefIdeal.Read.val_main_v5_eq, e0, e1]
      exact ref _ _) (Cert.ConvInRefIdeal.Value.run m' g')⟩

end Cert.ConvInClaim

end
-- ==== Proof.Mm.ConvOut.lean ====
/-
  The convolution's second product, the residual sum and the RMS norm of the sum. A grid point computes one tile over
  the whole shared axis; kernel and reference both end with the whole product.
-/
module

public import proofs.«01_k».proof.Defs
public import proofs.«01_k».proof.Proof.Common.Product
public import proofs.«01_k».proof.Proof.Gen.ConvOutIdeal.Value
public import proofs.«01_k».proof.Proof.Gen.ConvOutRefIdeal.Run
public import proofs.«01_k».proof.Proof.Gen.ConvOutRefIdeal.Read

@[expose] public section

set_option maxRecDepth 16384

noncomputable section

open Idealize.ShloMosaic Idealize.ShloMosaic.TcCoe Idealize.SL.Sem
open Idealize.ShloMosaic.Pipeline (Dat)

namespace Cert.ConvOutIdeal.KernelValue

open Cert.ConvOutIdeal Cert.ConvOutIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S2x1024x1024 .bf16 := m ((c : Thread nD τ).loc main_arg1)
/-- The residual. -/
abbrev argX (c : Dev nD) : Vec Ideal S8192x1024 .f32 := m ((c : Thread nD τ).loc main_arg2)
/-- The gain. -/
abbrev argG (c : Dev nD) : Vec Ideal S1x1024 .f32 := m ((c : Thread nD τ).loc main_arg3)

theorem index0 : ∀ t : Fin cfg0.N, win0_0.index t 0 = t.val / 1 ∧ win0_0.index t 1 = 0 :=
  (by decide +kernel : ∀ t : Fin grid0.N, win0_0.index t 0 = t.val / 1 ∧ win0_0.index t 1 = 0)
theorem index1 : ∀ t : Fin cfg0.N, win0_1.index t 0 = 1 ∧ win0_1.index t 1 = 0 ∧ win0_1.index t 2 = t.val % 1 :=
  (by decide +kernel : ∀ t : Fin grid0.N, win0_1.index t 0 = 1 ∧ win0_1.index t 1 = 0 ∧ win0_1.index t 2 = t.val % 1)
theorem index2 : ∀ t : Fin cfg0.N, win0_2.index t 0 = t.val / 1 ∧ win0_2.index t 1 = t.val % 1 :=
  (by decide +kernel : ∀ t : Fin grid0.N, win0_2.index t 0 = t.val / 1 ∧ win0_2.index t 1 = t.val % 1)
theorem index3 : ∀ t : Fin cfg0.N, win0_3.index t 0 = 0 ∧ win0_3.index t 1 = t.val % 1 :=
  (by decide +kernel : ∀ t : Fin grid0.N, win0_3.index t 0 = 0 ∧ win0_3.index t 1 = t.val % 1)
theorem index4 : ∀ t : Fin cfg0.N, win0_4.index t 0 = t.val / 1 ∧ win0_4.index t 1 = t.val % 1 :=
  (by decide +kernel : ∀ t : Fin grid0.N, win0_4.index t 0 = t.val / 1 ∧ win0_4.index t 1 = t.val % 1)
theorem index5 : ∀ t : Fin cfg0.N, win0_5.index t 0 = t.val / 1 ∧ win0_5.index t 1 = t.val % 1 :=
  (by decide +kernel : ∀ t : Fin grid0.N, win0_5.index t 0 = t.val / 1 ∧ win0_5.index t 1 = t.val % 1)

/-- What a grid point reads of argument 0. -/
theorem block0 (c : Dev nD) (t : Fin cfg0.N) (p : Fin 512) (q : Fin 1024) :
    (iblk m c 0 t : Vec Ideal S512x1024 .bf16) (ix2 p q) = rd2 (argA m c) (512 * (t.val / 1) + p.val) q.val := by
  unfold iblk
  rw [View.read_apply]
  refine (eq_rd2' (argA m c) _).trans (rd2_congr _ ?_ ?_)
  · show win0_0.index t 0 * 512 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 1024) (s : Fin 1024) :
    (iblk m c 1 t : Vec Ideal S1x1024x1024 .bf16) (ix3 p q s) = rd3 (argW m c) 1 q.val (1024 * (t.val % 1) + s.val) := by
  unfold iblk
  rw [View.read_apply]
  refine (eq_rd3' (argW m c) _).trans (rd3_congr _ ?_ ?_ ?_)
  · show win0_1.index t 0 * 1 + 1 * p.val = _; rw [(index1 t).1]; omega
  · show win0_1.index t 1 * 1024 + 1 * q.val = _; rw [(index1 t).2.1]; omega
  · show win0_1.index t 2 * 1024 + 1 * s.val = _; rw [(index1 t).2.2]; omega

/-- What a grid point reads of argument 2. -/
theorem block2 (c : Dev nD) (t : Fin cfg0.N) (p : Fin 512) (q : Fin 1024) :
    (iblk m c 2 t : Vec Ideal S512x1024 .f32) (ix2 p q) = rd2 (argX m c) (512 * (t.val / 1) + p.val) (1024 * (t.val % 1) + q.val) := by
  unfold iblk
  rw [View.read_apply]
  refine (eq_rd2' (argX m c) _).trans (rd2_congr _ ?_ ?_)
  · show win0_2.index t 0 * 512 + 1 * p.val = _; rw [(index2 t).1]; omega
  · show win0_2.index t 1 * 1024 + 1 * q.val = _; rw [(index2 t).2]; omega

/-- What a grid point reads of argument 3. -/
theorem block3 (c : Dev nD) (t : Fin cfg0.N) (p : Fin 1) (q : Fin 1024) :
    (iblk m c 3 t : Vec Ideal S1x1024 .f32) (ix2 p q) = rd2 (argG m c) p.val (1024 * (t.val % 1) + q.val) := by
  unfold iblk
  rw [View.read_apply]
  refine (eq_rd2' (argG m c) _).trans (rd2_congr _ ?_ ?_)
  · show win0_3.index t 0 * 1 + 1 * p.val = _; rw [(index3 t).1]; omega
  · show win0_3.index t 1 * 1024 + 1 * q.val = _; rw [(index3 t).2]; omega

/-- The tile's entry, from the blocks. -/
theorem pay (x0 : Vec Ideal S512x1024 .bf16) (x1 : Vec Ideal S1x1024x1024 .bf16) (x2 : Vec Ideal S512x1024 .f32) (r : Fin 512) (l : Fin 1024) :
    k0_pay1 x0 x1 x2 (ix2 r l) = (∑ k : Fin 1024, x0 (ix2 r k) * x1 (ix3 0 k l)) + x2 (ix2 r l) := by
  unfold k0_pay1
  pointwise

/-- The normed tile's entry, from the tile. -/
theorem payNorm (x0 : Vec Ideal S512x1024 .bf16) (x1 : Vec Ideal S1x1024x1024 .bf16) (x2 : Vec Ideal S512x1024 .f32) (x3 : Vec Ideal S1x1024 .f32) (r : Fin 512) (l : Fin 1024) (Y : ℕ → EReal)
    (hY : ∀ l' : Fin 1024, k0_pay1 x0 x1 x2 (ix2 r l') = Y l'.val) :
    k0_pay2 x0 x1 x2 x3 (ix2 r l) = rmsRow Y (x3 (ix2 0 l)) l.val := by
  unfold k0_pay2
  pointwise
  simp only [hY]
  rfl

theorem ld_r0_0 (X : Vec Ideal S512x1024 .f32) : View.ld X r0_0 = X := funext fun j => by rw [eq_ix2 j]; exact ld_zero2 X _ _ _
theorem ld_r0_1 (X : Vec Ideal S1x1024x1024 .bf16) : View.ld X r0_1 = X := ld_zero3 X _
theorem ld_r0_2 (X : Vec Ideal S1x1024 .f32) : View.ld X r0_2 = X := funext fun j => by rw [eq_ix2 j]; exact ld_zero2 X _ _ _

/-- The result's entry at row `n` and column `l`. -/
def entry (A : Vec Ideal S8192x1024 .bf16) (W : Vec Ideal S2x1024x1024 .bf16) (X : Vec Ideal S8192x1024 .f32) (n l : ℕ) : EReal := mulNN A W 1 1024 n l + rd2 X n l

/-- The tile's entry is the result's entry. -/
theorem tile (c : Dev nD) (t : Fin cfg0.N) (r : Fin 512) (l : Fin 1024) :
    k0_pay1 (iblk m c 0 t : Vec Ideal S512x1024 .bf16) (iblk m c 1 t : Vec Ideal S1x1024x1024 .bf16) (iblk m c 2 t : Vec Ideal S512x1024 .f32) (ix2 r l) = entry (argA m c) (argW m c) (argX m c) (512 * (t.val / 1) + r.val) (1024 * (t.val % 1) + l.val) := by
  rw [pay]
  simp only [block0, block1, block2]
  unfold entry
  rw [← mulNN_sum]

/-- The result as an array. -/
def Arr (A : Vec Ideal S8192x1024 .bf16) (W : Vec Ideal S2x1024x1024 .bf16) (X : Vec Ideal S8192x1024 .f32) : Vec Ideal S8192x1024 .f32 := fun j => entry A W X (j 0).val (j 1).val

/-- The tile that a grid point writes, entry by entry. -/
theorem out4_at (x0 : Vec Ideal S512x1024 .bf16) (x1 : Vec Ideal S1x1024x1024 .bf16) (x2 : Vec Ideal S512x1024 .f32) (x3 : Vec Ideal S1x1024 .f32) (r : Fin 512) (l : Fin 1024) :
    out0_4 x0 x1 x2 x3 (ix2 r l) = k0_pay1 x0 x1 x2 (ix2 r l) := by
  unfold out0_4
  rw [canon_unit2, dif_pos (by have := r.isLt; have := l.isLt; omega)]
  simp only [ld_r0_0, ld_r0_1, ld_r0_2]
  rfl

/-- The array after the run. -/
theorem final4 (c : Dev nD) : (dats m 0 c).arrAt 4 cfg0.N = Arr (argA m c) (argW m c) (argX m c) := by
  have hN : cfg0.N = 16 := N_0
  refine (dats m 0 c).arrAt_eq_of_cover 4 _ (fun t _ => ?_) fun i => ?_
  · rw [Value.flushed4]
    funext j
    obtain ⟨r, l, hj⟩ : ∃ (r : Fin 512) (l : Fin 1024), j = ix2 r l := ⟨j 0, j 1, eq_ix2 j⟩
    show out0_4 _ _ _ _ j = Arr (argA m c) (argW m c) (argX m c) (((cfg0.win 4).blk t).view.emb j)
    rw [hj]
    refine (out4_at _ _ _ _ r l).trans ?_
    refine (tile m c t r l).trans ?_
    unfold Arr
    refine congr (congrArg _ ?_) ?_
    · show _ = win0_4.index t 0 * 512 + 1 * r.val; rw [(index4 t).1]; omega
    · show _ = win0_4.index t 1 * 1024 + 1 * l.val; rw [(index4 t).2]; omega
  · have h0 : (i 0 : Nat) < 8192 := (i 0).isLt
    have h1 : (i 1 : Nat) < 1024 := (i 1).isLt
    let p : Fin cfg0.N := ⟨(i 0).val / 512 * 1 + (i 1).val / 1024, by omega⟩
    have hp : p.val = (i 0).val / 512 * 1 + (i 1).val / 1024 := rfl
    refine ⟨p, (by decide +kernel : ∀ t : Fin grid0.N, (cfg0.win 4).flush t = true) _, ?_⟩
    show i ∈ ((View.whole main_v0_0).slice (win0_4.rect p)).set
    rw [View.set_slice_whole, Rect.mem_set_unit]
    intro a
    match a with
    | ⟨0, _⟩ =>
      show win0_4.index p 0 * 512 ≤ (i 0 : Nat) ∧ (i 0 : Nat) < win0_4.index p 0 * 512 + 512
      rw [(index4 p).1, hp]; omega
    | ⟨1, _⟩ =>
      show win0_4.index p 1 * 1024 ≤ (i 1 : Nat) ∧ (i 1 : Nat) < win0_4.index p 1 * 1024 + 1024
      rw [(index4 p).2, hp]; omega

/-- The normed result as an array. -/
def NormArr (A : Vec Ideal S8192x1024 .bf16) (W : Vec Ideal S2x1024x1024 .bf16) (X : Vec Ideal S8192x1024 .f32) (G : Vec Ideal S1x1024 .f32) : Vec Ideal S8192x1024 .bf16 := fun j =>
  rmsRow (entry A W X (j 0).val) (rd2 G 0 (j 1).val) (j 1).val

/-- The tile that a grid point writes, entry by entry. -/
theorem out5_at (x0 : Vec Ideal S512x1024 .bf16) (x1 : Vec Ideal S1x1024x1024 .bf16) (x2 : Vec Ideal S512x1024 .f32) (x3 : Vec Ideal S1x1024 .f32) (r : Fin 512) (l : Fin 1024) :
    out0_5 x0 x1 x2 x3 (ix2 r l) = k0_pay2 x0 x1 x2 x3 (ix2 r l) := by
  unfold out0_5
  rw [canon_unit2, dif_pos (by have := r.isLt; have := l.isLt; omega)]
  simp only [ld_r0_0, ld_r0_1, ld_r0_2]
  rfl

/-- The array after the run. -/
theorem final5 (c : Dev nD) : (dats m 0 c).arrAt 5 cfg0.N = NormArr (argA m c) (argW m c) (argX m c) (argG m c) := by
  have hN : cfg0.N = 16 := N_0
  refine (dats m 0 c).arrAt_eq_of_cover 5 _ (fun t _ => ?_) fun i => ?_
  · rw [Value.flushed5]
    funext j
    obtain ⟨r, l, hj⟩ : ∃ (r : Fin 512) (l : Fin 1024), j = ix2 r l := ⟨j 0, j 1, eq_ix2 j⟩
    show out0_5 _ _ _ _ j = NormArr (argA m c) (argW m c) (argX m c) (argG m c) (((cfg0.win 5).blk t).view.emb j)
    rw [hj]
    refine (out5_at _ _ _ _ r l).trans ?_
    refine (payNorm _ _ _ _ r l (fun l => entry (argA m c) (argW m c) (argX m c) (512 * (t.val / 1) + r.val) l)
      (fun l' => (tile m c t r l').trans (congrArg _ (by have := t.isLt; have hN : cfg0.N = 16 := N_0; omega)))).trans ?_
    rw [block3]
    unfold NormArr
    have e0 : 512 * (t.val / 1) + r.val = ((((cfg0.win 5).blk t).view.emb (ix2 r l)) 0).val := by
      show _ = win0_5.index t 0 * 512 + 1 * r.val; rw [(index5 t).1]; omega
    have e1 : l.val = ((((cfg0.win 5).blk t).view.emb (ix2 r l)) 1).val := by
      show _ = win0_5.index t 1 * 1024 + 1 * l.val; rw [(index5 t).2]; omega
    have e2 : 1024 * (t.val % 1) + l.val = l.val := by have := t.isLt; have hN : cfg0.N = 16 := N_0; omega
    rw [e2, ← e0, ← e1]
    rfl
  · have h0 : (i 0 : Nat) < 8192 := (i 0).isLt
    have h1 : (i 1 : Nat) < 1024 := (i 1).isLt
    let p : Fin cfg0.N := ⟨(i 0).val / 512 * 1 + (i 1).val / 1024, by omega⟩
    have hp : p.val = (i 0).val / 512 * 1 + (i 1).val / 1024 := rfl
    refine ⟨p, (by decide +kernel : ∀ t : Fin grid0.N, (cfg0.win 5).flush t = true) _, ?_⟩
    show i ∈ ((View.whole main_v0_1).slice (win0_5.rect p)).set
    rw [View.set_slice_whole, Rect.mem_set_unit]
    intro a
    match a with
    | ⟨0, _⟩ =>
      show win0_5.index p 0 * 512 ≤ (i 0 : Nat) ∧ (i 0 : Nat) < win0_5.index p 0 * 512 + 512
      rw [(index5 p).1, hp]; omega
    | ⟨1, _⟩ =>
      show win0_5.index p 1 * 1024 ≤ (i 1 : Nat) ∧ (i 1 : Nat) < win0_5.index p 1 * 1024 + 1024
      rw [(index5 p).2, hp]; omega

open Cert.ConvOutRefIdeal.Read in
/-- The reference's entry. -/
theorem ref_entry (x0 : Vec Ideal S8192x1024 .bf16) (x1 : Vec Ideal S2x1024x1024 .bf16) (x2 : Vec Ideal S8192x1024 .f32) (r : Fin 8192) (l : Fin 1024) :
    val_main_v5 (F := Ideal) x0 x1 x2 (ix2 r l) = entry x0 x1 x2 r.val l.val := by
  have h : val_main_v5 (F := Ideal) x0 x1 x2 (ix2 r l) = (∑ k : Fin 1024, x0 (ix2 r k) * x1 (ix3 1 k l)) + x2 (ix2 r l) := by
    unfold val_main_v5 val_main_v4 val_main_v3 val_main_v2 val_main_v1 val_main_v0
    pointwise
  rw [h]
  unfold entry
  rw [← mulNN_sum]
  simp only [eq_rd2, eq_rd3]
  rfl

/-- The reference's result is the product. -/
theorem ref (x0 : Vec Ideal S8192x1024 .bf16) (x1 : Vec Ideal S2x1024x1024 .bf16) (x2 : Vec Ideal S8192x1024 .f32) : Cert.ConvOutRefIdeal.Read.val_main_v5 (F := Ideal) x0 x1 x2 = Arr x0 x1 x2 := by
  funext j
  rw [eq_ix2 j]
  exact ref_entry x0 x1 x2 (j 0) (j 1)

open Cert.ConvOutRefIdeal.Read in
/-- The reference's second result, entry by entry. -/
theorem refNorm_entry (x0 : Vec Ideal S8192x1024 .bf16) (x1 : Vec Ideal S2x1024x1024 .bf16) (x2 : Vec Ideal S8192x1024 .f32) (x3 : Vec Ideal S1x1024 .f32) (r : Fin 8192) (l : Fin 1024) :
    val_main_v20 (F := Ideal) x0 x1 x2 x3 (ix2 r l) = rmsRow (entry x0 x1 x2 r.val) (rd2 x3 0 l.val) l.val := by
  unfold val_main_v20 val_main_v19 val_main_v18 val_main_v17 val_main_v16 val_main_v15 val_main_v14 val_main_v13 val_main_v12 val_main_cst_1 val_main_v11 val_main_v10 val_main_cst_0 val_main_v9 val_main_v8 val_main_cst val_main_v7 val_main_v6
  pointwise
  simp only [ref_entry]
  exact congrArg _ (eq_rd2 x3 0 l)

/-- The reference's second result is the normed product. -/
theorem refNorm (x0 : Vec Ideal S8192x1024 .bf16) (x1 : Vec Ideal S2x1024x1024 .bf16) (x2 : Vec Ideal S8192x1024 .f32) (x3 : Vec Ideal S1x1024 .f32) : Cert.ConvOutRefIdeal.Read.val_main_v20 (F := Ideal) x0 x1 x2 x3 = NormArr x0 x1 x2 x3 := by
  funext j
  rw [eq_ix2 j]
  exact refNorm_entry _ _ _ _ (j 0) (j 1)

end Cert.ConvOutIdeal.KernelValue

namespace Cert.ConvOutClaim

open Cert.ConvOutIdeal.KernelValue

/-- Both programs end with the same two arrays. -/
theorem algebraic : Cert.algebraic_ConvOutIdeal_ConvOutRefIdeal (hConvOutIdeal := Cert.ConvOutIdeal.Gen.facts)
    (hConvOutRefIdeal := Cert.ConvOutRefIdeal.Gen.facts) := fun m g m' g' _ hag =>
  ⟨fun c => Arr (argA m c) (argW m c) (argX m c), fun c => NormArr (argA m c) (argW m c) (argX m c) (argG m c),
    (θ_run _ _ _).mono (fun _ h c => ⟨(h c).1.trans (final4 m c), (h c).2.1.trans (final5 m c), (h c).2.2⟩)
      (Cert.ConvOutIdeal.Value.run_blocks m g),
    (θ_run _ _ _).mono (fun _ h c => by
      obtain ⟨e0, e1, e2, e3⟩ := hag c
      obtain ⟨h0, h1, h2⟩ := h c
      refine ⟨h0.trans ?_, h1.trans ?_, h2⟩
      · rw [Cert.ConvOutRefIdeal.Read.val_main_v5_eq, e0, e1, e2]
        exact ref _ _ _
      · rw [Cert.ConvOutRefIdeal.Read.val_main_v20_eq, e0, e1, e2, e3]
        exact refNorm _ _ _ _) (Cert.ConvOutRefIdeal.Value.run m' g')⟩

end Cert.ConvOutClaim

end
-- ==== Proof.Mm.Qkv.lean ====
/-
  The attention's first product, with its bias. A grid point computes one tile over
  the whole shared axis; kernel and reference both end with the whole product.
-/
module

public import proofs.«01_k».proof.Defs
public import proofs.«01_k».proof.Proof.Common.Product
public import proofs.«01_k».proof.Proof.Gen.QkvIdeal.Value
public import proofs.«01_k».proof.Proof.Gen.QkvRefIdeal.Run
public import proofs.«01_k».proof.Proof.Gen.QkvRefIdeal.Read

@[expose] public section

set_option maxRecDepth 16384

noncomputable section

open Idealize.ShloMosaic Idealize.ShloMosaic.TcCoe Idealize.SL.Sem
open Idealize.ShloMosaic.Pipeline (Dat)

namespace Cert.QkvIdeal.KernelValue

open Cert.QkvIdeal Cert.QkvIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S2x1024x1536 .bf16 := m ((c : Thread nD τ).loc main_arg1)
/-- The bias. -/
abbrev argBi (c : Dev nD) : Vec Ideal S1x1536 .f32 := m ((c : Thread nD τ).loc main_arg2)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 1 ∧ win0_1.index t 1 = 0 ∧ win0_1.index t 2 = t.val % 2 :=
  (by decide +kernel : ∀ t : Fin grid0.N, win0_1.index t 0 = 1 ∧ win0_1.index t 1 = 0 ∧ win0_1.index t 2 = t.val % 2)
theorem index2 : ∀ t : Fin cfg0.N, win0_2.index t 0 = 0 ∧ win0_2.index t 1 = t.val % 2 :=
  (by decide +kernel : ∀ t : Fin grid0.N, win0_2.index t 0 = 0 ∧ win0_2.index t 1 = t.val % 2)
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

/-- What a grid point reads of argument 0. -/
theorem block0 (c : Dev nD) (t : Fin cfg0.N) (p : Fin 1024) (q : Fin 1024) :
    (iblk m c 0 t : Vec Ideal S1024x1024 .bf16) (ix2 p q) = rd2 (argA m c) (1024 * (t.val / 2) + p.val) q.val := by
  unfold iblk
  rw [View.read_apply]
  refine (eq_rd2' (argA m c) _).trans (rd2_congr _ ?_ ?_)
  · show win0_0.index t 0 * 1024 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 1024) (s : Fin 768) :
    (iblk m c 1 t : Vec Ideal S1x1024x768 .bf16) (ix3 p q s) = rd3 (argW m c) 1 q.val (768 * (t.val % 2) + s.val) := by
  unfold iblk
  rw [View.read_apply]
  refine (eq_rd3' (argW m c) _).trans (rd3_congr _ ?_ ?_ ?_)
  · show win0_1.index t 0 * 1 + 1 * p.val = _; rw [(index1 t).1]; omega
  · show win0_1.index t 1 * 1024 + 1 * q.val = _; rw [(index1 t).2.1]; omega
  · show win0_1.index t 2 * 768 + 1 * s.val = _; rw [(index1 t).2.2]; omega

/-- What a grid point reads of argument 2. -/
theorem block2 (c : Dev nD) (t : Fin cfg0.N) (p : Fin 1) (q : Fin 768) :
    (iblk m c 2 t : Vec Ideal S1x768 .f32) (ix2 p q) = rd2 (argBi m c) p.val (768 * (t.val % 2) + q.val) := by
  unfold iblk
  rw [View.read_apply]
  refine (eq_rd2' (argBi m c) _).trans (rd2_congr _ ?_ ?_)
  · show win0_2.index t 0 * 1 + 1 * p.val = _; rw [(index2 t).1]; omega
  · show win0_2.index t 1 * 768 + 1 * q.val = _; rw [(index2 t).2]; omega

/-- The tile's entry, from the blocks. -/
theorem pay (x0 : Vec Ideal S1024x1024 .bf16) (x1 : Vec Ideal S1x1024x768 .bf16) (x2 : Vec Ideal S1x768 .f32) (r : Fin 1024) (l : Fin 768) :
    k0_pay1 x0 x1 x2 (ix2 r l) = (∑ k : Fin 1024, x0 (ix2 r k) * x1 (ix3 0 k l)) + x2 (ix2 0 l) := by
  unfold k0_pay1
  pointwise

theorem ld_r0_0 (X : Vec Ideal S1024x1024 .bf16) : View.ld X r0_0 = X := funext fun j => by rw [eq_ix2 j]; exact ld_zero2 X _ _ _
theorem ld_r0_1 (X : Vec Ideal S1x1024x768 .bf16) : View.ld X r0_1 = X := ld_zero3 X _
theorem ld_r0_2 (X : Vec Ideal S1x768 .f32) : View.ld X r0_2 = X := funext fun j => by rw [eq_ix2 j]; exact ld_zero2 X _ _ _

/-- The result's entry at row `n` and column `l`. -/
def entry (A : Vec Ideal S8192x1024 .bf16) (W : Vec Ideal S2x1024x1536 .bf16) (Bi : Vec Ideal S1x1536 .f32) (n l : ℕ) : EReal := mulNN A W 1 1024 n l + rd2 Bi 0 l

/-- The tile's entry is the result's entry. -/
theorem tile (c : Dev nD) (t : Fin cfg0.N) (r : Fin 1024) (l : Fin 768) :
    k0_pay1 (iblk m c 0 t : Vec Ideal S1024x1024 .bf16) (iblk m c 1 t : Vec Ideal S1x1024x768 .bf16) (iblk m c 2 t : Vec Ideal S1x768 .f32) (ix2 r l) = entry (argA m c) (argW m c) (argBi m c) (1024 * (t.val / 2) + r.val) (768 * (t.val % 2) + l.val) := by
  rw [pay]
  simp only [block0, block1, block2]
  unfold entry
  rw [← mulNN_sum]
  rfl

/-- The result as an array. -/
def Arr (A : Vec Ideal S8192x1024 .bf16) (W : Vec Ideal S2x1024x1536 .bf16) (Bi : Vec Ideal S1x1536 .f32) : Vec Ideal S8192x1536 .f32 := fun j => entry A W Bi (j 0).val (j 1).val

/-- The tile that a grid point writes, entry by entry. -/
theorem out3_at (x0 : Vec Ideal S1024x1024 .bf16) (x1 : Vec Ideal S1x1024x768 .bf16) (x2 : Vec Ideal S1x768 .f32) (r : Fin 1024) (l : Fin 768) :
    out0_3 x0 x1 x2 (ix2 r l) = k0_pay1 x0 x1 x2 (ix2 r l) := by
  unfold out0_3
  rw [canon_unit2, dif_pos (by have := r.isLt; have := l.isLt; omega)]
  simp only [ld_r0_0, ld_r0_1, ld_r0_2]
  rfl

/-- The array after the run. -/
theorem final3 (c : Dev nD) : (dats m 0 c).arrAt 3 cfg0.N = Arr (argA m c) (argW m c) (argBi m c) := by
  have hN : cfg0.N = 16 := N_0
  refine (dats m 0 c).arrAt_eq_of_cover 3 _ (fun t _ => ?_) fun i => ?_
  · rw [Value.flushed3]
    funext j
    obtain ⟨r, l, hj⟩ : ∃ (r : Fin 1024) (l : Fin 768), j = ix2 r l := ⟨j 0, j 1, eq_ix2 j⟩
    show out0_3 _ _ _ j = Arr (argA m c) (argW m c) (argBi m c) (((cfg0.win 3).blk t).view.emb j)
    rw [hj]
    refine (out3_at _ _ _ r l).trans ?_
    refine (tile m c t r l).trans ?_
    unfold Arr
    refine congr (congrArg _ ?_) ?_
    · show _ = win0_3.index t 0 * 1024 + 1 * r.val; rw [(index3 t).1]; omega
    · show _ = win0_3.index t 1 * 768 + 1 * l.val; rw [(index3 t).2]; omega
  · have h0 : (i 0 : Nat) < 8192 := (i 0).isLt
    have h1 : (i 1 : Nat) < 1536 := (i 1).isLt
    let p : Fin cfg0.N := ⟨(i 0).val / 1024 * 2 + (i 1).val / 768, by omega⟩
    have hp : p.val = (i 0).val / 1024 * 2 + (i 1).val / 768 := rfl
    refine ⟨p, (by decide +kernel : ∀ t : Fin grid0.N, (cfg0.win 3).flush t = true) _, ?_⟩
    show i ∈ ((View.whole main_v0).slice (win0_3.rect p)).set
    rw [View.set_slice_whole, Rect.mem_set_unit]
    intro a
    match a with
    | ⟨0, _⟩ =>
      show win0_3.index p 0 * 1024 ≤ (i 0 : Nat) ∧ (i 0 : Nat) < win0_3.index p 0 * 1024 + 1024
      rw [(index3 p).1, hp]; omega
    | ⟨1, _⟩ =>
      show win0_3.index p 1 * 768 ≤ (i 1 : Nat) ∧ (i 1 : Nat) < win0_3.index p 1 * 768 + 768
      rw [(index3 p).2, hp]; omega

open Cert.QkvRefIdeal.Read in
/-- The reference's entry. -/
theorem ref_entry (x0 : Vec Ideal S8192x1024 .bf16) (x1 : Vec Ideal S2x1024x1536 .bf16) (x2 : Vec Ideal S1x1536 .f32) (r : Fin 8192) (l : Fin 1536) :
    val_main_v8 (F := Ideal) x0 x1 x2 (ix2 r l) = entry x0 x1 x2 r.val l.val := by
  have h : val_main_v8 (F := Ideal) x0 x1 x2 (ix2 r l) = (∑ k : Fin 1024, x0 (ix2 r k) * x1 (ix3 1 k l)) + x2 (ix2 0 l) := by
    unfold val_main_v8 val_main_v7 val_main_v6 val_main_v5 val_main_v4 val_main_v3 val_main_v2 val_main_v1 val_main_v0
    pointwise
  rw [h]
  unfold entry
  rw [← mulNN_sum]
  simp only [eq_rd2, eq_rd3]
  rfl

/-- The reference's result is the product. -/
theorem ref (x0 : Vec Ideal S8192x1024 .bf16) (x1 : Vec Ideal S2x1024x1536 .bf16) (x2 : Vec Ideal S1x1536 .f32) : Cert.QkvRefIdeal.Read.val_main_v8 (F := Ideal) x0 x1 x2 = Arr x0 x1 x2 := by
  funext j
  rw [eq_ix2 j]
  exact ref_entry x0 x1 x2 (j 0) (j 1)

end Cert.QkvIdeal.KernelValue

namespace Cert.QkvClaim

open Cert.QkvIdeal.KernelValue

/-- Both programs end with the same array. -/
theorem algebraic : Cert.algebraic_QkvIdeal_QkvRefIdeal (hQkvIdeal := Cert.QkvIdeal.Gen.facts)
    (hQkvRefIdeal := Cert.QkvRefIdeal.Gen.facts) := fun m g m' g' _ hag =>
  ⟨fun c => Arr (argA m c) (argW m c) (argBi m c),
    (θ_run _ _ _).mono (fun _ h c => ⟨(h c).1.trans (final3 m c), (h c).2⟩) (Cert.QkvIdeal.Value.run_blocks m g),
    (θ_run _ _ _).mono (fun _ h c => by
      obtain ⟨e0, e1, e2⟩ := hag c
      obtain ⟨h0, h2⟩ := h c
      refine ⟨h0.trans ?_, h2⟩
      rw [Cert.QkvRefIdeal.Read.val_main_v8_eq, e0, e1, e2]
      exact ref _ _ _) (Cert.QkvRefIdeal.Value.run m' g')⟩

end Cert.QkvClaim

end
-- ==== Proof.Mm.AttnOut.lean ====
/-
  The attention's second product with its bias, the residual sum and the RMS norm of the sum. A grid point computes one tile over
  the whole shared axis; kernel and reference both end with the whole product.
-/
module

public import proofs.«01_k».proof.Defs
public import proofs.«01_k».proof.Proof.Common.Product
public import proofs.«01_k».proof.Proof.Gen.AttnOutIdeal.Value
public import proofs.«01_k».proof.Proof.Gen.AttnOutRefIdeal.Run
public import proofs.«01_k».proof.Proof.Gen.AttnOutRefIdeal.Read

@[expose] public section

set_option maxRecDepth 16384

noncomputable section

open Idealize.ShloMosaic Idealize.ShloMosaic.TcCoe Idealize.SL.Sem
open Idealize.ShloMosaic.Pipeline (Dat)

namespace Cert.AttnOutIdeal.KernelValue

open Cert.AttnOutIdeal Cert.AttnOutIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S2x1024x1024 .bf16 := m ((c : Thread nD τ).loc main_arg1)
/-- The bias. -/
abbrev argBi (c : Dev nD) : Vec Ideal S1x1024 .f32 := m ((c : Thread nD τ).loc main_arg2)
/-- The residual. -/
abbrev argX (c : Dev nD) : Vec Ideal S8192x1024 .f32 := m ((c : Thread nD τ).loc main_arg3)
/-- The gain. -/
abbrev argG (c : Dev nD) : Vec Ideal S1x1024 .f32 := m ((c : Thread nD τ).loc main_arg4)

theorem index0 : ∀ t : Fin cfg0.N, win0_0.index t 0 = t.val / 1 ∧ win0_0.index t 1 = 0 :=
  (by decide +kernel : ∀ t : Fin grid0.N, win0_0.index t 0 = t.val / 1 ∧ win0_0.index t 1 = 0)
theorem index1 : ∀ t : Fin cfg0.N, win0_1.index t 0 = 1 ∧ win0_1.index t 1 = 0 ∧ win0_1.index t 2 = t.val % 1 :=
  (by decide +kernel : ∀ t : Fin grid0.N, win0_1.index t 0 = 1 ∧ win0_1.index t 1 = 0 ∧ win0_1.index t 2 = t.val % 1)
theorem index2 : ∀ t : Fin cfg0.N, win0_2.index t 0 = 0 ∧ win0_2.index t 1 = t.val % 1 :=
  (by decide +kernel : ∀ t : Fin grid0.N, win0_2.index t 0 = 0 ∧ win0_2.index t 1 = t.val % 1)
theorem index3 : ∀ t : Fin cfg0.N, win0_3.index t 0 = t.val / 1 ∧ win0_3.index t 1 = t.val % 1 :=
  (by decide +kernel : ∀ t : Fin grid0.N, win0_3.index t 0 = t.val / 1 ∧ win0_3.index t 1 = t.val % 1)
theorem index4 : ∀ t : Fin cfg0.N, win0_4.index t 0 = 0 ∧ win0_4.index t 1 = t.val % 1 :=
  (by decide +kernel : ∀ t : Fin grid0.N, win0_4.index t 0 = 0 ∧ win0_4.index t 1 = t.val % 1)
theorem index5 : ∀ t : Fin cfg0.N, win0_5.index t 0 = t.val / 1 ∧ win0_5.index t 1 = t.val % 1 :=
  (by decide +kernel : ∀ t : Fin grid0.N, win0_5.index t 0 = t.val / 1 ∧ win0_5.index t 1 = t.val % 1)
theorem index6 : ∀ t : Fin cfg0.N, win0_6.index t 0 = t.val / 1 ∧ win0_6.index t 1 = t.val % 1 :=
  (by decide +kernel : ∀ t : Fin grid0.N, win0_6.index t 0 = t.val / 1 ∧ win0_6.index t 1 = t.val % 1)

/-- What a grid point reads of argument 0. -/
theorem block0 (c : Dev nD) (t : Fin cfg0.N) (p : Fin 512) (q : Fin 1024) :
    (iblk m c 0 t : Vec Ideal S512x1024 .bf16) (ix2 p q) = rd2 (argA m c) (512 * (t.val / 1) + p.val) q.val := by
  unfold iblk
  rw [View.read_apply]
  refine (eq_rd2' (argA m c) _).trans (rd2_congr _ ?_ ?_)
  · show win0_0.index t 0 * 512 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 1024) (s : Fin 1024) :
    (iblk m c 1 t : Vec Ideal S1x1024x1024 .bf16) (ix3 p q s) = rd3 (argW m c) 1 q.val (1024 * (t.val % 1) + s.val) := by
  unfold iblk
  rw [View.read_apply]
  refine (eq_rd3' (argW m c) _).trans (rd3_congr _ ?_ ?_ ?_)
  · show win0_1.index t 0 * 1 + 1 * p.val = _; rw [(index1 t).1]; omega
  · show win0_1.index t 1 * 1024 + 1 * q.val = _; rw [(index1 t).2.1]; omega
  · show win0_1.index t 2 * 1024 + 1 * s.val = _; rw [(index1 t).2.2]; omega

/-- What a grid point reads of argument 2. -/
theorem block2 (c : Dev nD) (t : Fin cfg0.N) (p : Fin 1) (q : Fin 1024) :
    (iblk m c 2 t : Vec Ideal S1x1024 .f32) (ix2 p q) = rd2 (argBi m c) p.val (1024 * (t.val % 1) + q.val) := by
  unfold iblk
  rw [View.read_apply]
  refine (eq_rd2' (argBi m c) _).trans (rd2_congr _ ?_ ?_)
  · show win0_2.index t 0 * 1 + 1 * p.val = _; rw [(index2 t).1]; omega
  · show win0_2.index t 1 * 1024 + 1 * q.val = _; rw [(index2 t).2]; omega

/-- What a grid point reads of argument 3. -/
theorem block3 (c : Dev nD) (t : Fin cfg0.N) (p : Fin 512) (q : Fin 1024) :
    (iblk m c 3 t : Vec Ideal S512x1024 .f32) (ix2 p q) = rd2 (argX m c) (512 * (t.val / 1) + p.val) (1024 * (t.val % 1) + q.val) := by
  unfold iblk
  rw [View.read_apply]
  refine (eq_rd2' (argX m c) _).trans (rd2_congr _ ?_ ?_)
  · show win0_3.index t 0 * 512 + 1 * p.val = _; rw [(index3 t).1]; omega
  · show win0_3.index t 1 * 1024 + 1 * q.val = _; rw [(index3 t).2]; omega

/-- What a grid point reads of argument 4. -/
theorem block4 (c : Dev nD) (t : Fin cfg0.N) (p : Fin 1) (q : Fin 1024) :
    (iblk m c 4 t : Vec Ideal S1x1024 .f32) (ix2 p q) = rd2 (argG m c) p.val (1024 * (t.val % 1) + q.val) := by
  unfold iblk
  rw [View.read_apply]
  refine (eq_rd2' (argG m c) _).trans (rd2_congr _ ?_ ?_)
  · show win0_4.index t 0 * 1 + 1 * p.val = _; rw [(index4 t).1]; omega
  · show win0_4.index t 1 * 1024 + 1 * q.val = _; rw [(index4 t).2]; omega

/-- The tile's entry, from the blocks. -/
theorem pay (x0 : Vec Ideal S512x1024 .bf16) (x1 : Vec Ideal S1x1024x1024 .bf16) (x2 : Vec Ideal S1x1024 .f32) (x3 : Vec Ideal S512x1024 .f32) (r : Fin 512) (l : Fin 1024) :
    k0_pay1 x0 x1 x2 x3 (ix2 r l) = (∑ k : Fin 1024, x0 (ix2 r k) * x1 (ix3 0 k l)) + x2 (ix2 0 l) + x3 (ix2 r l) := by
  unfold k0_pay1
  pointwise

/-- The normed tile's entry, from the tile. -/
theorem payNorm (x0 : Vec Ideal S512x1024 .bf16) (x1 : Vec Ideal S1x1024x1024 .bf16) (x2 : Vec Ideal S1x1024 .f32) (x3 : Vec Ideal S512x1024 .f32) (x4 : Vec Ideal S1x1024 .f32) (r : Fin 512) (l : Fin 1024) (Y : ℕ → EReal)
    (hY : ∀ l' : Fin 1024, k0_pay1 x0 x1 x2 x3 (ix2 r l') = Y l'.val) :
    k0_pay2 x0 x1 x2 x3 x4 (ix2 r l) = rmsRow Y (x4 (ix2 0 l)) l.val := by
  unfold k0_pay2
  pointwise
  simp only [hY]
  rfl

theorem ld_r0_0 (X : Vec Ideal S512x1024 .f32) : View.ld X r0_0 = X := funext fun j => by rw [eq_ix2 j]; exact ld_zero2 X _ _ _
theorem ld_r0_1 (X : Vec Ideal S1x1024x1024 .bf16) : View.ld X r0_1 = X := ld_zero3 X _
theorem ld_r0_2 (X : Vec Ideal S1x1024 .f32) : View.ld X r0_2 = X := funext fun j => by rw [eq_ix2 j]; exact ld_zero2 X _ _ _

/-- The result's entry at row `n` and column `l`. -/
def entry (A : Vec Ideal S8192x1024 .bf16) (W : Vec Ideal S2x1024x1024 .bf16) (Bi : Vec Ideal S1x1024 .f32) (X : Vec Ideal S8192x1024 .f32) (n l : ℕ) : EReal := mulNN A W 1 1024 n l + rd2 Bi 0 l + rd2 X n l

/-- The tile's entry is the result's entry. -/
theorem tile (c : Dev nD) (t : Fin cfg0.N) (r : Fin 512) (l : Fin 1024) :
    k0_pay1 (iblk m c 0 t : Vec Ideal S512x1024 .bf16) (iblk m c 1 t : Vec Ideal S1x1024x1024 .bf16) (iblk m c 2 t : Vec Ideal S1x1024 .f32) (iblk m c 3 t : Vec Ideal S512x1024 .f32) (ix2 r l) = entry (argA m c) (argW m c) (argBi m c) (argX m c) (512 * (t.val / 1) + r.val) (1024 * (t.val % 1) + l.val) := by
  rw [pay]
  simp only [block0, block1, block2, block3]
  unfold entry
  rw [← mulNN_sum]
  rfl

/-- The result as an array. -/
def Arr (A : Vec Ideal S8192x1024 .bf16) (W : Vec Ideal S2x1024x1024 .bf16) (Bi : Vec Ideal S1x1024 .f32) (X : Vec Ideal S8192x1024 .f32) : Vec Ideal S8192x1024 .f32 := fun j => entry A W Bi X (j 0).val (j 1).val

/-- The tile that a grid point writes, entry by entry. -/
theorem out5_at (x0 : Vec Ideal S512x1024 .bf16) (x1 : Vec Ideal S1x1024x1024 .bf16) (x2 : Vec Ideal S1x1024 .f32) (x3 : Vec Ideal S512x1024 .f32) (x4 : Vec Ideal S1x1024 .f32) (r : Fin 512) (l : Fin 1024) :
    out0_5 x0 x1 x2 x3 x4 (ix2 r l) = k0_pay1 x0 x1 x2 x3 (ix2 r l) := by
  unfold out0_5
  rw [canon_unit2, dif_pos (by have := r.isLt; have := l.isLt; omega)]
  simp only [ld_r0_0, ld_r0_1, ld_r0_2]
  rfl

/-- The array after the run. -/
theorem final5 (c : Dev nD) : (dats m 0 c).arrAt 5 cfg0.N = Arr (argA m c) (argW m c) (argBi m c) (argX m c) := by
  have hN : cfg0.N = 16 := N_0
  refine (dats m 0 c).arrAt_eq_of_cover 5 _ (fun t _ => ?_) fun i => ?_
  · rw [Value.flushed5]
    funext j
    obtain ⟨r, l, hj⟩ : ∃ (r : Fin 512) (l : Fin 1024), j = ix2 r l := ⟨j 0, j 1, eq_ix2 j⟩
    show out0_5 _ _ _ _ _ j = Arr (argA m c) (argW m c) (argBi m c) (argX m c) (((cfg0.win 5).blk t).view.emb j)
    rw [hj]
    refine (out5_at _ _ _ _ _ r l).trans ?_
    refine (tile m c t r l).trans ?_
    unfold Arr
    refine congr (congrArg _ ?_) ?_
    · show _ = win0_5.index t 0 * 512 + 1 * r.val; rw [(index5 t).1]; omega
    · show _ = win0_5.index t 1 * 1024 + 1 * l.val; rw [(index5 t).2]; omega
  · have h0 : (i 0 : Nat) < 8192 := (i 0).isLt
    have h1 : (i 1 : Nat) < 1024 := (i 1).isLt
    let p : Fin cfg0.N := ⟨(i 0).val / 512 * 1 + (i 1).val / 1024, by omega⟩
    have hp : p.val = (i 0).val / 512 * 1 + (i 1).val / 1024 := rfl
    refine ⟨p, (by decide +kernel : ∀ t : Fin grid0.N, (cfg0.win 5).flush t = true) _, ?_⟩
    show i ∈ ((View.whole main_v0_0).slice (win0_5.rect p)).set
    rw [View.set_slice_whole, Rect.mem_set_unit]
    intro a
    match a with
    | ⟨0, _⟩ =>
      show win0_5.index p 0 * 512 ≤ (i 0 : Nat) ∧ (i 0 : Nat) < win0_5.index p 0 * 512 + 512
      rw [(index5 p).1, hp]; omega
    | ⟨1, _⟩ =>
      show win0_5.index p 1 * 1024 ≤ (i 1 : Nat) ∧ (i 1 : Nat) < win0_5.index p 1 * 1024 + 1024
      rw [(index5 p).2, hp]; omega

/-- The normed result as an array. -/
def NormArr (A : Vec Ideal S8192x1024 .bf16) (W : Vec Ideal S2x1024x1024 .bf16) (Bi : Vec Ideal S1x1024 .f32) (X : Vec Ideal S8192x1024 .f32) (G : Vec Ideal S1x1024 .f32) : Vec Ideal S8192x1024 .bf16 := fun j =>
  rmsRow (entry A W Bi X (j 0).val) (rd2 G 0 (j 1).val) (j 1).val

/-- The tile that a grid point writes, entry by entry. -/
theorem out6_at (x0 : Vec Ideal S512x1024 .bf16) (x1 : Vec Ideal S1x1024x1024 .bf16) (x2 : Vec Ideal S1x1024 .f32) (x3 : Vec Ideal S512x1024 .f32) (x4 : Vec Ideal S1x1024 .f32) (r : Fin 512) (l : Fin 1024) :
    out0_6 x0 x1 x2 x3 x4 (ix2 r l) = k0_pay2 x0 x1 x2 x3 x4 (ix2 r l) := by
  unfold out0_6
  rw [canon_unit2, dif_pos (by have := r.isLt; have := l.isLt; omega)]
  simp only [ld_r0_0, ld_r0_1, ld_r0_2]
  rfl

/-- The array after the run. -/
theorem final6 (c : Dev nD) : (dats m 0 c).arrAt 6 cfg0.N = NormArr (argA m c) (argW m c) (argBi m c) (argX m c) (argG m c) := by
  have hN : cfg0.N = 16 := N_0
  refine (dats m 0 c).arrAt_eq_of_cover 6 _ (fun t _ => ?_) fun i => ?_
  · rw [Value.flushed6]
    funext j
    obtain ⟨r, l, hj⟩ : ∃ (r : Fin 512) (l : Fin 1024), j = ix2 r l := ⟨j 0, j 1, eq_ix2 j⟩
    show out0_6 _ _ _ _ _ j = NormArr (argA m c) (argW m c) (argBi m c) (argX m c) (argG m c) (((cfg0.win 6).blk t).view.emb j)
    rw [hj]
    refine (out6_at _ _ _ _ _ r l).trans ?_
    refine (payNorm _ _ _ _ _ r l (fun l => entry (argA m c) (argW m c) (argBi m c) (argX m c) (512 * (t.val / 1) + r.val) l)
      (fun l' => (tile m c t r l').trans (congrArg _ (by have := t.isLt; have hN : cfg0.N = 16 := N_0; omega)))).trans ?_
    rw [block4]
    unfold NormArr
    have e0 : 512 * (t.val / 1) + r.val = ((((cfg0.win 6).blk t).view.emb (ix2 r l)) 0).val := by
      show _ = win0_6.index t 0 * 512 + 1 * r.val; rw [(index6 t).1]; omega
    have e1 : l.val = ((((cfg0.win 6).blk t).view.emb (ix2 r l)) 1).val := by
      show _ = win0_6.index t 1 * 1024 + 1 * l.val; rw [(index6 t).2]; omega
    have e2 : 1024 * (t.val % 1) + l.val = l.val := by have := t.isLt; have hN : cfg0.N = 16 := N_0; omega
    rw [e2, ← e0, ← e1]
    rfl
  · have h0 : (i 0 : Nat) < 8192 := (i 0).isLt
    have h1 : (i 1 : Nat) < 1024 := (i 1).isLt
    let p : Fin cfg0.N := ⟨(i 0).val / 512 * 1 + (i 1).val / 1024, by omega⟩
    have hp : p.val = (i 0).val / 512 * 1 + (i 1).val / 1024 := rfl
    refine ⟨p, (by decide +kernel : ∀ t : Fin grid0.N, (cfg0.win 6).flush t = true) _, ?_⟩
    show i ∈ ((View.whole main_v0_1).slice (win0_6.rect p)).set
    rw [View.set_slice_whole, Rect.mem_set_unit]
    intro a
    match a with
    | ⟨0, _⟩ =>
      show win0_6.index p 0 * 512 ≤ (i 0 : Nat) ∧ (i 0 : Nat) < win0_6.index p 0 * 512 + 512
      rw [(index6 p).1, hp]; omega
    | ⟨1, _⟩ =>
      show win0_6.index p 1 * 1024 ≤ (i 1 : Nat) ∧ (i 1 : Nat) < win0_6.index p 1 * 1024 + 1024
      rw [(index6 p).2, hp]; omega

open Cert.AttnOutRefIdeal.Read in
/-- The reference's entry. -/
theorem ref_entry (x0 : Vec Ideal S8192x1024 .bf16) (x1 : Vec Ideal S2x1024x1024 .bf16) (x2 : Vec Ideal S1x1024 .f32) (x3 : Vec Ideal S8192x1024 .f32) (r : Fin 8192) (l : Fin 1024) :
    val_main_v9 (F := Ideal) x0 x1 x2 x3 (ix2 r l) = entry x0 x1 x2 x3 r.val l.val := by
  have h : val_main_v9 (F := Ideal) x0 x1 x2 x3 (ix2 r l) = (∑ k : Fin 1024, x0 (ix2 r k) * x1 (ix3 1 k l)) + x2 (ix2 0 l) + x3 (ix2 r l) := by
    unfold val_main_v9 val_main_v8 val_main_v7 val_main_v6 val_main_v5 val_main_v4 val_main_v3 val_main_v2 val_main_v1 val_main_v0
    pointwise
  rw [h]
  unfold entry
  rw [← mulNN_sum]
  simp only [eq_rd2, eq_rd3]
  rfl

/-- The reference's result is the product. -/
theorem ref (x0 : Vec Ideal S8192x1024 .bf16) (x1 : Vec Ideal S2x1024x1024 .bf16) (x2 : Vec Ideal S1x1024 .f32) (x3 : Vec Ideal S8192x1024 .f32) : Cert.AttnOutRefIdeal.Read.val_main_v9 (F := Ideal) x0 x1 x2 x3 = Arr x0 x1 x2 x3 := by
  funext j
  rw [eq_ix2 j]
  exact ref_entry x0 x1 x2 x3 (j 0) (j 1)

open Cert.AttnOutRefIdeal.Read in
/-- The reference's second result, entry by entry. -/
theorem refNorm_entry (x0 : Vec Ideal S8192x1024 .bf16) (x1 : Vec Ideal S2x1024x1024 .bf16) (x2 : Vec Ideal S1x1024 .f32) (x3 : Vec Ideal S8192x1024 .f32) (x4 : Vec Ideal S1x1024 .f32) (r : Fin 8192) (l : Fin 1024) :
    val_main_v24 (F := Ideal) x0 x1 x2 x3 x4 (ix2 r l) = rmsRow (entry x0 x1 x2 x3 r.val) (rd2 x4 0 l.val) l.val := by
  unfold val_main_v24 val_main_v23 val_main_v22 val_main_v21 val_main_v20 val_main_v19 val_main_v18 val_main_v17 val_main_v16 val_main_cst_1 val_main_v15 val_main_v14 val_main_cst_0 val_main_v13 val_main_v12 val_main_cst val_main_v11 val_main_v10
  pointwise
  simp only [ref_entry]
  exact congrArg _ (eq_rd2 x4 0 l)

/-- The reference's second result is the normed product. -/
theorem refNorm (x0 : Vec Ideal S8192x1024 .bf16) (x1 : Vec Ideal S2x1024x1024 .bf16) (x2 : Vec Ideal S1x1024 .f32) (x3 : Vec Ideal S8192x1024 .f32) (x4 : Vec Ideal S1x1024 .f32) : Cert.AttnOutRefIdeal.Read.val_main_v24 (F := Ideal) x0 x1 x2 x3 x4 = NormArr x0 x1 x2 x3 x4 := by
  funext j
  rw [eq_ix2 j]
  exact refNorm_entry _ _ _ _ _ (j 0) (j 1)

end Cert.AttnOutIdeal.KernelValue

namespace Cert.AttnOutClaim

open Cert.AttnOutIdeal.KernelValue

/-- Both programs end with the same two arrays. -/
theorem algebraic : Cert.algebraic_AttnOutIdeal_AttnOutRefIdeal (hAttnOutIdeal := Cert.AttnOutIdeal.Gen.facts)
    (hAttnOutRefIdeal := Cert.AttnOutRefIdeal.Gen.facts) := fun m g m' g' _ hag =>
  ⟨fun c => Arr (argA m c) (argW m c) (argBi m c) (argX m c), fun c => NormArr (argA m c) (argW m c) (argBi m c) (argX m c) (argG m c),
    (θ_run _ _ _).mono (fun _ h c => ⟨(h c).1.trans (final5 m c), (h c).2.1.trans (final6 m c), (h c).2.2⟩)
      (Cert.AttnOutIdeal.Value.run_blocks m g),
    (θ_run _ _ _).mono (fun _ h c => by
      obtain ⟨e0, e1, e2, e3, e4⟩ := hag c
      obtain ⟨h0, h1, h2⟩ := h c
      refine ⟨h0.trans ?_, h1.trans ?_, h2⟩
      · rw [Cert.AttnOutRefIdeal.Read.val_main_v9_eq, e0, e1, e2, e3]
        exact ref _ _ _ _
      · rw [Cert.AttnOutRefIdeal.Read.val_main_v24_eq, e0, e1, e2, e3, e4]
        exact refNorm _ _ _ _ _) (Cert.AttnOutRefIdeal.Value.run m' g')⟩

end Cert.AttnOutClaim

end
-- ==== Proof.Mm.FfnIn.lean ====
/-
  The feed-forward part's first product. A grid point computes one tile over
  the whole shared axis; kernel and reference both end with the whole product.
-/
module

public import proofs.«01_k».proof.Defs
public import proofs.«01_k».proof.Proof.Common.Product
public import proofs.«01_k».proof.Proof.Gen.FfnInIdeal.Value
public import proofs.«01_k».proof.Proof.Gen.FfnInRefIdeal.Run
public import proofs.«01_k».proof.Proof.Gen.FfnInRefIdeal.Read

@[expose] public section

set_option maxRecDepth 16384

noncomputable section

open Idealize.ShloMosaic Idealize.ShloMosaic.TcCoe Idealize.SL.Sem
open Idealize.ShloMosaic.Pipeline (Dat)

namespace Cert.FfnInIdeal.KernelValue

open Cert.FfnInIdeal Cert.FfnInIdeal.Gen Cert.Common

variable (m : (ℓ : Loc nD τ sig) → Buf (Elt Ideal) ℓ) (ρ : Dev nD → PrngReg)

/-- The rows. -/
abbrev argA (c : Dev nD) : Vec Ideal S8192x1024 .bf16 := m ((c : Thread nD τ).loc main_arg0)
/-- The stack of weights. -/
abbrev argW (c : Dev nD) : Vec Ideal S4x1024x5632 .bf16 := m ((c : Thread nD τ).loc main_arg1)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = 3 ∧ win0_1.index t 1 = 0 ∧ win0_1.index t 2 = t.val / 8 :=
  (by decide +kernel : ∀ t : Fin grid0.N, win0_1.index t 0 = 3 ∧ win0_1.index t 1 = 0 ∧ win0_1.index t 2 = t.val / 8)
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- What a grid point reads of argument 0. -/
theorem block0 (c : Dev nD) (t : Fin cfg0.N) (p : Fin 1024) (q : Fin 1024) :
    (iblk m c 0 t : Vec Ideal S1024x1024 .bf16) (ix2 p q) = rd2 (argA m c) (1024 * (t.val % 8) + p.val) q.val := by
  unfold iblk
  rw [View.read_apply]
  refine (eq_rd2' (argA m c) _).trans (rd2_congr _ ?_ ?_)
  · show win0_0.index t 0 * 1024 + 1 * p.val = _; rw [(index0 t).1]; omega
  · show win0_0.index t 1 * 1024 + 1 * q.val = _; rw [(index0 t).2]; omega

/-- What a grid point reads of argument 1. -/
theorem block1 (c : Dev nD) (t : Fin cfg0.N) (p : Fin 1) (q : Fin 1024) (s : Fin 2816) :
    (iblk m c 1 t : Vec Ideal S1x1024x2816 .bf16) (ix3 p q s) = rd3 (argW m c) 3 q.val (2816 * (t.val / 8) + s.val) := by
  unfold iblk
  rw [View.read_apply]
  refine (eq_rd3' (argW m c) _).trans (rd3_congr _ ?_ ?_ ?_)
  · show win0_1.index t 0 * 1 + 1 * p.val = _; rw [(index1 t).1]; omega
  · show win0_1.index t 1 * 1024 + 1 * q.val = _; rw [(index1 t).2.1]; omega
  · show win0_1.index t 2 * 2816 + 1 * s.val = _; rw [(index1 t).2.2]; omega

/-- The tile's entry, from the blocks. -/
theorem pay (x0 : Vec Ideal S1024x1024 .bf16) (x1 : Vec Ideal S1x1024x2816 .bf16) (r : Fin 1024) (l : Fin 2816) :
    k0_pay1 x0 x1 (ix2 r l) = (∑ k : Fin 1024, x0 (ix2 r k) * x1 (ix3 0 k l)) := by
  unfold k0_pay1
  pointwise

theorem ld_r0_0 (X : Vec Ideal S1024x1024 .bf16) : View.ld X r0_0 = X := funext fun j => by rw [eq_ix2 j]; exact ld_zero2 X _ _ _
theorem ld_r0_1 (X : Vec Ideal S1x1024x2816 .bf16) : View.ld X r0_1 = X := ld_zero3 X _

/-- The result's entry at row `n` and column `l`. -/
def entry (A : Vec Ideal S8192x1024 .bf16) (W : Vec Ideal S4x1024x5632 .bf16) (n l : ℕ) : EReal := mulNN A W 3 1024 n l

/-- The tile's entry is the result's entry. -/
theorem tile (c : Dev nD) (t : Fin cfg0.N) (r : Fin 1024) (l : Fin 2816) :
    k0_pay1 (iblk m c 0 t : Vec Ideal S1024x1024 .bf16) (iblk m c 1 t : Vec Ideal S1x1024x2816 .bf16) (ix2 r l) = entry (argA m c) (argW m c) (1024 * (t.val % 8) + r.val) (2816 * (t.val / 8) + l.val) := by
  rw [pay]
  simp only [block0, block1]
  unfold entry
  rw [← mulNN_sum]

/-- The result as an array. -/
def Arr (A : Vec Ideal S8192x1024 .bf16) (W : Vec Ideal S4x1024x5632 .bf16) : Vec Ideal S8192x5632 .bf16 := fun j => entry A W (j 0).val (j 1).val

/-- The tile that a grid point writes, entry by entry. -/
theorem out2_at (x0 : Vec Ideal S1024x1024 .bf16) (x1 : Vec Ideal S1x1024x2816 .bf16) (r : Fin 1024) (l : Fin 2816) :
    out0_2 x0 x1 (ix2 r l) = k0_pay1 x0 x1 (ix2 r l) := by
  unfold out0_2
  rw [canon_unit2, dif_pos (by have := r.isLt; have := l.isLt; omega)]
  simp only [ld_r0_0, ld_r0_1]
  rfl

/-- The array after the run. -/
theorem final2 (c : Dev nD) : (dats m 0 c).arrAt 2 cfg0.N = Arr (argA m c) (argW m c) := by
  have hN : cfg0.N = 16 := N_0
  refine (dats m 0 c).arrAt_eq_of_cover 2 _ (fun t _ => ?_) fun i => ?_
  · rw [Value.flushed2]
    funext j
    obtain ⟨r, l, hj⟩ : ∃ (r : Fin 1024) (l : Fin 2816), j = ix2 r l := ⟨j 0, j 1, eq_ix2 j⟩
    show out0_2 _ _ j = Arr (argA m c) (argW m c) (((cfg0.win 2).blk t).view.emb j)
    rw [hj]
    refine (out2_at _ _ r l).trans ?_
    refine (tile m c t r l).trans ?_
    unfold Arr
    refine congr (congrArg _ ?_) ?_
    · show _ = win0_2.index t 0 * 1024 + 1 * r.val; rw [(index2 t).1]; omega
    · show _ = win0_2.index t 1 * 2816 + 1 * l.val; rw [(index2 t).2]; omega
  · have h0 : (i 0 : Nat) < 8192 := (i 0).isLt
    have h1 : (i 1 : Nat) < 5632 := (i 1).isLt
    let p : Fin cfg0.N := ⟨(i 1).val / 2816 * 8 + (i 0).val / 1024, by omega⟩
    have hp : p.val = (i 1).val / 2816 * 8 + (i 0).val / 1024 := rfl
    refine ⟨p, (by decide +kernel : ∀ t : Fin grid0.N, (cfg0.win 2).flush t = true) _, ?_⟩
    show i ∈ ((View.whole main_v0).slice (win0_2.rect p)).set
    rw [View.set_slice_whole, Rect.mem_set_unit]
    intro a
    match a with
    | ⟨0, _⟩ =>
      show win0_2.index p 0 * 1024 ≤ (i 0 : Nat) ∧ (i 0 : Nat) < win0_2.index p 0 * 1024 + 1024
      rw [(index2 p).1, hp]; omega
    | ⟨1, _⟩ =>
      show win0_2.index p 1 * 2816 ≤ (i 1 : Nat) ∧ (i 1 : Nat) < win0_2.index p 1 * 2816 + 2816
      rw [(index2 p).2, hp]; omega

open Cert.FfnInRefIdeal.Read in
/-- The reference's entry. -/
theorem ref_entry (x0 : Vec Ideal S8192x1024 .bf16) (x1 : Vec Ideal S4x1024x5632 .bf16) (r : Fin 8192) (l : Fin 5632) :
    val_main_v5 (F := Ideal) x0 x1 (ix2 r l) = entry x0 x1 r.val l.val := by
  have h : val_main_v5 (F := Ideal) x0 x1 (ix2 r l) = (∑ k : Fin 1024, x0 (ix2 r k) * x1 (ix3 3 k l)) := by
    unfold val_main_v5 val_main_v4 val_main_v3 val_main_v2 val_main_v1 val_main_v0
    pointwise
  rw [h]
  unfold entry
  rw [← mulNN_sum]
  simp only [eq_rd2, eq_rd3]
  rfl

/-- The reference's result is the product. -/
theorem ref (x0 : Vec Ideal S8192x1024 .bf16) (x1 : Vec Ideal S4x1024x5632 .bf16) : Cert.FfnInRefIdeal.Read.val_main_v5 (F := Ideal) x0 x1 = Arr x0 x1 := by
  funext j
  rw [eq_ix2 j]
  exact ref_entry x0 x1 (j 0) (j 1)

end Cert.FfnInIdeal.KernelValue

namespace Cert.FfnInClaim

open Cert.FfnInIdeal.KernelValue

/-- Both programs end with the same array. -/
theorem algebraic : Cert.algebraic_FfnInIdeal_FfnInRefIdeal (hFfnInIdeal := Cert.FfnInIdeal.Gen.facts)
    (hFfnInRefIdeal := Cert.FfnInRefIdeal.Gen.facts) := fun m g m' g' _ hag =>
  ⟨fun c => Arr (argA m c) (argW m c),
    (θ_run _ _ _).mono (fun _ h c => ⟨(h c).1.trans (final2 m c), (h c).2⟩) (Cert.FfnInIdeal.Value.run_blocks m g),
    (θ_run _ _ _).mono (fun _ h c => by
      obtain ⟨e0, e1⟩ := hag c
      obtain ⟨h0, h2⟩ := h c
      refine ⟨h0.trans ?_, h2⟩
      rw [Cert.FfnInRefIdeal.Read.val_main_v5_eq, e0, e1]
      exact ref _ _) (Cert.FfnInRefIdeal.Value.run m' g')⟩

end Cert.FfnInClaim

end
-- ==== Proof.Common.Norm.lean ====
/-
  The gradient of an RMS norm's row in two forms, over the extended reals: the form with the normalised row, and the form
  that differentiation of the norm's own lines gives. They are the same for every row, infinite numbers included.
-/
module

public import proofs.«01_k».proof.Proof.Common.Product
public import proofs.«01_k».proof.Proof.Common.Sums

@[expose] public section

noncomputable section

namespace Cert.Common

open Idealize.ShloMosaic

/-- The mean square of a row of 1024 numbers, plus a small number. -/
def meanSq (x : ℕ → EReal) : EReal :=
  Ideal.div (∑ k : Fin 1024, x k.val * x k.val) (Ideal.ofBits FTy.f32 1149239296#32) + Ideal.ofBits FTy.f32 925353388#32

/-- One over its root. -/
def rstd (x : ℕ → EReal) : EReal := Ideal.rsqrt (meanSq x)

/-- The gradient of the norm at column `l`, added to `d`, with the normalised row. -/
def normDx (x dy g d : ℕ → EReal) (l : ℕ) : EReal :=
  d l + rstd x * (dy l * g l - x l * rstd x
    * Ideal.div (∑ k : Fin 1024, dy k.val * g k.val * (x k.val * rstd x)) (Ideal.ofBits FTy.f32 1149239296#32))

/-- What one row's square sends back: the cotangent of the mean square, over the row's length. -/
def sqBack (x dy g : ℕ → EReal) : EReal :=
  Ideal.div ((∑ k : Fin 1024, x k.val * (dy k.val * g k.val))
    * (Ideal.ofBits FTy.f32 3204448256#32 * Ideal.div (rstd x) (meanSq x))) (Ideal.ofBits FTy.f32 1149239296#32)

/-- The number 1024. -/
theorem c1024 : Ideal.ofBits FTy.f32 1149239296#32 = ((1024 : ℝ) : EReal) := by
  simp [Ideal.ofBits, Ideal.ieee, -EReal.coe_mul]; norm_num

/-- The number minus one half. -/
theorem cNegHalf : Ideal.ofBits FTy.f32 3204448256#32 = ((-(1 / 2) : ℝ) : EReal) := by
  simp [Ideal.ofBits, Ideal.ieee, -EReal.coe_mul]; norm_num

/-- The small number is a positive real. -/
theorem cEps : ∃ e : ℝ, 0 < e ∧ Ideal.ofBits FTy.f32 925353388#32 = (e : EReal) := by
  refine ⟨_, ?_, by simp [Ideal.ofBits, Ideal.ieee, -EReal.coe_mul]; rfl⟩
  norm_num

/-- A positive real number times a sum of two. -/
theorem pos_mul_add {a : ℝ} (ha : 0 < a) (x y : EReal) : (a : EReal) * (x + y) = a * x + a * y := by
  induction x with
  | bot => simp [EReal.coe_mul_bot_of_pos ha]
  | top =>
    induction y with
    | bot => simp [EReal.coe_mul_bot_of_pos ha, EReal.coe_mul_top_of_pos ha]
    | top => simp [EReal.coe_mul_top_of_pos ha]
    | coe y => rw [EReal.top_add_coe, EReal.coe_mul_top_of_pos ha, ← EReal.coe_mul, EReal.top_add_coe]
  | coe x =>
    induction y with
    | bot => simp [EReal.coe_mul_bot_of_pos ha]
    | top => rw [EReal.coe_add_top, EReal.coe_mul_top_of_pos ha, ← EReal.coe_mul, EReal.coe_add_top]
    | coe y => norm_cast; ring

/-- A positive real number times a sum. -/
theorem pos_mul_sum {a : ℝ} (ha : 0 < a) {ι : Type} (s : Finset ι) (f : ι → EReal) :
    (a : EReal) * ∑ i ∈ s, f i = ∑ i ∈ s, a * f i := by
  classical
  induction s using Finset.induction_on with
  | empty => simp
  | insert i s hi ih => rw [Finset.sum_insert hi, Finset.sum_insert hi, pos_mul_add ha, ih]

/-- Minus a multiple is twice minus half the multiple. -/
theorem neg_two_halves {k : ℝ} (hk : 0 < k) (z : EReal) :
    -(z * (k : EReal)) = z * ((-(k / 2) : ℝ) : EReal) + z * ((-(k / 2) : ℝ) : EReal) := by
  have hn : -(k / 2) < 0 := by linarith
  induction z with
  | bot => rw [EReal.bot_mul_coe_of_pos hk, EReal.bot_mul_coe_of_neg hn]; simp
  | top => rw [EReal.top_mul_coe_of_pos hk, EReal.top_mul_coe_of_neg hn]; simp
  | coe z => norm_cast; ring

/-- A square is not negative. -/
theorem sq_nonneg' (x : EReal) : 0 ≤ x * x := by
  induction x with
  | bot => simp
  | top => simp
  | coe x => rw [← EReal.coe_mul]; exact_mod_cast mul_self_nonneg x

/-- The mean square is infinite or a positive real. -/
theorem meanSq_cases (x : ℕ → EReal) : meanSq x = ⊤ ∨ ∃ s : ℝ, 0 < s ∧ meanSq x = (s : EReal) := by
  obtain ⟨e, he, hE⟩ := cEps
  have hS : (0 : EReal) ≤ ∑ k : Fin 1024, x k.val * x k.val := Finset.sum_nonneg fun k _ => sq_nonneg' _
  have hm : meanSq x = (∑ k : Fin 1024, x k.val * x k.val) * ((1 / 1024 : ℝ) : EReal) + (e : EReal) := by
    unfold meanSq
    rw [hE, c1024, Ideal.div_coe (by norm_num)]
  rw [hm]
  generalize (∑ k : Fin 1024, x k.val * x k.val) = S at hS
  induction S with
  | bot => simp at hS
  | top => left; rw [EReal.top_mul_coe_of_pos (by norm_num)]; simp
  | coe S =>
    have hS' : 0 ≤ S := by exact_mod_cast hS
    exact .inr ⟨S * (1 / 1024) + e, by positivity, by norm_cast⟩

/-- The two forms of a row's gradient are the same. -/
theorem normDx_eq (x dy g d : ℕ → EReal) (l : ℕ) :
    normDx x dy g d l = d l + dy l * g l * rstd x + x l * sqBack x dy g + sqBack x dy g * x l := by
  unfold normDx sqBack
  rw [cNegHalf, c1024, Ideal.div_coe (by norm_num), Ideal.div_coe (by norm_num)]
  have hT : (∑ k : Fin 1024, dy k.val * g k.val * (x k.val * rstd x)) = ∑ k : Fin 1024, rstd x * (x k.val * (dy k.val * g k.val)) :=
    Finset.sum_congr rfl fun k _ => by rw [← mul_assoc, mul_comm, mul_comm (dy k.val * g k.val)]
  rw [hT]
  rcases meanSq_cases x with h | ⟨s, hs, h⟩
  · have hr : rstd x = 0 := by unfold rstd; rw [h]; simp
    rw [hr, h]
    simp [Ideal.div]
  · have hr : rstd x = (((Real.sqrt s)⁻¹ : ℝ) : EReal) := by
      unfold rstd
      rw [h]
      show (if s < 0 then (⊥ : EReal) else if s = 0 then ⊤ else (((Real.sqrt s)⁻¹ : ℝ) : EReal)) = _
      rw [if_neg (not_lt.mpr hs.le), if_neg hs.ne']
    have hq : 0 < (Real.sqrt s)⁻¹ := inv_pos.mpr (Real.sqrt_pos.mpr hs)
    have hq2 : (Real.sqrt s)⁻¹ * (Real.sqrt s)⁻¹ = 1 / s := by
      rw [← mul_inv, Real.mul_self_sqrt hs.le, one_div]
    rw [hr, h, Ideal.div_coe hs.ne', ← pos_mul_sum hq]
    generalize (Real.sqrt s)⁻¹ = q at hq hq2
    generalize (∑ k : Fin 1024, x k.val * (dy k.val * g k.val)) = T
    rw [sub_eq_add_neg, pos_mul_add hq]
    have e1 : (q : EReal) * -(x l * q * (q * T * ((1 / 1024 : ℝ) : EReal))) = -(x l * T * ((q * q * q * (1 / 1024) : ℝ) : EReal)) := by
      rw [mul_neg]
      congr 1
      push_cast
      ac_rfl
    have e2 : x l * (T * (((-(1 / 2) : ℝ) : EReal) * ((q : EReal) * ((1 / s : ℝ) : EReal))) * ((1 / 1024 : ℝ) : EReal))
        = x l * T * ((-(q * q * q * (1 / 1024) / 2) : ℝ) : EReal) := by
      rw [← hq2, show (-(q * q * q * (1 / 1024) / 2) : ℝ) = -(1 / 2) * (q * (q * q)) * (1 / 1024) by ring]
      push_cast
      ac_rfl
    rw [e1, mul_comm (T * _ * _) (x l), e2, neg_two_halves (by positivity), mul_comm (q : EReal) (dy l * g l), ← add_assoc, ← add_assoc]

/-- Numbers taken eight apart, from each of the first eight places on. -/
theorem sum_by_eight (J : ℕ) (f : ℕ → EReal) :
    ∑ p : Fin 8, ∑ i ∈ Finset.range J, f (8 * i + p.val) = ∑ n ∈ Finset.range (J * 8), f n := by
  rw [Finset.sum_comm, Finset.sum_range, ← sum_rows]
  exact Finset.sum_congr rfl fun i _ => Finset.sum_congr rfl fun p _ => by rw [mul_comm]

end Cert.Common

end
-- ==== Proof.Norm.FfnNorm.lean ====
/-
  The backward kernel of the norm before the feed-forward's first product: rows of the input's gradient in
  two formats, the gain's gradient, and the sums of the input's gradient over the rows. The kernel's run and the
  reference's run end with the same four arrays, for all inputs.
-/
module

public import proofs.«01_k».proof.Defs
public import proofs.«01_k».proof.Proof.Common.Norm
public import proofs.«01_k».proof.Proof.Gen.FfnNormIdeal.Frame
public import proofs.«01_k».proof.Proof.Gen.FfnNormRefIdeal.Run
public import proofs.«01_k».proof.Proof.Gen.FfnNormRefIdeal.Read

@[expose] public section

set_option maxRecDepth 16384

noncomputable section

open Idealize.ShloMosaic Idealize.ShloMosaic.TcCoe Idealize.SL.Sem
open Idealize.ShloMosaic.Pipeline (Dat)

namespace Cert.FfnNormSpec

open Cert.Common

/-- The arguments' shapes: rows, the cotangent of the product after the norm, its weights, the gain. -/
abbrev Rows := (⟨2, ![8192, 1024]⟩ : Shape).Idx → EReal
abbrev Cot := (⟨2, ![8192, 5632]⟩ : Shape).Idx → EReal
abbrev Wts := (⟨3, ![4, 1024, 5632]⟩ : Shape).Idx → EReal
abbrev Gain := (⟨2, ![1, 1024]⟩ : Shape).Idx → EReal

/-- The cotangent of the norm's output at row `n` and column `l`: the product with the transposed weights. -/
def dy (DP : Cot) (W : Wts) (n l : ℕ) : EReal := mulNT DP W 3 5632 n l

/-- The input's gradient. -/
def dx (X : Rows) (DP : Cot) (W : Wts) (G : Gain) (D : Rows) (n l : ℕ) : EReal :=
  normDx (rd2 X n) (dy DP W n) (rd2 G 0) (rd2 D n) l

/-- One row's part of the gain's gradient. -/
def dgRow (X : Rows) (DP : Cot) (W : Wts) (l n : ℕ) : EReal := dy DP W n l * (rd2 X n l * rstd (rd2 X n))

end Cert.FfnNormSpec

namespace Cert.FfnNormIdeal.KernelValue

open Cert.FfnNormIdeal Cert.FfnNormIdeal.Gen Cert.Common Cert.FfnNormSpec

/-! ## Half a block of rows -/

/-- The blocks one half of the body reads are the arguments' rows from `n` on. -/
structure Half (n : ℕ) (X : Rows) (DP : Cot) (W : Wts) (G : Gain) (D : Rows) (b0 : Vec Ideal S256x1024 .f32)
    (b1 : Vec Ideal S256x5632 .bf16) (b2 : Vec Ideal S1x1024x5632 .bf16) (b3 : Vec Ideal S1x1024 .f32) (b4 : Vec Ideal S256x1024 .f32) : Prop where
  h0 : ∀ (r : Fin 256) (l : Fin 1024), b0 (ix2 r l) = rd2 X (n + r.val) l.val
  h1 : ∀ (r : Fin 256) (k : Fin 5632), b1 (ix2 r k) = rd2 DP (n + r.val) k.val
  h2 : ∀ (l : Fin 1024) (k : Fin 5632), b2 (ix3 0 l k) = rd3 W 3 l.val k.val
  h3 : ∀ l : Fin 1024, b3 (ix2 0 l) = rd2 G 0 l.val
  h4 : ∀ (r : Fin 256) (l : Fin 1024), b4 (ix2 r l) = rd2 D (n + r.val) l.val

variable {n : ℕ} {X : Rows} {DP : Cot} {W : Wts} {G : Gain} {D : Rows} {b0 : Vec Ideal S256x1024 .f32}
    {b1 : Vec Ideal S256x5632 .bf16} {b2 : Vec Ideal S1x1024x5632 .bf16} {b3 : Vec Ideal S1x1024 .f32} {b4 : Vec Ideal S256x1024 .f32}

/-- One over the root of a row's mean square, first half and second half. -/
theorem pay9_half (H : Half n X DP W G D b0 b1 b2 b3 b4) (r : Fin 256) (u : Fin 1) : k0_pay9 (F := Ideal) b0 (ix2 r u) = rstd (rd2 X (n + r.val)) := by
  unfold k0_pay9
  pointwise
  simp only [H.h0]
  rfl
theorem pay16_half (H : Half n X DP W G D b0 b1 b2 b3 b4) (r : Fin 256) (u : Fin 1) : k0_pay16 (F := Ideal) b0 (ix2 r u) = rstd (rd2 X (n + r.val)) := by
  unfold k0_pay16
  pointwise
  simp only [H.h0]
  rfl

/-- The normalised rows. -/
theorem pay10_half (H : Half n X DP W G D b0 b1 b2 b3 b4) (r : Fin 256) (l : Fin 1024) :
    k0_pay10 (F := Ideal) b0 (ix2 r l) = rd2 X (n + r.val) l.val * rstd (rd2 X (n + r.val)) := by
  unfold k0_pay10
  pointwise
  rw [H.h0, pay9_half H]
theorem pay17_half (H : Half n X DP W G D b0 b1 b2 b3 b4) (r : Fin 256) (l : Fin 1024) :
    k0_pay17 (F := Ideal) b0 (ix2 r l) = rd2 X (n + r.val) l.val * rstd (rd2 X (n + r.val)) := by
  unfold k0_pay17
  pointwise
  rw [H.h0, pay16_half H]

/-- The norm's output's cotangent. -/
theorem pay11_half (H : Half n X DP W G D b0 b1 b2 b3 b4) (r : Fin 256) (l : Fin 1024) :
    k0_pay11 (F := Ideal) b1 b2 (ix2 r l) = dy DP W (n + r.val) l.val := by
  unfold k0_pay11
  pointwise
  simp only [H.h1, H.h2]
  exact mulNT_sum DP W 3 5632 _ _
theorem pay18_half (H : Half n X DP W G D b0 b1 b2 b3 b4) (r : Fin 256) (l : Fin 1024) :
    k0_pay18 (F := Ideal) b1 b2 (ix2 r l) = dy DP W (n + r.val) l.val := by
  unfold k0_pay18
  pointwise
  simp only [H.h1, H.h2]
  exact mulNT_sum DP W 3 5632 _ _

/-- The input's gradient's rows. -/
theorem pay12_half (H : Half n X DP W G D b0 b1 b2 b3 b4) (r : Fin 256) (l : Fin 1024) :
    k0_pay12 (F := Ideal) b0 b1 b2 b3 b4 (ix2 r l) = dx X DP W G D (n + r.val) l.val := by
  unfold k0_pay12
  pointwise
  simp only [pay9_half H, pay10_half H, pay11_half H, H.h3, H.h4]
  rfl
theorem pay1_half (H : Half n X DP W G D b0 b1 b2 b3 b4) (r : Fin 256) (l : Fin 1024) :
    k0_pay1 (F := Ideal) (k0_pay16 b0) b4 (k0_pay19 b0 b1 b2 b3) (ix2 r l) = dx X DP W G D (n + r.val) l.val := by
  unfold k0_pay1 k0_pay19
  pointwise
  simp only [pay16_half H, pay17_half H, pay18_half H, H.h3, H.h4]
  rfl

/-! ## A whole block of rows -/

variable {c0 : Vec Ideal S256x1024 .f32} {c1 : Vec Ideal S256x5632 .bf16} {c4 : Vec Ideal S256x1024 .f32}

/-- Rows eight apart, from row `n + p` on. -/
theorem eight_apart (f : ℕ → EReal) (n i p : ℕ) (h : n = 8 * i) : ∑ x : Fin 32, f (n + (x.val * 8 + p)) = ∑ j ∈ Finset.range 32, f (8 * (i + j) + p) := by
  rw [Finset.sum_range]
  exact Finset.sum_congr rfl fun x _ => congrArg f (by omega)

/-- Two halves of a block's rows, added to the rows before them. -/
theorem two_halves (f : ℕ → EReal) (a : EReal) (t p : ℕ) (ha : a = ∑ i ∈ Finset.range (64 * t), f (8 * i + p)) :
    a + (∑ x : Fin 32, f (512 * t + (x.val * 8 + p)) + ∑ x : Fin 32, f (512 * t + 256 + (x.val * 8 + p)))
      = ∑ i ∈ Finset.range (64 * (t + 1)), f (8 * i + p) := by
  rw [eight_apart f (512 * t) (64 * t) p (by omega), eight_apart f (512 * t + 256) (64 * t + 32) p (by omega), ha,
    show 64 * (t + 1) = 64 * t + 32 + 32 by omega, Finset.sum_range_add, Finset.sum_range_add, add_assoc]

/-- The gain's gradient's buffer after a block's two halves. -/
theorem pay3_block {t : ℕ} (H : Half (512 * t) X DP W G D b0 b1 b2 b3 b4) (H' : Half (512 * t + 256) X DP W G D c0 c1 b2 b3 c4)
    (acc : Vec Ideal S8x1024 .f32) (p : Fin 8) (l : Fin 1024)
    (ha : acc (ix2 p l) = ∑ i ∈ Finset.range (64 * t), dgRow X DP W l.val (8 * i + p.val)) :
    k0_pay3 (F := Ideal) (k0_pay14 (k0_pay7 (F := Ideal)) (k0_pay10 b0) (k0_pay11 b1 b2)) (k0_pay17 c0) (k0_pay18 c1 b2) acc (ix2 p l)
      = ∑ i ∈ Finset.range (64 * (t + 1)), dgRow X DP W l.val (8 * i + p.val) := by
  refine Eq.trans ?_ (two_halves (dgRow X DP W l.val) _ t p.val ha)
  unfold k0_pay3 k0_pay14 k0_pay7
  pointwise
  simp only [pay10_half H, pay11_half H, pay17_half H', pay18_half H']
  rfl

/-- The column sums' buffer after a block's two halves. -/
theorem pay4_block {t : ℕ} (H : Half (512 * t) X DP W G D b0 b1 b2 b3 b4) (H' : Half (512 * t + 256) X DP W G D c0 c1 b2 b3 c4)
    (acc : Vec Ideal S8x1024 .f32) (p : Fin 8) (l : Fin 1024)
    (ha : acc (ix2 p l) = ∑ i ∈ Finset.range (64 * t), dx X DP W G D (8 * i + p.val) l.val) :
    k0_pay4 (F := Ideal) (k0_pay15 (k0_pay8 (F := Ideal)) (k0_pay12 b0 b1 b2 b3 b4)) (k0_pay16 c0) c4 (k0_pay19 c0 c1 b2 b3) acc (ix2 p l)
      = ∑ i ∈ Finset.range (64 * (t + 1)), dx X DP W G D (8 * i + p.val) l.val := by
  refine Eq.trans ?_ (two_halves (fun n => dx X DP W G D n l.val) _ t p.val ha)
  unfold k0_pay4 k0_pay15 k0_pay8
  pointwise
  simp only [pay12_half H, pay1_half H']

/-- The zero blocks. -/
theorem pay5_eq (j : S8x1024.Idx) : k0_pay5 (F := Ideal) j = 0 := by
  unfold k0_pay5
  pointwise
theorem pay6_eq (j : S8x1024.Idx) : k0_pay6 (F := Ideal) j = 0 := by
  unfold k0_pay6
  pointwise

/-! ## The grid -/

variable (m : (ℓ : Loc nD τ sig) → Buf (Elt Ideal) ℓ) (ρ : Dev nD → PrngReg)

/-- The rows, the cotangent, the weights, the gain, and the gradient that is added. -/
abbrev argX (c : Dev nD) : Rows := m ((c : Thread nD τ).loc main_arg0)
abbrev argDP (c : Dev nD) : Cot := m ((c : Thread nD τ).loc main_arg1)
abbrev argW (c : Dev nD) : Wts := m ((c : Thread nD τ).loc main_arg2)
abbrev argG (c : Dev nD) : Gain := m ((c : Thread nD τ).loc main_arg3)
abbrev argD (c : Dev nD) : Rows := m ((c : Thread nD τ).loc main_arg4)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 3 ∧ win0_2.index t 1 = 0 ∧ win0_2.index t 2 = 0 :=
  (by decide +kernel : ∀ t : Fin grid0.N, win0_2.index t 0 = 3 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

/-- The half of a point's blocks from their row `a` on. -/
theorem half (c : Dev nD) (t : Fin cfg0.N) (a : ℕ) (inb0 : ∀ k, (![a, 0] : Fin 2 → ℕ) k + (![256, 1024] : Fin 2 → ℕ) k ≤ S512x1024.size k)
    (inb1 : ∀ k, (![a, 0] : Fin 2 → ℕ) k + (![256, 5632] : Fin 2 → ℕ) k ≤ S512x5632.size k)
    (inb2 : ∀ k, (![0, 0, 0] : Fin 3 → ℕ) k + (![1, 1024, 5632] : Fin 3 → ℕ) k ≤ S1x1024x5632.size k)
    (inb3 : ∀ k, (![0, 0] : Fin 2 → ℕ) k + (![1, 1024] : Fin 2 → ℕ) k ≤ S1x1024.size k) :
    Half (512 * t.val + a) (argX m c) (argDP m c) (argW m c) (argG m c) (argD m c)
      (View.ld (iblk m c 0 t) (Rect.unit (s := S512x1024) ![a, 0] ![256, 1024] inb0))
      (View.ld (iblk m c 1 t) (Rect.unit (s := S512x5632) ![a, 0] ![256, 5632] inb1))
      (View.ld (iblk m c 2 t) (Rect.unit (s := S1x1024x5632) ![0, 0, 0] ![1, 1024, 5632] inb2))
      (View.ld (iblk m c 3 t) (Rect.unit (s := S1x1024) ![0, 0] ![1, 1024] inb3))
      (View.ld (iblk m c 4 t) (Rect.unit (s := S512x1024) ![a, 0] ![256, 1024] inb0)) := by
  constructor
  · intro r l
    show iblk m c 0 t _ = _
    unfold iblk
    rw [View.read_apply]
    refine (eq_rd2' (argX m c) _).trans (rd2_congr _ ?_ ?_)
    · show win0_0.index t 0 * 512 + 1 * (a + 1 * r.val) = 512 * t.val + a + r.val; rw [(index0 t).1]; omega
    · show win0_0.index t 1 * 1024 + 1 * (0 + 1 * l.val) = l.val; rw [(index0 t).2]; omega
  · intro r k
    show iblk m c 1 t _ = _
    unfold iblk
    rw [View.read_apply]
    refine (eq_rd2' (argDP m c) _).trans (rd2_congr _ ?_ ?_)
    · show win0_1.index t 0 * 512 + 1 * (a + 1 * r.val) = 512 * t.val + a + r.val; rw [(index1 t).1]; omega
    · show win0_1.index t 1 * 5632 + 1 * (0 + 1 * k.val) = k.val; rw [(index1 t).2]; omega
  · intro l k
    show iblk m c 2 t _ = _
    unfold iblk
    rw [View.read_apply]
    refine (eq_rd3' (argW m c) _).trans (rd3_congr _ ?_ ?_ ?_)
    · show win0_2.index t 0 * 1 + 1 * (0 + 1 * 0) = 3; rw [(index2 t).1]
    · show win0_2.index t 1 * 1024 + 1 * (0 + 1 * l.val) = l.val; rw [(index2 t).2.1]; omega
    · show win0_2.index t 2 * 5632 + 1 * (0 + 1 * k.val) = k.val; rw [(index2 t).2.2]; omega
  · intro l
    show iblk m c 3 t _ = _
    unfold iblk
    rw [View.read_apply]
    refine (eq_rd2' (argG m c) _).trans (rd2_congr _ ?_ ?_)
    · show win0_3.index t 0 * 1 + 1 * (0 + 1 * 0) = 0; rw [(index3 t).1]
    · show win0_3.index t 1 * 1024 + 1 * (0 + 1 * l.val) = l.val; rw [(index3 t).2]; omega
  · intro r l
    show iblk m c 4 t _ = _
    unfold iblk
    rw [View.read_apply]
    refine (eq_rd2' (argD m c) _).trans (rd2_congr _ ?_ ?_)
    · show win0_4.index t 0 * 512 + 1 * (a + 1 * r.val) = 512 * t.val + a + r.val; rw [(index4 t).1]; omega
    · show win0_4.index t 1 * 1024 + 1 * (0 + 1 * l.val) = l.val; rw [(index4 t).2]; omega

/-! ## What a grid point leaves -/

/-- The input's gradient's rows, in the first format. -/
theorem outs5 (c : Dev nD) (t : Fin cfg0.N) (r : Fin 512) (l : Fin 1024) :
    (outsAt0 (F := Ideal) m c t.val t.isLt).1 (ix2 r l)
      = dx (argX m c) (argDP m c) (argW m c) (argG m c) (argD m c) (512 * t.val + r.val) l.val := by
  have hr := r.isLt
  have hl := l.isLt
  by_cases h0 : t.val % 16 = 0
  · rw [outsAt0_A m c t h0]
    dsimp only
    unfold out0_A_5
    rw [View.read_writes_eq_canon _ _ _ (cover0_A_5 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _
  · rw [outsAt0_B m c t h0]
    dsimp only
    unfold out0_B_5
    rw [View.read_writes_eq_canon _ _ _ (cover0_B_5 c _ _ _ _ _ _ _ _ _ _ _ _ _ _ _ _ _ _ _ _ _ _ _ _ _ _ _)]
    unfold kernelRun0_B
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _

/-- The same rows in the second format. -/
theorem outs6 (c : Dev nD) (t : Fin cfg0.N) (r : Fin 512) (l : Fin 1024) :
    (outsAt0 (F := Ideal) m c t.val t.isLt).2.1 (ix2 r l)
      = dx (argX m c) (argDP m c) (argW m c) (argG m c) (argD m c) (512 * t.val + r.val) l.val := by
  have hr := r.isLt
  have hl := l.isLt
  by_cases h0 : t.val % 16 = 0
  · rw [outsAt0_A m c t h0]
    dsimp only
    unfold out0_A_6
    rw [View.read_writes_eq_canon _ _ _ (cover0_A_6 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _
  · rw [outsAt0_B m c t h0]
    dsimp only
    unfold out0_B_6
    rw [View.read_writes_eq_canon _ _ _ (cover0_B_6 c _ _ _ _ _ _ _ _ _ _ _ _ _ _ _ _ _ _ _ _ _ _ _ _ _ _ _)]
    unfold kernelRun0_B
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _

/-- The gain's gradient's buffer after grid point `n`: the parts of the rows so far, eight apart. -/
theorem outs7 (c : Dev nD) (p : Fin 8) (l : Fin 1024) : ∀ (n : ℕ) (hn : n < cfg0.N),
    (outsAt0 (F := Ideal) m c n hn).2.2.1 (ix2 p l)
      = ∑ i ∈ Finset.range (64 * (n + 1)), dgRow (argX m c) (argDP m c) (argW m c) l.val (8 * i + p.val)
  | 0, hn => by
    have hp := p.isLt
    have hl := l.isLt
    rw [outsAt0_A m c ⟨0, hn⟩ rfl]
    dsimp only
    unfold out0_A_7
    rw [View.read_writes_eq_canon _ _ _ (cover0_A_7 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay3_block (half m c ⟨0, hn⟩ 0 _ _ _ inb_S1x1024_S1x1024_0_0) (half m c ⟨0, hn⟩ 256 _ _ _ inb_S1x1024_S1x1024_0_0) _ _ _ ?_
    rw [readCov_unit2, canon_unit2, dif_pos (by simp), pay5_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs7 c p l n (Nat.lt_of_succ_lt hn)
    rw [outsAt0_B m c ⟨n + 1, hn⟩ h0]
    dsimp only
    unfold out0_B_7
    unfold kernelRun0_B
    dsimp only
    sl_unfold_words
    simp only [View.readAt_eq_ld, Memref.IsWhole.read_unread]
    rw [read_writes_unit2, dif_pos (by omega)]
    refine pay3_block (half m c ⟨n + 1, hn⟩ 0 _ _ _ inb_S1x1024_S1x1024_0_0) (half m c ⟨n + 1, hn⟩ 256 _ _ _ inb_S1x1024_S1x1024_0_0) _ _ _ ?_
    rw [ld_zero2]
    exact ih

/-- The column sums' buffer after grid point `n`. -/
theorem outs8 (c : Dev nD) (p : Fin 8) (l : Fin 1024) : ∀ (n : ℕ) (hn : n < cfg0.N),
    (outsAt0 (F := Ideal) m c n hn).2.2.2 (ix2 p l)
      = ∑ i ∈ Finset.range (64 * (n + 1)), dx (argX m c) (argDP m c) (argW m c) (argG m c) (argD m c) (8 * i + p.val) l.val
  | 0, hn => by
    have hp := p.isLt
    have hl := l.isLt
    rw [outsAt0_A m c ⟨0, hn⟩ rfl]
    dsimp only
    unfold out0_A_8
    rw [View.read_writes_eq_canon _ _ _ (cover0_A_8 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay4_block (half m c ⟨0, hn⟩ 0 _ _ _ _) (half m c ⟨0, hn⟩ 256 _ _ _ _) _ _ _ ?_
    rw [readCov_unit2, canon_unit2, dif_pos (by simp), pay6_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs8 c p l n (Nat.lt_of_succ_lt hn)
    rw [outsAt0_B m c ⟨n + 1, hn⟩ h0]
    dsimp only
    unfold out0_B_8
    unfold kernelRun0_B
    dsimp only
    sl_unfold_words
    simp only [View.readAt_eq_ld, Memref.IsWhole.read_unread]
    rw [read_writes_unit2, dif_pos (by omega)]
    refine pay4_block (half m c ⟨n + 1, hn⟩ 0 _ _ _ _) (half m c ⟨n + 1, hn⟩ 256 _ _ _ _) _ _ _ ?_
    rw [ld_zero2]
    exact ih

/-! ## The arrays -/

/-- The input's gradient as an array. -/
def dxArr (X : Rows) (DP : Cot) (W : Wts) (G : Gain) (D : Rows) : Vec Ideal S8192x1024 .f32 := fun j => dx X DP W G D (j 0).val (j 1).val
def dxbArr (X : Rows) (DP : Cot) (W : Wts) (G : Gain) (D : Rows) : Vec Ideal S8192x1024 .bf16 := fun j => dx X DP W G D (j 0).val (j 1).val
/-- The gain's gradient and the column sums, their rows still eight apart. -/
def dg8 (X : Rows) (DP : Cot) (W : Wts) : Vec Ideal S8x1024 .f32 := fun j =>
  ∑ i ∈ Finset.range 1024, dgRow X DP W (j 1).val (8 * i + (j 0).val)
def cs8 (X : Rows) (DP : Cot) (W : Wts) (G : Gain) (D : Rows) : Vec Ideal S8x1024 .f32 := fun j =>
  ∑ i ∈ Finset.range 1024, dx X DP W G D (8 * i + (j 0).val) (j 1).val
/-- The gain's gradient and the column sums as arrays. -/
def dgArr (X : Rows) (DP : Cot) (W : Wts) : Vec Ideal S1024 .f32 := fun j => ∑ n ∈ Finset.range 8192, dgRow X DP W (j 0).val n
def csArr (X : Rows) (DP : Cot) (W : Wts) (G : Gain) (D : Rows) : Vec Ideal S1024 .f32 := fun j =>
  ∑ n ∈ Finset.range 8192, dx X DP W G D n (j 0).val

/-- The first result array. -/
theorem final5 (c : Dev nD) : (dats m 0 c).arrAt 5 cfg0.N = dxArr (argX m c) (argDP m c) (argW m c) (argG m c) (argD m c) := by
  have hN : cfg0.N = 16 := N_0
  refine (dats m 0 c).arrAt_eq_of_cover 5 _ (fun t _ => ?_) fun i => ?_
  · show (cfg0.win 5).cut (grid0.coords t) ((dats m 0 c).after 5 t) = _
    rw [after0_5]
    funext j
    obtain ⟨r, l, hj⟩ : ∃ (r : Fin 512) (l : Fin 1024), j = ix2 r l := ⟨j 0, j 1, eq_ix2 j⟩
    rw [hj]
    show (outsAt0 m c t.val t.isLt).1 (ix2 r l) = dxArr _ _ _ _ _ (((cfg0.win 5).blk t).view.emb (ix2 r l))
    refine (outs5 m c t r l).trans ?_
    unfold dxArr
    refine congr (congrArg _ ?_) ?_
    · show 512 * t.val + r.val = win0_5.index t 0 * 512 + 1 * r.val; rw [(index5 t).1]; omega
    · show l.val = win0_5.index t 1 * 1024 + 1 * l.val; rw [(index5 t).2]; omega
  · have h0 : (i 0 : Nat) < 8192 := (i 0).isLt
    have h1 : (i 1 : Nat) < 1024 := (i 1).isLt
    let p : Fin cfg0.N := ⟨(i 0).val / 512, by omega⟩
    refine ⟨p, flush0_5 _, ?_⟩
    show i ∈ ((View.whole main_v0_0).slice (win0_5.rect p)).set
    rw [View.set_slice_whole, Rect.mem_set_unit]
    intro a
    match a with
    | ⟨0, _⟩ =>
      show win0_5.index p 0 * 512 ≤ (i 0 : Nat) ∧ (i 0 : Nat) < win0_5.index p 0 * 512 + 512
      rw [(index5 p).1]; show (i 0).val / 512 * 512 ≤ (i 0 : Nat) ∧ (i 0 : Nat) < (i 0).val / 512 * 512 + 512; omega
    | ⟨1, _⟩ =>
      show win0_5.index p 1 * 1024 ≤ (i 1 : Nat) ∧ (i 1 : Nat) < win0_5.index p 1 * 1024 + 1024
      rw [(index5 p).2]; omega

/-- The second result array. -/
theorem final6 (c : Dev nD) : (dats m 0 c).arrAt 6 cfg0.N = dxbArr (argX m c) (argDP m c) (argW m c) (argG m c) (argD m c) := by
  have hN : cfg0.N = 16 := N_0
  refine (dats m 0 c).arrAt_eq_of_cover 6 _ (fun t _ => ?_) fun i => ?_
  · show (cfg0.win 6).cut (grid0.coords t) ((dats m 0 c).after 6 t) = _
    rw [after0_6]
    funext j
    obtain ⟨r, l, hj⟩ : ∃ (r : Fin 512) (l : Fin 1024), j = ix2 r l := ⟨j 0, j 1, eq_ix2 j⟩
    rw [hj]
    show (outsAt0 m c t.val t.isLt).2.1 (ix2 r l) = dxbArr _ _ _ _ _ (((cfg0.win 6).blk t).view.emb (ix2 r l))
    refine (outs6 m c t r l).trans ?_
    unfold dxbArr
    refine congr (congrArg _ ?_) ?_
    · show 512 * t.val + r.val = win0_6.index t 0 * 512 + 1 * r.val; rw [(index6 t).1]; omega
    · show l.val = win0_6.index t 1 * 1024 + 1 * l.val; rw [(index6 t).2]; omega
  · have h0 : (i 0 : Nat) < 8192 := (i 0).isLt
    have h1 : (i 1 : Nat) < 1024 := (i 1).isLt
    let p : Fin cfg0.N := ⟨(i 0).val / 512, by omega⟩
    refine ⟨p, flush0_6 _, ?_⟩
    show i ∈ ((View.whole main_v0_1).slice (win0_6.rect p)).set
    rw [View.set_slice_whole, Rect.mem_set_unit]
    intro a
    match a with
    | ⟨0, _⟩ =>
      show win0_6.index p 0 * 512 ≤ (i 0 : Nat) ∧ (i 0 : Nat) < win0_6.index p 0 * 512 + 512
      rw [(index6 p).1]; show (i 0).val / 512 * 512 ≤ (i 0 : Nat) ∧ (i 0 : Nat) < (i 0).val / 512 * 512 + 512; omega
    | ⟨1, _⟩ =>
      show win0_6.index p 1 * 1024 ≤ (i 1 : Nat) ∧ (i 1 : Nat) < win0_6.index p 1 * 1024 + 1024
      rw [(index6 p).2]; omega

/-- The third window's array, its rows eight apart. -/
theorem final7 (c : Dev nD) : (dats m 0 c).arrAt 7 cfg0.N = dg8 (argX m c) (argDP m c) (argW m c) := by
  have hN : cfg0.N = 16 := N_0
  refine (dats m 0 c).arrAt_eq_of_cover 7 _ (fun t hf => ?_) fun i => ?_
  · have h15 : t.val = 15 := by
      have h := (flush0_7 t).mp hf
      omega
    show (cfg0.win 7).cut (grid0.coords t) ((dats m 0 c).after 7 t) = _
    rw [after0_7]
    funext j
    obtain ⟨r, l, hj⟩ : ∃ (r : Fin 8) (l : Fin 1024), j = ix2 r l := ⟨j 0, j 1, eq_ix2 j⟩
    rw [hj]
    show (outsAt0 m c t.val t.isLt).2.2.1 (ix2 r l) = dg8 _ _ _ (((cfg0.win 7).blk t).view.emb (ix2 r l))
    refine (outs7 m c r l t.val t.isLt).trans ?_
    have e0 : ((((cfg0.win 7).blk t).view.emb (ix2 r l)) 0).val = r.val := by
      show win0_7.index t 0 * 8 + 1 * r.val = r.val; rw [(index7 t).1]; omega
    have e1 : ((((cfg0.win 7).blk t).view.emb (ix2 r l)) 1).val = l.val := by
      show win0_7.index t 1 * 1024 + 1 * l.val = l.val; rw [(index7 t).2]; omega
    unfold dg8
    rw [h15]
    refine Finset.sum_congr rfl fun i _ => ?_
    exact congr (congrArg (dgRow (argX m c) (argDP m c) (argW m c)) e1.symm) (congrArg (8 * i + ·) e0.symm)
  · have h0 : (i 0 : Nat) < 8 := (i 0).isLt
    have h1 : (i 1 : Nat) < 1024 := (i 1).isLt
    let p : Fin cfg0.N := ⟨15, by omega⟩
    refine ⟨p, (flush0_7 _).mpr rfl, ?_⟩
    show i ∈ ((View.whole main_v0_2).slice (win0_7.rect p)).set
    rw [View.set_slice_whole, Rect.mem_set_unit]
    intro a
    match a with
    | ⟨0, _⟩ =>
      show win0_7.index p 0 * 8 ≤ (i 0 : Nat) ∧ (i 0 : Nat) < win0_7.index p 0 * 8 + 8
      rw [(index7 p).1]; omega
    | ⟨1, _⟩ =>
      show win0_7.index p 1 * 1024 ≤ (i 1 : Nat) ∧ (i 1 : Nat) < win0_7.index p 1 * 1024 + 1024
      rw [(index7 p).2]; omega

/-- The fourth window's array, its rows eight apart. -/
theorem final8 (c : Dev nD) : (dats m 0 c).arrAt 8 cfg0.N = cs8 (argX m c) (argDP m c) (argW m c) (argG m c) (argD m c) := by
  have hN : cfg0.N = 16 := N_0
  refine (dats m 0 c).arrAt_eq_of_cover 8 _ (fun t hf => ?_) fun i => ?_
  · have h15 : t.val = 15 := by
      have h := (flush0_8 t).mp hf
      omega
    show (cfg0.win 8).cut (grid0.coords t) ((dats m 0 c).after 8 t) = _
    rw [after0_8]
    funext j
    obtain ⟨r, l, hj⟩ : ∃ (r : Fin 8) (l : Fin 1024), j = ix2 r l := ⟨j 0, j 1, eq_ix2 j⟩
    rw [hj]
    show (outsAt0 m c t.val t.isLt).2.2.2 (ix2 r l) = cs8 _ _ _ _ _ (((cfg0.win 8).blk t).view.emb (ix2 r l))
    refine (outs8 m c r l t.val t.isLt).trans ?_
    have e0 : ((((cfg0.win 8).blk t).view.emb (ix2 r l)) 0).val = r.val := by
      show win0_8.index t 0 * 8 + 1 * r.val = r.val; rw [(index8 t).1]; omega
    have e1 : ((((cfg0.win 8).blk t).view.emb (ix2 r l)) 1).val = l.val := by
      show win0_8.index t 1 * 1024 + 1 * l.val = l.val; rw [(index8 t).2]; omega
    unfold cs8
    rw [h15]
    refine Finset.sum_congr rfl fun i _ => ?_
    exact congr (congrArg (dx (argX m c) (argDP m c) (argW m c) (argG m c) (argD m c)) (congrArg (8 * i + ·) e0.symm)) e1.symm
  · have h0 : (i 0 : Nat) < 8 := (i 0).isLt
    have h1 : (i 1 : Nat) < 1024 := (i 1).isLt
    let p : Fin cfg0.N := ⟨15, by omega⟩
    refine ⟨p, (flush0_8 _).mpr rfl, ?_⟩
    show i ∈ ((View.whole main_v0_3).slice (win0_8.rect p)).set
    rw [View.set_slice_whole, Rect.mem_set_unit]
    intro a
    match a with
    | ⟨0, _⟩ =>
      show win0_8.index p 0 * 8 ≤ (i 0 : Nat) ∧ (i 0 : Nat) < win0_8.index p 0 * 8 + 8
      rw [(index8 p).1]; omega
    | ⟨1, _⟩ =>
      show win0_8.index p 1 * 1024 ≤ (i 1 : Nat) ∧ (i 1 : Nat) < win0_8.index p 1 * 1024 + 1024
      rw [(index8 p).2]; omega

/-- The host's sum of the eight rows of the gain's gradient. -/
theorem sum7 (X : Rows) (DP : Cot) (W : Wts) :
    Host.reduceAdd (F := Ideal) (dg8 X DP W) (constant S_ .f32 0x00000000#32) reducesTo_S8x1024_S1024_d0 h_S_ = dgArr X DP W := by
  funext j
  obtain ⟨l, rfl⟩ : ∃ l : Fin 1024, j = ix1 l := ⟨j 0, eq_ix1 j⟩
  pointwise
  unfold dg8
  exact sum_by_eight 1024 (dgRow X DP W l.val)

/-- The host's sum of the eight rows of the column sums. -/
theorem sum8 (X : Rows) (DP : Cot) (W : Wts) (G : Gain) (D : Rows) :
    Host.reduceAdd (F := Ideal) (cs8 X DP W G D) (constant S_ .f32 0x00000000#32) reducesTo_S8x1024_S1024_d0 h_S_ = csArr X DP W G D := by
  funext j
  obtain ⟨l, rfl⟩ : ∃ l : Fin 1024, j = ix1 l := ⟨j 0, eq_ix1 j⟩
  pointwise
  unfold cs8
  exact sum_by_eight 1024 (fun n => dx X DP W G D n l.val)

/-- What the host's lines after the grid leave in the third and the fourth result. -/
theorem after7 (c : Dev nD) : Pipeline.afterTail₀ cfgs (dats m) 0 (V0 m) [hostOps1] c main_v1
    = dgArr (argX m c) (argDP m c) (argW m c) := by
  have h := Pipeline.withArrays_arr spec0 (by decide) c (V0 m c) (fun w => (dats m 0 c).arrAt w cfg0.N) 7
  rw [← sum7, ← final7 m c, ← h]
  rfl
theorem after8 (c : Dev nD) : Pipeline.afterTail₀ cfgs (dats m) 0 (V0 m) [hostOps1] c main_v2
    = csArr (argX m c) (argDP m c) (argW m c) (argG m c) (argD m c) := by
  have h := Pipeline.withArrays_arr spec0 (by decide) c (V0 m c) (fun w => (dats m 0 c).arrAt w cfg0.N) 8
  rw [← sum8, ← final8 m c, ← h]
  rfl

/-- The run: the four results, and the arguments unchanged. -/
theorem run : θ_run defs (onTc (τ := τ) (main (F := Ideal))) ⟨m, fun _ => 0, ρ⟩ fun r => ∀ c : Dev nD,
      r.2.mem ((c : Thread nD τ).loc main_v0_0) = dxArr (argX m c) (argDP m c) (argW m c) (argG m c) (argD m c)
      ∧ r.2.mem ((c : Thread nD τ).loc main_v0_1) = dxbArr (argX m c) (argDP m c) (argW m c) (argG m c) (argD m c)
      ∧ r.2.mem ((c : Thread nD τ).loc main_v1) = dgArr (argX m c) (argDP m c) (argW m c)
      ∧ r.2.mem ((c : Thread nD τ).loc main_v2) = csArr (argX m c) (argDP m c) (argW m c) (argG m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h.1 c).1 5).trans (final5 m c), ((h.1 c).1 6).trans (final6 m c), ((h.1 c).2 main_v1 (by decide)).trans (after7 m c),
      ((h.1 c).2 main_v2 (by decide)).trans (after8 m c), h.2 c⟩)
    (θ_run_and (run_main m ρ) (unchanged m ρ))

end Cert.FfnNormIdeal.KernelValue

/-! ## The reference -/

namespace Cert.FfnNormRefIdeal.RefValue

open Cert.FfnNormRefIdeal Cert.FfnNormRefIdeal.Read Cert.Common Cert.FfnNormSpec

variable (x0 : Rows) (x1 : Cot) (x2 : Wts) (x3 : Gain) (x4 : Rows)

/-- The mean square of a row, and one over its root. -/
theorem v7_eq (r : Fin 8192) (u : Fin 1) : val_main_v7 (F := Ideal) x0 (ix2 r u) = meanSq (rd2 x0 r.val) := by
  unfold val_main_v7 val_main_v6 val_main_cst_1 val_main_v5 val_main_v4 val_main_cst_0 val_main_v3 val_main_v2 val_main_cst val_main_v1
  pointwise
  simp only [eq_rd2 x0]
  rfl
theorem v8_eq (r : Fin 8192) (u : Fin 1) : val_main_v8 (F := Ideal) x0 (ix2 r u) = rstd (rd2 x0 r.val) := by
  unfold val_main_v8
  pointwise
  rw [v7_eq]
  rfl

/-- The norm's output's cotangent. -/
theorem v22_eq (r : Fin 8192) (l : Fin 1024) : val_main_v22 (F := Ideal) x1 x2 (ix2 r l) = dy x1 x2 r.val l.val := by
  unfold val_main_v22 val_main_v21 val_main_v19 val_main_v18 val_main_v17
  pointwise
  simp only [eq_rd2 x1, eq_rd3 x2]
  exact mulNT_sum x1 x2 3 5632 _ _

/-- The input's gradient. -/
theorem v43_eq (r : Fin 8192) (l : Fin 1024) : val_main_v43 (F := Ideal) x0 x1 x2 x3 x4 (ix2 r l) = dx x0 x1 x2 x3 x4 r.val l.val := by
  unfold val_main_v43 val_main_v42 val_main_v41 val_main_v40 val_main_v39 val_main_v38 val_main_v37 val_main_v36 val_main_v35 val_main_v34 val_main_v33 val_main_v32 val_main_v31 val_main_v30 val_main_v29 val_main_v27 val_main_v26 val_main_v11 val_main_v14 val_main_v10 val_main_v9 val_main_v0 val_main_cst_7 val_main_cst_6 val_main_cst_5 val_main_cst_2
  pointwise
  simp only [v8_eq, v7_eq, v22_eq, eq_rd2 x0, eq_rd2 x3, eq_rd2 x4, Fintype.sum_unique]
  exact (normDx_eq (rd2 x0 r.val) (dy x1 x2 r.val) (rd2 x3 0) (rd2 x4 r.val) l.val).symm

/-- The column sums. -/
theorem v45_eq (l : Fin 1024) : val_main_v45 (F := Ideal) x0 x1 x2 x3 x4 (ix1 l) = ∑ n ∈ Finset.range 8192, dx x0 x1 x2 x3 x4 n l.val := by
  unfold val_main_v45 val_main_cst_8
  pointwise
  simp only [v43_eq]
  exact (Finset.sum_range fun n => dx x0 x1 x2 x3 x4 n l.val).symm

/-- The gain's gradient. -/
theorem v28_eq (l : Fin 1024) : val_main_v28 (F := Ideal) x0 x1 x2 (ix1 l) = ∑ n ∈ Finset.range 8192, dgRow x0 x1 x2 l.val n := by
  unfold val_main_v28 val_main_v25 val_main_v24 val_main_v23 val_main_v13 val_main_v12 val_main_cst_4 val_main_cst_3
  pointwise
  simp only [v8_eq, v22_eq, eq_rd2 x0, Fintype.sum_unique]
  rw [Finset.sum_range]
  exact Finset.sum_congr rfl fun n _ => mul_comm _ _

end Cert.FfnNormRefIdeal.RefValue

namespace Cert.FfnNormClaim

open Cert.Common Cert.FfnNormSpec Cert.FfnNormIdeal.KernelValue Cert.FfnNormRefIdeal.RefValue Cert.FfnNormRefIdeal.Read

/-- The reference's results as arrays. -/
theorem ref_dx (X : Rows) (DP : Cot) (W : Wts) (G : Gain) (D : Rows) : val_main_v43 (F := Ideal) X DP W G D = dxArr X DP W G D := by
  funext j
  obtain ⟨r, l, rfl⟩ : ∃ (r : Fin 8192) (l : Fin 1024), j = ix2 r l := ⟨j 0, j 1, eq_ix2 j⟩
  exact v43_eq X DP W G D r l
theorem ref_dxb (X : Rows) (DP : Cot) (W : Wts) (G : Gain) (D : Rows) : val_main_v44 (F := Ideal) X DP W G D = dxbArr X DP W G D := by
  funext j
  obtain ⟨r, l, rfl⟩ : ∃ (r : Fin 8192) (l : Fin 1024), j = ix2 r l := ⟨j 0, j 1, eq_ix2 j⟩
  exact v43_eq X DP W G D r l
theorem ref_dg (X : Rows) (DP : Cot) (W : Wts) : val_main_v28 (F := Ideal) X DP W = dgArr X DP W := by
  funext j
  obtain ⟨l, rfl⟩ : ∃ l : Fin 1024, j = ix1 l := ⟨j 0, eq_ix1 j⟩
  exact v28_eq X DP W l
theorem ref_cs (X : Rows) (DP : Cot) (W : Wts) (G : Gain) (D : Rows) : val_main_v45 (F := Ideal) X DP W G D = csArr X DP W G D := by
  funext j
  obtain ⟨l, rfl⟩ : ∃ l : Fin 1024, j = ix1 l := ⟨j 0, eq_ix1 j⟩
  exact v45_eq X DP W G D l

/-- Both programs end with the same four arrays. -/
theorem algebraic : Cert.algebraic_FfnNormIdeal_FfnNormRefIdeal (hFfnNormIdeal := Cert.FfnNormIdeal.Gen.facts)
    (hFfnNormRefIdeal := Cert.FfnNormRefIdeal.Gen.facts) := fun m g m' g' _ hag =>
  ⟨fun c => dxArr (argX m c) (argDP m c) (argW m c) (argG m c) (argD m c),
    fun c => dxbArr (argX m c) (argDP m c) (argW m c) (argG m c) (argD m c),
    fun c => dgArr (argX m c) (argDP m c) (argW m c),
    fun c => csArr (argX m c) (argDP m c) (argW m c) (argG m c) (argD m c), run m g,
    (θ_run _ _ _).mono (fun _ h c => by
      obtain ⟨e0, e1, e2, e3, e4⟩ := hag c
      obtain ⟨h0, h1, h2, h3, h4⟩ := h c
      refine ⟨h0.trans ?_, h1.trans ?_, h2.trans ?_, h3.trans ?_, h4⟩
      · rw [val_main_v43_eq, e0, e1, e2, e3, e4]
        exact ref_dx _ _ _ _ _
      · rw [val_main_v44_eq, e0, e1, e2, e3, e4]
        exact ref_dxb _ _ _ _ _
      · rw [val_main_v28_eq, e0, e1, e2]
        exact ref_dg _ _ _
      · rw [val_main_v45_eq, e0, e1, e2, e3, e4]
        exact ref_cs _ _ _ _ _) (Cert.FfnNormRefIdeal.Value.run m' g')⟩

end Cert.FfnNormClaim

end
-- ==== Proof.Norm.ConvNorm.lean ====
/-
  The backward kernel of the norm before the convolution's first product: rows of the input's gradient in
  two formats, the gain's gradient, and the sums of the input's gradient over the rows. The kernel's run and the
  reference's run end with the same four arrays, for all inputs.
-/
module

public import proofs.«01_k».proof.Defs
public import proofs.«01_k».proof.Proof.Common.Norm
public import proofs.«01_k».proof.Proof.Gen.ConvNormIdeal.Frame
public import proofs.«01_k».proof.Proof.Gen.ConvNormRefIdeal.Run
public import proofs.«01_k».proof.Proof.Gen.ConvNormRefIdeal.Read

@[expose] public section

set_option maxRecDepth 16384

noncomputable section

open Idealize.ShloMosaic Idealize.ShloMosaic.TcCoe Idealize.SL.Sem
open Idealize.ShloMosaic.Pipeline (Dat)

namespace Cert.ConvNormSpec

open Cert.Common

/-- The arguments' shapes: rows, the cotangent of the product after the norm, its weights, the gain. -/
abbrev Rows := (⟨2, ![8192, 1024]⟩ : Shape).Idx → EReal
abbrev Cot := (⟨2, ![8192, 3072]⟩ : Shape).Idx → EReal
abbrev Wts := (⟨3, ![2, 1024, 3072]⟩ : Shape).Idx → EReal
abbrev Gain := (⟨2, ![1, 1024]⟩ : Shape).Idx → EReal

/-- The cotangent of the norm's output at row `n` and column `l`: the product with the transposed weights. -/
def dy (DP : Cot) (W : Wts) (n l : ℕ) : EReal := mulNT DP W 1 3072 n l

/-- The input's gradient. -/
def dx (X : Rows) (DP : Cot) (W : Wts) (G : Gain) (D : Rows) (n l : ℕ) : EReal :=
  normDx (rd2 X n) (dy DP W n) (rd2 G 0) (rd2 D n) l

/-- One row's part of the gain's gradient. -/
def dgRow (X : Rows) (DP : Cot) (W : Wts) (l n : ℕ) : EReal := dy DP W n l * (rd2 X n l * rstd (rd2 X n))

end Cert.ConvNormSpec

namespace Cert.ConvNormIdeal.KernelValue

open Cert.ConvNormIdeal Cert.ConvNormIdeal.Gen Cert.Common Cert.ConvNormSpec

/-! ## Half a block of rows -/

/-- The blocks one half of the body reads are the arguments' rows from `n` on. -/
structure Half (n : ℕ) (X : Rows) (DP : Cot) (W : Wts) (G : Gain) (D : Rows) (b0 : Vec Ideal S256x1024 .f32)
    (b1 : Vec Ideal S256x3072 .bf16) (b2 : Vec Ideal S1x1024x3072 .bf16) (b3 : Vec Ideal S1x1024 .f32) (b4 : Vec Ideal S256x1024 .f32) : Prop where
  h0 : ∀ (r : Fin 256) (l : Fin 1024), b0 (ix2 r l) = rd2 X (n + r.val) l.val
  h1 : ∀ (r : Fin 256) (k : Fin 3072), b1 (ix2 r k) = rd2 DP (n + r.val) k.val
  h2 : ∀ (l : Fin 1024) (k : Fin 3072), b2 (ix3 0 l k) = rd3 W 1 l.val k.val
  h3 : ∀ l : Fin 1024, b3 (ix2 0 l) = rd2 G 0 l.val
  h4 : ∀ (r : Fin 256) (l : Fin 1024), b4 (ix2 r l) = rd2 D (n + r.val) l.val

variable {n : ℕ} {X : Rows} {DP : Cot} {W : Wts} {G : Gain} {D : Rows} {b0 : Vec Ideal S256x1024 .f32}
    {b1 : Vec Ideal S256x3072 .bf16} {b2 : Vec Ideal S1x1024x3072 .bf16} {b3 : Vec Ideal S1x1024 .f32} {b4 : Vec Ideal S256x1024 .f32}

/-- One over the root of a row's mean square, first half and second half. -/
theorem pay9_half (H : Half n X DP W G D b0 b1 b2 b3 b4) (r : Fin 256) (u : Fin 1) : k0_pay9 (F := Ideal) b0 (ix2 r u) = rstd (rd2 X (n + r.val)) := by
  unfold k0_pay9
  pointwise
  simp only [H.h0]
  rfl
theorem pay16_half (H : Half n X DP W G D b0 b1 b2 b3 b4) (r : Fin 256) (u : Fin 1) : k0_pay16 (F := Ideal) b0 (ix2 r u) = rstd (rd2 X (n + r.val)) := by
  unfold k0_pay16
  pointwise
  simp only [H.h0]
  rfl

/-- The normalised rows. -/
theorem pay10_half (H : Half n X DP W G D b0 b1 b2 b3 b4) (r : Fin 256) (l : Fin 1024) :
    k0_pay10 (F := Ideal) b0 (ix2 r l) = rd2 X (n + r.val) l.val * rstd (rd2 X (n + r.val)) := by
  unfold k0_pay10
  pointwise
  rw [H.h0, pay9_half H]
theorem pay17_half (H : Half n X DP W G D b0 b1 b2 b3 b4) (r : Fin 256) (l : Fin 1024) :
    k0_pay17 (F := Ideal) b0 (ix2 r l) = rd2 X (n + r.val) l.val * rstd (rd2 X (n + r.val)) := by
  unfold k0_pay17
  pointwise
  rw [H.h0, pay16_half H]

/-- The norm's output's cotangent. -/
theorem pay11_half (H : Half n X DP W G D b0 b1 b2 b3 b4) (r : Fin 256) (l : Fin 1024) :
    k0_pay11 (F := Ideal) b1 b2 (ix2 r l) = dy DP W (n + r.val) l.val := by
  unfold k0_pay11
  pointwise
  simp only [H.h1, H.h2]
  exact mulNT_sum DP W 1 3072 _ _
theorem pay18_half (H : Half n X DP W G D b0 b1 b2 b3 b4) (r : Fin 256) (l : Fin 1024) :
    k0_pay18 (F := Ideal) b1 b2 (ix2 r l) = dy DP W (n + r.val) l.val := by
  unfold k0_pay18
  pointwise
  simp only [H.h1, H.h2]
  exact mulNT_sum DP W 1 3072 _ _

/-- The input's gradient's rows. -/
theorem pay12_half (H : Half n X DP W G D b0 b1 b2 b3 b4) (r : Fin 256) (l : Fin 1024) :
    k0_pay12 (F := Ideal) b0 b1 b2 b3 b4 (ix2 r l) = dx X DP W G D (n + r.val) l.val := by
  unfold k0_pay12
  pointwise
  simp only [pay9_half H, pay10_half H, pay11_half H, H.h3, H.h4]
  rfl
theorem pay1_half (H : Half n X DP W G D b0 b1 b2 b3 b4) (r : Fin 256) (l : Fin 1024) :
    k0_pay1 (F := Ideal) (k0_pay16 b0) b4 (k0_pay19 b0 b1 b2 b3) (ix2 r l) = dx X DP W G D (n + r.val) l.val := by
  unfold k0_pay1 k0_pay19
  pointwise
  simp only [pay16_half H, pay17_half H, pay18_half H, H.h3, H.h4]
  rfl

/-! ## A whole block of rows -/

variable {c0 : Vec Ideal S256x1024 .f32} {c1 : Vec Ideal S256x3072 .bf16} {c4 : Vec Ideal S256x1024 .f32}

/-- Rows eight apart, from row `n + p` on. -/
theorem eight_apart (f : ℕ → EReal) (n i p : ℕ) (h : n = 8 * i) : ∑ x : Fin 32, f (n + (x.val * 8 + p)) = ∑ j ∈ Finset.range 32, f (8 * (i + j) + p) := by
  rw [Finset.sum_range]
  exact Finset.sum_congr rfl fun x _ => congrArg f (by omega)

/-- Two halves of a block's rows, added to the rows before them. -/
theorem two_halves (f : ℕ → EReal) (a : EReal) (t p : ℕ) (ha : a = ∑ i ∈ Finset.range (64 * t), f (8 * i + p)) :
    a + (∑ x : Fin 32, f (512 * t + (x.val * 8 + p)) + ∑ x : Fin 32, f (512 * t + 256 + (x.val * 8 + p)))
      = ∑ i ∈ Finset.range (64 * (t + 1)), f (8 * i + p) := by
  rw [eight_apart f (512 * t) (64 * t) p (by omega), eight_apart f (512 * t + 256) (64 * t + 32) p (by omega), ha,
    show 64 * (t + 1) = 64 * t + 32 + 32 by omega, Finset.sum_range_add, Finset.sum_range_add, add_assoc]

/-- The gain's gradient's buffer after a block's two halves. -/
theorem pay3_block {t : ℕ} (H : Half (512 * t) X DP W G D b0 b1 b2 b3 b4) (H' : Half (512 * t + 256) X DP W G D c0 c1 b2 b3 c4)
    (acc : Vec Ideal S8x1024 .f32) (p : Fin 8) (l : Fin 1024)
    (ha : acc (ix2 p l) = ∑ i ∈ Finset.range (64 * t), dgRow X DP W l.val (8 * i + p.val)) :
    k0_pay3 (F := Ideal) (k0_pay14 (k0_pay7 (F := Ideal)) (k0_pay10 b0) (k0_pay11 b1 b2)) (k0_pay17 c0) (k0_pay18 c1 b2) acc (ix2 p l)
      = ∑ i ∈ Finset.range (64 * (t + 1)), dgRow X DP W l.val (8 * i + p.val) := by
  refine Eq.trans ?_ (two_halves (dgRow X DP W l.val) _ t p.val ha)
  unfold k0_pay3 k0_pay14 k0_pay7
  pointwise
  simp only [pay10_half H, pay11_half H, pay17_half H', pay18_half H']
  rfl

/-- The column sums' buffer after a block's two halves. -/
theorem pay4_block {t : ℕ} (H : Half (512 * t) X DP W G D b0 b1 b2 b3 b4) (H' : Half (512 * t + 256) X DP W G D c0 c1 b2 b3 c4)
    (acc : Vec Ideal S8x1024 .f32) (p : Fin 8) (l : Fin 1024)
    (ha : acc (ix2 p l) = ∑ i ∈ Finset.range (64 * t), dx X DP W G D (8 * i + p.val) l.val) :
    k0_pay4 (F := Ideal) (k0_pay15 (k0_pay8 (F := Ideal)) (k0_pay12 b0 b1 b2 b3 b4)) (k0_pay16 c0) c4 (k0_pay19 c0 c1 b2 b3) acc (ix2 p l)
      = ∑ i ∈ Finset.range (64 * (t + 1)), dx X DP W G D (8 * i + p.val) l.val := by
  refine Eq.trans ?_ (two_halves (fun n => dx X DP W G D n l.val) _ t p.val ha)
  unfold k0_pay4 k0_pay15 k0_pay8
  pointwise
  simp only [pay12_half H, pay1_half H']

/-- The zero blocks. -/
theorem pay5_eq (j : S8x1024.Idx) : k0_pay5 (F := Ideal) j = 0 := by
  unfold k0_pay5
  pointwise
theorem pay6_eq (j : S8x1024.Idx) : k0_pay6 (F := Ideal) j = 0 := by
  unfold k0_pay6
  pointwise

/-! ## The grid -/

variable (m : (ℓ : Loc nD τ sig) → Buf (Elt Ideal) ℓ) (ρ : Dev nD → PrngReg)

/-- The rows, the cotangent, the weights, the gain, and the gradient that is added. -/
abbrev argX (c : Dev nD) : Rows := m ((c : Thread nD τ).loc main_arg0)
abbrev argDP (c : Dev nD) : Cot := m ((c : Thread nD τ).loc main_arg1)
abbrev argW (c : Dev nD) : Wts := m ((c : Thread nD τ).loc main_arg2)
abbrev argG (c : Dev nD) : Gain := m ((c : Thread nD τ).loc main_arg3)
abbrev argD (c : Dev nD) : Rows := m ((c : Thread nD τ).loc main_arg4)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 1 ∧ win0_2.index t 1 = 0 ∧ win0_2.index t 2 = 0 :=
  (by decide +kernel : ∀ t : Fin grid0.N, win0_2.index t 0 = 1 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

/-- The half of a point's blocks from their row `a` on. -/
theorem half (c : Dev nD) (t : Fin cfg0.N) (a : ℕ) (inb0 : ∀ k, (![a, 0] : Fin 2 → ℕ) k + (![256, 1024] : Fin 2 → ℕ) k ≤ S512x1024.size k)
    (inb1 : ∀ k, (![a, 0] : Fin 2 → ℕ) k + (![256, 3072] : Fin 2 → ℕ) k ≤ S512x3072.size k)
    (inb2 : ∀ k, (![0, 0, 0] : Fin 3 → ℕ) k + (![1, 1024, 3072] : Fin 3 → ℕ) k ≤ S1x1024x3072.size k)
    (inb3 : ∀ k, (![0, 0] : Fin 2 → ℕ) k + (![1, 1024] : Fin 2 → ℕ) k ≤ S1x1024.size k) :
    Half (512 * t.val + a) (argX m c) (argDP m c) (argW m c) (argG m c) (argD m c)
      (View.ld (iblk m c 0 t) (Rect.unit (s := S512x1024) ![a, 0] ![256, 1024] inb0))
      (View.ld (iblk m c 1 t) (Rect.unit (s := S512x3072) ![a, 0] ![256, 3072] inb1))
      (View.ld (iblk m c 2 t) (Rect.unit (s := S1x1024x3072) ![0, 0, 0] ![1, 1024, 3072] inb2))
      (View.ld (iblk m c 3 t) (Rect.unit (s := S1x1024) ![0, 0] ![1, 1024] inb3))
      (View.ld (iblk m c 4 t) (Rect.unit (s := S512x1024) ![a, 0] ![256, 1024] inb0)) := by
  constructor
  · intro r l
    show iblk m c 0 t _ = _
    unfold iblk
    rw [View.read_apply]
    refine (eq_rd2' (argX m c) _).trans (rd2_congr _ ?_ ?_)
    · show win0_0.index t 0 * 512 + 1 * (a + 1 * r.val) = 512 * t.val + a + r.val; rw [(index0 t).1]; omega
    · show win0_0.index t 1 * 1024 + 1 * (0 + 1 * l.val) = l.val; rw [(index0 t).2]; omega
  · intro r k
    show iblk m c 1 t _ = _
    unfold iblk
    rw [View.read_apply]
    refine (eq_rd2' (argDP m c) _).trans (rd2_congr _ ?_ ?_)
    · show win0_1.index t 0 * 512 + 1 * (a + 1 * r.val) = 512 * t.val + a + r.val; rw [(index1 t).1]; omega
    · show win0_1.index t 1 * 3072 + 1 * (0 + 1 * k.val) = k.val; rw [(index1 t).2]; omega
  · intro l k
    show iblk m c 2 t _ = _
    unfold iblk
    rw [View.read_apply]
    refine (eq_rd3' (argW m c) _).trans (rd3_congr _ ?_ ?_ ?_)
    · show win0_2.index t 0 * 1 + 1 * (0 + 1 * 0) = 1; rw [(index2 t).1]
    · show win0_2.index t 1 * 1024 + 1 * (0 + 1 * l.val) = l.val; rw [(index2 t).2.1]; omega
    · show win0_2.index t 2 * 3072 + 1 * (0 + 1 * k.val) = k.val; rw [(index2 t).2.2]; omega
  · intro l
    show iblk m c 3 t _ = _
    unfold iblk
    rw [View.read_apply]
    refine (eq_rd2' (argG m c) _).trans (rd2_congr _ ?_ ?_)
    · show win0_3.index t 0 * 1 + 1 * (0 + 1 * 0) = 0; rw [(index3 t).1]
    · show win0_3.index t 1 * 1024 + 1 * (0 + 1 * l.val) = l.val; rw [(index3 t).2]; omega
  · intro r l
    show iblk m c 4 t _ = _
    unfold iblk
    rw [View.read_apply]
    refine (eq_rd2' (argD m c) _).trans (rd2_congr _ ?_ ?_)
    · show win0_4.index t 0 * 512 + 1 * (a + 1 * r.val) = 512 * t.val + a + r.val; rw [(index4 t).1]; omega
    · show win0_4.index t 1 * 1024 + 1 * (0 + 1 * l.val) = l.val; rw [(index4 t).2]; omega

/-! ## What a grid point leaves -/

/-- The input's gradient's rows, in the first format. -/
theorem outs5 (c : Dev nD) (t : Fin cfg0.N) (r : Fin 512) (l : Fin 1024) :
    (outsAt0 (F := Ideal) m c t.val t.isLt).1 (ix2 r l)
      = dx (argX m c) (argDP m c) (argW m c) (argG m c) (argD m c) (512 * t.val + r.val) l.val := by
  have hr := r.isLt
  have hl := l.isLt
  by_cases h0 : t.val % 16 = 0
  · rw [outsAt0_A m c t h0]
    dsimp only
    unfold out0_A_5
    rw [View.read_writes_eq_canon _ _ _ (cover0_A_5 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _
  · rw [outsAt0_B m c t h0]
    dsimp only
    unfold out0_B_5
    rw [View.read_writes_eq_canon _ _ _ (cover0_B_5 c _ _ _ _ _ _ _ _ _ _ _ _ _ _ _ _ _ _ _ _ _ _ _ _ _ _ _)]
    unfold kernelRun0_B
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _

/-- The same rows in the second format. -/
theorem outs6 (c : Dev nD) (t : Fin cfg0.N) (r : Fin 512) (l : Fin 1024) :
    (outsAt0 (F := Ideal) m c t.val t.isLt).2.1 (ix2 r l)
      = dx (argX m c) (argDP m c) (argW m c) (argG m c) (argD m c) (512 * t.val + r.val) l.val := by
  have hr := r.isLt
  have hl := l.isLt
  by_cases h0 : t.val % 16 = 0
  · rw [outsAt0_A m c t h0]
    dsimp only
    unfold out0_A_6
    rw [View.read_writes_eq_canon _ _ _ (cover0_A_6 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _
  · rw [outsAt0_B m c t h0]
    dsimp only
    unfold out0_B_6
    rw [View.read_writes_eq_canon _ _ _ (cover0_B_6 c _ _ _ _ _ _ _ _ _ _ _ _ _ _ _ _ _ _ _ _ _ _ _ _ _ _ _)]
    unfold kernelRun0_B
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _

/-- The gain's gradient's buffer after grid point `n`: the parts of the rows so far, eight apart. -/
theorem outs7 (c : Dev nD) (p : Fin 8) (l : Fin 1024) : ∀ (n : ℕ) (hn : n < cfg0.N),
    (outsAt0 (F := Ideal) m c n hn).2.2.1 (ix2 p l)
      = ∑ i ∈ Finset.range (64 * (n + 1)), dgRow (argX m c) (argDP m c) (argW m c) l.val (8 * i + p.val)
  | 0, hn => by
    have hp := p.isLt
    have hl := l.isLt
    rw [outsAt0_A m c ⟨0, hn⟩ rfl]
    dsimp only
    unfold out0_A_7
    rw [View.read_writes_eq_canon _ _ _ (cover0_A_7 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay3_block (half m c ⟨0, hn⟩ 0 _ _ _ inb_S1x1024_S1x1024_0_0) (half m c ⟨0, hn⟩ 256 _ _ _ inb_S1x1024_S1x1024_0_0) _ _ _ ?_
    rw [readCov_unit2, canon_unit2, dif_pos (by simp), pay5_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs7 c p l n (Nat.lt_of_succ_lt hn)
    rw [outsAt0_B m c ⟨n + 1, hn⟩ h0]
    dsimp only
    unfold out0_B_7
    unfold kernelRun0_B
    dsimp only
    sl_unfold_words
    simp only [View.readAt_eq_ld, Memref.IsWhole.read_unread]
    rw [read_writes_unit2, dif_pos (by omega)]
    refine pay3_block (half m c ⟨n + 1, hn⟩ 0 _ _ _ inb_S1x1024_S1x1024_0_0) (half m c ⟨n + 1, hn⟩ 256 _ _ _ inb_S1x1024_S1x1024_0_0) _ _ _ ?_
    rw [ld_zero2]
    exact ih

/-- The column sums' buffer after grid point `n`. -/
theorem outs8 (c : Dev nD) (p : Fin 8) (l : Fin 1024) : ∀ (n : ℕ) (hn : n < cfg0.N),
    (outsAt0 (F := Ideal) m c n hn).2.2.2 (ix2 p l)
      = ∑ i ∈ Finset.range (64 * (n + 1)), dx (argX m c) (argDP m c) (argW m c) (argG m c) (argD m c) (8 * i + p.val) l.val
  | 0, hn => by
    have hp := p.isLt
    have hl := l.isLt
    rw [outsAt0_A m c ⟨0, hn⟩ rfl]
    dsimp only
    unfold out0_A_8
    rw [View.read_writes_eq_canon _ _ _ (cover0_A_8 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay4_block (half m c ⟨0, hn⟩ 0 _ _ _ _) (half m c ⟨0, hn⟩ 256 _ _ _ _) _ _ _ ?_
    rw [readCov_unit2, canon_unit2, dif_pos (by simp), pay6_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs8 c p l n (Nat.lt_of_succ_lt hn)
    rw [outsAt0_B m c ⟨n + 1, hn⟩ h0]
    dsimp only
    unfold out0_B_8
    unfold kernelRun0_B
    dsimp only
    sl_unfold_words
    simp only [View.readAt_eq_ld, Memref.IsWhole.read_unread]
    rw [read_writes_unit2, dif_pos (by omega)]
    refine pay4_block (half m c ⟨n + 1, hn⟩ 0 _ _ _ _) (half m c ⟨n + 1, hn⟩ 256 _ _ _ _) _ _ _ ?_
    rw [ld_zero2]
    exact ih

/-! ## The arrays -/

/-- The input's gradient as an array. -/
def dxArr (X : Rows) (DP : Cot) (W : Wts) (G : Gain) (D : Rows) : Vec Ideal S8192x1024 .f32 := fun j => dx X DP W G D (j 0).val (j 1).val
def dxbArr (X : Rows) (DP : Cot) (W : Wts) (G : Gain) (D : Rows) : Vec Ideal S8192x1024 .bf16 := fun j => dx X DP W G D (j 0).val (j 1).val
/-- The gain's gradient and the column sums, their rows still eight apart. -/
def dg8 (X : Rows) (DP : Cot) (W : Wts) : Vec Ideal S8x1024 .f32 := fun j =>
  ∑ i ∈ Finset.range 1024, dgRow X DP W (j 1).val (8 * i + (j 0).val)
def cs8 (X : Rows) (DP : Cot) (W : Wts) (G : Gain) (D : Rows) : Vec Ideal S8x1024 .f32 := fun j =>
  ∑ i ∈ Finset.range 1024, dx X DP W G D (8 * i + (j 0).val) (j 1).val
/-- The gain's gradient and the column sums as arrays. -/
def dgArr (X : Rows) (DP : Cot) (W : Wts) : Vec Ideal S1024 .f32 := fun j => ∑ n ∈ Finset.range 8192, dgRow X DP W (j 0).val n
def csArr (X : Rows) (DP : Cot) (W : Wts) (G : Gain) (D : Rows) : Vec Ideal S1024 .f32 := fun j =>
  ∑ n ∈ Finset.range 8192, dx X DP W G D n (j 0).val

/-- The first result array. -/
theorem final5 (c : Dev nD) : (dats m 0 c).arrAt 5 cfg0.N = dxArr (argX m c) (argDP m c) (argW m c) (argG m c) (argD m c) := by
  have hN : cfg0.N = 16 := N_0
  refine (dats m 0 c).arrAt_eq_of_cover 5 _ (fun t _ => ?_) fun i => ?_
  · show (cfg0.win 5).cut (grid0.coords t) ((dats m 0 c).after 5 t) = _
    rw [after0_5]
    funext j
    obtain ⟨r, l, hj⟩ : ∃ (r : Fin 512) (l : Fin 1024), j = ix2 r l := ⟨j 0, j 1, eq_ix2 j⟩
    rw [hj]
    show (outsAt0 m c t.val t.isLt).1 (ix2 r l) = dxArr _ _ _ _ _ (((cfg0.win 5).blk t).view.emb (ix2 r l))
    refine (outs5 m c t r l).trans ?_
    unfold dxArr
    refine congr (congrArg _ ?_) ?_
    · show 512 * t.val + r.val = win0_5.index t 0 * 512 + 1 * r.val; rw [(index5 t).1]; omega
    · show l.val = win0_5.index t 1 * 1024 + 1 * l.val; rw [(index5 t).2]; omega
  · have h0 : (i 0 : Nat) < 8192 := (i 0).isLt
    have h1 : (i 1 : Nat) < 1024 := (i 1).isLt
    let p : Fin cfg0.N := ⟨(i 0).val / 512, by omega⟩
    refine ⟨p, flush0_5 _, ?_⟩
    show i ∈ ((View.whole main_v0_0).slice (win0_5.rect p)).set
    rw [View.set_slice_whole, Rect.mem_set_unit]
    intro a
    match a with
    | ⟨0, _⟩ =>
      show win0_5.index p 0 * 512 ≤ (i 0 : Nat) ∧ (i 0 : Nat) < win0_5.index p 0 * 512 + 512
      rw [(index5 p).1]; show (i 0).val / 512 * 512 ≤ (i 0 : Nat) ∧ (i 0 : Nat) < (i 0).val / 512 * 512 + 512; omega
    | ⟨1, _⟩ =>
      show win0_5.index p 1 * 1024 ≤ (i 1 : Nat) ∧ (i 1 : Nat) < win0_5.index p 1 * 1024 + 1024
      rw [(index5 p).2]; omega

/-- The second result array. -/
theorem final6 (c : Dev nD) : (dats m 0 c).arrAt 6 cfg0.N = dxbArr (argX m c) (argDP m c) (argW m c) (argG m c) (argD m c) := by
  have hN : cfg0.N = 16 := N_0
  refine (dats m 0 c).arrAt_eq_of_cover 6 _ (fun t _ => ?_) fun i => ?_
  · show (cfg0.win 6).cut (grid0.coords t) ((dats m 0 c).after 6 t) = _
    rw [after0_6]
    funext j
    obtain ⟨r, l, hj⟩ : ∃ (r : Fin 512) (l : Fin 1024), j = ix2 r l := ⟨j 0, j 1, eq_ix2 j⟩
    rw [hj]
    show (outsAt0 m c t.val t.isLt).2.1 (ix2 r l) = dxbArr _ _ _ _ _ (((cfg0.win 6).blk t).view.emb (ix2 r l))
    refine (outs6 m c t r l).trans ?_
    unfold dxbArr
    refine congr (congrArg _ ?_) ?_
    · show 512 * t.val + r.val = win0_6.index t 0 * 512 + 1 * r.val; rw [(index6 t).1]; omega
    · show l.val = win0_6.index t 1 * 1024 + 1 * l.val; rw [(index6 t).2]; omega
  · have h0 : (i 0 : Nat) < 8192 := (i 0).isLt
    have h1 : (i 1 : Nat) < 1024 := (i 1).isLt
    let p : Fin cfg0.N := ⟨(i 0).val / 512, by omega⟩
    refine ⟨p, flush0_6 _, ?_⟩
    show i ∈ ((View.whole main_v0_1).slice (win0_6.rect p)).set
    rw [View.set_slice_whole, Rect.mem_set_unit]
    intro a
    match a with
    | ⟨0, _⟩ =>
      show win0_6.index p 0 * 512 ≤ (i 0 : Nat) ∧ (i 0 : Nat) < win0_6.index p 0 * 512 + 512
      rw [(index6 p).1]; show (i 0).val / 512 * 512 ≤ (i 0 : Nat) ∧ (i 0 : Nat) < (i 0).val / 512 * 512 + 512; omega
    | ⟨1, _⟩ =>
      show win0_6.index p 1 * 1024 ≤ (i 1 : Nat) ∧ (i 1 : Nat) < win0_6.index p 1 * 1024 + 1024
      rw [(index6 p).2]; omega

/-- The third window's array, its rows eight apart. -/
theorem final7 (c : Dev nD) : (dats m 0 c).arrAt 7 cfg0.N = dg8 (argX m c) (argDP m c) (argW m c) := by
  have hN : cfg0.N = 16 := N_0
  refine (dats m 0 c).arrAt_eq_of_cover 7 _ (fun t hf => ?_) fun i => ?_
  · have h15 : t.val = 15 := by
      have h := (flush0_7 t).mp hf
      omega
    show (cfg0.win 7).cut (grid0.coords t) ((dats m 0 c).after 7 t) = _
    rw [after0_7]
    funext j
    obtain ⟨r, l, hj⟩ : ∃ (r : Fin 8) (l : Fin 1024), j = ix2 r l := ⟨j 0, j 1, eq_ix2 j⟩
    rw [hj]
    show (outsAt0 m c t.val t.isLt).2.2.1 (ix2 r l) = dg8 _ _ _ (((cfg0.win 7).blk t).view.emb (ix2 r l))
    refine (outs7 m c r l t.val t.isLt).trans ?_
    have e0 : ((((cfg0.win 7).blk t).view.emb (ix2 r l)) 0).val = r.val := by
      show win0_7.index t 0 * 8 + 1 * r.val = r.val; rw [(index7 t).1]; omega
    have e1 : ((((cfg0.win 7).blk t).view.emb (ix2 r l)) 1).val = l.val := by
      show win0_7.index t 1 * 1024 + 1 * l.val = l.val; rw [(index7 t).2]; omega
    unfold dg8
    rw [h15]
    refine Finset.sum_congr rfl fun i _ => ?_
    exact congr (congrArg (dgRow (argX m c) (argDP m c) (argW m c)) e1.symm) (congrArg (8 * i + ·) e0.symm)
  · have h0 : (i 0 : Nat) < 8 := (i 0).isLt
    have h1 : (i 1 : Nat) < 1024 := (i 1).isLt
    let p : Fin cfg0.N := ⟨15, by omega⟩
    refine ⟨p, (flush0_7 _).mpr rfl, ?_⟩
    show i ∈ ((View.whole main_v0_2).slice (win0_7.rect p)).set
    rw [View.set_slice_whole, Rect.mem_set_unit]
    intro a
    match a with
    | ⟨0, _⟩ =>
      show win0_7.index p 0 * 8 ≤ (i 0 : Nat) ∧ (i 0 : Nat) < win0_7.index p 0 * 8 + 8
      rw [(index7 p).1]; omega
    | ⟨1, _⟩ =>
      show win0_7.index p 1 * 1024 ≤ (i 1 : Nat) ∧ (i 1 : Nat) < win0_7.index p 1 * 1024 + 1024
      rw [(index7 p).2]; omega

/-- The fourth window's array, its rows eight apart. -/
theorem final8 (c : Dev nD) : (dats m 0 c).arrAt 8 cfg0.N = cs8 (argX m c) (argDP m c) (argW m c) (argG m c) (argD m c) := by
  have hN : cfg0.N = 16 := N_0
  refine (dats m 0 c).arrAt_eq_of_cover 8 _ (fun t hf => ?_) fun i => ?_
  · have h15 : t.val = 15 := by
      have h := (flush0_8 t).mp hf
      omega
    show (cfg0.win 8).cut (grid0.coords t) ((dats m 0 c).after 8 t) = _
    rw [after0_8]
    funext j
    obtain ⟨r, l, hj⟩ : ∃ (r : Fin 8) (l : Fin 1024), j = ix2 r l := ⟨j 0, j 1, eq_ix2 j⟩
    rw [hj]
    show (outsAt0 m c t.val t.isLt).2.2.2 (ix2 r l) = cs8 _ _ _ _ _ (((cfg0.win 8).blk t).view.emb (ix2 r l))
    refine (outs8 m c r l t.val t.isLt).trans ?_
    have e0 : ((((cfg0.win 8).blk t).view.emb (ix2 r l)) 0).val = r.val := by
      show win0_8.index t 0 * 8 + 1 * r.val = r.val; rw [(index8 t).1]; omega
    have e1 : ((((cfg0.win 8).blk t).view.emb (ix2 r l)) 1).val = l.val := by
      show win0_8.index t 1 * 1024 + 1 * l.val = l.val; rw [(index8 t).2]; omega
    unfold cs8
    rw [h15]
    refine Finset.sum_congr rfl fun i _ => ?_
    exact congr (congrArg (dx (argX m c) (argDP m c) (argW m c) (argG m c) (argD m c)) (congrArg (8 * i + ·) e0.symm)) e1.symm
  · have h0 : (i 0 : Nat) < 8 := (i 0).isLt
    have h1 : (i 1 : Nat) < 1024 := (i 1).isLt
    let p : Fin cfg0.N := ⟨15, by omega⟩
    refine ⟨p, (flush0_8 _).mpr rfl, ?_⟩
    show i ∈ ((View.whole main_v0_3).slice (win0_8.rect p)).set
    rw [View.set_slice_whole, Rect.mem_set_unit]
    intro a
    match a with
    | ⟨0, _⟩ =>
      show win0_8.index p 0 * 8 ≤ (i 0 : Nat) ∧ (i 0 : Nat) < win0_8.index p 0 * 8 + 8
      rw [(index8 p).1]; omega
    | ⟨1, _⟩ =>
      show win0_8.index p 1 * 1024 ≤ (i 1 : Nat) ∧ (i 1 : Nat) < win0_8.index p 1 * 1024 + 1024
      rw [(index8 p).2]; omega

/-- The host's sum of the eight rows of the gain's gradient. -/
theorem sum7 (X : Rows) (DP : Cot) (W : Wts) :
    Host.reduceAdd (F := Ideal) (dg8 X DP W) (constant S_ .f32 0x00000000#32) reducesTo_S8x1024_S1024_d0 h_S_ = dgArr X DP W := by
  funext j
  obtain ⟨l, rfl⟩ : ∃ l : Fin 1024, j = ix1 l := ⟨j 0, eq_ix1 j⟩
  pointwise
  unfold dg8
  exact sum_by_eight 1024 (dgRow X DP W l.val)

/-- The host's sum of the eight rows of the column sums. -/
theorem sum8 (X : Rows) (DP : Cot) (W : Wts) (G : Gain) (D : Rows) :
    Host.reduceAdd (F := Ideal) (cs8 X DP W G D) (constant S_ .f32 0x00000000#32) reducesTo_S8x1024_S1024_d0 h_S_ = csArr X DP W G D := by
  funext j
  obtain ⟨l, rfl⟩ : ∃ l : Fin 1024, j = ix1 l := ⟨j 0, eq_ix1 j⟩
  pointwise
  unfold cs8
  exact sum_by_eight 1024 (fun n => dx X DP W G D n l.val)

/-- What the host's lines after the grid leave in the third and the fourth result. -/
theorem after7 (c : Dev nD) : Pipeline.afterTail₀ cfgs (dats m) 0 (V0 m) [hostOps1] c main_v1
    = dgArr (argX m c) (argDP m c) (argW m c) := by
  have h := Pipeline.withArrays_arr spec0 (by decide) c (V0 m c) (fun w => (dats m 0 c).arrAt w cfg0.N) 7
  rw [← sum7, ← final7 m c, ← h]
  rfl
theorem after8 (c : Dev nD) : Pipeline.afterTail₀ cfgs (dats m) 0 (V0 m) [hostOps1] c main_v2
    = csArr (argX m c) (argDP m c) (argW m c) (argG m c) (argD m c) := by
  have h := Pipeline.withArrays_arr spec0 (by decide) c (V0 m c) (fun w => (dats m 0 c).arrAt w cfg0.N) 8
  rw [← sum8, ← final8 m c, ← h]
  rfl

/-- The run: the four results, and the arguments unchanged. -/
theorem run : θ_run defs (onTc (τ := τ) (main (F := Ideal))) ⟨m, fun _ => 0, ρ⟩ fun r => ∀ c : Dev nD,
      r.2.mem ((c : Thread nD τ).loc main_v0_0) = dxArr (argX m c) (argDP m c) (argW m c) (argG m c) (argD m c)
      ∧ r.2.mem ((c : Thread nD τ).loc main_v0_1) = dxbArr (argX m c) (argDP m c) (argW m c) (argG m c) (argD m c)
      ∧ r.2.mem ((c : Thread nD τ).loc main_v1) = dgArr (argX m c) (argDP m c) (argW m c)
      ∧ r.2.mem ((c : Thread nD τ).loc main_v2) = csArr (argX m c) (argDP m c) (argW m c) (argG m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h.1 c).1 5).trans (final5 m c), ((h.1 c).1 6).trans (final6 m c), ((h.1 c).2 main_v1 (by decide)).trans (after7 m c),
      ((h.1 c).2 main_v2 (by decide)).trans (after8 m c), h.2 c⟩)
    (θ_run_and (run_main m ρ) (unchanged m ρ))

end Cert.ConvNormIdeal.KernelValue

/-! ## The reference -/

namespace Cert.ConvNormRefIdeal.RefValue

open Cert.ConvNormRefIdeal Cert.ConvNormRefIdeal.Read Cert.Common Cert.ConvNormSpec

variable (x0 : Rows) (x1 : Cot) (x2 : Wts) (x3 : Gain) (x4 : Rows)

/-- The mean square of a row, and one over its root. -/
theorem v7_eq (r : Fin 8192) (u : Fin 1) : val_main_v7 (F := Ideal) x0 (ix2 r u) = meanSq (rd2 x0 r.val) := by
  unfold val_main_v7 val_main_v6 val_main_cst_1 val_main_v5 val_main_v4 val_main_cst_0 val_main_v3 val_main_v2 val_main_cst val_main_v1
  pointwise
  simp only [eq_rd2 x0]
  rfl
theorem v8_eq (r : Fin 8192) (u : Fin 1) : val_main_v8 (F := Ideal) x0 (ix2 r u) = rstd (rd2 x0 r.val) := by
  unfold val_main_v8
  pointwise
  rw [v7_eq]
  rfl

/-- The norm's output's cotangent. -/
theorem v22_eq (r : Fin 8192) (l : Fin 1024) : val_main_v22 (F := Ideal) x1 x2 (ix2 r l) = dy x1 x2 r.val l.val := by
  unfold val_main_v22 val_main_v21 val_main_v19 val_main_v18 val_main_v17
  pointwise
  simp only [eq_rd2 x1, eq_rd3 x2]
  exact mulNT_sum x1 x2 1 3072 _ _

/-- The input's gradient. -/
theorem v43_eq (r : Fin 8192) (l : Fin 1024) : val_main_v43 (F := Ideal) x0 x1 x2 x3 x4 (ix2 r l) = dx x0 x1 x2 x3 x4 r.val l.val := by
  unfold val_main_v43 val_main_v42 val_main_v41 val_main_v40 val_main_v39 val_main_v38 val_main_v37 val_main_v36 val_main_v35 val_main_v34 val_main_v33 val_main_v32 val_main_v31 val_main_v30 val_main_v29 val_main_v27 val_main_v26 val_main_v11 val_main_v14 val_main_v10 val_main_v9 val_main_v0 val_main_cst_7 val_main_cst_6 val_main_cst_5 val_main_cst_2
  pointwise
  simp only [v8_eq, v7_eq, v22_eq, eq_rd2 x0, eq_rd2 x3, eq_rd2 x4, Fintype.sum_unique]
  exact (normDx_eq (rd2 x0 r.val) (dy x1 x2 r.val) (rd2 x3 0) (rd2 x4 r.val) l.val).symm

/-- The column sums. -/
theorem v45_eq (l : Fin 1024) : val_main_v45 (F := Ideal) x0 x1 x2 x3 x4 (ix1 l) = ∑ n ∈ Finset.range 8192, dx x0 x1 x2 x3 x4 n l.val := by
  unfold val_main_v45 val_main_cst_8
  pointwise
  simp only [v43_eq]
  exact (Finset.sum_range fun n => dx x0 x1 x2 x3 x4 n l.val).symm

/-- The gain's gradient. -/
theorem v28_eq (l : Fin 1024) : val_main_v28 (F := Ideal) x0 x1 x2 (ix1 l) = ∑ n ∈ Finset.range 8192, dgRow x0 x1 x2 l.val n := by
  unfold val_main_v28 val_main_v25 val_main_v24 val_main_v23 val_main_v13 val_main_v12 val_main_cst_4 val_main_cst_3
  pointwise
  simp only [v8_eq, v22_eq, eq_rd2 x0, Fintype.sum_unique]
  rw [Finset.sum_range]
  exact Finset.sum_congr rfl fun n _ => mul_comm _ _

end Cert.ConvNormRefIdeal.RefValue

namespace Cert.ConvNormClaim

open Cert.Common Cert.ConvNormSpec Cert.ConvNormIdeal.KernelValue Cert.ConvNormRefIdeal.RefValue Cert.ConvNormRefIdeal.Read

/-- The reference's results as arrays. -/
theorem ref_dx (X : Rows) (DP : Cot) (W : Wts) (G : Gain) (D : Rows) : val_main_v43 (F := Ideal) X DP W G D = dxArr X DP W G D := by
  funext j
  obtain ⟨r, l, rfl⟩ : ∃ (r : Fin 8192) (l : Fin 1024), j = ix2 r l := ⟨j 0, j 1, eq_ix2 j⟩
  exact v43_eq X DP W G D r l
theorem ref_dxb (X : Rows) (DP : Cot) (W : Wts) (G : Gain) (D : Rows) : val_main_v44 (F := Ideal) X DP W G D = dxbArr X DP W G D := by
  funext j
  obtain ⟨r, l, rfl⟩ : ∃ (r : Fin 8192) (l : Fin 1024), j = ix2 r l := ⟨j 0, j 1, eq_ix2 j⟩
  exact v43_eq X DP W G D r l
theorem ref_dg (X : Rows) (DP : Cot) (W : Wts) : val_main_v28 (F := Ideal) X DP W = dgArr X DP W := by
  funext j
  obtain ⟨l, rfl⟩ : ∃ l : Fin 1024, j = ix1 l := ⟨j 0, eq_ix1 j⟩
  exact v28_eq X DP W l
theorem ref_cs (X : Rows) (DP : Cot) (W : Wts) (G : Gain) (D : Rows) : val_main_v45 (F := Ideal) X DP W G D = csArr X DP W G D := by
  funext j
  obtain ⟨l, rfl⟩ : ∃ l : Fin 1024, j = ix1 l := ⟨j 0, eq_ix1 j⟩
  exact v45_eq X DP W G D l

/-- Both programs end with the same four arrays. -/
theorem algebraic : Cert.algebraic_ConvNormIdeal_ConvNormRefIdeal (hConvNormIdeal := Cert.ConvNormIdeal.Gen.facts)
    (hConvNormRefIdeal := Cert.ConvNormRefIdeal.Gen.facts) := fun m g m' g' _ hag =>
  ⟨fun c => dxArr (argX m c) (argDP m c) (argW m c) (argG m c) (argD m c),
    fun c => dxbArr (argX m c) (argDP m c) (argW m c) (argG m c) (argD m c),
    fun c => dgArr (argX m c) (argDP m c) (argW m c),
    fun c => csArr (argX m c) (argDP m c) (argW m c) (argG m c) (argD m c), run m g,
    (θ_run _ _ _).mono (fun _ h c => by
      obtain ⟨e0, e1, e2, e3, e4⟩ := hag c
      obtain ⟨h0, h1, h2, h3, h4⟩ := h c
      refine ⟨h0.trans ?_, h1.trans ?_, h2.trans ?_, h3.trans ?_, h4⟩
      · rw [val_main_v43_eq, e0, e1, e2, e3, e4]
        exact ref_dx _ _ _ _ _
      · rw [val_main_v44_eq, e0, e1, e2, e3, e4]
        exact ref_dxb _ _ _ _ _
      · rw [val_main_v28_eq, e0, e1, e2]
        exact ref_dg _ _ _
      · rw [val_main_v45_eq, e0, e1, e2, e3, e4]
        exact ref_cs _ _ _ _ _) (Cert.ConvNormRefIdeal.Value.run m' g')⟩

end Cert.ConvNormClaim

end
-- ==== Proof.Norm.QkvNorm.lean ====
/-
  The backward kernel of the norm before the attention's first product: rows of the input's gradient in
  two formats, the gain's gradient, and the sums of the input's gradient over the rows. The kernel's run and the
  reference's run end with the same four arrays, for all inputs.
-/
module

public import proofs.«01_k».proof.Defs
public import proofs.«01_k».proof.Proof.Common.Norm
public import proofs.«01_k».proof.Proof.Gen.QkvNormIdeal.Frame
public import proofs.«01_k».proof.Proof.Gen.QkvNormRefIdeal.Run
public import proofs.«01_k».proof.Proof.Gen.QkvNormRefIdeal.Read

@[expose] public section

set_option maxRecDepth 16384

noncomputable section

open Idealize.ShloMosaic Idealize.ShloMosaic.TcCoe Idealize.SL.Sem
open Idealize.ShloMosaic.Pipeline (Dat)

namespace Cert.QkvNormSpec

open Cert.Common

/-- The arguments' shapes: rows, the cotangent of the product after the norm, its weights, the gain. -/
abbrev Rows := (⟨2, ![8192, 1024]⟩ : Shape).Idx → EReal
abbrev Cot := (⟨2, ![8192, 1536]⟩ : Shape).Idx → EReal
abbrev Wts := (⟨3, ![2, 1024, 1536]⟩ : Shape).Idx → EReal
abbrev Gain := (⟨2, ![1, 1024]⟩ : Shape).Idx → EReal

/-- The cotangent of the norm's output at row `n` and column `l`: the product with the transposed weights. -/
def dy (DP : Cot) (W : Wts) (n l : ℕ) : EReal := mulNT DP W 1 1536 n l

/-- The input's gradient. -/
def dx (X : Rows) (DP : Cot) (W : Wts) (G : Gain) (D : Rows) (n l : ℕ) : EReal :=
  normDx (rd2 X n) (dy DP W n) (rd2 G 0) (rd2 D n) l

/-- One row's part of the gain's gradient. -/
def dgRow (X : Rows) (DP : Cot) (W : Wts) (l n : ℕ) : EReal := dy DP W n l * (rd2 X n l * rstd (rd2 X n))

end Cert.QkvNormSpec

namespace Cert.QkvNormIdeal.KernelValue

open Cert.QkvNormIdeal Cert.QkvNormIdeal.Gen Cert.Common Cert.QkvNormSpec

/-! ## Half a block of rows -/

/-- The blocks one half of the body reads are the arguments' rows from `n` on. -/
structure Half (n : ℕ) (X : Rows) (DP : Cot) (W : Wts) (G : Gain) (D : Rows) (b0 : Vec Ideal S256x1024 .f32)
    (b1 : Vec Ideal S256x1536 .bf16) (b2 : Vec Ideal S1x1024x1536 .bf16) (b3 : Vec Ideal S1x1024 .f32) (b4 : Vec Ideal S256x1024 .f32) : Prop where
  h0 : ∀ (r : Fin 256) (l : Fin 1024), b0 (ix2 r l) = rd2 X (n + r.val) l.val
  h1 : ∀ (r : Fin 256) (k : Fin 1536), b1 (ix2 r k) = rd2 DP (n + r.val) k.val
  h2 : ∀ (l : Fin 1024) (k : Fin 1536), b2 (ix3 0 l k) = rd3 W 1 l.val k.val
  h3 : ∀ l : Fin 1024, b3 (ix2 0 l) = rd2 G 0 l.val
  h4 : ∀ (r : Fin 256) (l : Fin 1024), b4 (ix2 r l) = rd2 D (n + r.val) l.val

variable {n : ℕ} {X : Rows} {DP : Cot} {W : Wts} {G : Gain} {D : Rows} {b0 : Vec Ideal S256x1024 .f32}
    {b1 : Vec Ideal S256x1536 .bf16} {b2 : Vec Ideal S1x1024x1536 .bf16} {b3 : Vec Ideal S1x1024 .f32} {b4 : Vec Ideal S256x1024 .f32}

/-- One over the root of a row's mean square, first half and second half. -/
theorem pay9_half (H : Half n X DP W G D b0 b1 b2 b3 b4) (r : Fin 256) (u : Fin 1) : k0_pay9 (F := Ideal) b0 (ix2 r u) = rstd (rd2 X (n + r.val)) := by
  unfold k0_pay9
  pointwise
  simp only [H.h0]
  rfl
theorem pay16_half (H : Half n X DP W G D b0 b1 b2 b3 b4) (r : Fin 256) (u : Fin 1) : k0_pay16 (F := Ideal) b0 (ix2 r u) = rstd (rd2 X (n + r.val)) := by
  unfold k0_pay16
  pointwise
  simp only [H.h0]
  rfl

/-- The normalised rows. -/
theorem pay10_half (H : Half n X DP W G D b0 b1 b2 b3 b4) (r : Fin 256) (l : Fin 1024) :
    k0_pay10 (F := Ideal) b0 (ix2 r l) = rd2 X (n + r.val) l.val * rstd (rd2 X (n + r.val)) := by
  unfold k0_pay10
  pointwise
  rw [H.h0, pay9_half H]
theorem pay17_half (H : Half n X DP W G D b0 b1 b2 b3 b4) (r : Fin 256) (l : Fin 1024) :
    k0_pay17 (F := Ideal) b0 (ix2 r l) = rd2 X (n + r.val) l.val * rstd (rd2 X (n + r.val)) := by
  unfold k0_pay17
  pointwise
  rw [H.h0, pay16_half H]

/-- The norm's output's cotangent. -/
theorem pay11_half (H : Half n X DP W G D b0 b1 b2 b3 b4) (r : Fin 256) (l : Fin 1024) :
    k0_pay11 (F := Ideal) b1 b2 (ix2 r l) = dy DP W (n + r.val) l.val := by
  unfold k0_pay11
  pointwise
  simp only [H.h1, H.h2]
  exact mulNT_sum DP W 1 1536 _ _
theorem pay18_half (H : Half n X DP W G D b0 b1 b2 b3 b4) (r : Fin 256) (l : Fin 1024) :
    k0_pay18 (F := Ideal) b1 b2 (ix2 r l) = dy DP W (n + r.val) l.val := by
  unfold k0_pay18
  pointwise
  simp only [H.h1, H.h2]
  exact mulNT_sum DP W 1 1536 _ _

/-- The input's gradient's rows. -/
theorem pay12_half (H : Half n X DP W G D b0 b1 b2 b3 b4) (r : Fin 256) (l : Fin 1024) :
    k0_pay12 (F := Ideal) b0 b1 b2 b3 b4 (ix2 r l) = dx X DP W G D (n + r.val) l.val := by
  unfold k0_pay12
  pointwise
  simp only [pay9_half H, pay10_half H, pay11_half H, H.h3, H.h4]
  rfl
theorem pay1_half (H : Half n X DP W G D b0 b1 b2 b3 b4) (r : Fin 256) (l : Fin 1024) :
    k0_pay1 (F := Ideal) (k0_pay16 b0) b4 (k0_pay19 b0 b1 b2 b3) (ix2 r l) = dx X DP W G D (n + r.val) l.val := by
  unfold k0_pay1 k0_pay19
  pointwise
  simp only [pay16_half H, pay17_half H, pay18_half H, H.h3, H.h4]
  rfl

/-! ## A whole block of rows -/

variable {c0 : Vec Ideal S256x1024 .f32} {c1 : Vec Ideal S256x1536 .bf16} {c4 : Vec Ideal S256x1024 .f32}

/-- Rows eight apart, from row `n + p` on. -/
theorem eight_apart (f : ℕ → EReal) (n i p : ℕ) (h : n = 8 * i) : ∑ x : Fin 32, f (n + (x.val * 8 + p)) = ∑ j ∈ Finset.range 32, f (8 * (i + j) + p) := by
  rw [Finset.sum_range]
  exact Finset.sum_congr rfl fun x _ => congrArg f (by omega)

/-- Two halves of a block's rows, added to the rows before them. -/
theorem two_halves (f : ℕ → EReal) (a : EReal) (t p : ℕ) (ha : a = ∑ i ∈ Finset.range (64 * t), f (8 * i + p)) :
    a + (∑ x : Fin 32, f (512 * t + (x.val * 8 + p)) + ∑ x : Fin 32, f (512 * t + 256 + (x.val * 8 + p)))
      = ∑ i ∈ Finset.range (64 * (t + 1)), f (8 * i + p) := by
  rw [eight_apart f (512 * t) (64 * t) p (by omega), eight_apart f (512 * t + 256) (64 * t + 32) p (by omega), ha,
    show 64 * (t + 1) = 64 * t + 32 + 32 by omega, Finset.sum_range_add, Finset.sum_range_add, add_assoc]

/-- The gain's gradient's buffer after a block's two halves. -/
theorem pay3_block {t : ℕ} (H : Half (512 * t) X DP W G D b0 b1 b2 b3 b4) (H' : Half (512 * t + 256) X DP W G D c0 c1 b2 b3 c4)
    (acc : Vec Ideal S8x1024 .f32) (p : Fin 8) (l : Fin 1024)
    (ha : acc (ix2 p l) = ∑ i ∈ Finset.range (64 * t), dgRow X DP W l.val (8 * i + p.val)) :
    k0_pay3 (F := Ideal) (k0_pay14 (k0_pay7 (F := Ideal)) (k0_pay10 b0) (k0_pay11 b1 b2)) (k0_pay17 c0) (k0_pay18 c1 b2) acc (ix2 p l)
      = ∑ i ∈ Finset.range (64 * (t + 1)), dgRow X DP W l.val (8 * i + p.val) := by
  refine Eq.trans ?_ (two_halves (dgRow X DP W l.val) _ t p.val ha)
  unfold k0_pay3 k0_pay14 k0_pay7
  pointwise
  simp only [pay10_half H, pay11_half H, pay17_half H', pay18_half H']
  rfl

/-- The column sums' buffer after a block's two halves. -/
theorem pay4_block {t : ℕ} (H : Half (512 * t) X DP W G D b0 b1 b2 b3 b4) (H' : Half (512 * t + 256) X DP W G D c0 c1 b2 b3 c4)
    (acc : Vec Ideal S8x1024 .f32) (p : Fin 8) (l : Fin 1024)
    (ha : acc (ix2 p l) = ∑ i ∈ Finset.range (64 * t), dx X DP W G D (8 * i + p.val) l.val) :
    k0_pay4 (F := Ideal) (k0_pay15 (k0_pay8 (F := Ideal)) (k0_pay12 b0 b1 b2 b3 b4)) (k0_pay16 c0) c4 (k0_pay19 c0 c1 b2 b3) acc (ix2 p l)
      = ∑ i ∈ Finset.range (64 * (t + 1)), dx X DP W G D (8 * i + p.val) l.val := by
  refine Eq.trans ?_ (two_halves (fun n => dx X DP W G D n l.val) _ t p.val ha)
  unfold k0_pay4 k0_pay15 k0_pay8
  pointwise
  simp only [pay12_half H, pay1_half H']

/-- The zero blocks. -/
theorem pay5_eq (j : S8x1024.Idx) : k0_pay5 (F := Ideal) j = 0 := by
  unfold k0_pay5
  pointwise
theorem pay6_eq (j : S8x1024.Idx) : k0_pay6 (F := Ideal) j = 0 := by
  unfold k0_pay6
  pointwise

/-! ## The grid -/

variable (m : (ℓ : Loc nD τ sig) → Buf (Elt Ideal) ℓ) (ρ : Dev nD → PrngReg)

/-- The rows, the cotangent, the weights, the gain, and the gradient that is added. -/
abbrev argX (c : Dev nD) : Rows := m ((c : Thread nD τ).loc main_arg0)
abbrev argDP (c : Dev nD) : Cot := m ((c : Thread nD τ).loc main_arg1)
abbrev argW (c : Dev nD) : Wts := m ((c : Thread nD τ).loc main_arg2)
abbrev argG (c : Dev nD) : Gain := m ((c : Thread nD τ).loc main_arg3)
abbrev argD (c : Dev nD) : Rows := m ((c : Thread nD τ).loc main_arg4)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 1 ∧ win0_2.index t 1 = 0 ∧ win0_2.index t 2 = 0 :=
  (by decide +kernel : ∀ t : Fin grid0.N, win0_2.index t 0 = 1 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

/-- The half of a point's blocks from their row `a` on. -/
theorem half (c : Dev nD) (t : Fin cfg0.N) (a : ℕ) (inb0 : ∀ k, (![a, 0] : Fin 2 → ℕ) k + (![256, 1024] : Fin 2 → ℕ) k ≤ S512x1024.size k)
    (inb1 : ∀ k, (![a, 0] : Fin 2 → ℕ) k + (![256, 1536] : Fin 2 → ℕ) k ≤ S512x1536.size k)
    (inb2 : ∀ k, (![0, 0, 0] : Fin 3 → ℕ) k + (![1, 1024, 1536] : Fin 3 → ℕ) k ≤ S1x1024x1536.size k)
    (inb3 : ∀ k, (![0, 0] : Fin 2 → ℕ) k + (![1, 1024] : Fin 2 → ℕ) k ≤ S1x1024.size k) :
    Half (512 * t.val + a) (argX m c) (argDP m c) (argW m c) (argG m c) (argD m c)
      (View.ld (iblk m c 0 t) (Rect.unit (s := S512x1024) ![a, 0] ![256, 1024] inb0))
      (View.ld (iblk m c 1 t) (Rect.unit (s := S512x1536) ![a, 0] ![256, 1536] inb1))
      (View.ld (iblk m c 2 t) (Rect.unit (s := S1x1024x1536) ![0, 0, 0] ![1, 1024, 1536] inb2))
      (View.ld (iblk m c 3 t) (Rect.unit (s := S1x1024) ![0, 0] ![1, 1024] inb3))
      (View.ld (iblk m c 4 t) (Rect.unit (s := S512x1024) ![a, 0] ![256, 1024] inb0)) := by
  constructor
  · intro r l
    show iblk m c 0 t _ = _
    unfold iblk
    rw [View.read_apply]
    refine (eq_rd2' (argX m c) _).trans (rd2_congr _ ?_ ?_)
    · show win0_0.index t 0 * 512 + 1 * (a + 1 * r.val) = 512 * t.val + a + r.val; rw [(index0 t).1]; omega
    · show win0_0.index t 1 * 1024 + 1 * (0 + 1 * l.val) = l.val; rw [(index0 t).2]; omega
  · intro r k
    show iblk m c 1 t _ = _
    unfold iblk
    rw [View.read_apply]
    refine (eq_rd2' (argDP m c) _).trans (rd2_congr _ ?_ ?_)
    · show win0_1.index t 0 * 512 + 1 * (a + 1 * r.val) = 512 * t.val + a + r.val; rw [(index1 t).1]; omega
    · show win0_1.index t 1 * 1536 + 1 * (0 + 1 * k.val) = k.val; rw [(index1 t).2]; omega
  · intro l k
    show iblk m c 2 t _ = _
    unfold iblk
    rw [View.read_apply]
    refine (eq_rd3' (argW m c) _).trans (rd3_congr _ ?_ ?_ ?_)
    · show win0_2.index t 0 * 1 + 1 * (0 + 1 * 0) = 1; rw [(index2 t).1]
    · show win0_2.index t 1 * 1024 + 1 * (0 + 1 * l.val) = l.val; rw [(index2 t).2.1]; omega
    · show win0_2.index t 2 * 1536 + 1 * (0 + 1 * k.val) = k.val; rw [(index2 t).2.2]; omega
  · intro l
    show iblk m c 3 t _ = _
    unfold iblk
    rw [View.read_apply]
    refine (eq_rd2' (argG m c) _).trans (rd2_congr _ ?_ ?_)
    · show win0_3.index t 0 * 1 + 1 * (0 + 1 * 0) = 0; rw [(index3 t).1]
    · show win0_3.index t 1 * 1024 + 1 * (0 + 1 * l.val) = l.val; rw [(index3 t).2]; omega
  · intro r l
    show iblk m c 4 t _ = _
    unfold iblk
    rw [View.read_apply]
    refine (eq_rd2' (argD m c) _).trans (rd2_congr _ ?_ ?_)
    · show win0_4.index t 0 * 512 + 1 * (a + 1 * r.val) = 512 * t.val + a + r.val; rw [(index4 t).1]; omega
    · show win0_4.index t 1 * 1024 + 1 * (0 + 1 * l.val) = l.val; rw [(index4 t).2]; omega

/-! ## What a grid point leaves -/

/-- The input's gradient's rows, in the first format. -/
theorem outs5 (c : Dev nD) (t : Fin cfg0.N) (r : Fin 512) (l : Fin 1024) :
    (outsAt0 (F := Ideal) m c t.val t.isLt).1 (ix2 r l)
      = dx (argX m c) (argDP m c) (argW m c) (argG m c) (argD m c) (512 * t.val + r.val) l.val := by
  have hr := r.isLt
  have hl := l.isLt
  by_cases h0 : t.val % 16 = 0
  · rw [outsAt0_A m c t h0]
    dsimp only
    unfold out0_A_5
    rw [View.read_writes_eq_canon _ _ _ (cover0_A_5 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _
  · rw [outsAt0_B m c t h0]
    dsimp only
    unfold out0_B_5
    rw [View.read_writes_eq_canon _ _ _ (cover0_B_5 c _ _ _ _ _ _ _ _ _ _ _ _ _ _ _ _ _ _ _ _ _ _ _ _ _ _ _)]
    unfold kernelRun0_B
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _

/-- The same rows in the second format. -/
theorem outs6 (c : Dev nD) (t : Fin cfg0.N) (r : Fin 512) (l : Fin 1024) :
    (outsAt0 (F := Ideal) m c t.val t.isLt).2.1 (ix2 r l)
      = dx (argX m c) (argDP m c) (argW m c) (argG m c) (argD m c) (512 * t.val + r.val) l.val := by
  have hr := r.isLt
  have hl := l.isLt
  by_cases h0 : t.val % 16 = 0
  · rw [outsAt0_A m c t h0]
    dsimp only
    unfold out0_A_6
    rw [View.read_writes_eq_canon _ _ _ (cover0_A_6 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _
  · rw [outsAt0_B m c t h0]
    dsimp only
    unfold out0_B_6
    rw [View.read_writes_eq_canon _ _ _ (cover0_B_6 c _ _ _ _ _ _ _ _ _ _ _ _ _ _ _ _ _ _ _ _ _ _ _ _ _ _ _)]
    unfold kernelRun0_B
    dsimp only
    sl_unfold_words
    simp only [View.readAt_eq_ld, Memref.IsWhole.read_unread]
    rw [canon_unit2, canon_unit2]
    by_cases h : 256 ≤ r.val
    · rw [dif_pos (by omega)]
      exact (pay1_half (half m c t 256 _ _ _ _) _ _).trans (by congr 1; show 512 * t.val + 256 + (r.val - 256) = 512 * t.val + r.val; omega)
    · rw [dif_neg (by omega), dif_pos (by omega)]
      exact pay12_half (half m c t 0 _ _ _ _) _ _

/-- The gain's gradient's buffer after grid point `n`: the parts of the rows so far, eight apart. -/
theorem outs7 (c : Dev nD) (p : Fin 8) (l : Fin 1024) : ∀ (n : ℕ) (hn : n < cfg0.N),
    (outsAt0 (F := Ideal) m c n hn).2.2.1 (ix2 p l)
      = ∑ i ∈ Finset.range (64 * (n + 1)), dgRow (argX m c) (argDP m c) (argW m c) l.val (8 * i + p.val)
  | 0, hn => by
    have hp := p.isLt
    have hl := l.isLt
    rw [outsAt0_A m c ⟨0, hn⟩ rfl]
    dsimp only
    unfold out0_A_7
    rw [View.read_writes_eq_canon _ _ _ (cover0_A_7 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay3_block (half m c ⟨0, hn⟩ 0 _ _ _ inb_S1x1024_S1x1024_0_0) (half m c ⟨0, hn⟩ 256 _ _ _ inb_S1x1024_S1x1024_0_0) _ _ _ ?_
    rw [readCov_unit2, canon_unit2, dif_pos (by simp), pay5_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs7 c p l n (Nat.lt_of_succ_lt hn)
    rw [outsAt0_B m c ⟨n + 1, hn⟩ h0]
    dsimp only
    unfold out0_B_7
    unfold kernelRun0_B
    dsimp only
    sl_unfold_words
    simp only [View.readAt_eq_ld, Memref.IsWhole.read_unread]
    rw [read_writes_unit2, dif_pos (by omega)]
    refine pay3_block (half m c ⟨n + 1, hn⟩ 0 _ _ _ inb_S1x1024_S1x1024_0_0) (half m c ⟨n + 1, hn⟩ 256 _ _ _ inb_S1x1024_S1x1024_0_0) _ _ _ ?_
    rw [ld_zero2]
    exact ih

/-- The column sums' buffer after grid point `n`. -/
theorem outs8 (c : Dev nD) (p : Fin 8) (l : Fin 1024) : ∀ (n : ℕ) (hn : n < cfg0.N),
    (outsAt0 (F := Ideal) m c n hn).2.2.2 (ix2 p l)
      = ∑ i ∈ Finset.range (64 * (n + 1)), dx (argX m c) (argDP m c) (argW m c) (argG m c) (argD m c) (8 * i + p.val) l.val
  | 0, hn => by
    have hp := p.isLt
    have hl := l.isLt
    rw [outsAt0_A m c ⟨0, hn⟩ rfl]
    dsimp only
    unfold out0_A_8
    rw [View.read_writes_eq_canon _ _ _ (cover0_A_8 c _ _ _ _ _ _ _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay4_block (half m c ⟨0, hn⟩ 0 _ _ _ _) (half m c ⟨0, hn⟩ 256 _ _ _ _) _ _ _ ?_
    rw [readCov_unit2, canon_unit2, dif_pos (by simp), pay6_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs8 c p l n (Nat.lt_of_succ_lt hn)
    rw [outsAt0_B m c ⟨n + 1, hn⟩ h0]
    dsimp only
    unfold out0_B_8
    unfold kernelRun0_B
    dsimp only
    sl_unfold_words
    simp only [View.readAt_eq_ld, Memref.IsWhole.read_unread]
    rw [read_writes_unit2, dif_pos (by omega)]
    refine pay4_block (half m c ⟨n + 1, hn⟩ 0 _ _ _ _) (half m c ⟨n + 1, hn⟩ 256 _ _ _ _) _ _ _ ?_
    rw [ld_zero2]
    exact ih

/-! ## The arrays -/

/-- The input's gradient as an array. -/
def dxArr (X : Rows) (DP : Cot) (W : Wts) (G : Gain) (D : Rows) : Vec Ideal S8192x1024 .f32 := fun j => dx X DP W G D (j 0).val (j 1).val
def dxbArr (X : Rows) (DP : Cot) (W : Wts) (G : Gain) (D : Rows) : Vec Ideal S8192x1024 .bf16 := fun j => dx X DP W G D (j 0).val (j 1).val
/-- The gain's gradient and the column sums, their rows still eight apart. -/
def dg8 (X : Rows) (DP : Cot) (W : Wts) : Vec Ideal S8x1024 .f32 := fun j =>
  ∑ i ∈ Finset.range 1024, dgRow X DP W (j 1).val (8 * i + (j 0).val)
def cs8 (X : Rows) (DP : Cot) (W : Wts) (G : Gain) (D : Rows) : Vec Ideal S8x1024 .f32 := fun j =>
  ∑ i ∈ Finset.range 1024, dx X DP W G D (8 * i + (j 0).val) (j 1).val
/-- The gain's gradient and the column sums as arrays. -/
def dgArr (X : Rows) (DP : Cot) (W : Wts) : Vec Ideal S1024 .f32 := fun j => ∑ n ∈ Finset.range 8192, dgRow X DP W (j 0).val n
def csArr (X : Rows) (DP : Cot) (W : Wts) (G : Gain) (D : Rows) : Vec Ideal S1024 .f32 := fun j =>
  ∑ n ∈ Finset.range 8192, dx X DP W G D n (j 0).val

/-- The first result array. -/
theorem final5 (c : Dev nD) : (dats m 0 c).arrAt 5 cfg0.N = dxArr (argX m c) (argDP m c) (argW m c) (argG m c) (argD m c) := by
  have hN : cfg0.N = 16 := N_0
  refine (dats m 0 c).arrAt_eq_of_cover 5 _ (fun t _ => ?_) fun i => ?_
  · show (cfg0.win 5).cut (grid0.coords t) ((dats m 0 c).after 5 t) = _
    rw [after0_5]
    funext j
    obtain ⟨r, l, hj⟩ : ∃ (r : Fin 512) (l : Fin 1024), j = ix2 r l := ⟨j 0, j 1, eq_ix2 j⟩
    rw [hj]
    show (outsAt0 m c t.val t.isLt).1 (ix2 r l) = dxArr _ _ _ _ _ (((cfg0.win 5).blk t).view.emb (ix2 r l))
    refine (outs5 m c t r l).trans ?_
    unfold dxArr
    refine congr (congrArg _ ?_) ?_
    · show 512 * t.val + r.val = win0_5.index t 0 * 512 + 1 * r.val; rw [(index5 t).1]; omega
    · show l.val = win0_5.index t 1 * 1024 + 1 * l.val; rw [(index5 t).2]; omega
  · have h0 : (i 0 : Nat) < 8192 := (i 0).isLt
    have h1 : (i 1 : Nat) < 1024 := (i 1).isLt
    let p : Fin cfg0.N := ⟨(i 0).val / 512, by omega⟩
    refine ⟨p, flush0_5 _, ?_⟩
    show i ∈ ((View.whole main_v0_0).slice (win0_5.rect p)).set
    rw [View.set_slice_whole, Rect.mem_set_unit]
    intro a
    match a with
    | ⟨0, _⟩ =>
      show win0_5.index p 0 * 512 ≤ (i 0 : Nat) ∧ (i 0 : Nat) < win0_5.index p 0 * 512 + 512
      rw [(index5 p).1]; show (i 0).val / 512 * 512 ≤ (i 0 : Nat) ∧ (i 0 : Nat) < (i 0).val / 512 * 512 + 512; omega
    | ⟨1, _⟩ =>
      show win0_5.index p 1 * 1024 ≤ (i 1 : Nat) ∧ (i 1 : Nat) < win0_5.index p 1 * 1024 + 1024
      rw [(index5 p).2]; omega

/-- The second result array. -/
theorem final6 (c : Dev nD) : (dats m 0 c).arrAt 6 cfg0.N = dxbArr (argX m c) (argDP m c) (argW m c) (argG m c) (argD m c) := by
  have hN : cfg0.N = 16 := N_0
  refine (dats m 0 c).arrAt_eq_of_cover 6 _ (fun t _ => ?_) fun i => ?_
  · show (cfg0.win 6).cut (grid0.coords t) ((dats m 0 c).after 6 t) = _
    rw [after0_6]
    funext j
    obtain ⟨r, l, hj⟩ : ∃ (r : Fin 512) (l : Fin 1024), j = ix2 r l := ⟨j 0, j 1, eq_ix2 j⟩
    rw [hj]
    show (outsAt0 m c t.val t.isLt).2.1 (ix2 r l) = dxbArr _ _ _ _ _ (((cfg0.win 6).blk t).view.emb (ix2 r l))
    refine (outs6 m c t r l).trans ?_
    unfold dxbArr
    refine congr (congrArg _ ?_) ?_
    · show 512 * t.val + r.val = win0_6.index t 0 * 512 + 1 * r.val; rw [(index6 t).1]; omega
    · show l.val = win0_6.index t 1 * 1024 + 1 * l.val; rw [(index6 t).2]; omega
  · have h0 : (i 0 : Nat) < 8192 := (i 0).isLt
    have h1 : (i 1 : Nat) < 1024 := (i 1).isLt
    let p : Fin cfg0.N := ⟨(i 0).val / 512, by omega⟩
    refine ⟨p, flush0_6 _, ?_⟩
    show i ∈ ((View.whole main_v0_1).slice (win0_6.rect p)).set
    rw [View.set_slice_whole, Rect.mem_set_unit]
    intro a
    match a with
    | ⟨0, _⟩ =>
      show win0_6.index p 0 * 512 ≤ (i 0 : Nat) ∧ (i 0 : Nat) < win0_6.index p 0 * 512 + 512
      rw [(index6 p).1]; show (i 0).val / 512 * 512 ≤ (i 0 : Nat) ∧ (i 0 : Nat) < (i 0).val / 512 * 512 + 512; omega
    | ⟨1, _⟩ =>
      show win0_6.index p 1 * 1024 ≤ (i 1 : Nat) ∧ (i 1 : Nat) < win0_6.index p 1 * 1024 + 1024
      rw [(index6 p).2]; omega

/-- The third window's array, its rows eight apart. -/
theorem final7 (c : Dev nD) : (dats m 0 c).arrAt 7 cfg0.N = dg8 (argX m c) (argDP m c) (argW m c) := by
  have hN : cfg0.N = 16 := N_0
  refine (dats m 0 c).arrAt_eq_of_cover 7 _ (fun t hf => ?_) fun i => ?_
  · have h15 : t.val = 15 := by
      have h := (flush0_7 t).mp hf
      omega
    show (cfg0.win 7).cut (grid0.coords t) ((dats m 0 c).after 7 t) = _
    rw [after0_7]
    funext j
    obtain ⟨r, l, hj⟩ : ∃ (r : Fin 8) (l : Fin 1024), j = ix2 r l := ⟨j 0, j 1, eq_ix2 j⟩
    rw [hj]
    show (outsAt0 m c t.val t.isLt).2.2.1 (ix2 r l) = dg8 _ _ _ (((cfg0.win 7).blk t).view.emb (ix2 r l))
    refine (outs7 m c r l t.val t.isLt).trans ?_
    have e0 : ((((cfg0.win 7).blk t).view.emb (ix2 r l)) 0).val = r.val := by
      show win0_7.index t 0 * 8 + 1 * r.val = r.val; rw [(index7 t).1]; omega
    have e1 : ((((cfg0.win 7).blk t).view.emb (ix2 r l)) 1).val = l.val := by
      show win0_7.index t 1 * 1024 + 1 * l.val = l.val; rw [(index7 t).2]; omega
    unfold dg8
    rw [h15]
    refine Finset.sum_congr rfl fun i _ => ?_
    exact congr (congrArg (dgRow (argX m c) (argDP m c) (argW m c)) e1.symm) (congrArg (8 * i + ·) e0.symm)
  · have h0 : (i 0 : Nat) < 8 := (i 0).isLt
    have h1 : (i 1 : Nat) < 1024 := (i 1).isLt
    let p : Fin cfg0.N := ⟨15, by omega⟩
    refine ⟨p, (flush0_7 _).mpr rfl, ?_⟩
    show i ∈ ((View.whole main_v0_2).slice (win0_7.rect p)).set
    rw [View.set_slice_whole, Rect.mem_set_unit]
    intro a
    match a with
    | ⟨0, _⟩ =>
      show win0_7.index p 0 * 8 ≤ (i 0 : Nat) ∧ (i 0 : Nat) < win0_7.index p 0 * 8 + 8
      rw [(index7 p).1]; omega
    | ⟨1, _⟩ =>
      show win0_7.index p 1 * 1024 ≤ (i 1 : Nat) ∧ (i 1 : Nat) < win0_7.index p 1 * 1024 + 1024
      rw [(index7 p).2]; omega

/-- The fourth window's array, its rows eight apart. -/
theorem final8 (c : Dev nD) : (dats m 0 c).arrAt 8 cfg0.N = cs8 (argX m c) (argDP m c) (argW m c) (argG m c) (argD m c) := by
  have hN : cfg0.N = 16 := N_0
  refine (dats m 0 c).arrAt_eq_of_cover 8 _ (fun t hf => ?_) fun i => ?_
  · have h15 : t.val = 15 := by
      have h := (flush0_8 t).mp hf
      omega
    show (cfg0.win 8).cut (grid0.coords t) ((dats m 0 c).after 8 t) = _
    rw [after0_8]
    funext j
    obtain ⟨r, l, hj⟩ : ∃ (r : Fin 8) (l : Fin 1024), j = ix2 r l := ⟨j 0, j 1, eq_ix2 j⟩
    rw [hj]
    show (outsAt0 m c t.val t.isLt).2.2.2 (ix2 r l) = cs8 _ _ _ _ _ (((cfg0.win 8).blk t).view.emb (ix2 r l))
    refine (outs8 m c r l t.val t.isLt).trans ?_
    have e0 : ((((cfg0.win 8).blk t).view.emb (ix2 r l)) 0).val = r.val := by
      show win0_8.index t 0 * 8 + 1 * r.val = r.val; rw [(index8 t).1]; omega
    have e1 : ((((cfg0.win 8).blk t).view.emb (ix2 r l)) 1).val = l.val := by
      show win0_8.index t 1 * 1024 + 1 * l.val = l.val; rw [(index8 t).2]; omega
    unfold cs8
    rw [h15]
    refine Finset.sum_congr rfl fun i _ => ?_
    exact congr (congrArg (dx (argX m c) (argDP m c) (argW m c) (argG m c) (argD m c)) (congrArg (8 * i + ·) e0.symm)) e1.symm
  · have h0 : (i 0 : Nat) < 8 := (i 0).isLt
    have h1 : (i 1 : Nat) < 1024 := (i 1).isLt
    let p : Fin cfg0.N := ⟨15, by omega⟩
    refine ⟨p, (flush0_8 _).mpr rfl, ?_⟩
    show i ∈ ((View.whole main_v0_3).slice (win0_8.rect p)).set
    rw [View.set_slice_whole, Rect.mem_set_unit]
    intro a
    match a with
    | ⟨0, _⟩ =>
      show win0_8.index p 0 * 8 ≤ (i 0 : Nat) ∧ (i 0 : Nat) < win0_8.index p 0 * 8 + 8
      rw [(index8 p).1]; omega
    | ⟨1, _⟩ =>
      show win0_8.index p 1 * 1024 ≤ (i 1 : Nat) ∧ (i 1 : Nat) < win0_8.index p 1 * 1024 + 1024
      rw [(index8 p).2]; omega

/-- The host's sum of the eight rows of the gain's gradient. -/
theorem sum7 (X : Rows) (DP : Cot) (W : Wts) :
    Host.reduceAdd (F := Ideal) (dg8 X DP W) (constant S_ .f32 0x00000000#32) reducesTo_S8x1024_S1024_d0 h_S_ = dgArr X DP W := by
  funext j
  obtain ⟨l, rfl⟩ : ∃ l : Fin 1024, j = ix1 l := ⟨j 0, eq_ix1 j⟩
  pointwise
  unfold dg8
  exact sum_by_eight 1024 (dgRow X DP W l.val)

/-- The host's sum of the eight rows of the column sums. -/
theorem sum8 (X : Rows) (DP : Cot) (W : Wts) (G : Gain) (D : Rows) :
    Host.reduceAdd (F := Ideal) (cs8 X DP W G D) (constant S_ .f32 0x00000000#32) reducesTo_S8x1024_S1024_d0 h_S_ = csArr X DP W G D := by
  funext j
  obtain ⟨l, rfl⟩ : ∃ l : Fin 1024, j = ix1 l := ⟨j 0, eq_ix1 j⟩
  pointwise
  unfold cs8
  exact sum_by_eight 1024 (fun n => dx X DP W G D n l.val)

/-- What the host's lines after the grid leave in the third and the fourth result. -/
theorem after7 (c : Dev nD) : Pipeline.afterTail₀ cfgs (dats m) 0 (V0 m) [hostOps1] c main_v1
    = dgArr (argX m c) (argDP m c) (argW m c) := by
  have h := Pipeline.withArrays_arr spec0 (by decide) c (V0 m c) (fun w => (dats m 0 c).arrAt w cfg0.N) 7
  rw [← sum7, ← final7 m c, ← h]
  rfl
theorem after8 (c : Dev nD) : Pipeline.afterTail₀ cfgs (dats m) 0 (V0 m) [hostOps1] c main_v2
    = csArr (argX m c) (argDP m c) (argW m c) (argG m c) (argD m c) := by
  have h := Pipeline.withArrays_arr spec0 (by decide) c (V0 m c) (fun w => (dats m 0 c).arrAt w cfg0.N) 8
  rw [← sum8, ← final8 m c, ← h]
  rfl

/-- The run: the four results, and the arguments unchanged. -/
theorem run : θ_run defs (onTc (τ := τ) (main (F := Ideal))) ⟨m, fun _ => 0, ρ⟩ fun r => ∀ c : Dev nD,
      r.2.mem ((c : Thread nD τ).loc main_v0_0) = dxArr (argX m c) (argDP m c) (argW m c) (argG m c) (argD m c)
      ∧ r.2.mem ((c : Thread nD τ).loc main_v0_1) = dxbArr (argX m c) (argDP m c) (argW m c) (argG m c) (argD m c)
      ∧ r.2.mem ((c : Thread nD τ).loc main_v1) = dgArr (argX m c) (argDP m c) (argW m c)
      ∧ r.2.mem ((c : Thread nD τ).loc main_v2) = csArr (argX m c) (argDP m c) (argW m c) (argG m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h.1 c).1 5).trans (final5 m c), ((h.1 c).1 6).trans (final6 m c), ((h.1 c).2 main_v1 (by decide)).trans (after7 m c),
      ((h.1 c).2 main_v2 (by decide)).trans (after8 m c), h.2 c⟩)
    (θ_run_and (run_main m ρ) (unchanged m ρ))

end Cert.QkvNormIdeal.KernelValue

/-! ## The reference -/

namespace Cert.QkvNormRefIdeal.RefValue

open Cert.QkvNormRefIdeal Cert.QkvNormRefIdeal.Read Cert.Common Cert.QkvNormSpec

variable (x0 : Rows) (x1 : Cot) (x2 : Wts) (x3 : Gain) (x4 : Rows)

/-- The mean square of a row, and one over its root. -/
theorem v7_eq (r : Fin 8192) (u : Fin 1) : val_main_v7 (F := Ideal) x0 (ix2 r u) = meanSq (rd2 x0 r.val) := by
  unfold val_main_v7 val_main_v6 val_main_cst_1 val_main_v5 val_main_v4 val_main_cst_0 val_main_v3 val_main_v2 val_main_cst val_main_v1
  pointwise
  simp only [eq_rd2 x0]
  rfl
theorem v8_eq (r : Fin 8192) (u : Fin 1) : val_main_v8 (F := Ideal) x0 (ix2 r u) = rstd (rd2 x0 r.val) := by
  unfold val_main_v8
  pointwise
  rw [v7_eq]
  rfl

/-- The norm's output's cotangent. -/
theorem v22_eq (r : Fin 8192) (l : Fin 1024) : val_main_v22 (F := Ideal) x1 x2 (ix2 r l) = dy x1 x2 r.val l.val := by
  unfold val_main_v22 val_main_v21 val_main_v19 val_main_v18 val_main_v17
  pointwise
  simp only [eq_rd2 x1, eq_rd3 x2]
  exact mulNT_sum x1 x2 1 1536 _ _

/-- The input's gradient. -/
theorem v43_eq (r : Fin 8192) (l : Fin 1024) : val_main_v43 (F := Ideal) x0 x1 x2 x3 x4 (ix2 r l) = dx x0 x1 x2 x3 x4 r.val l.val := by
  unfold val_main_v43 val_main_v42 val_main_v41 val_main_v40 val_main_v39 val_main_v38 val_main_v37 val_main_v36 val_main_v35 val_main_v34 val_main_v33 val_main_v32 val_main_v31 val_main_v30 val_main_v29 val_main_v27 val_main_v26 val_main_v11 val_main_v14 val_main_v10 val_main_v9 val_main_v0 val_main_cst_7 val_main_cst_6 val_main_cst_5 val_main_cst_2
  pointwise
  simp only [v8_eq, v7_eq, v22_eq, eq_rd2 x0, eq_rd2 x3, eq_rd2 x4, Fintype.sum_unique]
  exact (normDx_eq (rd2 x0 r.val) (dy x1 x2 r.val) (rd2 x3 0) (rd2 x4 r.val) l.val).symm

/-- The column sums. -/
theorem v45_eq (l : Fin 1024) : val_main_v45 (F := Ideal) x0 x1 x2 x3 x4 (ix1 l) = ∑ n ∈ Finset.range 8192, dx x0 x1 x2 x3 x4 n l.val := by
  unfold val_main_v45 val_main_cst_8
  pointwise
  simp only [v43_eq]
  exact (Finset.sum_range fun n => dx x0 x1 x2 x3 x4 n l.val).symm

/-- The gain's gradient. -/
theorem v28_eq (l : Fin 1024) : val_main_v28 (F := Ideal) x0 x1 x2 (ix1 l) = ∑ n ∈ Finset.range 8192, dgRow x0 x1 x2 l.val n := by
  unfold val_main_v28 val_main_v25 val_main_v24 val_main_v23 val_main_v13 val_main_v12 val_main_cst_4 val_main_cst_3
  pointwise
  simp only [v8_eq, v22_eq, eq_rd2 x0, Fintype.sum_unique]
  rw [Finset.sum_range]
  exact Finset.sum_congr rfl fun n _ => mul_comm _ _

end Cert.QkvNormRefIdeal.RefValue

namespace Cert.QkvNormClaim

open Cert.Common Cert.QkvNormSpec Cert.QkvNormIdeal.KernelValue Cert.QkvNormRefIdeal.RefValue Cert.QkvNormRefIdeal.Read

/-- The reference's results as arrays. -/
theorem ref_dx (X : Rows) (DP : Cot) (W : Wts) (G : Gain) (D : Rows) : val_main_v43 (F := Ideal) X DP W G D = dxArr X DP W G D := by
  funext j
  obtain ⟨r, l, rfl⟩ : ∃ (r : Fin 8192) (l : Fin 1024), j = ix2 r l := ⟨j 0, j 1, eq_ix2 j⟩
  exact v43_eq X DP W G D r l
theorem ref_dxb (X : Rows) (DP : Cot) (W : Wts) (G : Gain) (D : Rows) : val_main_v44 (F := Ideal) X DP W G D = dxbArr X DP W G D := by
  funext j
  obtain ⟨r, l, rfl⟩ : ∃ (r : Fin 8192) (l : Fin 1024), j = ix2 r l := ⟨j 0, j 1, eq_ix2 j⟩
  exact v43_eq X DP W G D r l
theorem ref_dg (X : Rows) (DP : Cot) (W : Wts) : val_main_v28 (F := Ideal) X DP W = dgArr X DP W := by
  funext j
  obtain ⟨l, rfl⟩ : ∃ l : Fin 1024, j = ix1 l := ⟨j 0, eq_ix1 j⟩
  exact v28_eq X DP W l
theorem ref_cs (X : Rows) (DP : Cot) (W : Wts) (G : Gain) (D : Rows) : val_main_v45 (F := Ideal) X DP W G D = csArr X DP W G D := by
  funext j
  obtain ⟨l, rfl⟩ : ∃ l : Fin 1024, j = ix1 l := ⟨j 0, eq_ix1 j⟩
  exact v45_eq X DP W G D l

/-- Both programs end with the same four arrays. -/
theorem algebraic : Cert.algebraic_QkvNormIdeal_QkvNormRefIdeal (hQkvNormIdeal := Cert.QkvNormIdeal.Gen.facts)
    (hQkvNormRefIdeal := Cert.QkvNormRefIdeal.Gen.facts) := fun m g m' g' _ hag =>
  ⟨fun c => dxArr (argX m c) (argDP m c) (argW m c) (argG m c) (argD m c),
    fun c => dxbArr (argX m c) (argDP m c) (argW m c) (argG m c) (argD m c),
    fun c => dgArr (argX m c) (argDP m c) (argW m c),
    fun c => csArr (argX m c) (argDP m c) (argW m c) (argG m c) (argD m c), run m g,
    (θ_run _ _ _).mono (fun _ h c => by
      obtain ⟨e0, e1, e2, e3, e4⟩ := hag c
      obtain ⟨h0, h1, h2, h3, h4⟩ := h c
      refine ⟨h0.trans ?_, h1.trans ?_, h2.trans ?_, h3.trans ?_, h4⟩
      · rw [val_main_v43_eq, e0, e1, e2, e3, e4]
        exact ref_dx _ _ _ _ _
      · rw [val_main_v44_eq, e0, e1, e2, e3, e4]
        exact ref_dxb _ _ _ _ _
      · rw [val_main_v28_eq, e0, e1, e2]
        exact ref_dg _ _ _
      · rw [val_main_v45_eq, e0, e1, e2, e3, e4]
        exact ref_cs _ _ _ _ _) (Cert.QkvNormRefIdeal.Value.run m' g')⟩

end Cert.QkvNormClaim

end
-- ==== Proof.Ffn.Spec.lean ====
/-
  The gate of the feed-forward part in plain formulas. The input `A` holds for each of the 8192 rows (four sequences of
  2048 positions each) the gate in lanes 0–2815 and the factor it multiplies in lanes 2816–5631; `W` holds the three taps
  of the gate's convolution. The part's middle activation is `z * sig z` times the factor, for the convolved gate `z`,
  where rows of an earlier sequence count as 0.
-/
module

public import proofs.«01_k».proof.Proof.Common.Product

@[expose] public section

noncomputable section

namespace Cert.FfnSpec

open Idealize.ShloMosaic Cert.Common

abbrev Wide := (⟨2, ![8192, 5632]⟩ : Shape).Idx → EReal
abbrev Taps := (⟨2, ![3, 2816]⟩ : Shape).Idx → EReal

variable (A : Wide) (W : Taps)

/-- The gate `k` positions earlier in the same sequence, 0 before the sequence starts. -/
def back (k n l : ℕ) : EReal := if n % 2048 < k then 0 else rd2 A (n - k) l

/-- The convolved gate. -/
def conv (n l : ℕ) : EReal := rd2 W 2 l * rd2 A n l + rd2 W 1 l * back A 1 n l + rd2 W 0 l * back A 2 n l

/-- The logistic function. -/
def sig (x : EReal) : EReal := Ideal.div 1 (1 + Ideal.exp (-x))

/-- The activation. -/
def act (n l : ℕ) : EReal := conv A W n l * sig (conv A W n l) * rd2 A n (2816 + l)

/-- The number one. -/
theorem c1 : Ideal.ofBits FTy.f32 1065353216#32 = (1 : EReal) := by
  simp [Ideal.ofBits, Ideal.ieee, -EReal.coe_mul]
  norm_num

/-- The number zero. -/
theorem c0 : Ideal.ofBits FTy.f32 0#32 = (0 : EReal) := by
  simp [Ideal.ofBits, Ideal.ieee]

/-- Whether two small numbers are equal as 32-bit words, as a number. -/
theorem pick_word {n k : ℕ} (hn : n < 4294967296) (hk : k < 4294967296) :
    FloatOps.sitofp (F := Ideal) FTy.f32 (BitVec.setWidth 32 (IntOp.cmpi CmpIPredicate.eq (BitVec.ofNat 32 n) (BitVec.ofNat 32 k)))
      = if n = k then (1 : EReal) else 0 := by
  by_cases h : n = k
  · subst h; rw [if_pos rfl]; simp [IntOp.cmpi]; show (((1 : ℤ) : ℝ) : EReal) = 1; simp
  · have hb : ¬ BitVec.ofNat 32 n = BitVec.ofNat 32 k := fun e => h (by
      have := congrArg BitVec.toNat e
      simpa [Nat.mod_eq_of_lt hn, Nat.mod_eq_of_lt hk] using this)
    rw [if_neg h]; simp [IntOp.cmpi, beq_eq_false_iff_ne.mpr hb]; show (((0 : ℤ) : ℝ) : EReal) = 0; simp

/-- A sum over 256 rows with one chosen row, `k` rows above row `r`. -/
theorem sum_pick (k r : ℕ) (hr : r < 256) (f : Fin 256 → EReal) (F : ℕ → EReal) (hF : ∀ x : Fin 256, f x = F x.val) :
    ∑ x : Fin 256, (if x.val + k = r then (1 : EReal) else 0) * f x = if r < k then 0 else F (r - k) := by
  split
  · exact Finset.sum_eq_zero fun x _ => by rw [if_neg (by omega), zero_mul]
  · rename_i h
    rw [Finset.sum_eq_single (⟨r - k, by omega⟩ : Fin 256)]
    · rw [if_pos (by show r - k + k = r; omega), one_mul, hF]
    · intro b _ hb
      rw [if_neg (fun e => hb (Fin.ext (by show b.val = r - k; omega))), zero_mul]
    · exact fun h => absurd (Finset.mem_univ _) h

/-- The same for the row `k` rows below row `r`. -/
theorem sum_pick_up (k r : ℕ) (f : Fin 256 → EReal) (F : ℕ → EReal) (hF : ∀ x : Fin 256, f x = F x.val) :
    ∑ x : Fin 256, (if x.val = r + k then (1 : EReal) else 0) * f x = if 256 ≤ r + k then 0 else F (r + k) := by
  split
  · exact Finset.sum_eq_zero fun x _ => by rw [if_neg (by omega), zero_mul]
  · rename_i h
    rw [Finset.sum_eq_single (⟨r + k, by omega⟩ : Fin 256)]
    · rw [if_pos rfl, one_mul, hF]
    · intro b _ hb
      rw [if_neg (fun e => hb (Fin.ext (by show b.val = r + k; omega))), zero_mul]
    · exact fun h => absurd (Finset.mem_univ _) h

end Cert.FfnSpec

end
-- ==== Proof.Ffn.OutPay.lean ====
/-
  What one half of a grid point of the feed-forward part's forward kernel computes, read entry by entry: the convolved
  gate, the activation, the product with the second weights plus the residual, and the RMS norm of that sum, each as a
  formula in the rows of the arguments.
-/
module

public import proofs.«01_k».proof.Proof.Ffn.Spec
public import proofs.«01_k».proof.Proof.Gen.FfnOutIdeal.Value

@[expose] public section

set_option maxRecDepth 16384

noncomputable section

open Idealize.ShloMosaic Idealize.ShloMosaic.TcCoe Idealize.SL.Sem

namespace Cert.FfnOutIdeal.KernelValue

open Cert.FfnOutIdeal Cert.FfnOutIdeal.Gen Cert.Common Cert.FfnSpec

abbrev Wts := (⟨3, ![4, 2816, 1024]⟩ : Shape).Idx → EReal
abbrev Rows := (⟨2, ![8192, 1024]⟩ : Shape).Idx → EReal
abbrev Gain := (⟨2, ![1, 1024]⟩ : Shape).Idx → EReal

/-- The entry of the product of the activation and the weights, plus the residual. -/
def entry (A : Wide) (W : Taps) (WD : Wts) (X : Rows) (n l : ℕ) : EReal :=
  ∑ k : Fin 2816, act A W n k.val * rd3 WD 3 k.val l + rd2 X n l

/-- The entry of its RMS norm. -/
def normed (A : Wide) (W : Taps) (WD : Wts) (X : Rows) (G : Gain) (n l : ℕ) : EReal :=
  rmsRow (entry A W WD X n) (rd2 G 0 l) l

/-- The vectors that one half reads are the arguments' rows from `n` on, and `h` the two rows before them (0 where a
    sequence starts). -/
structure Half (n : ℕ) (A : Wide) (W : Taps) (WD : Wts) (X : Rows) (G : Gain) (h : FVec Ideal S2x2816 .f32) (v u : Vec Ideal S256x2816 .bf16)
    (w2 w1 w0 : Vec Ideal S1x2816 .f32) (wd : Vec Ideal S1x2816x1024 .bf16) (x : Vec Ideal S256x1024 .f32) (g : Vec Ideal S1x1024 .f32) : Prop where
  dvd : n % 256 = 0
  hh : ∀ (r : Fin 2) (l : Fin 2816), h (ix2 r l) = if n % 2048 = 0 then 0 else rd2 A (n + r.val - 2) l.val
  hv : ∀ (r : Fin 256) (l : Fin 2816), v (ix2 r l) = rd2 A (n + r.val) l.val
  hu : ∀ (r : Fin 256) (l : Fin 2816), u (ix2 r l) = rd2 A (n + r.val) (2816 + l.val)
  h2 : ∀ l : Fin 2816, w2 (ix2 0 l) = rd2 W 2 l.val
  h1 : ∀ l : Fin 2816, w1 (ix2 0 l) = rd2 W 1 l.val
  h0 : ∀ l : Fin 2816, w0 (ix2 0 l) = rd2 W 0 l.val
  hd : ∀ (k : Fin 2816) (l : Fin 1024), wd (ix3 0 k l) = rd3 WD 3 k.val l.val
  hx : ∀ (r : Fin 256) (l : Fin 1024), x (ix2 r l) = rd2 X (n + r.val) l.val
  hg : ∀ l : Fin 1024, g (ix2 0 l) = rd2 G 0 l.val

/-- The product with the shifting matrix: the first 256 rows are the block moved down by one row, the others the block
    moved down by two rows, with 0 in the rows that come free. -/
theorem moved (v : Vec Ideal S256x2816 .bf16) (F : ℕ → ℕ → EReal) (hF : ∀ (x : Fin 256) (l : Fin 2816), v (ix2 x l) = F x.val l.val)
    (r : Fin 512) (l : Fin 2816) :
    k0_pay4 (F := Ideal) v (ix2 r l) = if r.val < 256 then (if r.val < 1 then 0 else F (r.val - 1) l.val)
      else (if r.val - 256 < 2 then 0 else F (r.val - 256 - 2) l.val) := by
  have hr := r.isLt
  have key : ∀ r : Fin 512, IntOp.subi
      (Scalar.select (IntOp.cmpi CmpIPredicate.sge (BitVec.ofNat 32 r.val) 256#32) (IntOp.subi (BitVec.ofNat 32 r.val) 256#32) (BitVec.ofNat 32 r.val))
      (Scalar.select (IntOp.cmpi CmpIPredicate.sge (BitVec.ofNat 32 r.val) 256#32) 2#32 1#32)
      = BitVec.ofNat 32 (if r.val < 256 then (if r.val < 1 then 4294967295 else r.val - 1)
        else (if r.val - 256 < 2 then 4294967294 else r.val - 256 - 2) + (if r.val = 257 then 1 else 0)) := by decide +kernel
  unfold k0_pay4
  pointwise
  rw [key]
  have hw : ∀ x : Fin 256, FloatOps.sitofp (F := Ideal) FTy.f32 (BitVec.setWidth 32 (IntOp.cmpi CmpIPredicate.eq (BitVec.ofNat 32 x.val)
      (BitVec.ofNat 32 (if r.val < 256 then (if r.val < 1 then 4294967295 else r.val - 1)
        else (if r.val - 256 < 2 then 4294967294 else r.val - 256 - 2) + (if r.val = 257 then 1 else 0)))))
      = if x.val + (if r.val < 256 then 1 else 2) = (if r.val < 256 then r.val else r.val - 256) then (1 : EReal) else 0 := by
    intro x
    have hx := x.isLt
    rw [pick_word (by omega) (by split_ifs <;> omega)]
    split_ifs <;> first | rfl | (exfalso; omega)
  simp only [hw]
  rw [sum_pick _ _ (by split_ifs <;> omega) _ (fun n => F n l.val) (fun x => hF x l)]
  split_ifs <;> first | rfl | (exfalso; omega)

variable {n : ℕ} {A : Wide} {W : Taps} {WD : Wts} {X : Rows} {G : Gain} {h : FVec Ideal S2x2816 .f32} {v u : Vec Ideal S256x2816 .bf16}
    {w2 w1 w0 : Vec Ideal S1x2816 .f32} {wd : Vec Ideal S1x2816x1024 .bf16} {x : Vec Ideal S256x1024 .f32} {g : Vec Ideal S1x1024 .f32}

/-- The convolved gate, in the first half's words. -/
abbrev convV (h : FVec Ideal S2x2816 .f32) (v : Vec Ideal S256x2816 .bf16) (w2 w1 w0 : Vec Ideal S1x2816 .f32) : FVec Ideal S256x2816 .f32 :=
  k0_pay8 h (iota .tc S8x1 32 [0] iota_S8x1_d0_w32) (k0_pay5 v) (k0_pay6 v) (k0_pay7 v) 0#32 w2 v w1 w0

/-- The convolved gate. -/
theorem conv_half (H : Half n A W WD X G h v u w2 w1 w0 wd x g) (r : Fin 256) (l : Fin 2816) :
    convV h v w2 w1 w0 (ix2 r l) = conv A W (n + r.val) l.val := by
  have hr := r.isLt
  have hd := H.dvd
  unfold convV k0_pay8 k0_pay7 k0_pay5 k0_pay6
  pointwise
  simp only [moved v (fun a b => rd2 A (n + a) b) H.hv, select_eq_ofNat (show r.val < 4294967296 by omega) (show 0 < 4294967296 by omega),
    select_eq_ofNat (show r.val < 4294967296 by omega) (show 1 < 4294967296 by omega), H.hh, H.hv, H.h2, H.h1, H.h0]
  unfold conv
  congr 1
  · congr 2
    unfold back
    split_ifs <;> first | (exfalso; omega) | rfl | exact rd2_congr _ (by omega) rfl | (rw [zero_add] <;> exact rd2_congr _ (by omega) rfl) | (rw [add_zero] <;> exact rd2_congr _ (by omega) rfl)
  · congr 1
    unfold back
    split_ifs <;> first | (exfalso; omega) | rfl | exact rd2_congr _ (by omega) rfl | (rw [zero_add] <;> exact rd2_congr _ (by omega) rfl) | (rw [add_zero] <;> exact rd2_congr _ (by omega) rfl)

/-- The activation. -/
theorem act_half (H : Half n A W WD X G h v u w2 w1 w0 wd x g) (r : Fin 256) (l : Fin 2816) :
    k0_pay10 (F := Ideal) (convV h v w2 w1 w0) k0_pay9 u (ix2 r l) = act A W (n + r.val) l.val := by
  unfold k0_pay10 k0_pay9
  pointwise
  rw [conv_half H, H.hu, zero_sub]
  rfl

/-- The product plus the residual. -/
theorem out_half (H : Half n A W WD X G h v u w2 w1 w0 wd x g) (r : Fin 256) (l : Fin 1024) :
    k0_pay11 (F := Ideal) (convV h v w2 w1 w0) k0_pay9 u wd x (ix2 r l) = entry A W WD X (n + r.val) l.val := by
  unfold k0_pay11
  pointwise
  simp only [act_half H, H.hd, H.hx]
  rfl

/-- The norm. -/
theorem norm_half (H : Half n A W WD X G h v u w2 w1 w0 wd x g) (r : Fin 256) (l : Fin 1024) :
    k0_pay12 (F := Ideal) (convV h v w2 w1 w0) k0_pay9 u wd x g (ix2 r l) = normed A W WD X G (n + r.val) l.val := by
  unfold k0_pay12
  pointwise
  simp only [out_half H, H.hg]
  rfl

/-- The second half's words say the same as the first half's. -/
theorem act_second (h : Vec Ideal S16x2816 .bf16) (v u : Vec Ideal S256x2816 .bf16) (w2 w1 w0 : Vec Ideal S1x2816 .f32) :
    k0_pay24 (F := Ideal) (k0_pay15 v) (k0_pay16 v) (k0_pay17 h v) (k0_pay18 v) k0_pay19 (k0_pay20 h) k0_pay21 (k0_pay22 h) k0_pay23 w2 v w1 w0 u
      = k0_pay10 (convV (k0_pay13 h) v w2 w1 w0) k0_pay9 u := rfl
theorem out_second (h : Vec Ideal S16x2816 .bf16) (v u : Vec Ideal S256x2816 .bf16) (w2 w1 w0 : Vec Ideal S1x2816 .f32)
    (wd : Vec Ideal S1x2816x1024 .bf16) (x : Vec Ideal S256x1024 .f32) :
    k0_pay1 (F := Ideal) (k0_pay25 (k0_pay15 v) (k0_pay16 v) (k0_pay17 h v) (k0_pay18 v) k0_pay19 (k0_pay20 h) k0_pay21 (k0_pay22 h) k0_pay23 w2 v w1 w0 u wd) x
      = k0_pay11 (convV (k0_pay13 h) v w2 w1 w0) k0_pay9 u wd x := rfl
theorem norm_second (h : Vec Ideal S16x2816 .bf16) (v u : Vec Ideal S256x2816 .bf16) (w2 w1 w0 : Vec Ideal S1x2816 .f32)
    (wd : Vec Ideal S1x2816x1024 .bf16) (x : Vec Ideal S256x1024 .f32) (g : Vec Ideal S1x1024 .f32) :
    k0_pay2 (F := Ideal) (k0_pay25 (k0_pay15 v) (k0_pay16 v) (k0_pay17 h v) (k0_pay18 v) k0_pay19 (k0_pay20 h) k0_pay21 (k0_pay22 h) k0_pay23 w2 v w1 w0 u wd) x g
      = k0_pay12 (convV (k0_pay13 h) v w2 w1 w0) k0_pay9 u wd x g := rfl

/-- The two rows before the first half: the last rows of the block before, times 0 where a sequence starts. -/
theorem halo_first (i : grid0.Coords) (hb : Vec Ideal S16x2816 .bf16) (r : Fin 2) (l : Fin 2816) :
    k0_pay3 (F := Ideal) i hb (ix2 r l) = if (i 0).val % 4 = 0 then 0 else hb (ix2 ⟨14 + r.val, by omega⟩ l) := by
  have hi : (i 0).val < 16 := (i 0).isLt
  have key : ∀ n : Fin 16, (Scalar.extui (Scalar.cmpi .ne (Scalar.select (Scalar.andi (Scalar.xori
      (Scalar.cmpi .slt (Scalar.remsi (BitVec.ofNat 32 n.val) (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (BitVec.ofNat 32 n.val) (Scalar.select (Scalar.cmpi .eq 4#32 0#32) 1#32 4#32)) 0#32))
      (Scalar.addi (Scalar.remsi (BitVec.ofNat 32 n.val) (Scalar.select (Scalar.cmpi .eq 4#32 0#32) 1#32 4#32)) (Scalar.select (Scalar.cmpi .eq 4#32 0#32) 1#32 4#32))
      (Scalar.remsi (BitVec.ofNat 32 n.val) (Scalar.select (Scalar.cmpi .eq 4#32 0#32) 1#32 4#32))) 0#32) : BitVec 32)
      = if n.val % 4 = 0 then 0#32 else 1#32 := by decide +kernel
  unfold k0_pay3
  dsimp only
  have := key ⟨(i 0).val, hi⟩
  dsimp only at this
  rw [this]
  split <;> pointwise <;> simp

/-- The two rows before the second half. -/
theorem halo_second (hb : Vec Ideal S16x2816 .bf16) (r : Fin 2) (l : Fin 2816) :
    k0_pay13 (F := Ideal) hb (ix2 r l) = hb (ix2 ⟨14 + r.val, by omega⟩ l) := by
  unfold k0_pay13
  pointwise

end Cert.FfnOutIdeal.KernelValue

end
-- ==== Proof.Ffn.Out.lean ====
/-
  The forward kernel of the feed-forward part: the convolved gate and its activation, the second product with the
  residual added, and the RMS norm of the sum. The kernel's run and the reference's run end with the same three arrays,
  for all inputs.
-/
module

public import proofs.«01_k».proof.Defs
public import proofs.«01_k».proof.Proof.Ffn.OutPay
public import proofs.«01_k».proof.Proof.Gen.FfnOutRefIdeal.Run
public import proofs.«01_k».proof.Proof.Gen.FfnOutRefIdeal.Read

@[expose] public section

set_option maxRecDepth 16384

noncomputable section

open Idealize.ShloMosaic Idealize.ShloMosaic.TcCoe Idealize.SL.Sem
open Idealize.ShloMosaic.Pipeline (Dat)

namespace Cert.FfnOutIdeal.KernelValue

open Cert.FfnOutIdeal Cert.FfnOutIdeal.Gen Cert.Common Cert.FfnSpec

variable (m : (ℓ : Loc nD τ sig) → Buf (Elt Ideal) ℓ) (ρ : Dev nD → PrngReg)

/-- The joined gate and factor, the taps, the second weights, the residual, the gain. -/
abbrev argA (c : Dev nD) : Wide := m ((c : Thread nD τ).loc main_arg0)
abbrev argW (c : Dev nD) : Taps := m ((c : Thread nD τ).loc main_arg1)
abbrev argWD (c : Dev nD) : Wts := m ((c : Thread nD τ).loc main_arg2)
abbrev argX (c : Dev nD) : Rows := m ((c : Thread nD τ).loc main_arg3)
abbrev argG (c : Dev nD) : Gain := m ((c : Thread nD τ).loc main_arg4)

/-- The grid's coordinate is the point's number. -/
theorem coord0 : ∀ t : Fin cfg0.N, (grid0.coords t 0).val = t.val :=
  (by decide +kernel : ∀ t : Fin grid0.N, (grid0.coords t 0).val = t.val)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, (t.val % 4 ≠ 0 → win0_1.index t 0 = 32 * t.val - 1) ∧ win0_1.index t 1 = 0 :=
  (by decide +kernel : ∀ t : Fin grid0.N, (t.val % 4 ≠ 0 → win0_1.index t 0 = 32 * t.val - 1) ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 3 ∧ win0_3.index t 1 = 0 ∧ win0_3.index t 2 = 0 :=
  (by decide +kernel : ∀ t : Fin grid0.N, win0_3.index t 0 = 3 ∧ win0_3.index t 1 = 0 ∧ win0_3.index t 2 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = t.val ∧ win0_8.index t 1 = 0 :=
  (by decide +kernel : ∀ t : Fin grid0.N, win0_8.index t 0 = t.val ∧ win0_8.index t 1 = 0)

/-- Rows of the joined gate and factor in a point's block. -/
theorem gate_rows (c : Dev nD) (t : Fin cfg0.N) (a b p q : ℕ) (r : Fin p) (l : Fin q)
    (inb : ∀ k, (![a, b] : Fin 2 → ℕ) k + (![p, q] : Fin 2 → ℕ) k ≤ S512x5632.size k) :
    View.ld (iblk m c 0 t : Vec Ideal S512x5632 .bf16) (Rect.unit (s := S512x5632) ![a, b] ![p, q] inb) (ix2 r l) = rd2 (argA m c) (512 * t.val + (a + r.val)) (b + l.val) := by
  show iblk m c 0 t _ = _
  unfold iblk
  rw [View.read_apply]
  refine (eq_rd2' (argA m c) _).trans (rd2_congr _ ?_ ?_)
  · show win0_0.index t 0 * 512 + 1 * (a + 1 * r.val) = 512 * t.val + (a + r.val); rw [(index0 t).1]; omega
  · show win0_0.index t 1 * 5632 + 1 * (b + 1 * l.val) = b + l.val; rw [(index0 t).2]; omega

/-- The rows before a point's block, inside a sequence. -/
theorem rows_before (c : Dev nD) (t : Fin cfg0.N) (h : t.val % 4 ≠ 0) (r : Fin 16) (l : Fin 2816)
    (inb : ∀ k, (![0, 0] : Fin 2 → ℕ) k + (![16, 2816] : Fin 2 → ℕ) k ≤ S16x5632.size k) :
    View.ld (iblk m c 1 t : Vec Ideal S16x5632 .bf16) (Rect.unit (s := S16x5632) ![0, 0] ![16, 2816] inb) (ix2 r l) = rd2 (argA m c) (512 * t.val + r.val - 16) (l.val) := by
  show iblk m c 1 t _ = _
  unfold iblk
  rw [View.read_apply]
  refine (eq_rd2' (argA m c) _).trans (rd2_congr _ ?_ ?_)
  · show win0_1.index t 0 * 16 + 1 * (0 + 1 * r.val) = 512 * t.val + r.val - 16; rw [(index1 t).1 h]; omega
  · show win0_1.index t 1 * 5632 + 1 * (0 + 1 * l.val) = l.val; rw [(index1 t).2]; omega

/-- The taps. -/
theorem tap (c : Dev nD) (t : Fin cfg0.N) (a : ℕ) (r : Fin 1) (l : Fin 2816)
    (inb : ∀ k, (![a, 0] : Fin 2 → ℕ) k + (![1, 2816] : Fin 2 → ℕ) k ≤ S3x2816.size k) :
    View.ld (iblk m c 2 t : Vec Ideal S3x2816 .f32) (Rect.unit (s := S3x2816) ![a, 0] ![1, 2816] inb) (ix2 r l) = rd2 (argW m c) (a) (l.val) := by
  show iblk m c 2 t _ = _
  unfold iblk
  rw [View.read_apply]
  refine (eq_rd2' (argW m c) _).trans (rd2_congr _ ?_ ?_)
  · show win0_2.index t 0 * 3 + 1 * (a + 1 * r.val) = a; rw [(index2 t).1]; omega
  · show win0_2.index t 1 * 2816 + 1 * (0 + 1 * l.val) = l.val; rw [(index2 t).2]; omega

/-- The second weights. -/
theorem weights (c : Dev nD) (t : Fin cfg0.N) (k : Fin 2816) (l : Fin 1024)
    (inb : ∀ k, (![0, 0, 0] : Fin 3 → ℕ) k + (![1, 2816, 1024] : Fin 3 → ℕ) k ≤ S1x2816x1024.size k) :
    View.ld (iblk m c 3 t : Vec Ideal S1x2816x1024 .bf16) (Rect.unit (s := S1x2816x1024) ![0, 0, 0] ![1, 2816, 1024] inb) (ix3 0 k l) = rd3 (argWD m c) 3 k.val l.val := by
  show iblk m c 3 t _ = _
  unfold iblk
  rw [View.read_apply]
  refine (eq_rd3' (argWD m c) _).trans (rd3_congr _ ?_ ?_ ?_)
  · show win0_3.index t 0 * 1 + 1 * (0 + 1 * 0) = 3; rw [(index3 t).1]
  · show win0_3.index t 1 * 2816 + 1 * (0 + 1 * k.val) = k.val; rw [(index3 t).2.1]; omega
  · show win0_3.index t 2 * 1024 + 1 * (0 + 1 * l.val) = l.val; rw [(index3 t).2.2]; omega

/-- The residual's rows. -/
theorem residual (c : Dev nD) (t : Fin cfg0.N) (a : ℕ) (r : Fin 256) (l : Fin 1024)
    (inb : ∀ k, (![a, 0] : Fin 2 → ℕ) k + (![256, 1024] : Fin 2 → ℕ) k ≤ S512x1024.size k) :
    View.ld (iblk m c 4 t : Vec Ideal S512x1024 .f32) (Rect.unit (s := S512x1024) ![a, 0] ![256, 1024] inb) (ix2 r l) = rd2 (argX m c) (512 * t.val + (a + r.val)) (l.val) := by
  show iblk m c 4 t _ = _
  unfold iblk
  rw [View.read_apply]
  refine (eq_rd2' (argX m c) _).trans (rd2_congr _ ?_ ?_)
  · show win0_4.index t 0 * 512 + 1 * (a + 1 * r.val) = 512 * t.val + (a + r.val); rw [(index4 t).1]; omega
  · show win0_4.index t 1 * 1024 + 1 * (0 + 1 * l.val) = l.val; rw [(index4 t).2]; omega

/-- The gain. -/
theorem gain (c : Dev nD) (t : Fin cfg0.N) (r : Fin 1) (l : Fin 1024)
    (inb : ∀ k, (![0, 0] : Fin 2 → ℕ) k + (![1, 1024] : Fin 2 → ℕ) k ≤ S1x1024.size k) :
    View.ld (iblk m c 5 t : Vec Ideal S1x1024 .f32) (Rect.unit (s := S1x1024) ![0, 0] ![1, 1024] inb) (ix2 r l) = rd2 (argG m c) (0) (l.val) := by
  show iblk m c 5 t _ = _
  unfold iblk
  rw [View.read_apply]
  refine (eq_rd2' (argG m c) _).trans (rd2_congr _ ?_ ?_)
  · show win0_5.index t 0 * 1 + 1 * (0 + 1 * r.val) = 0; rw [(index5 t).1]; omega
  · show win0_5.index t 1 * 1024 + 1 * (0 + 1 * l.val) = l.val; rw [(index5 t).2]; omega

/-- The first half of a point's rows. -/
theorem half_first (c : Dev nD) (t : Fin cfg0.N) :
    Half (512 * t.val + 0) (argA m c) (argW m c) (argWD m c) (argX m c) (argG m c)
      (k0_pay3 (grid0.coords t) (View.ld (iblk m c 1 t : Vec Ideal S16x5632 .bf16) r0_0))
      (View.ld (iblk m c 0 t : Vec Ideal S512x5632 .bf16) r0_1) (View.ld (iblk m c 0 t : Vec Ideal S512x5632 .bf16) r0_5)
      (View.ld (iblk m c 2 t : Vec Ideal S3x2816 .f32) r0_2) (View.ld (iblk m c 2 t : Vec Ideal S3x2816 .f32) r0_3) (View.ld (iblk m c 2 t : Vec Ideal S3x2816 .f32) r0_4)
      (View.ld (iblk m c 3 t : Vec Ideal S1x2816x1024 .bf16) r0_7) (View.ld (iblk m c 4 t : Vec Ideal S512x1024 .f32) r0_8)
      (View.ld (iblk m c 5 t : Vec Ideal S1x1024 .f32) r0_9) where
  dvd := by omega
  hh r l := by
    rw [halo_first, coord0]
    by_cases h : t.val % 4 = 0
    · rw [if_pos h, if_pos (by omega)]
    · rw [if_neg h, if_neg (by omega)]
      exact (rows_before m c t h _ l _).trans (rd2_congr _ (by show 512 * t.val + (14 + r.val) - 16 = _; omega) rfl)
  hv r l := (gate_rows m c t 0 0 256 2816 r l _).trans (rd2_congr _ (by omega) (by omega))
  hu r l := (gate_rows m c t 0 2816 256 2816 r l _).trans (rd2_congr _ (by omega) rfl)
  h2 l := tap m c t 2 0 l _
  h1 l := tap m c t 1 0 l _
  h0 l := tap m c t 0 0 l _
  hd k l := weights m c t k l _
  hx r l := (residual m c t 0 r l _).trans (rd2_congr _ (by omega) rfl)
  hg l := gain m c t 0 l _

/-- The second half of a point's rows. -/
theorem half_second (c : Dev nD) (t : Fin cfg0.N) :
    Half (512 * t.val + 256) (argA m c) (argW m c) (argWD m c) (argX m c) (argG m c)
      (k0_pay13 (View.ld (iblk m c 0 t : Vec Ideal S512x5632 .bf16) r0_10))
      (View.ld (iblk m c 0 t : Vec Ideal S512x5632 .bf16) r0_11) (View.ld (iblk m c 0 t : Vec Ideal S512x5632 .bf16) r0_12)
      (View.ld (iblk m c 2 t : Vec Ideal S3x2816 .f32) r0_2) (View.ld (iblk m c 2 t : Vec Ideal S3x2816 .f32) r0_3) (View.ld (iblk m c 2 t : Vec Ideal S3x2816 .f32) r0_4)
      (View.ld (iblk m c 3 t : Vec Ideal S1x2816x1024 .bf16) r0_7) (View.ld (iblk m c 4 t : Vec Ideal S512x1024 .f32) r0_14)
      (View.ld (iblk m c 5 t : Vec Ideal S1x1024 .f32) r0_9) where
  dvd := by omega
  hh r l := by
    rw [halo_second, if_neg (by omega)]
    exact (gate_rows m c t 240 0 16 2816 _ l _).trans (rd2_congr _ (by show 512 * t.val + (240 + (14 + r.val)) = _; omega) (by omega))
  hv r l := (gate_rows m c t 256 0 256 2816 r l _).trans (rd2_congr _ (by omega) (by omega))
  hu r l := (gate_rows m c t 256 2816 256 2816 r l _).trans (rd2_congr _ (by omega) rfl)
  h2 l := tap m c t 2 0 l _
  h1 l := tap m c t 1 0 l _
  h0 l := tap m c t 0 0 l _
  hd k l := weights m c t k l _
  hx r l := (residual m c t 256 r l _).trans (rd2_congr _ (by omega) rfl)
  hg l := gain m c t 0 l _

/-- The second product plus the residual, in a point's output block. -/
theorem out6_at (c : Dev nD) (t : Fin cfg0.N) (r : Fin 512) (l : Fin 1024) :
    out0_6 (grid0.coords t) (iblk m c 0 t) (iblk m c 1 t) (iblk m c 2 t) (iblk m c 3 t) (iblk m c 4 t) (iblk m c 5 t) (ix2 r l)
      = entry (argA m c) (argW m c) (argWD m c) (argX m c) (512 * t.val + r.val) l.val := by
  have hr := r.isLt
  have hl := l.isLt
  unfold_out out0_6
  rw [canon_unit2, canon_unit2]
  by_cases h : 256 ≤ r.val
  · rw [dif_pos (by omega), out_second]
    exact (out_half (half_second m c t) _ _).trans (by congr 1; show 512 * t.val + 256 + (r.val - 256) = 512 * t.val + r.val; omega)
  · rw [dif_neg (by omega), dif_pos (by omega)]
    exact out_half (half_first m c t) _ _

/-- The activation, in a point's output block. -/
theorem out7_at (c : Dev nD) (t : Fin cfg0.N) (r : Fin 512) (l : Fin 2816) :
    out0_7 (grid0.coords t) (iblk m c 0 t) (iblk m c 1 t) (iblk m c 2 t) (iblk m c 3 t) (iblk m c 4 t) (iblk m c 5 t) (ix2 r l)
      = act (argA m c) (argW m c) (512 * t.val + r.val) l.val := by
  have hr := r.isLt
  have hl := l.isLt
  unfold_out out0_7
  rw [canon_unit2, canon_unit2]
  by_cases h : 256 ≤ r.val
  · rw [dif_pos (by omega), act_second]
    exact (act_half (half_second m c t) _ _).trans (by congr 1; show 512 * t.val + 256 + (r.val - 256) = 512 * t.val + r.val; omega)
  · rw [dif_neg (by omega), dif_pos (by omega)]
    exact act_half (half_first m c t) _ _

/-- The norm of the sum, in a point's output block. -/
theorem out8_at (c : Dev nD) (t : Fin cfg0.N) (r : Fin 512) (l : Fin 1024) :
    out0_8 (grid0.coords t) (iblk m c 0 t) (iblk m c 1 t) (iblk m c 2 t) (iblk m c 3 t) (iblk m c 4 t) (iblk m c 5 t) (ix2 r l)
      = normed (argA m c) (argW m c) (argWD m c) (argX m c) (argG m c) (512 * t.val + r.val) l.val := by
  have hr := r.isLt
  have hl := l.isLt
  unfold_out out0_8
  rw [canon_unit2, canon_unit2]
  by_cases h : 256 ≤ r.val
  · rw [dif_pos (by omega), norm_second]
    exact (norm_half (half_second m c t) _ _).trans (by congr 1; show 512 * t.val + 256 + (r.val - 256) = 512 * t.val + r.val; omega)
  · rw [dif_neg (by omega), dif_pos (by omega)]
    exact norm_half (half_first m c t) _ _

/-- The second product plus the residual, as an array. -/
def outArr (A : Wide) (W : Taps) (WD : Wts) (X : Rows) : Vec Ideal S8192x1024 .f32 := fun j => entry A W WD X (j 0).val (j 1).val

/-- The array after the run. -/
theorem final6 (c : Dev nD) : (dats m 0 c).arrAt 6 cfg0.N = outArr (argA m c) (argW m c) (argWD m c) (argX m c) := by
  have hN : cfg0.N = 16 := N_0
  refine (dats m 0 c).arrAt_eq_of_cover 6 _ (fun t _ => ?_) fun i => ?_
  · rw [Value.flushed6]
    funext j
    obtain ⟨r, l, hj⟩ : ∃ (r : Fin 512) (l : Fin 1024), j = ix2 r l := ⟨j 0, j 1, eq_ix2 j⟩
    show out0_6 _ _ _ _ _ _ _ j = outArr (argA m c) (argW m c) (argWD m c) (argX m c) (((cfg0.win 6).blk t).view.emb j)
    rw [hj]
    refine (out6_at m c t r l).trans ?_
    unfold outArr
    refine congr (congrArg _ ?_) ?_
    · show _ = win0_6.index t 0 * 512 + 1 * r.val; rw [(index6 t).1]; omega
    · show _ = win0_6.index t 1 * 1024 + 1 * l.val; rw [(index6 t).2]; omega
  · have h0 : (i 0 : Nat) < 8192 := (i 0).isLt
    have h1 : (i 1 : Nat) < 1024 := (i 1).isLt
    let p : Fin cfg0.N := ⟨(i 0).val / 512, by omega⟩
    have hp : p.val = (i 0).val / 512 := rfl
    refine ⟨p, (by decide +kernel : ∀ t : Fin grid0.N, (cfg0.win 6).flush t = true) _, ?_⟩
    show i ∈ ((View.whole main_v0_0).slice (win0_6.rect p)).set
    rw [View.set_slice_whole, Rect.mem_set_unit]
    intro a
    match a with
    | ⟨0, _⟩ =>
      show win0_6.index p 0 * 512 ≤ (i 0 : Nat) ∧ (i 0 : Nat) < win0_6.index p 0 * 512 + 512
      rw [(index6 p).1, hp]; omega
    | ⟨1, _⟩ =>
      show win0_6.index p 1 * 1024 ≤ (i 1 : Nat) ∧ (i 1 : Nat) < win0_6.index p 1 * 1024 + 1024
      rw [(index6 p).2]; omega

/-- The activation, as an array. -/
def actArr (A : Wide) (W : Taps) : Vec Ideal S8192x2816 .bf16 := fun j => act A W (j 0).val (j 1).val

/-- The array after the run. -/
theorem final7 (c : Dev nD) : (dats m 0 c).arrAt 7 cfg0.N = actArr (argA m c) (argW m c) := by
  have hN : cfg0.N = 16 := N_0
  refine (dats m 0 c).arrAt_eq_of_cover 7 _ (fun t _ => ?_) fun i => ?_
  · rw [Value.flushed7]
    funext j
    obtain ⟨r, l, hj⟩ : ∃ (r : Fin 512) (l : Fin 2816), j = ix2 r l := ⟨j 0, j 1, eq_ix2 j⟩
    show out0_7 _ _ _ _ _ _ _ j = actArr (argA m c) (argW m c) (((cfg0.win 7).blk t).view.emb j)
    rw [hj]
    refine (out7_at m c t r l).trans ?_
    unfold actArr
    refine congr (congrArg _ ?_) ?_
    · show _ = win0_7.index t 0 * 512 + 1 * r.val; rw [(index7 t).1]; omega
    · show _ = win0_7.index t 1 * 2816 + 1 * l.val; rw [(index7 t).2]; omega
  · have h0 : (i 0 : Nat) < 8192 := (i 0).isLt
    have h1 : (i 1 : Nat) < 2816 := (i 1).isLt
    let p : Fin cfg0.N := ⟨(i 0).val / 512, by omega⟩
    have hp : p.val = (i 0).val / 512 := rfl
    refine ⟨p, (by decide +kernel : ∀ t : Fin grid0.N, (cfg0.win 7).flush t = true) _, ?_⟩
    show i ∈ ((View.whole main_v0_1).slice (win0_7.rect p)).set
    rw [View.set_slice_whole, Rect.mem_set_unit]
    intro a
    match a with
    | ⟨0, _⟩ =>
      show win0_7.index p 0 * 512 ≤ (i 0 : Nat) ∧ (i 0 : Nat) < win0_7.index p 0 * 512 + 512
      rw [(index7 p).1, hp]; omega
    | ⟨1, _⟩ =>
      show win0_7.index p 1 * 2816 ≤ (i 1 : Nat) ∧ (i 1 : Nat) < win0_7.index p 1 * 2816 + 2816
      rw [(index7 p).2]; omega

/-- The norm of the sum, as an array. -/
def normArr (A : Wide) (W : Taps) (WD : Wts) (X : Rows) (G : Gain) : Vec Ideal S8192x1024 .bf16 := fun j => normed A W WD X G (j 0).val (j 1).val

/-- The array after the run. -/
theorem final8 (c : Dev nD) : (dats m 0 c).arrAt 8 cfg0.N = normArr (argA m c) (argW m c) (argWD m c) (argX m c) (argG m c) := by
  have hN : cfg0.N = 16 := N_0
  refine (dats m 0 c).arrAt_eq_of_cover 8 _ (fun t _ => ?_) fun i => ?_
  · rw [Value.flushed8]
    funext j
    obtain ⟨r, l, hj⟩ : ∃ (r : Fin 512) (l : Fin 1024), j = ix2 r l := ⟨j 0, j 1, eq_ix2 j⟩
    show out0_8 _ _ _ _ _ _ _ j = normArr (argA m c) (argW m c) (argWD m c) (argX m c) (argG m c) (((cfg0.win 8).blk t).view.emb j)
    rw [hj]
    refine (out8_at m c t r l).trans ?_
    unfold normArr
    refine congr (congrArg _ ?_) ?_
    · show _ = win0_8.index t 0 * 512 + 1 * r.val; rw [(index8 t).1]; omega
    · show _ = win0_8.index t 1 * 1024 + 1 * l.val; rw [(index8 t).2]; omega
  · have h0 : (i 0 : Nat) < 8192 := (i 0).isLt
    have h1 : (i 1 : Nat) < 1024 := (i 1).isLt
    let p : Fin cfg0.N := ⟨(i 0).val / 512, by omega⟩
    have hp : p.val = (i 0).val / 512 := rfl
    refine ⟨p, (by decide +kernel : ∀ t : Fin grid0.N, (cfg0.win 8).flush t = true) _, ?_⟩
    show i ∈ ((View.whole main_v0_2).slice (win0_8.rect p)).set
    rw [View.set_slice_whole, Rect.mem_set_unit]
    intro a
    match a with
    | ⟨0, _⟩ =>
      show win0_8.index p 0 * 512 ≤ (i 0 : Nat) ∧ (i 0 : Nat) < win0_8.index p 0 * 512 + 512
      rw [(index8 p).1, hp]; omega
    | ⟨1, _⟩ =>
      show win0_8.index p 1 * 1024 ≤ (i 1 : Nat) ∧ (i 1 : Nat) < win0_8.index p 1 * 1024 + 1024
      rw [(index8 p).2]; omega

end Cert.FfnOutIdeal.KernelValue

/-! ## The reference -/

namespace Cert.FfnOutRefIdeal.RefValue

open Cert.FfnOutRefIdeal Cert.FfnOutRefIdeal.Read Cert.Common Cert.FfnSpec Cert.FfnOutIdeal.KernelValue

variable (A : Wide) (W : Taps) (WD : Wts) (X : Rows) (G : Gain)

section
variable (b : Fin 4) (s : Fin 2048) (l : Fin 2816)

/-- The gate and the factor. -/
theorem ref_g : val_main_v2 (F := Ideal) A (ix3 b s l) = rd2 A (b.val * 2048 + s.val) l.val := by
  unfold val_main_v2 val_main_v1 val_main_v0
  pointwise
  exact eq_rd2 A _ _
theorem ref_u : val_main_v3 (F := Ideal) A (ix3 b s l) = rd2 A (b.val * 2048 + s.val) (2816 + l.val) := by
  unfold val_main_v3 val_main_v1 val_main_v0
  pointwise
  exact eq_rd2 A _ _

/-- The gate one and two positions earlier. -/
theorem ref_g2 : val_main_v9 (F := Ideal) A (ix3 b s l) = back A 2 (b.val * 2048 + s.val) l.val := by
  have hs := s.isLt
  unfold val_main_v9 val_main_v7 val_main_v8 val_main_cst
  pointwise
  simp only [ref_g]
  unfold back
  split_ifs <;> first | (exfalso; omega) | rfl | exact rd2_congr _ (by show b.val * 2048 + (s.val - 2) = _; omega) rfl
theorem ref_g1 : val_main_v18 (F := Ideal) A (ix3 b s l) = back A 1 (b.val * 2048 + s.val) l.val := by
  have hs := s.isLt
  unfold val_main_v18 val_main_v16 val_main_v17 val_main_cst_0
  pointwise
  simp only [ref_g]
  unfold back
  split_ifs <;> first | (exfalso; omega) | rfl | exact rd2_congr _ (by show b.val * 2048 + (s.val - 1) = _; omega) rfl

/-- The taps, spread over all rows. -/
theorem ref_w0 : val_main_v11 (F := Ideal) W (ix3 b s l) = rd2 W 0 l.val := by
  unfold val_main_v11 val_main_v10 val_main_v5 val_main_v4
  pointwise
  exact eq_rd2 W _ _
theorem ref_w1 : val_main_v20 (F := Ideal) W (ix3 b s l) = rd2 W 1 l.val := by
  unfold val_main_v20 val_main_v19 val_main_v14 val_main_v13
  pointwise
  exact eq_rd2 W _ _
theorem ref_w2 : val_main_v26 (F := Ideal) W (ix3 b s l) = rd2 W 2 l.val := by
  unfold val_main_v26 val_main_v25 val_main_v24 val_main_v23
  pointwise
  exact eq_rd2 W _ _

/-- The convolved gate: the reference adds the taps' products first to last. -/
theorem ref_conv : val_main_v28 (F := Ideal) A W (ix3 b s l) = conv A W (b.val * 2048 + s.val) l.val := by
  unfold val_main_v28 val_main_v27 val_main_v22 val_main_v21 val_main_v12
  pointwise
  rw [ref_w0, ref_w1, ref_w2, ref_g, ref_g1, ref_g2]
  unfold conv
  rw [add_comm, add_comm (rd2 W 0 l.val * _), add_assoc]

/-- The activation, before the rows of the sequences are joined. -/
theorem ref_act : val_main_v30 (F := Ideal) A W (ix3 b s l) = act A W (b.val * 2048 + s.val) l.val := by
  unfold val_main_v30 val_main_v29 val_main_call0_v5 val_main_call0_v4 val_main_call0_v3 val_main_call0_v2 val_main_call0_v1 val_main_call0_v0
    val_main_call0_cst val_main_call0_cst_0
  pointwise
  rw [ref_conv, ref_u]
  rfl

end

/-- The activation. -/
theorem ref_act_rows (n : Fin 8192) (l : Fin 2816) : val_main_v32 (F := Ideal) A W (ix2 n l) = act A W n.val l.val := by
  have hn := n.isLt
  unfold val_main_v32 val_main_v31
  pointwise
  rw [ref_act]
  have e : n.val / 2048 * 2048 + n.val % 2048 = n.val := by omega
  exact congrArg (fun k => act A W k l.val) e

/-- The product plus the residual. -/
theorem ref_entry (n : Fin 8192) (l : Fin 1024) : val_main_v38 (F := Ideal) A W WD X (ix2 n l) = entry A W WD X n.val l.val := by
  unfold val_main_v38 val_main_v37 val_main_v36 val_main_v35 val_main_v34 val_main_v33
  pointwise
  simp only [ref_act_rows, eq_rd3 WD, eq_rd2 X]
  rfl

/-- The norm. -/
theorem ref_norm (n : Fin 8192) (l : Fin 1024) : val_main_v53 (F := Ideal) A W WD X G (ix2 n l) = normed A W WD X G n.val l.val := by
  unfold val_main_v53 val_main_v52 val_main_v51 val_main_v50 val_main_v49 val_main_v48 val_main_v47 val_main_v46 val_main_v45 val_main_cst_3 val_main_v44
    val_main_v43 val_main_cst_2 val_main_v42 val_main_v41 val_main_cst_1 val_main_v40 val_main_v39
  pointwise
  simp only [ref_entry]
  exact congrArg _ (eq_rd2 G 0 l)

end Cert.FfnOutRefIdeal.RefValue

namespace Cert.FfnOutClaim

open Cert.FfnSpec Cert.FfnOutIdeal.KernelValue Cert.FfnOutRefIdeal.RefValue Cert.FfnOutRefIdeal.Read

/-- The reference's results as arrays. -/
theorem ref_outArr (A : Wide) (W : Taps) (WD : Wts) (X : Rows) : val_main_v38 (F := Ideal) A W WD X = outArr A W WD X := by
  funext j
  obtain ⟨r, l, rfl⟩ : ∃ (r : Fin 8192) (l : Fin 1024), j = ix2 r l := ⟨j 0, j 1, eq_ix2 j⟩
  exact ref_entry A W WD X r l
theorem ref_actArr (A : Wide) (W : Taps) : val_main_v32 (F := Ideal) A W = actArr A W := by
  funext j
  obtain ⟨r, l, rfl⟩ : ∃ (r : Fin 8192) (l : Fin 2816), j = ix2 r l := ⟨j 0, j 1, eq_ix2 j⟩
  exact ref_act_rows A W r l
theorem ref_normArr (A : Wide) (W : Taps) (WD : Wts) (X : Rows) (G : Gain) : val_main_v53 (F := Ideal) A W WD X G = normArr A W WD X G := by
  funext j
  obtain ⟨r, l, rfl⟩ : ∃ (r : Fin 8192) (l : Fin 1024), j = ix2 r l := ⟨j 0, j 1, eq_ix2 j⟩
  exact ref_norm A W WD X G r l

/-- Both programs end with the same three arrays. -/
theorem algebraic : Cert.algebraic_FfnOutIdeal_FfnOutRefIdeal (hFfnOutIdeal := Cert.FfnOutIdeal.Gen.facts)
    (hFfnOutRefIdeal := Cert.FfnOutRefIdeal.Gen.facts) := fun m g m' g' _ hag =>
  ⟨fun c => outArr (argA m c) (argW m c) (argWD m c) (argX m c),
    fun c => actArr (argA m c) (argW m c),
    fun c => normArr (argA m c) (argW m c) (argWD m c) (argX m c) (argG m c),
    (θ_run _ _ _).mono (fun _ h c => ⟨(h c).1.trans (final6 m c), (h c).2.1.trans (final7 m c), (h c).2.2.1.trans (final8 m c), (h c).2.2.2⟩)
      (Cert.FfnOutIdeal.Value.run_blocks m g),
    (θ_run _ _ _).mono (fun _ h c => by
      obtain ⟨e0, e1, e2, e3, e4⟩ := hag c
      obtain ⟨h0, h1, h2, h3⟩ := h c
      refine ⟨h0.trans ?_, h1.trans ?_, h2.trans ?_, h3⟩
      · rw [val_main_v38_eq, e0, e1, e2, e3]
        exact ref_outArr _ _ _ _
      · rw [val_main_v32_eq, e0, e1]
        exact ref_actArr _ _
      · rw [val_main_v53_eq, e0, e1, e2, e3, e4]
        exact ref_normArr _ _ _ _ _) (Cert.FfnOutRefIdeal.Value.run m' g')⟩

end Cert.FfnOutClaim

end
-- ==== Proof.Conv.Gate.lean ====
/-
  The forward kernel of the gated short convolution: each row's gate times the convolution of the products of the two
  factors. The kernel's run and the reference's run end with the same array, for all inputs.
-/
module

public import proofs.«01_k».proof.Defs
public import proofs.«01_k».proof.Proof.Conv.Spec
public import proofs.«01_k».proof.Proof.Gen.ConvGateIdeal.Value
public import proofs.«01_k».proof.Proof.Gen.ConvGateRefIdeal.Run
public import proofs.«01_k».proof.Proof.Gen.ConvGateRefIdeal.Read

@[expose] public section

set_option maxRecDepth 16384

noncomputable section

open Idealize.ShloMosaic Idealize.ShloMosaic.TcCoe Idealize.SL.Sem
open Idealize.ShloMosaic.Pipeline (Dat)

namespace Cert.ConvGateIdeal.KernelValue

open Cert.ConvGateIdeal Cert.ConvGateIdeal.Gen Cert.Common Cert.ConvSpec

/-- The result's entry at row `n` and lane `l`. -/
def gated (A : Wide) (W : Taps) (n l : ℕ) : EReal := rd2 A n l * conv A W n l

/-- The vectors that a grid point reads are the arguments' rows from `n` on, and the 16 rows before them inside a sequence. -/
structure Part (n : ℕ) (A : Wide) (W : Taps) (b c v : Vec Ideal S256x1024 .bf16) (h : Vec Ideal S16x2048 .bf16)
    (w2 w1 w0 : Vec Ideal S1x1024 .f32) : Prop where
  dvd : n % 256 = 0
  hb : ∀ (r : Fin 256) (l : Fin 1024), b (ix2 r l) = rd2 A (n + r.val) l.val
  hc : ∀ (r : Fin 256) (l : Fin 1024), c (ix2 r l) = rd2 A (n + r.val) (1024 + l.val)
  hv : ∀ (r : Fin 256) (l : Fin 1024), v (ix2 r l) = rd2 A (n + r.val) (2048 + l.val)
  hh : n % 2048 ≠ 0 → ∀ (r : Fin 16) (l : Fin 2048), h (ix2 r l) = rd2 A (n + r.val - 16) (1024 + l.val)
  h2 : ∀ l : Fin 1024, w2 (ix2 0 l) = rd2 W 2 l.val
  h1 : ∀ l : Fin 1024, w1 (ix2 0 l) = rd2 W 1 l.val
  h0 : ∀ l : Fin 1024, w0 (ix2 0 l) = rd2 W 0 l.val

variable {n : ℕ} {A : Wide} {W : Taps} {b c v : Vec Ideal S256x1024 .bf16} {h : Vec Ideal S16x2048 .bf16} {w2 w1 w0 : Vec Ideal S1x1024 .f32}

/-- The convolution's input. -/
theorem u_part (P : Part n A W b c v h w2 w1 w0) (r : Fin 256) (l : Fin 1024) : k0_pay2 (F := Ideal) c v (ix2 r l) = u A (n + r.val) l.val := by
  unfold k0_pay2
  pointwise
  rw [P.hc, P.hv]
  rfl

/-- The two rows before: the products in the last rows of the block before, times 0 where a sequence starts. -/
theorem before_part (P : Part n A W b c v h w2 w1 w0) (i : grid0.Coords) (hi : (i 0).val % 8 = 0 ↔ n % 2048 = 0) (r : Fin 2) (l : Fin 1024) :
    k0_pay3 (F := Ideal) i h (ix2 r l) = if n % 2048 = 0 then 0 else u A (n + r.val - 2) l.val := by
  have hi32 : (i 0).val < 32 := (i 0).isLt
  have hd := P.dvd
  have key : ∀ n : Fin 32, (Scalar.extui (Scalar.cmpi .ne (Scalar.select (Scalar.andi (Scalar.xori
      (Scalar.cmpi .slt (Scalar.remsi (BitVec.ofNat 32 n.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32)) (Scalar.select (Scalar.cmpi .eq 8#32 0#32) 1#32 8#32))
      (Scalar.remsi (BitVec.ofNat 32 n.val) (Scalar.select (Scalar.cmpi .eq 8#32 0#32) 1#32 8#32))) 0#32) : BitVec 32)
      = if n.val % 8 = 0 then 0#32 else 1#32 := by decide +kernel
  unfold k0_pay3
  dsimp only
  have := key ⟨(i 0).val, hi32⟩
  dsimp only at this
  rw [this]
  by_cases h0 : n % 2048 = 0
  · rw [if_pos (hi.mpr h0), if_pos h0]
    pointwise
    simp
  · rw [if_neg (fun e => h0 (hi.mp e)), if_neg h0]
    pointwise
    simp only [P.hh h0]
    unfold u
    simp
    congr 1 <;> exact rd2_congr _ (by omega) (by omega)

/-- The result's rows. -/
theorem gated_part (P : Part n A W b c v h w2 w1 w0) (i : grid0.Coords) (hi : (i 0).val % 8 = 0 ↔ n % 2048 = 0) (r : Fin 256) (l : Fin 1024) :
    k0_pay1 (F := Ideal) (k0_pay2 c v) (k0_pay3 i h) (iota .tc S8x1 32 [0] iota_S8x1_d0_w32) (k0_pay4 c v) (k0_pay5 c v) (k0_pay6 i c v h) k0_pay7
      (k0_pay8 i h) 1#32 w2 w1 w0 b (ix2 r l) = gated A W (n + r.val) l.val := by
  have hr := r.isLt
  have hd := P.dvd
  unfold k0_pay1 k0_pay8 k0_pay7 k0_pay6 k0_pay5 k0_pay4
  pointwise
  simp only [u_part P, before_part P i hi, select_eq_ofNat (show r.val < 4294967296 by omega) (show 0 < 4294967296 by omega),
    select_eq_ofNat (show r.val < 4294967296 by omega) (show 1 < 4294967296 by omega), P.hb, P.h2, P.h1, P.h0]
  unfold gated conv
  congr 2
  · congr 2
    unfold uBack
    split_ifs <;> first | (exfalso; omega) | exact congrArg (fun k => u A k l.val) (by omega) | rfl
  · congr 1
    unfold uBack
    split_ifs <;> first | (exfalso; omega) | exact congrArg (fun k => u A k l.val) (by omega) | rfl

/-! ## The grid -/

variable (m : (ℓ : Loc nD τ sig) → Buf (Elt Ideal) ℓ) (ρ : Dev nD → PrngReg)

/-- The joined gates and values, and the taps. -/
abbrev argA (c : Dev nD) : Wide := m ((c : Thread nD τ).loc main_arg0)
abbrev argW (c : Dev nD) : Taps := m ((c : Thread nD τ).loc main_arg1)

/-- The grid's coordinate is the point's number. -/
theorem coord0 : ∀ t : Fin cfg0.N, (grid0.coords t 0).val = t.val :=
  (by decide +kernel : ∀ t : Fin grid0.N, (grid0.coords t 0).val = t.val)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, (t.val % 8 ≠ 0 → win0_1.index t 0 = 16 * t.val - 1) ∧ win0_1.index t 1 = 0 :=
  (by decide +kernel : ∀ t : Fin grid0.N, (t.val % 8 ≠ 0 → win0_1.index t 0 = 16 * t.val - 1) ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

/-- Rows of the first argument in a point's block. -/
theorem rows (c : Dev nD) (t : Fin cfg0.N) (b : ℕ) (r : Fin 256) (l : Fin 1024)
    (inb : ∀ k, (![0, b] : Fin 2 → ℕ) k + (![256, 1024] : Fin 2 → ℕ) k ≤ S256x3072.size k) :
    View.ld (iblk m c 0 t : Vec Ideal S256x3072 .bf16) (Rect.unit (s := S256x3072) ![0, b] ![256, 1024] inb) (ix2 r l) = rd2 (argA m c) (256 * t.val + r.val) (b + l.val) := by
  show iblk m c 0 t _ = _
  unfold iblk
  rw [View.read_apply]
  refine (eq_rd2' (argA m c) _).trans (rd2_congr _ ?_ ?_)
  · show win0_0.index t 0 * 256 + 1 * (0 + 1 * r.val) = 256 * t.val + r.val; rw [(index0 t).1]; omega
  · show win0_0.index t 1 * 3072 + 1 * (b + 1 * l.val) = b + l.val; rw [(index0 t).2]; omega

/-- The rows before a point's block, inside a sequence. -/
theorem rows_before (c : Dev nD) (t : Fin cfg0.N) (h : t.val % 8 ≠ 0) (r : Fin 16) (l : Fin 2048)
    (inb : ∀ k, (![0, 1024] : Fin 2 → ℕ) k + (![16, 2048] : Fin 2 → ℕ) k ≤ S16x3072.size k) :
    View.ld (iblk m c 1 t : Vec Ideal S16x3072 .bf16) (Rect.unit (s := S16x3072) ![0, 1024] ![16, 2048] inb) (ix2 r l) = rd2 (argA m c) (256 * t.val + r.val - 16) (1024 + l.val) := by
  show iblk m c 1 t _ = _
  unfold iblk
  rw [View.read_apply]
  refine (eq_rd2' (argA m c) _).trans (rd2_congr _ ?_ ?_)
  · show win0_1.index t 0 * 16 + 1 * (0 + 1 * r.val) = 256 * t.val + r.val - 16; rw [(index1 t).1 h]; omega
  · show win0_1.index t 1 * 3072 + 1 * (1024 + 1 * l.val) = 1024 + l.val; rw [(index1 t).2]; omega

/-- The taps. -/
theorem tap (c : Dev nD) (t : Fin cfg0.N) (a : ℕ) (r : Fin 1) (l : Fin 1024)
    (inb : ∀ k, (![a, 0] : Fin 2 → ℕ) k + (![1, 1024] : Fin 2 → ℕ) k ≤ S3x1024.size k) :
    View.ld (iblk m c 2 t : Vec Ideal S3x1024 .f32) (Rect.unit (s := S3x1024) ![a, 0] ![1, 1024] inb) (ix2 r l) = rd2 (argW m c) (a) (l.val) := by
  show iblk m c 2 t _ = _
  unfold iblk
  rw [View.read_apply]
  refine (eq_rd2' (argW m c) _).trans (rd2_congr _ ?_ ?_)
  · show win0_2.index t 0 * 3 + 1 * (a + 1 * r.val) = a; rw [(index2 t).1]; omega
  · show win0_2.index t 1 * 1024 + 1 * (0 + 1 * l.val) = l.val; rw [(index2 t).2]; omega

/-- What a grid point reads. -/
theorem part (c : Dev nD) (t : Fin cfg0.N) :
    Part (256 * t.val) (argA m c) (argW m c) (View.ld (iblk m c 0 t : Vec Ideal S256x3072 .bf16) r0_6) (View.ld (iblk m c 0 t : Vec Ideal S256x3072 .bf16) r0_0)
      (View.ld (iblk m c 0 t : Vec Ideal S256x3072 .bf16) r0_1) (View.ld (iblk m c 1 t : Vec Ideal S16x3072 .bf16) r0_2)
      (View.ld (iblk m c 2 t : Vec Ideal S3x1024 .f32) r0_3) (View.ld (iblk m c 2 t : Vec Ideal S3x1024 .f32) r0_4) (View.ld (iblk m c 2 t : Vec Ideal S3x1024 .f32) r0_5) where
  dvd := by omega
  hb r l := (rows m c t 0 r l _).trans (rd2_congr _ rfl (by omega))
  hc r l := rows m c t 1024 r l _
  hv r l := rows m c t 2048 r l _
  hh h r l := rows_before m c t (by omega) r l _
  h2 l := tap m c t 2 0 l _
  h1 l := tap m c t 1 0 l _
  h0 l := tap m c t 0 0 l _

/-- A point's output block. -/
theorem out3_at (c : Dev nD) (t : Fin cfg0.N) (r : Fin 256) (l : Fin 1024) :
    out0_3 (grid0.coords t) (iblk m c 0 t) (iblk m c 1 t) (iblk m c 2 t) (ix2 r l) = gated (argA m c) (argW m c) (256 * t.val + r.val) l.val := by
  have hr := r.isLt
  have hl := l.isLt
  unfold out0_3
  rw [canon_unit2, dif_pos (by omega)]
  exact gated_part (part m c t) _ (by rw [coord0]; omega) _ _

/-- The result as an array. -/
def gatedArr (A : Wide) (W : Taps) : Vec Ideal S8192x1024 .bf16 := fun j => gated A W (j 0).val (j 1).val

/-- The array after the run. -/
theorem final3 (c : Dev nD) : (dats m 0 c).arrAt 3 cfg0.N = gatedArr (argA m c) (argW m c) := by
  have hN : cfg0.N = 32 := N_0
  refine (dats m 0 c).arrAt_eq_of_cover 3 _ (fun t _ => ?_) fun i => ?_
  · rw [Value.flushed3]
    funext j
    obtain ⟨r, l, hj⟩ : ∃ (r : Fin 256) (l : Fin 1024), j = ix2 r l := ⟨j 0, j 1, eq_ix2 j⟩
    show out0_3 _ _ _ _ j = gatedArr (argA m c) (argW m c) (((cfg0.win 3).blk t).view.emb j)
    rw [hj]
    refine (out3_at m c t r l).trans ?_
    unfold gatedArr
    refine congr (congrArg _ ?_) ?_
    · show _ = win0_3.index t 0 * 256 + 1 * r.val; rw [(index3 t).1]; omega
    · show _ = win0_3.index t 1 * 1024 + 1 * l.val; rw [(index3 t).2]; omega
  · have h0 : (i 0 : Nat) < 8192 := (i 0).isLt
    have h1 : (i 1 : Nat) < 1024 := (i 1).isLt
    let p : Fin cfg0.N := ⟨(i 0).val / 256, by omega⟩
    have hp : p.val = (i 0).val / 256 := rfl
    refine ⟨p, (by decide +kernel : ∀ t : Fin grid0.N, (cfg0.win 3).flush t = true) _, ?_⟩
    show i ∈ ((View.whole main_v0).slice (win0_3.rect p)).set
    rw [View.set_slice_whole, Rect.mem_set_unit]
    intro a
    match a with
    | ⟨0, _⟩ =>
      show win0_3.index p 0 * 256 ≤ (i 0 : Nat) ∧ (i 0 : Nat) < win0_3.index p 0 * 256 + 256
      rw [(index3 p).1, hp]; omega
    | ⟨1, _⟩ =>
      show win0_3.index p 1 * 1024 ≤ (i 1 : Nat) ∧ (i 1 : Nat) < win0_3.index p 1 * 1024 + 1024
      rw [(index3 p).2]; omega

end Cert.ConvGateIdeal.KernelValue

/-! ## The reference -/

namespace Cert.ConvGateRefIdeal.RefValue

open Cert.ConvGateRefIdeal Cert.ConvGateRefIdeal.Read Cert.Common Cert.ConvSpec Cert.ConvGateIdeal.KernelValue

variable (A : Wide) (W : Taps)

section
variable (b : Fin 4) (s : Fin 2048) (l : Fin 1024)

/-- The gate and the convolution's input. -/
theorem ref_b : val_main_v2 (F := Ideal) A (ix3 b s l) = rd2 A (b.val * 2048 + s.val) l.val := by
  unfold val_main_v2 val_main_v1 val_main_v0
  pointwise
  exact eq_rd2 A _ _
theorem ref_u : val_main_v5 (F := Ideal) A (ix3 b s l) = u A (b.val * 2048 + s.val) l.val := by
  unfold val_main_v5 val_main_v4 val_main_v3 val_main_v1 val_main_v0
  pointwise
  simp only [eq_rd2 A]
  rfl

/-- The input one and two positions earlier. -/
theorem ref_u2 : val_main_v11 (F := Ideal) A (ix3 b s l) = uBack A 2 (b.val * 2048 + s.val) l.val := by
  have hs := s.isLt
  unfold val_main_v11 val_main_v9 val_main_v10 val_main_cst
  pointwise
  simp only [ref_u]
  unfold uBack
  split_ifs <;> first | (exfalso; omega) | rfl | (congr 1; omega)
theorem ref_u1 : val_main_v20 (F := Ideal) A (ix3 b s l) = uBack A 1 (b.val * 2048 + s.val) l.val := by
  have hs := s.isLt
  unfold val_main_v20 val_main_v18 val_main_v19 val_main_cst_0
  pointwise
  simp only [ref_u]
  unfold uBack
  split_ifs <;> first | (exfalso; omega) | rfl | (congr 1; omega)

/-- The taps, spread over all rows. -/
theorem ref_w0 : val_main_v13 (F := Ideal) W (ix3 b s l) = rd2 W 0 l.val := by
  unfold val_main_v13 val_main_v12 val_main_v7 val_main_v6
  pointwise
  exact eq_rd2 W _ _
theorem ref_w1 : val_main_v22 (F := Ideal) W (ix3 b s l) = rd2 W 1 l.val := by
  unfold val_main_v22 val_main_v21 val_main_v16 val_main_v15
  pointwise
  exact eq_rd2 W _ _
theorem ref_w2 : val_main_v28 (F := Ideal) W (ix3 b s l) = rd2 W 2 l.val := by
  unfold val_main_v28 val_main_v27 val_main_v26 val_main_v25
  pointwise
  exact eq_rd2 W _ _

/-- The gated convolution: the reference adds the taps' products first to last. -/
theorem ref_gated : val_main_v31 (F := Ideal) A W (ix3 b s l) = gated A W (b.val * 2048 + s.val) l.val := by
  unfold val_main_v31 val_main_v30 val_main_v29 val_main_v24 val_main_v23 val_main_v14
  pointwise
  rw [ref_b, ref_w0, ref_w1, ref_w2, ref_u, ref_u1, ref_u2]
  unfold gated conv
  rw [add_comm _ (rd2 W 2 l.val * _), add_comm (rd2 W 0 l.val * _), add_assoc]

end

/-- The result. -/
theorem ref_rows (n : Fin 8192) (l : Fin 1024) : val_main_v33 (F := Ideal) A W (ix2 n l) = gated A W n.val l.val := by
  have hn := n.isLt
  unfold val_main_v33 val_main_v32
  pointwise
  rw [ref_gated]
  have e : n.val / 2048 * 2048 + n.val % 2048 = n.val := by omega
  exact congrArg (fun k => gated A W k l.val) e

end Cert.ConvGateRefIdeal.RefValue

namespace Cert.ConvGateClaim

open Cert.ConvSpec Cert.ConvGateIdeal.KernelValue Cert.ConvGateRefIdeal.RefValue Cert.ConvGateRefIdeal.Read

/-- The reference's result as an array. -/
theorem ref_arr (A : Wide) (W : Taps) : val_main_v33 (F := Ideal) A W = gatedArr A W := by
  funext j
  obtain ⟨r, l, rfl⟩ : ∃ (r : Fin 8192) (l : Fin 1024), j = ix2 r l := ⟨j 0, j 1, eq_ix2 j⟩
  exact ref_rows A W r l

/-- Both programs end with the same array. -/
theorem algebraic : Cert.algebraic_ConvGateIdeal_ConvGateRefIdeal (hConvGateIdeal := Cert.ConvGateIdeal.Gen.facts)
    (hConvGateRefIdeal := Cert.ConvGateRefIdeal.Gen.facts) := fun m g m' g' _ hag =>
  ⟨fun c => gatedArr (argA m c) (argW m c),
    (θ_run _ _ _).mono (fun _ h c => ⟨(h c).1.trans (final3 m c), (h c).2⟩) (Cert.ConvGateIdeal.Value.run_blocks m g),
    (θ_run _ _ _).mono (fun _ h c => by
      obtain ⟨e0, e1⟩ := hag c
      obtain ⟨h0, h1⟩ := h c
      refine ⟨h0.trans ?_, h1⟩
      rw [val_main_v33_eq, e0, e1]
      exact ref_arr _ _) (Cert.ConvGateRefIdeal.Value.run m' g')⟩

end Cert.ConvGateClaim

end
-- ==== Proof.Norm.First.lean ====
/-
  The forward kernel of the first norm: each row over the root of its mean square, times the gain. The kernel's run and
  the reference's run end with the same array, for all inputs.
-/
module

public import proofs.«01_k».proof.Defs
public import proofs.«01_k».proof.Proof.Common.Norm
public import proofs.«01_k».proof.Proof.Gen.FirstNormIdeal.Value
public import proofs.«01_k».proof.Proof.Gen.FirstNormRefIdeal.Run
public import proofs.«01_k».proof.Proof.Gen.FirstNormRefIdeal.Read

@[expose] public section

set_option maxRecDepth 16384

noncomputable section

open Idealize.ShloMosaic Idealize.ShloMosaic.TcCoe Idealize.SL.Sem
open Idealize.ShloMosaic.Pipeline (Dat)

namespace Cert.FirstNormIdeal.KernelValue

open Cert.FirstNormIdeal Cert.FirstNormIdeal.Gen Cert.Common

/-- The arguments' shapes: rows and the gain. -/
abbrev Rows := (⟨2, ![8192, 1024]⟩ : Shape).Idx → EReal
abbrev Gain := (⟨2, ![1, 1024]⟩ : Shape).Idx → EReal

/-- The result's entry at row `n` and column `l`. -/
def normed (X : Rows) (G : Gain) (n l : ℕ) : EReal := rmsRow (rd2 X n) (rd2 G 0 l) l

/-- The result as an array. -/
def normArr (X : Rows) (G : Gain) : Vec Ideal S8192x1024 .bf16 := fun j => normed X G (j 0).val (j 1).val

/-- A block's normed rows. -/
theorem pay_entry {n : ℕ} {X : Rows} {G : Gain} (b0 : Vec Ideal S512x1024 .f32) (b1 : Vec Ideal S1x1024 .f32)
    (h0 : ∀ (r : Fin 512) (l : Fin 1024), b0 (ix2 r l) = rd2 X (n + r.val) l.val) (h1 : ∀ l : Fin 1024, b1 (ix2 0 l) = rd2 G 0 l.val)
    (r : Fin 512) (l : Fin 1024) : k0_pay1 (F := Ideal) b0 b1 (ix2 r l) = normed X G (n + r.val) l.val := by
  unfold k0_pay1
  pointwise
  simp only [h0, h1]
  rfl

/-! ## The grid -/

variable (m : (ℓ : Loc nD τ sig) → Buf (Elt Ideal) ℓ) (ρ : Dev nD → PrngReg)

/-- The rows and the gain. -/
abbrev argX (c : Dev nD) : Rows := m ((c : Thread nD τ).loc main_arg0)
abbrev argG (c : Dev nD) : Gain := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- A point's block of rows, and the gain. -/
theorem rows (c : Dev nD) (t : Fin cfg0.N) (r : Fin 512) (l : Fin 1024) :
    View.ld (iblk m c 0 t : Vec Ideal S512x1024 .f32) r0_0 (ix2 r l) = rd2 (argX m c) (512 * t.val + r.val) l.val := by
  show iblk m c 0 t _ = _
  unfold iblk
  rw [View.read_apply]
  refine (eq_rd2' (argX m c) _).trans (rd2_congr _ ?_ ?_)
  · show win0_0.index t 0 * 512 + 1 * (0 + 1 * r.val) = 512 * t.val + r.val; rw [(index0 t).1]; omega
  · show win0_0.index t 1 * 1024 + 1 * (0 + 1 * l.val) = l.val; rw [(index0 t).2]; omega
theorem gain (c : Dev nD) (t : Fin cfg0.N) (l : Fin 1024) :
    View.ld (iblk m c 1 t : Vec Ideal S1x1024 .f32) r0_1 (ix2 0 l) = rd2 (argG m c) 0 l.val := by
  show iblk m c 1 t _ = _
  unfold iblk
  rw [View.read_apply]
  refine (eq_rd2' (argG m c) _).trans (rd2_congr _ ?_ ?_)
  · show win0_1.index t 0 * 1 + 1 * (0 + 1 * 0) = 0; rw [(index1 t).1]
  · show win0_1.index t 1 * 1024 + 1 * (0 + 1 * l.val) = l.val; rw [(index1 t).2]; omega

/-- A point's output block. -/
theorem out2_at (c : Dev nD) (t : Fin cfg0.N) (r : Fin 512) (l : Fin 1024) :
    out0_2 (iblk m c 0 t) (iblk m c 1 t) (ix2 r l) = normed (argX m c) (argG m c) (512 * t.val + r.val) l.val := by
  have hr := r.isLt
  have hl := l.isLt
  unfold out0_2
  rw [canon_unit2, dif_pos (by omega)]
  exact pay_entry _ _ (rows m c t) (gain m c t) _ _

/-- The array after the run. -/
theorem final2 (c : Dev nD) : (dats m 0 c).arrAt 2 cfg0.N = normArr (argX m c) (argG m c) := by
  have hN : cfg0.N = 16 := N_0
  refine (dats m 0 c).arrAt_eq_of_cover 2 _ (fun t _ => ?_) fun i => ?_
  · rw [Value.flushed2]
    funext j
    obtain ⟨r, l, hj⟩ : ∃ (r : Fin 512) (l : Fin 1024), j = ix2 r l := ⟨j 0, j 1, eq_ix2 j⟩
    show out0_2 _ _ j = normArr (argX m c) (argG m c) (((cfg0.win 2).blk t).view.emb j)
    rw [hj]
    refine (out2_at m c t r l).trans ?_
    unfold normArr
    refine congr (congrArg _ ?_) ?_
    · show _ = win0_2.index t 0 * 512 + 1 * r.val; rw [(index2 t).1]; omega
    · show _ = win0_2.index t 1 * 1024 + 1 * l.val; rw [(index2 t).2]; omega
  · have h0 : (i 0 : Nat) < 8192 := (i 0).isLt
    have h1 : (i 1 : Nat) < 1024 := (i 1).isLt
    let p : Fin cfg0.N := ⟨(i 0).val / 512, by omega⟩
    have hp : p.val = (i 0).val / 512 := rfl
    refine ⟨p, (by decide +kernel : ∀ t : Fin grid0.N, (cfg0.win 2).flush t = true) _, ?_⟩
    show i ∈ ((View.whole main_v0).slice (win0_2.rect p)).set
    rw [View.set_slice_whole, Rect.mem_set_unit]
    intro a
    match a with
    | ⟨0, _⟩ =>
      show win0_2.index p 0 * 512 ≤ (i 0 : Nat) ∧ (i 0 : Nat) < win0_2.index p 0 * 512 + 512
      rw [(index2 p).1, hp]; omega
    | ⟨1, _⟩ =>
      show win0_2.index p 1 * 1024 ≤ (i 1 : Nat) ∧ (i 1 : Nat) < win0_2.index p 1 * 1024 + 1024
      rw [(index2 p).2]; omega

end Cert.FirstNormIdeal.KernelValue

namespace Cert.FirstNormClaim

open Cert.Common Cert.FirstNormIdeal.KernelValue Cert.FirstNormRefIdeal Cert.FirstNormRefIdeal.Read

/-- The reference's result as an array. -/
theorem ref_arr (X : Rows) (G : Gain) : val_main_v14 (F := Ideal) X G = normArr X G := by
  funext j
  obtain ⟨r, l, rfl⟩ : ∃ (r : Fin 8192) (l : Fin 1024), j = ix2 r l := ⟨j 0, j 1, eq_ix2 j⟩
  unfold val_main_v14 val_main_v13 val_main_v12 val_main_v11 val_main_v10 val_main_v9 val_main_v8 val_main_v7 val_main_v6 val_main_cst_1 val_main_v5 val_main_v4 val_main_cst_0 val_main_v3 val_main_v2 val_main_cst val_main_v1 val_main_v0
  pointwise
  simp only [eq_rd2 X, eq_rd2 G]
  rfl

/-- Both programs end with the same array. -/
theorem algebraic : Cert.algebraic_FirstNormIdeal_FirstNormRefIdeal (hFirstNormIdeal := Cert.FirstNormIdeal.Gen.facts)
    (hFirstNormRefIdeal := Cert.FirstNormRefIdeal.Gen.facts) := fun m g m' g' _ hag =>
  ⟨fun c => normArr (argX m c) (argG m c),
    (θ_run _ _ _).mono (fun _ h c => ⟨(h c).1.trans (final2 m c), (h c).2⟩) (Cert.FirstNormIdeal.Value.run_blocks m g),
    (θ_run _ _ _).mono (fun _ h c => by
      obtain ⟨e0, e1⟩ := hag c
      obtain ⟨h0, h1⟩ := h c
      refine ⟨h0.trans ?_, h1⟩
      rw [val_main_v14_eq, e0, e1]
      exact ref_arr _ _) (Cert.FirstNormRefIdeal.Value.run m' g')⟩

end Cert.FirstNormClaim

end
-- ==== Proof.Norm.LossHead.lean ====
/-
  The loss head: the normed rows' distance from the target rows, half of its mean square as the loss, and the gradients
  that the loss sends back to the rows and to the norm's gain. The kernel's run and the reference's run end with the same
  four results, for all inputs.
-/
module

public import proofs.«01_k».proof.Defs
public import proofs.«01_k».proof.Proof.Common.Norm
public import proofs.«01_k».proof.Proof.Gen.LossHeadIdeal.Frame
public import proofs.«01_k».proof.Proof.Gen.LossHeadRefIdeal.Run
public import proofs.«01_k».proof.Proof.Gen.LossHeadRefIdeal.Read

@[expose] public section

set_option maxRecDepth 16384

noncomputable section

open Idealize.ShloMosaic Idealize.ShloMosaic.TcCoe Idealize.SL.Sem
open Idealize.ShloMosaic.Pipeline (Dat)

namespace Cert.LossHeadSpec

open Cert.Common

/-- The arguments' shapes: rows (and target rows), the gain. -/
abbrev Rows := (⟨2, ![8192, 1024]⟩ : Shape).Idx → EReal
abbrev Gain := (⟨2, ![1, 1024]⟩ : Shape).Idx → EReal

/-- The normed row's distance from the target at row `n` and column `l`. -/
def err (X T : Rows) (G : Gain) (n l : ℕ) : EReal := rd2 X n l * rstd (rd2 X n) * rd2 G 0 l - rd2 T n l

/-- The cotangent of the norm's output: the distance over the row's length. -/
def dy (X T : Rows) (G : Gain) (n l : ℕ) : EReal := err X T G n l * Ideal.ofBits FTy.f32 981467136#32

/-- The input's gradient. -/
def dx (X T : Rows) (G : Gain) (n l : ℕ) : EReal := normDx (rd2 X n) (dy X T G n) (rd2 G 0) (fun _ => 0) l

/-- One row's part of the gain's gradient, and one entry's square. -/
def dgRow (X T : Rows) (G : Gain) (l n : ℕ) : EReal := dy X T G n l * (rd2 X n l * rstd (rd2 X n))
def sqRow (X T : Rows) (G : Gain) (l n : ℕ) : EReal := err X T G n l * err X T G n l

/-- The loss: half of the sum of all squares over the row's length. -/
def loss (X T : Rows) (G : Gain) : EReal :=
  Ideal.div (Ideal.ofBits FTy.f32 1056964608#32 * ∑ l : Fin 1024, ∑ n ∈ Finset.range 8192, sqRow X T G l.val n) (Ideal.ofBits FTy.f32 1149239296#32)

/-- The numbers one half, two and one over 1024. -/
theorem cHalf : Ideal.ofBits FTy.f32 1056964608#32 = ((1 / 2 : ℝ) : EReal) := by
  simp [Ideal.ofBits, Ideal.ieee, -EReal.coe_mul]; norm_num
theorem cTwo : Ideal.ofBits FTy.f32 1073741824#32 = ((2 : ℝ) : EReal) := by
  simp [Ideal.ofBits, Ideal.ieee, -EReal.coe_mul]; norm_num
theorem cInv : Ideal.ofBits FTy.f32 981467136#32 = ((1 / 1024 : ℝ) : EReal) := by
  simp [Ideal.ofBits, Ideal.ieee, -EReal.coe_mul]; norm_num

/-- Half over 1024 times twice a number is the number over 1024. -/
theorem back_eq (e : EReal) : Ideal.div (Ideal.ofBits FTy.f32 1056964608#32) (Ideal.ofBits FTy.f32 1149239296#32)
    * (Ideal.ofBits FTy.f32 1073741824#32 * e) = e * Ideal.ofBits FTy.f32 981467136#32 := by
  rw [cHalf, cTwo, cInv, c1024, Ideal.div_coe (by norm_num), ← mul_assoc, mul_comm e]
  congr 1
  norm_cast
  norm_num

/-- The loss row by row. -/
theorem loss_rows (X T : Rows) (G : Gain) : loss X T G = Ideal.ofBits FTy.f32 1056964608#32
    * ∑ n : Fin 8192, Ideal.div (∑ l : Fin 1024, sqRow X T G l.val n.val) (Ideal.ofBits FTy.f32 1149239296#32) := by
  unfold loss
  rw [c1024, Ideal.div_coe (by norm_num), Finset.sum_comm, Finset.sum_range, mul_assoc]
  congr 1
  rw [mul_comm, pos_mul_sum (by norm_num)]
  exact Finset.sum_congr rfl fun n _ => by rw [Ideal.div_coe (by norm_num), mul_comm]

end Cert.LossHeadSpec

namespace Cert.LossHeadIdeal.KernelValue

open Cert.LossHeadIdeal Cert.LossHeadIdeal.Gen Cert.Common Cert.LossHeadSpec

/-! ## A block of rows -/

/-- The blocks the body reads are the arguments' rows from `n` on. -/
structure Part (n : ℕ) (X T : Rows) (G : Gain) (b0 b1 : Vec Ideal S512x1024 .f32) (b2 : Vec Ideal S1x1024 .f32) : Prop where
  h0 : ∀ (r : Fin 512) (l : Fin 1024), b0 (ix2 r l) = rd2 X (n + r.val) l.val
  h1 : ∀ (r : Fin 512) (l : Fin 1024), b1 (ix2 r l) = rd2 T (n + r.val) l.val
  h2 : ∀ l : Fin 1024, b2 (ix2 0 l) = rd2 G 0 l.val

variable {n : ℕ} {X T : Rows} {G : Gain} {b0 b1 : Vec Ideal S512x1024 .f32} {b2 : Vec Ideal S1x1024 .f32}

/-- One over the root of a row's mean square. -/
theorem pay3_part (P : Part n X T G b0 b1 b2) (r : Fin 512) (u : Fin 1) : k0_pay3 (F := Ideal) b0 (ix2 r u) = rstd (rd2 X (n + r.val)) := by
  unfold k0_pay3
  pointwise
  simp only [P.h0]
  rfl

/-- The normalised rows. -/
theorem pay4_part (P : Part n X T G b0 b1 b2) (r : Fin 512) (l : Fin 1024) :
    k0_pay4 (F := Ideal) b0 (ix2 r l) = rd2 X (n + r.val) l.val * rstd (rd2 X (n + r.val)) := by
  unfold k0_pay4
  pointwise
  rw [P.h0, pay3_part P]

/-- The distance from the target, and the cotangent of the norm's output. -/
theorem pay5_part (P : Part n X T G b0 b1 b2) (r : Fin 512) (l : Fin 1024) :
    k0_pay5 (F := Ideal) b0 b2 b1 (ix2 r l) = err X T G (n + r.val) l.val := by
  unfold k0_pay5
  pointwise
  rw [pay4_part P, P.h1, P.h2]
  rfl
theorem pay6_part (P : Part n X T G b0 b1 b2) (r : Fin 512) (l : Fin 1024) :
    k0_pay6 (F := Ideal) b0 b2 b1 (ix2 r l) = dy X T G (n + r.val) l.val := by
  unfold k0_pay6
  pointwise
  rw [pay5_part P]
  rfl

/-- The input's gradient's rows, in two formats. -/
theorem pay7_part (P : Part n X T G b0 b1 b2) (r : Fin 512) (l : Fin 1024) :
    k0_pay7 (F := Ideal) b0 b2 b1 (ix2 r l) = dx X T G (n + r.val) l.val := by
  unfold k0_pay7
  pointwise
  simp only [pay3_part P, pay4_part P, pay6_part P, P.h2]
  exact (zero_add _).symm
theorem pay8_part (P : Part n X T G b0 b1 b2) (r : Fin 512) (l : Fin 1024) :
    k0_pay8 (F := Ideal) b0 b2 b1 (ix2 r l) = dx X T G (n + r.val) l.val := by
  unfold k0_pay8
  pointwise
  exact pay7_part P r l

/-- A block's rows eight apart, added to the rows before them. -/
theorem one_block (f : ℕ → EReal) (a : EReal) (t p : ℕ) (ha : a = ∑ i ∈ Finset.range (64 * t), f (8 * i + p)) :
    a + ∑ x : Fin 64, f (512 * t + (x.val * 8 + p)) = ∑ i ∈ Finset.range (64 * (t + 1)), f (8 * i + p) := by
  rw [ha, show 64 * (t + 1) = 64 * t + 64 by omega, Finset.sum_range_add, Finset.sum_range fun i => f (8 * (64 * t + i) + p)]
  congr 1
  exact Finset.sum_congr rfl fun x _ => congrArg f (by omega)

/-- The squares' buffer after a block. -/
theorem pay1_block {t : ℕ} (P : Part (512 * t) X T G b0 b1 b2) (acc : Vec Ideal S8x1024 .f32) (p : Fin 8) (l : Fin 1024)
    (ha : acc (ix2 p l) = ∑ i ∈ Finset.range (64 * t), sqRow X T G l.val (8 * i + p.val)) :
    k0_pay1 (F := Ideal) (k0_pay5 b0 b2 b1) acc (ix2 p l) = ∑ i ∈ Finset.range (64 * (t + 1)), sqRow X T G l.val (8 * i + p.val) := by
  refine Eq.trans ?_ (one_block (sqRow X T G l.val) _ t p.val ha)
  unfold k0_pay1
  pointwise
  simp only [pay5_part P]
  rfl

/-- The gain's gradient's buffer after a block. -/
theorem pay2_block {t : ℕ} (P : Part (512 * t) X T G b0 b1 b2) (acc : Vec Ideal S8x1024 .f32) (p : Fin 8) (l : Fin 1024)
    (ha : acc (ix2 p l) = ∑ i ∈ Finset.range (64 * t), dgRow X T G l.val (8 * i + p.val)) :
    k0_pay2 (F := Ideal) (k0_pay4 b0) (k0_pay6 b0 b2 b1) acc (ix2 p l) = ∑ i ∈ Finset.range (64 * (t + 1)), dgRow X T G l.val (8 * i + p.val) := by
  refine Eq.trans ?_ (one_block (dgRow X T G l.val) _ t p.val ha)
  unfold k0_pay2
  pointwise
  simp only [pay4_part P, pay6_part P]
  rfl

/-- The zero blocks. -/
theorem pay9_eq (j : S8x1024.Idx) : k0_pay9 (F := Ideal) j = 0 := by
  unfold k0_pay9
  pointwise
theorem pay10_eq (j : S8x1024.Idx) : k0_pay10 (F := Ideal) j = 0 := by
  unfold k0_pay10
  pointwise

/-! ## The grid -/

variable (m : (ℓ : Loc nD τ sig) → Buf (Elt Ideal) ℓ) (ρ : Dev nD → PrngReg)

/-- The rows, the target rows and the gain. -/
abbrev argX (c : Dev nD) : Rows := m ((c : Thread nD τ).loc main_arg0)
abbrev argT (c : Dev nD) : Rows := m ((c : Thread nD τ).loc main_arg1)
abbrev argG (c : Dev nD) : Gain := m ((c : Thread nD τ).loc main_arg2)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

/-- What a grid point reads. -/
theorem part (c : Dev nD) (t : Fin cfg0.N) (inb0 : ∀ k, (![0, 0] : Fin 2 → ℕ) k + (![512, 1024] : Fin 2 → ℕ) k ≤ S512x1024.size k)
    (inb2 : ∀ k, (![0, 0] : Fin 2 → ℕ) k + (![1, 1024] : Fin 2 → ℕ) k ≤ S1x1024.size k) :
    Part (512 * t.val) (argX m c) (argT m c) (argG m c)
      (View.ld (iblk m c 0 t) (Rect.unit (s := S512x1024) ![0, 0] ![512, 1024] inb0))
      (View.ld (iblk m c 1 t) (Rect.unit (s := S512x1024) ![0, 0] ![512, 1024] inb0))
      (View.ld (iblk m c 2 t) (Rect.unit (s := S1x1024) ![0, 0] ![1, 1024] inb2)) := by
  constructor
  · intro r l
    show iblk m c 0 t _ = _
    unfold iblk
    rw [View.read_apply]
    refine (eq_rd2' (argX m c) _).trans (rd2_congr _ ?_ ?_)
    · show win0_0.index t 0 * 512 + 1 * (0 + 1 * r.val) = 512 * t.val + r.val; rw [(index0 t).1]; omega
    · show win0_0.index t 1 * 1024 + 1 * (0 + 1 * l.val) = l.val; rw [(index0 t).2]; omega
  · intro r l
    show iblk m c 1 t _ = _
    unfold iblk
    rw [View.read_apply]
    refine (eq_rd2' (argT m c) _).trans (rd2_congr _ ?_ ?_)
    · show win0_1.index t 0 * 512 + 1 * (0 + 1 * r.val) = 512 * t.val + r.val; rw [(index1 t).1]; omega
    · show win0_1.index t 1 * 1024 + 1 * (0 + 1 * l.val) = l.val; rw [(index1 t).2]; omega
  · intro l
    show iblk m c 2 t _ = _
    unfold iblk
    rw [View.read_apply]
    refine (eq_rd2' (argG m c) _).trans (rd2_congr _ ?_ ?_)
    · show win0_2.index t 0 * 1 + 1 * (0 + 1 * 0) = 0; rw [(index2 t).1]
    · show win0_2.index t 1 * 1024 + 1 * (0 + 1 * l.val) = l.val; rw [(index2 t).2]; omega

/-! ## What a grid point leaves -/

/-- The input's gradient's rows, in the first format. -/
theorem outs3 (c : Dev nD) (t : Fin cfg0.N) (r : Fin 512) (l : Fin 1024) :
    (outsAt0 (F := Ideal) m c t.val t.isLt).1 (ix2 r l) = dx (argX m c) (argT m c) (argG m c) (512 * t.val + r.val) l.val := by
  have hr := r.isLt
  have hl := l.isLt
  by_cases h0 : t.val % 16 = 0
  · rw [outsAt0_A m c t h0]
    dsimp only
    unfold out0_A_3
    rw [View.read_writes_eq_canon _ _ _ (cover0_A_3 c _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    exact pay7_part (part m c t _ _) _ _
  · rw [outsAt0_B m c t h0]
    dsimp only
    unfold out0_B_3
    rw [View.read_writes_eq_canon _ _ _ (cover0_B_3 c _ _ _ _ _ _ _ _ _ _ _ _ _ _ _ _ _ _ _ _ _)]
    unfold kernelRun0_B
    dsimp only
    sl_unfold_words
    simp only [View.readAt_eq_ld, Memref.IsWhole.read_unread]
    rw [canon_unit2, dif_pos (by omega)]
    exact pay7_part (part m c t _ _) _ _

/-- The same rows in the second format. -/
theorem outs4 (c : Dev nD) (t : Fin cfg0.N) (r : Fin 512) (l : Fin 1024) :
    (outsAt0 (F := Ideal) m c t.val t.isLt).2.1 (ix2 r l) = dx (argX m c) (argT m c) (argG m c) (512 * t.val + r.val) l.val := by
  have hr := r.isLt
  have hl := l.isLt
  by_cases h0 : t.val % 16 = 0
  · rw [outsAt0_A m c t h0]
    dsimp only
    unfold out0_A_4
    rw [View.read_writes_eq_canon _ _ _ (cover0_A_4 c _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    exact pay8_part (part m c t _ _) _ _
  · rw [outsAt0_B m c t h0]
    dsimp only
    unfold out0_B_4
    rw [View.read_writes_eq_canon _ _ _ (cover0_B_4 c _ _ _ _ _ _ _ _ _ _ _ _ _ _ _ _ _ _ _ _ _)]
    unfold kernelRun0_B
    dsimp only
    sl_unfold_words
    simp only [View.readAt_eq_ld, Memref.IsWhole.read_unread]
    rw [canon_unit2, dif_pos (by omega)]
    exact pay8_part (part m c t _ _) _ _

/-- The squares' buffer after grid point `n`: the squares of the rows so far, eight apart. -/
theorem outs5 (c : Dev nD) (p : Fin 8) (l : Fin 1024) : ∀ (n : ℕ) (hn : n < cfg0.N),
    (outsAt0 (F := Ideal) m c n hn).2.2.1 (ix2 p l) = ∑ i ∈ Finset.range (64 * (n + 1)), sqRow (argX m c) (argT m c) (argG m c) l.val (8 * i + p.val)
  | 0, hn => by
    have hp := p.isLt
    have hl := l.isLt
    rw [outsAt0_A m c ⟨0, hn⟩ rfl]
    dsimp only
    unfold out0_A_5
    rw [View.read_writes_eq_canon _ _ _ (cover0_A_5 c _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay1_block (part m c ⟨0, hn⟩ _ _) _ _ _ ?_
    rw [readCov_unit2, canon_unit2, dif_pos (by simp), pay9_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs5 c p l n (Nat.lt_of_succ_lt hn)
    rw [outsAt0_B m c ⟨n + 1, hn⟩ h0]
    dsimp only
    unfold out0_B_5
    unfold kernelRun0_B
    dsimp only
    sl_unfold_words
    simp only [View.readAt_eq_ld, Memref.IsWhole.read_unread]
    rw [read_writes_unit2, dif_pos (by omega)]
    refine pay1_block (part m c ⟨n + 1, hn⟩ _ _) _ _ _ ?_
    rw [ld_zero2]
    exact ih

/-- The gain's gradient's buffer after grid point `n`. -/
theorem outs6 (c : Dev nD) (p : Fin 8) (l : Fin 1024) : ∀ (n : ℕ) (hn : n < cfg0.N),
    (outsAt0 (F := Ideal) m c n hn).2.2.2 (ix2 p l) = ∑ i ∈ Finset.range (64 * (n + 1)), dgRow (argX m c) (argT m c) (argG m c) l.val (8 * i + p.val)
  | 0, hn => by
    have hp := p.isLt
    have hl := l.isLt
    rw [outsAt0_A m c ⟨0, hn⟩ rfl]
    dsimp only
    unfold out0_A_6
    rw [View.read_writes_eq_canon _ _ _ (cover0_A_6 c _ _ _ _ _ _ _ _ _ _ _ _ _ _ _ _ _ _ _)]
    unfold kernelRun0_A
    dsimp only
    sl_unfold_words
    simp only [View.readAt_eq_ld, Memref.IsWhole.read_unread]
    rw [canon_unit2, dif_pos (by omega)]
    refine pay2_block (part m c ⟨0, hn⟩ _ _) _ _ _ ?_
    rw [readCov_unit2, canon_unit2, dif_pos (by simp), pay10_eq]
    simp
  | n + 1, hn => by
    have hN : cfg0.N = 16 := N_0
    have hp := p.isLt
    have hl := l.isLt
    have h0 : ¬(⟨n + 1, hn⟩ : Fin cfg0.N).val % 16 = 0 := by dsimp only; omega
    have ih := outs6 c p l n (Nat.lt_of_succ_lt hn)
    rw [outsAt0_B m c ⟨n + 1, hn⟩ h0]
    dsimp only
    unfold out0_B_6
    unfold kernelRun0_B
    dsimp only
    sl_unfold_words
    simp only [View.readAt_eq_ld, Memref.IsWhole.read_unread]
    rw [read_writes_unit2, dif_pos (by omega)]
    refine pay2_block (part m c ⟨n + 1, hn⟩ _ _) _ _ _ ?_
    rw [ld_zero2]
    exact ih

/-! ## The arrays -/

/-- The input's gradient as an array. -/
def dxArr (X T : Rows) (G : Gain) : Vec Ideal S8192x1024 .f32 := fun j => dx X T G (j 0).val (j 1).val
def dxbArr (X T : Rows) (G : Gain) : Vec Ideal S8192x1024 .bf16 := fun j => dx X T G (j 0).val (j 1).val
/-- The squares and the gain's gradient, their rows still eight apart. -/
def sq8 (X T : Rows) (G : Gain) : Vec Ideal S8x1024 .f32 := fun j =>
  ∑ i ∈ Finset.range 1024, sqRow X T G (j 1).val (8 * i + (j 0).val)
def dg8 (X T : Rows) (G : Gain) : Vec Ideal S8x1024 .f32 := fun j =>
  ∑ i ∈ Finset.range 1024, dgRow X T G (j 1).val (8 * i + (j 0).val)
/-- The loss and the gain's gradient as arrays. -/
def lossArr (X T : Rows) (G : Gain) : Vec Ideal S_ .f32 := fun _ => loss X T G
def dgArr (X T : Rows) (G : Gain) : Vec Ideal S1024 .f32 := fun j => ∑ n ∈ Finset.range 8192, dgRow X T G (j 0).val n

/-- The first result array. -/
theorem final3 (c : Dev nD) : (dats m 0 c).arrAt 3 cfg0.N = dxArr (argX m c) (argT m c) (argG m c) := by
  have hN : cfg0.N = 16 := N_0
  refine (dats m 0 c).arrAt_eq_of_cover 3 _ (fun t _ => ?_) fun i => ?_
  · show (cfg0.win 3).cut (grid0.coords t) ((dats m 0 c).after 3 t) = _
    rw [after0_3]
    funext j
    obtain ⟨r, l, hj⟩ : ∃ (r : Fin 512) (l : Fin 1024), j = ix2 r l := ⟨j 0, j 1, eq_ix2 j⟩
    rw [hj]
    show (outsAt0 m c t.val t.isLt).1 (ix2 r l) = dxArr _ _ _ (((cfg0.win 3).blk t).view.emb (ix2 r l))
    refine (outs3 m c t r l).trans ?_
    unfold dxArr
    refine congr (congrArg _ ?_) ?_
    · show 512 * t.val + r.val = win0_3.index t 0 * 512 + 1 * r.val; rw [(index3 t).1]; omega
    · show l.val = win0_3.index t 1 * 1024 + 1 * l.val; rw [(index3 t).2]; omega
  · have h0 : (i 0 : Nat) < 8192 := (i 0).isLt
    have h1 : (i 1 : Nat) < 1024 := (i 1).isLt
    let p : Fin cfg0.N := ⟨(i 0).val / 512, by omega⟩
    refine ⟨p, flush0_3 _, ?_⟩
    show i ∈ ((View.whole main_v0_0).slice (win0_3.rect p)).set
    rw [View.set_slice_whole, Rect.mem_set_unit]
    intro a
    match a with
    | ⟨0, _⟩ =>
      show win0_3.index p 0 * 512 ≤ (i 0 : Nat) ∧ (i 0 : Nat) < win0_3.index p 0 * 512 + 512
      rw [(index3 p).1]; show (i 0).val / 512 * 512 ≤ (i 0 : Nat) ∧ (i 0 : Nat) < (i 0).val / 512 * 512 + 512; omega
    | ⟨1, _⟩ =>
      show win0_3.index p 1 * 1024 ≤ (i 1 : Nat) ∧ (i 1 : Nat) < win0_3.index p 1 * 1024 + 1024
      rw [(index3 p).2]; omega

/-- The second result array. -/
theorem final4 (c : Dev nD) : (dats m 0 c).arrAt 4 cfg0.N = dxbArr (argX m c) (argT m c) (argG m c) := by
  have hN : cfg0.N = 16 := N_0
  refine (dats m 0 c).arrAt_eq_of_cover 4 _ (fun t _ => ?_) fun i => ?_
  · show (cfg0.win 4).cut (grid0.coords t) ((dats m 0 c).after 4 t) = _
    rw [after0_4]
    funext j
    obtain ⟨r, l, hj⟩ : ∃ (r : Fin 512) (l : Fin 1024), j = ix2 r l := ⟨j 0, j 1, eq_ix2 j⟩
    rw [hj]
    show (outsAt0 m c t.val t.isLt).2.1 (ix2 r l) = dxbArr _ _ _ (((cfg0.win 4).blk t).view.emb (ix2 r l))
    refine (outs4 m c t r l).trans ?_
    unfold dxbArr
    refine congr (congrArg _ ?_) ?_
    · show 512 * t.val + r.val = win0_4.index t 0 * 512 + 1 * r.val; rw [(index4 t).1]; omega
    · show l.val = win0_4.index t 1 * 1024 + 1 * l.val; rw [(index4 t).2]; omega
  · have h0 : (i 0 : Nat) < 8192 := (i 0).isLt
    have h1 : (i 1 : Nat) < 1024 := (i 1).isLt
    let p : Fin cfg0.N := ⟨(i 0).val / 512, by omega⟩
    refine ⟨p, flush0_4 _, ?_⟩
    show i ∈ ((View.whole main_v0_1).slice (win0_4.rect p)).set
    rw [View.set_slice_whole, Rect.mem_set_unit]
    intro a
    match a with
    | ⟨0, _⟩ =>
      show win0_4.index p 0 * 512 ≤ (i 0 : Nat) ∧ (i 0 : Nat) < win0_4.index p 0 * 512 + 512
      rw [(index4 p).1]; show (i 0).val / 512 * 512 ≤ (i 0 : Nat) ∧ (i 0 : Nat) < (i 0).val / 512 * 512 + 512; omega
    | ⟨1, _⟩ =>
      show win0_4.index p 1 * 1024 ≤ (i 1 : Nat) ∧ (i 1 : Nat) < win0_4.index p 1 * 1024 + 1024
      rw [(index4 p).2]; omega

/-- The third window's array, its rows eight apart. -/
theorem final5 (c : Dev nD) : (dats m 0 c).arrAt 5 cfg0.N = sq8 (argX m c) (argT m c) (argG m c) := by
  have hN : cfg0.N = 16 := N_0
  refine (dats m 0 c).arrAt_eq_of_cover 5 _ (fun t hf => ?_) fun i => ?_
  · have h15 : t.val = 15 := by
      have h := (flush0_5 t).mp hf
      omega
    show (cfg0.win 5).cut (grid0.coords t) ((dats m 0 c).after 5 t) = _
    rw [after0_5]
    funext j
    obtain ⟨r, l, hj⟩ : ∃ (r : Fin 8) (l : Fin 1024), j = ix2 r l := ⟨j 0, j 1, eq_ix2 j⟩
    rw [hj]
    show (outsAt0 m c t.val t.isLt).2.2.1 (ix2 r l) = sq8 _ _ _ (((cfg0.win 5).blk t).view.emb (ix2 r l))
    refine (outs5 m c r l t.val t.isLt).trans ?_
    have e0 : ((((cfg0.win 5).blk t).view.emb (ix2 r l)) 0).val = r.val := by
      show win0_5.index t 0 * 8 + 1 * r.val = r.val; rw [(index5 t).1]; omega
    have e1 : ((((cfg0.win 5).blk t).view.emb (ix2 r l)) 1).val = l.val := by
      show win0_5.index t 1 * 1024 + 1 * l.val = l.val; rw [(index5 t).2]; omega
    unfold sq8
    rw [h15]
    refine Finset.sum_congr rfl fun i _ => ?_
    exact congr (congrArg (sqRow (argX m c) (argT m c) (argG m c)) e1.symm) (congrArg (8 * i + ·) e0.symm)
  · have h0 : (i 0 : Nat) < 8 := (i 0).isLt
    have h1 : (i 1 : Nat) < 1024 := (i 1).isLt
    let p : Fin cfg0.N := ⟨15, by omega⟩
    refine ⟨p, (flush0_5 _).mpr rfl, ?_⟩
    show i ∈ ((View.whole main_v0_2).slice (win0_5.rect p)).set
    rw [View.set_slice_whole, Rect.mem_set_unit]
    intro a
    match a with
    | ⟨0, _⟩ =>
      show win0_5.index p 0 * 8 ≤ (i 0 : Nat) ∧ (i 0 : Nat) < win0_5.index p 0 * 8 + 8
      rw [(index5 p).1]; omega
    | ⟨1, _⟩ =>
      show win0_5.index p 1 * 1024 ≤ (i 1 : Nat) ∧ (i 1 : Nat) < win0_5.index p 1 * 1024 + 1024
      rw [(index5 p).2]; omega

/-- The fourth window's array, its rows eight apart. -/
theorem final6 (c : Dev nD) : (dats m 0 c).arrAt 6 cfg0.N = dg8 (argX m c) (argT m c) (argG m c) := by
  have hN : cfg0.N = 16 := N_0
  refine (dats m 0 c).arrAt_eq_of_cover 6 _ (fun t hf => ?_) fun i => ?_
  · have h15 : t.val = 15 := by
      have h := (flush0_6 t).mp hf
      omega
    show (cfg0.win 6).cut (grid0.coords t) ((dats m 0 c).after 6 t) = _
    rw [after0_6]
    funext j
    obtain ⟨r, l, hj⟩ : ∃ (r : Fin 8) (l : Fin 1024), j = ix2 r l := ⟨j 0, j 1, eq_ix2 j⟩
    rw [hj]
    show (outsAt0 m c t.val t.isLt).2.2.2 (ix2 r l) = dg8 _ _ _ (((cfg0.win 6).blk t).view.emb (ix2 r l))
    refine (outs6 m c r l t.val t.isLt).trans ?_
    have e0 : ((((cfg0.win 6).blk t).view.emb (ix2 r l)) 0).val = r.val := by
      show win0_6.index t 0 * 8 + 1 * r.val = r.val; rw [(index6 t).1]; omega
    have e1 : ((((cfg0.win 6).blk t).view.emb (ix2 r l)) 1).val = l.val := by
      show win0_6.index t 1 * 1024 + 1 * l.val = l.val; rw [(index6 t).2]; omega
    unfold dg8
    rw [h15]
    refine Finset.sum_congr rfl fun i _ => ?_
    exact congr (congrArg (dgRow (argX m c) (argT m c) (argG m c)) e1.symm) (congrArg (8 * i + ·) e0.symm)
  · have h0 : (i 0 : Nat) < 8 := (i 0).isLt
    have h1 : (i 1 : Nat) < 1024 := (i 1).isLt
    let p : Fin cfg0.N := ⟨15, by omega⟩
    refine ⟨p, (flush0_6 _).mpr rfl, ?_⟩
    show i ∈ ((View.whole main_v0_3).slice (win0_6.rect p)).set
    rw [View.set_slice_whole, Rect.mem_set_unit]
    intro a
    match a with
    | ⟨0, _⟩ =>
      show win0_6.index p 0 * 8 ≤ (i 0 : Nat) ∧ (i 0 : Nat) < win0_6.index p 0 * 8 + 8
      rw [(index6 p).1]; omega
    | ⟨1, _⟩ =>
      show win0_6.index p 1 * 1024 ≤ (i 1 : Nat) ∧ (i 1 : Nat) < win0_6.index p 1 * 1024 + 1024
      rw [(index6 p).2]; omega

/-- The host's sum of all squares, and the loss made of it. -/
theorem sum5 (X T : Rows) (G : Gain) :
    Host.divf (F := Ideal) (mulf (constant S_ .f32 0x3F000000#32)
      (Host.reduceAdd (sq8 X T G) (constant S_ .f32 0x00000000#32) reducesTo_S8x1024_S_d0_1 h_S_)) (constant S_ .f32 0x44800000#32) = lossArr X T G := by
  funext j
  obtain rfl : j = ix0 := funext fun a => a.elim0
  pointwise
  unfold lossArr loss sq8
  rw [Finset.sum_comm]
  congr 2
  exact Finset.sum_congr rfl fun l _ => sum_by_eight 1024 (sqRow X T G l.val)

/-- The host's sum of the eight rows of the gain's gradient. -/
theorem sum6 (X T : Rows) (G : Gain) :
    Host.reduceAdd (F := Ideal) (dg8 X T G) (constant S_ .f32 0x00000000#32) reducesTo_S8x1024_S1024_d0 h_S_ = dgArr X T G := by
  funext j
  obtain ⟨l, rfl⟩ : ∃ l : Fin 1024, j = ix1 l := ⟨j 0, eq_ix1 j⟩
  pointwise
  unfold dg8
  exact sum_by_eight 1024 (dgRow X T G l.val)

/-- What the host's lines after the grid leave in the first and the fourth result. -/
theorem after5 (c : Dev nD) : Pipeline.afterTail₀ cfgs (dats m) 0 (V0 m) [hostOps1] c main_v3 = lossArr (argX m c) (argT m c) (argG m c) := by
  have h := Pipeline.withArrays_arr spec0 (by decide) c (V0 m c) (fun w => (dats m 0 c).arrAt w cfg0.N) 5
  rw [← sum5, ← final5 m c, ← h]
  rfl
theorem after6 (c : Dev nD) : Pipeline.afterTail₀ cfgs (dats m) 0 (V0 m) [hostOps1] c main_v4 = dgArr (argX m c) (argT m c) (argG m c) := by
  have h := Pipeline.withArrays_arr spec0 (by decide) c (V0 m c) (fun w => (dats m 0 c).arrAt w cfg0.N) 6
  rw [← sum6, ← final6 m c, ← h]
  rfl

/-- The run: the four results, and the arguments unchanged. -/
theorem run : θ_run defs (onTc (τ := τ) (main (F := Ideal))) ⟨m, fun _ => 0, ρ⟩ fun r => ∀ c : Dev nD,
      r.2.mem ((c : Thread nD τ).loc main_v3) = lossArr (argX m c) (argT m c) (argG m c)
      ∧ r.2.mem ((c : Thread nD τ).loc main_v0_0) = dxArr (argX m c) (argT m c) (argG m c)
      ∧ r.2.mem ((c : Thread nD τ).loc main_v0_1) = dxbArr (argX m c) (argT m c) (argG m c)
      ∧ r.2.mem ((c : Thread nD τ).loc main_v4) = dgArr (argX m c) (argT m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v3 (by decide)).trans (after5 m c), ((h.1 c).1 3).trans (final3 m c), ((h.1 c).1 4).trans (final4 m c),
      ((h.1 c).2 main_v4 (by decide)).trans (after6 m c), h.2 c⟩)
    (θ_run_and (run_main m ρ) (unchanged m ρ))

end Cert.LossHeadIdeal.KernelValue

/-! ## The reference -/

namespace Cert.LossHeadRefIdeal.RefValue

open Cert.LossHeadRefIdeal Cert.LossHeadRefIdeal.Read Cert.Common Cert.LossHeadSpec

variable (x0 x1 : Rows) (x2 : Gain)

/-- The mean square of a row, and one over its root. -/
theorem v7_eq (r : Fin 8192) (u : Fin 1) : val_main_v7 (F := Ideal) x0 (ix2 r u) = meanSq (rd2 x0 r.val) := by
  unfold val_main_v7 val_main_v6 val_main_cst_1 val_main_v5 val_main_v4 val_main_cst_0 val_main_v3 val_main_v2 val_main_cst val_main_v1
  pointwise
  simp only [eq_rd2 x0]
  rfl
theorem v8_eq (r : Fin 8192) (u : Fin 1) : val_main_v8 (F := Ideal) x0 (ix2 r u) = rstd (rd2 x0 r.val) := by
  unfold val_main_v8
  pointwise
  rw [v7_eq]
  rfl

/-- The distance from the target. -/
theorem v17_eq (r : Fin 8192) (l : Fin 1024) : val_main_v17 (F := Ideal) x0 x1 x2 (ix2 r l) = err x0 x1 x2 r.val l.val := by
  unfold val_main_v17 val_main_v16 val_main_v15 val_main_v14 val_main_v13 val_main_v12 val_main_v0
  pointwise
  simp only [v8_eq, eq_rd2 x0, eq_rd2 x1, eq_rd2 x2]
  rfl

/-- The cotangent of the norm's output. -/
theorem v31_eq (r : Fin 8192) (l : Fin 1024) : val_main_v31 (F := Ideal) x0 x1 x2 (ix2 r l) = dy x0 x1 x2 r.val l.val := by
  unfold val_main_v31 val_main_v30 val_main_v29 val_main_v28 val_main_cst_10 val_main_v27 val_main_v26 val_main_cst_9 val_main_cst_8 val_main_v20 val_main_v19 val_main_cst_3
  pointwise
  rw [v17_eq]
  exact back_eq _

/-- The loss. -/
theorem v25_eq : val_main_v25 (F := Ideal) x0 x1 x2 ix0 = loss x0 x1 x2 := by
  unfold val_main_v25 val_main_cst_7 val_main_v24 val_main_cst_6 val_main_v23 val_main_v22 val_main_cst_5 val_main_v21 val_main_cst_4 val_main_v18
  pointwise
  simp only [v17_eq]
  exact (loss_rows x0 x1 x2).symm

/-- The input's gradient. -/
theorem v51_eq (r : Fin 8192) (l : Fin 1024) : val_main_v51 (F := Ideal) x0 x1 x2 (ix2 r l) = dx x0 x1 x2 r.val l.val := by
  unfold val_main_v51 val_main_v50 val_main_v49 val_main_v48 val_main_v47 val_main_v46 val_main_v45 val_main_v44 val_main_v43 val_main_v42 val_main_v41 val_main_v40 val_main_v39 val_main_v38 val_main_v36 val_main_v35 val_main_v14 val_main_v11 val_main_v10 val_main_v9 val_main_v0 val_main_cst_15 val_main_cst_14 val_main_cst_13 val_main_cst_2
  pointwise
  simp only [v8_eq, v7_eq, v31_eq, eq_rd2 x0, eq_rd2 x2, Fintype.sum_unique]
  refine Eq.trans ?_ (normDx_eq (rd2 x0 r.val) (dy x0 x1 x2 r.val) (rd2 x2 0) (fun _ => 0) l.val).symm
  rw [zero_add]
  rfl

/-- The gain's gradient. -/
theorem v37_eq (l : Fin 1024) : val_main_v37 (F := Ideal) x0 x1 x2 (ix1 l) = ∑ n ∈ Finset.range 8192, dgRow x0 x1 x2 l.val n := by
  unfold val_main_v37 val_main_v34 val_main_v33 val_main_v32 val_main_v13 val_main_v12 val_main_cst_12 val_main_cst_11
  pointwise
  simp only [v8_eq, v31_eq, eq_rd2 x0, Fintype.sum_unique]
  rw [Finset.sum_range]
  exact Finset.sum_congr rfl fun n _ => mul_comm _ _

end Cert.LossHeadRefIdeal.RefValue

namespace Cert.LossHeadClaim

open Cert.Common Cert.LossHeadSpec Cert.LossHeadIdeal.KernelValue Cert.LossHeadRefIdeal.RefValue Cert.LossHeadRefIdeal.Read

/-- The reference's results as arrays. -/
theorem ref_loss (X T : Rows) (G : Gain) : val_main_v25 (F := Ideal) X T G = lossArr X T G := by
  funext j
  obtain rfl : j = ix0 := funext fun a => a.elim0
  exact v25_eq X T G
theorem ref_dx (X T : Rows) (G : Gain) : val_main_v51 (F := Ideal) X T G = dxArr X T G := by
  funext j
  obtain ⟨r, l, rfl⟩ : ∃ (r : Fin 8192) (l : Fin 1024), j = ix2 r l := ⟨j 0, j 1, eq_ix2 j⟩
  exact v51_eq X T G r l
theorem ref_dxb (X T : Rows) (G : Gain) : val_main_v52 (F := Ideal) X T G = dxbArr X T G := by
  funext j
  obtain ⟨r, l, rfl⟩ : ∃ (r : Fin 8192) (l : Fin 1024), j = ix2 r l := ⟨j 0, j 1, eq_ix2 j⟩
  exact v51_eq X T G r l
theorem ref_dg (X T : Rows) (G : Gain) : val_main_v37 (F := Ideal) X T G = dgArr X T G := by
  funext j
  obtain ⟨l, rfl⟩ : ∃ l : Fin 1024, j = ix1 l := ⟨j 0, eq_ix1 j⟩
  exact v37_eq X T G l

/-- Both programs end with the same four results. -/
theorem algebraic : Cert.algebraic_LossHeadIdeal_LossHeadRefIdeal (hLossHeadIdeal := Cert.LossHeadIdeal.Gen.facts)
    (hLossHeadRefIdeal := Cert.LossHeadRefIdeal.Gen.facts) := fun m g m' g' _ hag =>
  ⟨fun c => lossArr (argX m c) (argT m c) (argG m c), fun c => dxArr (argX m c) (argT m c) (argG m c),
    fun c => dxbArr (argX m c) (argT m c) (argG m c), fun c => dgArr (argX m c) (argT m c) (argG m c), run m g,
    (θ_run _ _ _).mono (fun _ h c => by
      obtain ⟨e0, e1, e2⟩ := hag c
      obtain ⟨h0, h1, h2, h3, h4⟩ := h c
      refine ⟨h0.trans ?_, h1.trans ?_, h2.trans ?_, h3.trans ?_, h4⟩
      · rw [val_main_v25_eq, e0, e1, e2]
        exact ref_loss _ _ _
      · rw [val_main_v51_eq, e0, e1, e2]
        exact ref_dx _ _ _
      · rw [val_main_v52_eq, e0, e1, e2]
        exact ref_dxb _ _ _
      · rw [val_main_v37_eq, e0, e1, e2]
        exact ref_dg _ _ _) (Cert.LossHeadRefIdeal.Value.run m' g')⟩

end Cert.LossHeadClaim

end
-- ==== Proof.Norm.Adamw.lean ====
/-
  One step of the optimiser (AdamW) on the packed small weights: the two moments and the change of the weight, entry by
  entry. The kernel's run and the reference's run end with the same three arrays, for all inputs.
-/
module

public import proofs.«01_k».proof.Defs
public import proofs.«01_k».proof.Proof.Common.Product
public import proofs.«01_k».proof.Proof.Gen.AdamwSmallIdeal.Value
public import proofs.«01_k».proof.Proof.Gen.AdamwSmallRefIdeal.Run
public import proofs.«01_k».proof.Proof.Gen.AdamwSmallRefIdeal.Read

@[expose] public section

set_option maxRecDepth 16384

noncomputable section

open Idealize.ShloMosaic Idealize.ShloMosaic.TcCoe Idealize.SL.Sem
open Idealize.ShloMosaic.Pipeline (Dat)

namespace Cert.AdamwSmallIdeal.KernelValue

open Cert.AdamwSmallIdeal Cert.AdamwSmallIdeal.Gen Cert.Common

/-- The shape of every argument and result. -/
abbrev Packed := (⟨3, ![1, 24, 1024]⟩ : Shape).Idx → EReal

/-- The new first moment, the new second moment, and the change of the weight, of one entry. -/
def moment (g a : Ideal .f32) : Ideal .f32 :=
  FloatOps.addf (FloatOps.mulf (FloatOps.ofBits .f32 0x3F666666#32) a) (FloatOps.mulf (FloatOps.ofBits .f32 0x3DCCCCCD#32) g)
def square (g v : Ideal .f32) : Ideal .f32 :=
  FloatOps.addf (FloatOps.mulf (FloatOps.ofBits .f32 0x3F7FBE77#32) v) (FloatOps.mulf (FloatOps.ofBits .f32 0x3A83126F#32) (FloatOps.mulf g g))
def change (w g a v : Ideal .f32) : Ideal .f32 :=
  FloatOps.mulf (FloatOps.ofBits .f32 0xBA83126F#32) (FloatOps.addf
    (FloatOps.divf (FloatOps.divf (moment g a) (FloatOps.ofBits .f32 0x3F26BD02#32))
      (FloatOps.addf (FloatOps.sqrt (FloatOps.divf (square g v) (FloatOps.ofBits .f32 0x3C231ACC#32))) (FloatOps.ofBits .f32 0x322BCC77#32)))
    (FloatOps.mulf (FloatOps.ofBits .f32 0x3C23D70A#32) w))

/-- The three results as arrays. -/
def arr4 (W G A V : Packed) : Packed := fun j => change (W j) (G j) (A j) (V j)
def arr5 (_W G A _V : Packed) : Packed := fun j => moment (G j) (A j)
def arr6 (_W G _A V : Packed) : Packed := fun j => square (G j) (V j)

/-! ## The grid -/

variable (m : (ℓ : Loc nD τ sig) → Buf (Elt Ideal) ℓ) (ρ : Dev nD → PrngReg)

/-- The weights, their gradient, and the two moments. -/
abbrev arg0 (c : Dev nD) : Packed := m ((c : Thread nD τ).loc main_arg0)
abbrev arg1 (c : Dev nD) : Packed := m ((c : Thread nD τ).loc main_arg1)
abbrev arg2 (c : Dev nD) : Packed := m ((c : Thread nD τ).loc main_arg2)
abbrev arg3 (c : Dev nD) : Packed := m ((c : Thread nD τ).loc main_arg3)

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem index2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)
theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem index4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem index5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)
theorem index6 : ∀ t : Fin cfg0.N, win0_6.index t 0 = 0 ∧ win0_6.index t 1 = t.val ∧ win0_6.index t 2 = 0 :=
  (by decide +kernel : ∀ t : Fin grid0.N, win0_6.index t 0 = 0 ∧ win0_6.index t 1 = t.val ∧ win0_6.index t 2 = 0)

/-- A point's blocks of the arguments. -/
theorem rows0 (c : Dev nD) (t : Fin cfg0.N) (y : S1x8x1024.Idx) :
    View.ld (iblk m c 0 t : Vec Ideal S1x8x1024 .f32) r0_0 y = rd3 (arg0 m c) 0 (8 * t.val + (y 1).val) (y 2).val := by
  have h0 : (y 0).val < 1 := (y 0).isLt
  show iblk m c 0 t _ = _
  unfold iblk
  rw [View.read_apply]
  refine (eq_rd3' (arg0 m c) _).trans (rd3_congr _ ?_ ?_ ?_)
  · show win0_0.index t 0 * 1 + 1 * (0 + 1 * (y 0).val) = 0; rw [(index0 t).1]; omega
  · show win0_0.index t 1 * 8 + 1 * (0 + 1 * (y 1).val) = 8 * t.val + (y 1).val; rw [(index0 t).2.1]; omega
  · show win0_0.index t 2 * 1024 + 1 * (0 + 1 * (y 2).val) = (y 2).val; rw [(index0 t).2.2]; omega
theorem rows1 (c : Dev nD) (t : Fin cfg0.N) (y : S1x8x1024.Idx) :
    View.ld (iblk m c 1 t : Vec Ideal S1x8x1024 .f32) r0_0 y = rd3 (arg1 m c) 0 (8 * t.val + (y 1).val) (y 2).val := by
  have h0 : (y 0).val < 1 := (y 0).isLt
  show iblk m c 1 t _ = _
  unfold iblk
  rw [View.read_apply]
  refine (eq_rd3' (arg1 m c) _).trans (rd3_congr _ ?_ ?_ ?_)
  · show win0_1.index t 0 * 1 + 1 * (0 + 1 * (y 0).val) = 0; rw [(index1 t).1]; omega
  · show win0_1.index t 1 * 8 + 1 * (0 + 1 * (y 1).val) = 8 * t.val + (y 1).val; rw [(index1 t).2.1]; omega
  · show win0_1.index t 2 * 1024 + 1 * (0 + 1 * (y 2).val) = (y 2).val; rw [(index1 t).2.2]; omega
theorem rows2 (c : Dev nD) (t : Fin cfg0.N) (y : S1x8x1024.Idx) :
    View.ld (iblk m c 2 t : Vec Ideal S1x8x1024 .f32) r0_0 y = rd3 (arg2 m c) 0 (8 * t.val + (y 1).val) (y 2).val := by
  have h0 : (y 0).val < 1 := (y 0).isLt
  show iblk m c 2 t _ = _
  unfold iblk
  rw [View.read_apply]
  refine (eq_rd3' (arg2 m c) _).trans (rd3_congr _ ?_ ?_ ?_)
  · show win0_2.index t 0 * 1 + 1 * (0 + 1 * (y 0).val) = 0; rw [(index2 t).1]; omega
  · show win0_2.index t 1 * 8 + 1 * (0 + 1 * (y 1).val) = 8 * t.val + (y 1).val; rw [(index2 t).2.1]; omega
  · show win0_2.index t 2 * 1024 + 1 * (0 + 1 * (y 2).val) = (y 2).val; rw [(index2 t).2.2]; omega
theorem rows3 (c : Dev nD) (t : Fin cfg0.N) (y : S1x8x1024.Idx) :
    View.ld (iblk m c 3 t : Vec Ideal S1x8x1024 .f32) r0_0 y = rd3 (arg3 m c) 0 (8 * t.val + (y 1).val) (y 2).val := by
  have h0 : (y 0).val < 1 := (y 0).isLt
  show iblk m c 3 t _ = _
  unfold iblk
  rw [View.read_apply]
  refine (eq_rd3' (arg3 m c) _).trans (rd3_congr _ ?_ ?_ ?_)
  · show win0_3.index t 0 * 1 + 1 * (0 + 1 * (y 0).val) = 0; rw [(index3 t).1]; omega
  · show win0_3.index t 1 * 8 + 1 * (0 + 1 * (y 1).val) = 8 * t.val + (y 1).val; rw [(index3 t).2.1]; omega
  · show win0_3.index t 2 * 1024 + 1 * (0 + 1 * (y 2).val) = (y 2).val; rw [(index3 t).2.2]; omega

/-- A point's block of the result, and the array after the run. -/
theorem out4_at (c : Dev nD) (t : Fin cfg0.N) (y : S1x8x1024.Idx) :
    out0_4 (iblk m c 0 t) (iblk m c 1 t) (iblk m c 2 t) (iblk m c 3 t) y = change (rd3 (arg0 m c) 0 (8 * t.val + (y 1).val) (y 2).val) (rd3 (arg1 m c) 0 (8 * t.val + (y 1).val) (y 2).val) (rd3 (arg2 m c) 0 (8 * t.val + (y 1).val) (y 2).val) (rd3 (arg3 m c) 0 (8 * t.val + (y 1).val) (y 2).val) := by
  unfold out0_4
  refine (Value.canon4_eq _ _ _ _ y).trans ?_
  dsimp only [Value.E4]
  simp only [rows0, rows1, rows2, rows3]
  rfl
theorem final4 (c : Dev nD) : (dats m 0 c).arrAt 4 cfg0.N = arr4 (arg0 m c) (arg1 m c) (arg2 m c) (arg3 m c) := by
  have hN : cfg0.N = 3 := N_0
  refine (dats m 0 c).arrAt_eq_of_cover 4 _ (fun t _ => ?_) fun i => ?_
  · rw [Value.flushed4]
    funext y
    have h0 : (y 0 : Nat) < 1 := (y 0).isLt
    show out0_4 (iblk m c 0 t) (iblk m c 1 t) (iblk m c 2 t) (iblk m c 3 t) y = arr4 (arg0 m c) (arg1 m c) (arg2 m c) (arg3 m c) (((cfg0.win 4).blk t).view.emb y)
    have e0 : ((((cfg0.win 4).blk t).view.emb y) 0 : Nat) = 0 := by
      show win0_4.index t 0 * 1 + 1 * (y 0).val = _; rw [(index4 t).1]; omega
    have e1 : ((((cfg0.win 4).blk t).view.emb y) 1 : Nat) = 8 * t.val + (y 1).val := by
      show win0_4.index t 1 * 8 + 1 * (y 1).val = _; rw [(index4 t).2.1]; omega
    have e2 : ((((cfg0.win 4).blk t).view.emb y) 2 : Nat) = (y 2).val := by
      show win0_4.index t 2 * 1024 + 1 * (y 2).val = _; rw [(index4 t).2.2]; omega
    refine (out4_at m c t y).trans ?_
    unfold arr4
    have key : ∀ X : Packed, rd3 X 0 (8 * t.val + (y 1).val) (y 2).val = X (((cfg0.win 4).blk t).view.emb y) := fun X =>
      (rd3_congr X e0.symm e1.symm e2.symm).trans (eq_rd3' X _).symm
    simp only [key]
  · have h0 : (i 0 : Nat) < 1 := (i 0).isLt
    have h1 : (i 1 : Nat) < 24 := (i 1).isLt
    have h2 : (i 2 : Nat) < 1024 := (i 2).isLt
    let p : Fin cfg0.N := ⟨(i 1).val / 8, by omega⟩
    have hp : p.val = (i 1).val / 8 := rfl
    refine ⟨p, (by decide +kernel : ∀ t : Fin grid0.N, (cfg0.win 4).flush t = true) _, ?_⟩
    show i ∈ ((View.whole main_v0_0).slice (win0_4.rect p)).set
    rw [View.set_slice_whole, Rect.mem_set_unit]
    intro a
    match a with
    | ⟨0, _⟩ =>
      show win0_4.index p 0 * 1 ≤ (i 0 : Nat) ∧ (i 0 : Nat) < win0_4.index p 0 * 1 + 1
      rw [(index4 p).1]; omega
    | ⟨1, _⟩ =>
      show win0_4.index p 1 * 8 ≤ (i 1 : Nat) ∧ (i 1 : Nat) < win0_4.index p 1 * 8 + 8
      rw [(index4 p).2.1, hp]; omega
    | ⟨2, _⟩ =>
      show win0_4.index p 2 * 1024 ≤ (i 2 : Nat) ∧ (i 2 : Nat) < win0_4.index p 2 * 1024 + 1024
      rw [(index4 p).2.2]; omega

/-- A point's block of the result, and the array after the run. -/
theorem out5_at (c : Dev nD) (t : Fin cfg0.N) (y : S1x8x1024.Idx) :
    out0_5 (iblk m c 0 t) (iblk m c 1 t) (iblk m c 2 t) (iblk m c 3 t) y = moment (rd3 (arg1 m c) 0 (8 * t.val + (y 1).val) (y 2).val) (rd3 (arg2 m c) 0 (8 * t.val + (y 1).val) (y 2).val) := by
  unfold out0_5
  refine (Value.canon5_eq _ _ y).trans ?_
  dsimp only [Value.E5]
  simp only [rows0, rows1, rows2, rows3]
  rfl
theorem final5 (c : Dev nD) : (dats m 0 c).arrAt 5 cfg0.N = arr5 (arg0 m c) (arg1 m c) (arg2 m c) (arg3 m c) := by
  have hN : cfg0.N = 3 := N_0
  refine (dats m 0 c).arrAt_eq_of_cover 5 _ (fun t _ => ?_) fun i => ?_
  · rw [Value.flushed5]
    funext y
    have h0 : (y 0 : Nat) < 1 := (y 0).isLt
    show out0_5 (iblk m c 0 t) (iblk m c 1 t) (iblk m c 2 t) (iblk m c 3 t) y = arr5 (arg0 m c) (arg1 m c) (arg2 m c) (arg3 m c) (((cfg0.win 5).blk t).view.emb y)
    have e0 : ((((cfg0.win 5).blk t).view.emb y) 0 : Nat) = 0 := by
      show win0_5.index t 0 * 1 + 1 * (y 0).val = _; rw [(index5 t).1]; omega
    have e1 : ((((cfg0.win 5).blk t).view.emb y) 1 : Nat) = 8 * t.val + (y 1).val := by
      show win0_5.index t 1 * 8 + 1 * (y 1).val = _; rw [(index5 t).2.1]; omega
    have e2 : ((((cfg0.win 5).blk t).view.emb y) 2 : Nat) = (y 2).val := by
      show win0_5.index t 2 * 1024 + 1 * (y 2).val = _; rw [(index5 t).2.2]; omega
    refine (out5_at m c t y).trans ?_
    unfold arr5
    have key : ∀ X : Packed, rd3 X 0 (8 * t.val + (y 1).val) (y 2).val = X (((cfg0.win 5).blk t).view.emb y) := fun X =>
      (rd3_congr X e0.symm e1.symm e2.symm).trans (eq_rd3' X _).symm
    simp only [key]
  · have h0 : (i 0 : Nat) < 1 := (i 0).isLt
    have h1 : (i 1 : Nat) < 24 := (i 1).isLt
    have h2 : (i 2 : Nat) < 1024 := (i 2).isLt
    let p : Fin cfg0.N := ⟨(i 1).val / 8, by omega⟩
    have hp : p.val = (i 1).val / 8 := rfl
    refine ⟨p, (by decide +kernel : ∀ t : Fin grid0.N, (cfg0.win 5).flush t = true) _, ?_⟩
    show i ∈ ((View.whole main_v0_1).slice (win0_5.rect p)).set
    rw [View.set_slice_whole, Rect.mem_set_unit]
    intro a
    match a with
    | ⟨0, _⟩ =>
      show win0_5.index p 0 * 1 ≤ (i 0 : Nat) ∧ (i 0 : Nat) < win0_5.index p 0 * 1 + 1
      rw [(index5 p).1]; omega
    | ⟨1, _⟩ =>
      show win0_5.index p 1 * 8 ≤ (i 1 : Nat) ∧ (i 1 : Nat) < win0_5.index p 1 * 8 + 8
      rw [(index5 p).2.1, hp]; omega
    | ⟨2, _⟩ =>
      show win0_5.index p 2 * 1024 ≤ (i 2 : Nat) ∧ (i 2 : Nat) < win0_5.index p 2 * 1024 + 1024
      rw [(index5 p).2.2]; omega

/-- A point's block of the result, and the array after the run. -/
theorem out6_at (c : Dev nD) (t : Fin cfg0.N) (y : S1x8x1024.Idx) :
    out0_6 (iblk m c 0 t) (iblk m c 1 t) (iblk m c 2 t) (iblk m c 3 t) y = square (rd3 (arg1 m c) 0 (8 * t.val + (y 1).val) (y 2).val) (rd3 (arg3 m c) 0 (8 * t.val + (y 1).val) (y 2).val) := by
  unfold out0_6
  refine (Value.canon6_eq _ _ y).trans ?_
  dsimp only [Value.E6]
  simp only [rows0, rows1, rows2, rows3]
  rfl
theorem final6 (c : Dev nD) : (dats m 0 c).arrAt 6 cfg0.N = arr6 (arg0 m c) (arg1 m c) (arg2 m c) (arg3 m c) := by
  have hN : cfg0.N = 3 := N_0
  refine (dats m 0 c).arrAt_eq_of_cover 6 _ (fun t _ => ?_) fun i => ?_
  · rw [Value.flushed6]
    funext y
    have h0 : (y 0 : Nat) < 1 := (y 0).isLt
    show out0_6 (iblk m c 0 t) (iblk m c 1 t) (iblk m c 2 t) (iblk m c 3 t) y = arr6 (arg0 m c) (arg1 m c) (arg2 m c) (arg3 m c) (((cfg0.win 6).blk t).view.emb y)
    have e0 : ((((cfg0.win 6).blk t).view.emb y) 0 : Nat) = 0 := by
      show win0_6.index t 0 * 1 + 1 * (y 0).val = _; rw [(index6 t).1]; omega
    have e1 : ((((cfg0.win 6).blk t).view.emb y) 1 : Nat) = 8 * t.val + (y 1).val := by
      show win0_6.index t 1 * 8 + 1 * (y 1).val = _; rw [(index6 t).2.1]; omega
    have e2 : ((((cfg0.win 6).blk t).view.emb y) 2 : Nat) = (y 2).val := by
      show win0_6.index t 2 * 1024 + 1 * (y 2).val = _; rw [(index6 t).2.2]; omega
    refine (out6_at m c t y).trans ?_
    unfold arr6
    have key : ∀ X : Packed, rd3 X 0 (8 * t.val + (y 1).val) (y 2).val = X (((cfg0.win 6).blk t).view.emb y) := fun X =>
      (rd3_congr X e0.symm e1.symm e2.symm).trans (eq_rd3' X _).symm
    simp only [key]
  · have h0 : (i 0 : Nat) < 1 := (i 0).isLt
    have h1 : (i 1 : Nat) < 24 := (i 1).isLt
    have h2 : (i 2 : Nat) < 1024 := (i 2).isLt
    let p : Fin cfg0.N := ⟨(i 1).val / 8, by omega⟩
    have hp : p.val = (i 1).val / 8 := rfl
    refine ⟨p, (by decide +kernel : ∀ t : Fin grid0.N, (cfg0.win 6).flush t = true) _, ?_⟩
    show i ∈ ((View.whole main_v0_2).slice (win0_6.rect p)).set
    rw [View.set_slice_whole, Rect.mem_set_unit]
    intro a
    match a with
    | ⟨0, _⟩ =>
      show win0_6.index p 0 * 1 ≤ (i 0 : Nat) ∧ (i 0 : Nat) < win0_6.index p 0 * 1 + 1
      rw [(index6 p).1]; omega
    | ⟨1, _⟩ =>
      show win0_6.index p 1 * 8 ≤ (i 1 : Nat) ∧ (i 1 : Nat) < win0_6.index p 1 * 8 + 8
      rw [(index6 p).2.1, hp]; omega
    | ⟨2, _⟩ =>
      show win0_6.index p 2 * 1024 ≤ (i 2 : Nat) ∧ (i 2 : Nat) < win0_6.index p 2 * 1024 + 1024
      rw [(index6 p).2.2]; omega

end Cert.AdamwSmallIdeal.KernelValue

namespace Cert.AdamwSmallClaim

open Cert.Common Cert.AdamwSmallIdeal.KernelValue Cert.AdamwSmallRefIdeal Cert.AdamwSmallRefIdeal.Read

/-- The reference's results as arrays. -/
theorem ref4 (W G A V : Packed) : val_main_v23 (F := Ideal) W G A V = arr4 W G A V := by
  funext j; rfl
theorem ref5 (W G A V : Packed) : val_main_v4 (F := Ideal) G A = arr5 W G A V := by
  funext j; rfl
theorem ref6 (W G A V : Packed) : val_main_v10 (F := Ideal) G V = arr6 W G A V := by
  funext j; rfl

/-- Both programs end with the same arrays. -/
theorem algebraic : Cert.algebraic_AdamwSmallIdeal_AdamwSmallRefIdeal (hAdamwSmallIdeal := Cert.AdamwSmallIdeal.Gen.facts)
    (hAdamwSmallRefIdeal := Cert.AdamwSmallRefIdeal.Gen.facts) := fun m g m' g' _ hag =>
  ⟨fun c => arr4 (arg0 m c) (arg1 m c) (arg2 m c) (arg3 m c), fun c => arr5 (arg0 m c) (arg1 m c) (arg2 m c) (arg3 m c),
    fun c => arr6 (arg0 m c) (arg1 m c) (arg2 m c) (arg3 m c),
    (θ_run _ _ _).mono (fun _ h c => ⟨(h c).1.trans (final4 m c), (h c).2.1.trans (final5 m c), (h c).2.2.1.trans (final6 m c), (h c).2.2.2⟩)
      (Cert.AdamwSmallIdeal.Value.run_blocks m g),
    (θ_run _ _ _).mono (fun _ h c => by
      obtain ⟨e0, e1, e2, e3⟩ := hag c
      obtain ⟨h0, h1, h2, h3⟩ := h c
      refine ⟨h0.trans ?_, h1.trans ?_, h2.trans ?_, h3⟩
      · rw [val_main_v23_eq, e0, e1, e2, e3]
        exact ref4 _ _ _ _
      · rw [val_main_v4_eq, e1, e2]
        exact ref5 (arg0 m c) _ _ (arg3 m c)
      · rw [val_main_v10_eq, e1, e3]
        exact ref6 (arg0 m c) _ (arg2 m c) _) (Cert.AdamwSmallRefIdeal.Value.run m' g')⟩

end Cert.AdamwSmallClaim

end
-- ==== Proof.Ffn.BwdPay.lean ====
/-
  What one chunk of 256 lanes of a grid point of the gate's gradient kernel computes, read entry by entry: the convolved
  gate, the gradient of it, the gradients of the gate's input and of the factor, and the sums for the taps, each as a
  formula in the rows of the arguments.
-/
module

public import proofs.«01_k».proof.Proof.Ffn.Spec
public import proofs.«01_k».proof.Proof.Gen.FfnBwdIdeal.Value

@[expose] public section

set_option maxRecDepth 16384

noncomputable section

open Idealize.ShloMosaic Idealize.ShloMosaic.TcCoe Idealize.SL.Sem

namespace Cert.FfnSpec

open Cert.Common

abbrev Cot := (⟨2, ![8192, 2816]⟩ : Shape).Idx → EReal

/-- The gradient at the convolved gate, for the cotangent `DA` of the activation. -/
def grad (A : Wide) (DA : Cot) (W : Taps) (n l : ℕ) : EReal :=
  rd2 DA n l * rd2 A n (2816 + l) * (sig (conv A W n l) * (1 + conv A W n l * (1 - sig (conv A W n l))))

/-- The same `k` positions later in the sequence, 0 past the sequence's end. -/
def later (A : Wide) (DA : Cot) (W : Taps) (k n l : ℕ) : EReal := if 2048 ≤ n % 2048 + k then 0 else grad A DA W (n + k) l

/-- The gradient of the gate's input. -/
def dgate (A : Wide) (DA : Cot) (W : Taps) (n l : ℕ) : EReal :=
  rd2 W 2 l * grad A DA W n l + rd2 W 1 l * later A DA W 1 n l + rd2 W 0 l * later A DA W 2 n l

/-- The gradient of the factor. -/
def dfactor (A : Wide) (DA : Cot) (W : Taps) (n l : ℕ) : EReal := rd2 DA n l * (conv A W n l * sig (conv A W n l))

end Cert.FfnSpec

namespace Cert.FfnBwdIdeal.KernelValue

open Cert.FfnBwdIdeal Cert.FfnBwdIdeal.Gen Cert.Common Cert.FfnSpec

abbrev Sq := Vec Ideal S256x256 .bf16
abbrev Halo := Vec Ideal S16x256 .bf16
abbrev Tap := Vec Ideal S1x256 .f32

/-- The vectors that one chunk of a grid point reads are the arguments' rows around row `256 t`, in the lanes from `q`
    on. -/
structure Chunk (t q : ℕ) (A : Wide) (DA : Cot) (W : Taps) (w0 w1 w2 : Tap) (g u : Sq) (hb : Halo) (da : Sq) (xt xa xu dl : Halo) : Prop where
  lt : t < 32
  h0 : ∀ l : Fin 256, w0 (ix2 0 l) = rd2 W 0 (q + l.val)
  h1 : ∀ l : Fin 256, w1 (ix2 0 l) = rd2 W 1 (q + l.val)
  h2 : ∀ l : Fin 256, w2 (ix2 0 l) = rd2 W 2 (q + l.val)
  hg : ∀ (r : Fin 256) (l : Fin 256), g (ix2 r l) = rd2 A (256 * t + r.val) (q + l.val)
  hu : ∀ (r : Fin 256) (l : Fin 256), u (ix2 r l) = rd2 A (256 * t + r.val) (2816 + (q + l.val))
  hd : ∀ (r : Fin 256) (l : Fin 256), da (ix2 r l) = rd2 DA (256 * t + r.val) (q + l.val)
  hb : t % 8 ≠ 0 → ∀ (r : Fin 16) (l : Fin 256), hb (ix2 r l) = rd2 A (256 * t - 16 + r.val) (q + l.val)
  ht : ∀ (r : Fin 16) (l : Fin 256), xt (ix2 r l) = rd2 A (256 * t + 240 + r.val) (q + l.val)
  ha : t % 8 ≠ 7 → ∀ (r : Fin 16) (l : Fin 256), xa (ix2 r l) = rd2 A (256 * t + 256 + r.val) (q + l.val)
  hx : t % 8 ≠ 7 → ∀ (r : Fin 16) (l : Fin 256), xu (ix2 r l) = rd2 A (256 * t + 256 + r.val) (2816 + (q + l.val))
  hl : t % 8 ≠ 7 → ∀ (r : Fin 16) (l : Fin 256), dl (ix2 r l) = rd2 DA (256 * t + 256 + r.val) (q + l.val)

/-- The words of one chunk, `lo` and `hi` saying whether the rows before and after belong to the same sequence. -/
abbrev rowsB (lo : EReal) (hb : Halo) : FVec Ideal S2x256 .f32 := k0_pay10 (F := Ideal) lo hb
abbrev shiftD (g : Sq) : FVec Ideal S512x256 .f32 := k0_pay11 (F := Ideal) k0_pay4 g
abbrev convV (lo : EReal) (w0 w1 w2 : Tap) (g : Sq) (hb : Halo) : FVec Ideal S256x256 .f32 :=
  k0_pay14 w0 w1 w2 (k0_pay8 g) (rowsB lo hb) (shiftD g)
abbrev expV (lo : EReal) (w0 w1 w2 : Tap) (g : Sq) (hb : Halo) : FVec Ideal S256x256 .f32 :=
  k0_pay16 w0 w1 w2 (k0_pay8 g) (rowsB lo hb) (shiftD g)
abbrev gradV (lo : EReal) (w0 w1 w2 : Tap) (g u : Sq) (hb : Halo) (da : Sq) : FVec Ideal S256x256 .f32 :=
  k0_pay19 (k0_pay9 u) (convV lo w0 w1 w2 g hb) (k0_pay15 da) (expV lo w0 w1 w2 g hb) k0_pay17
abbrev factorV (lo : EReal) (w0 w1 w2 : Tap) (g : Sq) (hb : Halo) (da : Sq) : FVec Ideal S256x256 .bf16 :=
  k0_pay35 (k0_pay20 (convV lo w0 w1 w2 g hb) (k0_pay15 da) (expV lo w0 w1 w2 g hb) k0_pay17)
abbrev rowsA (hi : EReal) (w0 w1 w2 : Tap) (xt xa xu dl : Halo) : FVec Ideal S2x256 .f32 :=
  k0_pay28 (F := Ideal) hi w0 w1 w2 (k0_pay21 xa) (k0_pay24 xa) (k0_pay25 xa xt) (k0_pay26 xa xt) (k0_pay27 xa) xu dl
abbrev gateV (lo hi : EReal) (w0 w1 w2 : Tap) (g u : Sq) (hb : Halo) (da : Sq) (xt xa xu dl : Halo) : FVec Ideal S256x256 .bf16 :=
  k0_pay34 w0 w1 w2 (gradV lo w0 w1 w2 g u hb da) (rowsA hi w0 w1 w2 xt xa xu dl) (iota .tc S8x1 32 [0] iota_S8x1_d0_w32)
    (k0_pay30 k0_pay6 (gradV lo w0 w1 w2 g u hb da)) (k0_pay31 k0_pay6 (gradV lo w0 w1 w2 g u hb da))
    (k0_pay32 k0_pay6 (gradV lo w0 w1 w2 g u hb da))
    (k0_pay33 (F := Ideal) hi w0 w1 w2 (k0_pay21 xa) (k0_pay24 xa) (k0_pay25 xa xt) (k0_pay26 xa xt) (k0_pay27 xa) xu dl)
abbrev sum0 (lo : EReal) (w0 w1 w2 : Tap) (g u : Sq) (hb : Halo) (da : Sq) (s : Tap) : FVec Ideal S1x256 .f32 :=
  k0_pay36 (k0_pay13 (rowsB lo hb) (shiftD g)) (gradV lo w0 w1 w2 g u hb da) s
abbrev sum1 (lo : EReal) (w0 w1 w2 : Tap) (g u : Sq) (hb : Halo) (da : Sq) (s : Tap) : FVec Ideal S1x256 .f32 :=
  k0_pay37 (k0_pay12 (rowsB lo hb) (shiftD g)) (gradV lo w0 w1 w2 g u hb da) s
abbrev sum2 (lo : EReal) (w0 w1 w2 : Tap) (g u : Sq) (hb : Halo) (da : Sq) (s : Tap) : FVec Ideal S1x256 .f32 :=
  k0_pay38 (k0_pay8 g) (gradV lo w0 w1 w2 g u hb da) s

/-- Whether the rows before the block belong to the same sequence. -/
theorem inner_lo (i : grid0.Coords) : k0_pay2 (F := Ideal) i = if (i 0).val % 8 = 0 then (0 : EReal) else 1 := by
  have hi : (i 0).val < 32 := (i 0).isLt
  have key : ∀ n : Fin 32, (Scalar.extui (Scalar.cmpi .ne (Scalar.select (Scalar.andi (Scalar.xori
      (Scalar.cmpi .slt (Scalar.remsi (BitVec.ofNat 32 n.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32)) (Scalar.select (Scalar.cmpi .eq 8#32 0#32) 1#32 8#32))
      (Scalar.remsi (BitVec.ofNat 32 n.val) (Scalar.select (Scalar.cmpi .eq 8#32 0#32) 1#32 8#32))) 0#32) : BitVec 32)
      = if n.val % 8 = 0 then 0#32 else 1#32 := by decide +kernel
  unfold k0_pay2
  dsimp only
  have := key ⟨(i 0).val, hi⟩
  dsimp only at this
  rw [this]
  split <;> pointwise <;> simp

/-- Whether the rows after the block belong to the same sequence. -/
theorem inner_hi (i : grid0.Coords) : k0_pay3 (F := Ideal) i = if (i 0).val % 8 = 7 then (0 : EReal) else 1 := by
  have hi : (i 0).val < 32 := (i 0).isLt
  have key : ∀ n : Fin 32, (Scalar.extui (Scalar.cmpi .ne (Scalar.select (Scalar.andi (Scalar.xori
      (Scalar.cmpi .slt (Scalar.remsi (BitVec.ofNat 32 n.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32)) (Scalar.select (Scalar.cmpi .eq 8#32 0#32) 1#32 8#32))
      (Scalar.remsi (BitVec.ofNat 32 n.val) (Scalar.select (Scalar.cmpi .eq 8#32 0#32) 1#32 8#32))) 7#32) : BitVec 32)
      = if n.val % 8 = 7 then 0#32 else 1#32 := by decide +kernel
  unfold k0_pay3
  dsimp only
  have := key ⟨(i 0).val, hi⟩
  dsimp only at this
  rw [this]
  split <;> pointwise <;> simp

/-- The product with the matrix that moves rows down: the first 256 rows are the block moved down by one row, the others
    the block moved down by two rows, with 0 in the rows that come free. -/
theorem moved_down (g : Sq) (F : ℕ → ℕ → EReal) (hF : ∀ (x : Fin 256) (l : Fin 256), g (ix2 x l) = F x.val l.val)
    (r : Fin 512) (l : Fin 256) :
    shiftD g (ix2 r l) = if r.val < 256 then (if r.val < 1 then 0 else F (r.val - 1) l.val)
      else (if r.val - 256 < 2 then 0 else F (r.val - 256 - 2) l.val) := by
  have hr := r.isLt
  have key : ∀ r : Fin 512, IntOp.subi
      (Scalar.select (IntOp.cmpi CmpIPredicate.sge (BitVec.ofNat 32 r.val) 256#32) (IntOp.subi (BitVec.ofNat 32 r.val) 256#32) (BitVec.ofNat 32 r.val))
      (Scalar.select (IntOp.cmpi CmpIPredicate.sge (BitVec.ofNat 32 r.val) 256#32) 2#32 1#32)
      = BitVec.ofNat 32 (if r.val < 256 then (if r.val < 1 then 4294967295 else r.val - 1)
        else (if r.val - 256 < 2 then 4294967294 else r.val - 256 - 2) + (if r.val = 257 then 1 else 0)) := by decide +kernel
  unfold shiftD k0_pay11 k0_pay5 k0_pay4
  pointwise
  rw [key]
  have hw : ∀ x : Fin 256, FloatOps.sitofp (F := Ideal) FTy.f32 (BitVec.setWidth 32 (IntOp.cmpi CmpIPredicate.eq (BitVec.ofNat 32 x.val)
      (BitVec.ofNat 32 (if r.val < 256 then (if r.val < 1 then 4294967295 else r.val - 1)
        else (if r.val - 256 < 2 then 4294967294 else r.val - 256 - 2) + (if r.val = 257 then 1 else 0)))))
      = if x.val + (if r.val < 256 then 1 else 2) = (if r.val < 256 then r.val else r.val - 256) then (1 : EReal) else 0 := by
    intro x
    have hx := x.isLt
    rw [pick_word (by omega) (by split_ifs <;> omega)]
    split_ifs <;> first | rfl | (exfalso; omega)
  simp only [hw]
  rw [sum_pick _ _ (by split_ifs <;> omega) _ (fun n => F n l.val) (fun x => hF x l)]
  split_ifs <;> first | rfl | (exfalso; omega)

/-- The product with the matrix that moves rows up. -/
theorem moved_up (d : FVec Ideal S256x256 .f32) (F : ℕ → ℕ → EReal) (hF : ∀ (x : Fin 256) (l : Fin 256), d (ix2 x l) = F x.val l.val)
    (r : Fin 512) (l : Fin 256) :
    k0_pay29 (F := Ideal) k0_pay6 d (ix2 r l) = if r.val < 256 then (if 256 ≤ r.val + 1 then 0 else F (r.val + 1) l.val)
      else (if 256 ≤ r.val - 256 + 2 then 0 else F (r.val - 256 + 2) l.val) := by
  have hr := r.isLt
  have key : ∀ r : Fin 512, IntOp.addi
      (Scalar.select (IntOp.cmpi CmpIPredicate.sge (BitVec.ofNat 32 r.val) 256#32) (IntOp.subi (BitVec.ofNat 32 r.val) 256#32) (BitVec.ofNat 32 r.val))
      (Scalar.select (IntOp.cmpi CmpIPredicate.sge (BitVec.ofNat 32 r.val) 256#32) 2#32 1#32)
      = BitVec.ofNat 32 ((if r.val < 256 then r.val else r.val - 256) + (if r.val < 256 then 1 else 2)) := by decide +kernel
  unfold k0_pay29 k0_pay6
  pointwise
  rw [key]
  have hw : ∀ x : Fin 256, FloatOps.sitofp (F := Ideal) FTy.f32 (BitVec.setWidth 32 (IntOp.cmpi CmpIPredicate.eq (BitVec.ofNat 32 x.val)
      (BitVec.ofNat 32 ((if r.val < 256 then r.val else r.val - 256) + (if r.val < 256 then 1 else 2)))))
      = if x.val = (if r.val < 256 then r.val else r.val - 256) + (if r.val < 256 then 1 else 2) then (1 : EReal) else 0 :=
    fun x => pick_word (by have := x.isLt; omega) (by split_ifs <;> omega)
  simp only [hw]
  rw [sum_pick_up _ _ _ (fun n => F n l.val) (fun x => hF x l)]
  split_ifs <;> first | rfl | (exfalso; omega)

variable {t q : ℕ} {A : Wide} {DA : Cot} {W : Taps} {w0 w1 w2 : Tap} {g u : Sq} {hb : Halo} {da : Sq} {xt xa xu dl : Halo}

abbrev loN (t : ℕ) : EReal := if t % 8 = 0 then 0 else 1
abbrev hiN (t : ℕ) : EReal := if t % 8 = 7 then 0 else 1

/-- The last two rows before the block, 0 where the block starts a sequence. -/
theorem before_chunk (C : Chunk t q A DA W w0 w1 w2 g u hb da xt xa xu dl) (r : Fin 2) (l : Fin 256) :
    rowsB (loN t) hb (ix2 r l) = if t % 8 = 0 then 0 else rd2 A (256 * t + r.val - 2) (q + l.val) := by
  have ht := C.lt
  unfold rowsB k0_pay10
  pointwise
  unfold loN
  split
  · simp
  · rename_i h
    simp only [C.hb h, mul_one]
    exact rd2_congr _ (by omega) (by omega)

/-- The gate moved down one row. -/
theorem back1_chunk (C : Chunk t q A DA W w0 w1 w2 g u hb da xt xa xu dl) (r : Fin 256) (l : Fin 256) :
    k0_pay12 (rowsB (loN t) hb) (shiftD g) (ix2 r l) = back A 1 (256 * t + r.val) (q + l.val) := by
  have hr := r.isLt
  have hd := C.lt
  unfold k0_pay12
  pointwise
  simp only [moved_down g (fun a b => rd2 A (256 * t + a) (q + b)) C.hg, select_eq_ofNat (show r.val < 4294967296 by omega) (show 0 < 4294967296 by omega),
    before_chunk C]
  unfold back
  split_ifs <;> first | (exfalso; omega) | rfl | exact rd2_congr _ (by omega) rfl | (rw [zero_add] <;> exact rd2_congr _ (by omega) rfl) | (rw [add_zero] <;> exact rd2_congr _ (by omega) rfl)

/-- The gate moved down two rows. -/
theorem back2_chunk (C : Chunk t q A DA W w0 w1 w2 g u hb da xt xa xu dl) (r : Fin 256) (l : Fin 256) :
    k0_pay13 (rowsB (loN t) hb) (shiftD g) (ix2 r l) = back A 2 (256 * t + r.val) (q + l.val) := by
  have hr := r.isLt
  have hd := C.lt
  unfold k0_pay13
  pointwise
  simp only [moved_down g (fun a b => rd2 A (256 * t + a) (q + b)) C.hg, select_eq_ofNat (show r.val < 4294967296 by omega) (show 0 < 4294967296 by omega),
    select_eq_ofNat (show r.val < 4294967296 by omega) (show 1 < 4294967296 by omega), before_chunk C]
  unfold back
  split_ifs <;> first | (exfalso; omega) | rfl | exact rd2_congr _ (by omega) rfl | (rw [zero_add] <;> exact rd2_congr _ (by omega) rfl) | (rw [add_zero] <;> exact rd2_congr _ (by omega) rfl)

/-- The convolved gate. -/
theorem conv_chunk (C : Chunk t q A DA W w0 w1 w2 g u hb da xt xa xu dl) (r : Fin 256) (l : Fin 256) :
    convV (loN t) w0 w1 w2 g hb (ix2 r l) = conv A W (256 * t + r.val) (q + l.val) := by
  unfold convV k0_pay14 k0_pay8
  pointwise
  simp only [back1_chunk C, back2_chunk C, C.h0, C.h1, C.h2, C.hg]
  rfl

/-- The gradient at the convolved gate. -/
theorem grad_chunk (C : Chunk t q A DA W w0 w1 w2 g u hb da xt xa xu dl) (r : Fin 256) (l : Fin 256) :
    gradV (loN t) w0 w1 w2 g u hb da (ix2 r l) = grad A DA W (256 * t + r.val) (q + l.val) := by
  unfold gradV k0_pay19 k0_pay18 k0_pay17 k0_pay15 k0_pay9 expV k0_pay16
  pointwise
  simp only [conv_chunk C, C.hd, C.hu, zero_sub]
  rfl

/-- The gradient of the factor. -/
theorem factor_chunk (C : Chunk t q A DA W w0 w1 w2 g u hb da xt xa xu dl) (r : Fin 256) (l : Fin 256) :
    factorV (loN t) w0 w1 w2 g hb da (ix2 r l) = dfactor A DA W (256 * t + r.val) (q + l.val) := by
  unfold factorV k0_pay35 k0_pay20 k0_pay18 k0_pay17 k0_pay15 expV k0_pay16
  pointwise
  simp only [conv_chunk C, C.hd, zero_sub]
  rfl

/-- The gradient at the convolved gate in the first two rows after the block, 0 where the block ends a sequence. -/
theorem after_chunk (C : Chunk t q A DA W w0 w1 w2 g u hb da xt xa xu dl) (r : Fin 2) (l : Fin 256) :
    rowsA (hiN t) w0 w1 w2 xt xa xu dl (ix2 r l) = if t % 8 = 7 then 0 else grad A DA W (256 * t + 256 + r.val) (q + l.val) := by
  have ht := C.lt
  have hr := r.isLt
  unfold rowsA k0_pay28 k0_pay27 k0_pay26 k0_pay25 k0_pay24 k0_pay23 k0_pay22 k0_pay21
  pointwise
  simp only [dif_pos (show r.val < 8 by omega)]
  unfold hiN
  by_cases h : t % 8 = 7
  · simp only [if_pos h, mul_zero]
  have e1 : Scalar.select (IntOp.cmpi CmpIPredicate.eq (BitVec.ofNat 32 r.val) 0#32) (xt (ix2 15 l))
      (xa (ix2 ⟨(r.val + 16 - 1) % 16, by omega⟩ l)) = back A 1 (256 * t + 256 + r.val) (q + l.val) := by
    rw [select_eq_ofNat (show r.val < 4294967296 by omega) (show 0 < 4294967296 by omega), C.ht, C.ha h]
    unfold back
    split_ifs <;> first | (exfalso; omega) | exact rd2_congr _ (by first | omega | (show _ + 15 = _; omega) | (show _ + (r.val + 16 - 1) % 16 = _; omega)) rfl
  have e2 : Scalar.select (IntOp.cmpi CmpIPredicate.eq (BitVec.ofNat 32 r.val) 0#32) (xt (ix2 14 l))
      (Scalar.select (IntOp.cmpi CmpIPredicate.eq (BitVec.ofNat 32 r.val) 1#32) (xt (ix2 15 l))
        (xa (ix2 ⟨(r.val + 16 - 2) % 16, by omega⟩ l))) = back A 2 (256 * t + 256 + r.val) (q + l.val) := by
    rw [select_eq_ofNat (show r.val < 4294967296 by omega) (show 0 < 4294967296 by omega),
      select_eq_ofNat (show r.val < 4294967296 by omega) (show 1 < 4294967296 by omega), C.ht, C.ht, C.ha h]
    unfold back
    split_ifs <;> first | (exfalso; omega) | exact rd2_congr _ (by first | omega | (show _ + 15 = _; omega) | (show _ + 14 = _; omega)) rfl
  simp only [e1, e2]
  simp only [if_neg h, mul_one, C.ha h, C.hx h, C.hl h, C.h0, C.h1, C.h2, zero_sub]
  rfl

/-- The gradient of the gate's input. -/
theorem gate_chunk (C : Chunk t q A DA W w0 w1 w2 g u hb da xt xa xu dl) (r : Fin 256) (l : Fin 256) :
    gateV (loN t) (hiN t) w0 w1 w2 g u hb da xt xa xu dl (ix2 r l) = dgate A DA W (256 * t + r.val) (q + l.val) := by
  have ht := C.lt
  have hr := r.isLt
  unfold gateV k0_pay34 k0_pay33 k0_pay32 k0_pay31 k0_pay30
  pointwise
  simp only [moved_up _ (fun a b => grad A DA W (256 * t + a) (q + b)) (grad_chunk C), grad_chunk C, after_chunk C, C.h0, C.h1, C.h2,
    select_eq_ofNat (show r.val - 248 < 4294967296 by omega) (show 6 < 4294967296 by omega),
    select_eq_ofNat (show r.val - 248 < 4294967296 by omega) (show 7 < 4294967296 by omega)]
  unfold dgate
  congr 1
  · congr 2
    unfold later
    split_ifs <;> first | (exfalso; omega) | rfl | (congr 1 <;> omega) | (rw [zero_add] <;> congr 1 <;> omega) | (rw [add_zero] <;> congr 1 <;> omega)
  · congr 1
    unfold later
    split_ifs <;> first | (exfalso; omega) | rfl | (congr 1 <;> omega) | (rw [zero_add] <;> congr 1 <;> omega) | (rw [add_zero] <;> congr 1 <;> omega)

/-- The sums for the three taps. -/
theorem sum0_chunk (C : Chunk t q A DA W w0 w1 w2 g u hb da xt xa xu dl) (s : Tap) (l : Fin 256) :
    sum0 (loN t) w0 w1 w2 g u hb da s (ix2 0 l)
      = s (ix2 0 l) + ∑ x : Fin 256, grad A DA W (256 * t + x.val) (q + l.val) * back A 2 (256 * t + x.val) (q + l.val) := by
  unfold sum0 k0_pay36
  pointwise
  simp only [grad_chunk C, back2_chunk C]
theorem sum1_chunk (C : Chunk t q A DA W w0 w1 w2 g u hb da xt xa xu dl) (s : Tap) (l : Fin 256) :
    sum1 (loN t) w0 w1 w2 g u hb da s (ix2 0 l)
      = s (ix2 0 l) + ∑ x : Fin 256, grad A DA W (256 * t + x.val) (q + l.val) * back A 1 (256 * t + x.val) (q + l.val) := by
  unfold sum1 k0_pay37
  pointwise
  simp only [grad_chunk C, back1_chunk C]
theorem sum2_chunk (C : Chunk t q A DA W w0 w1 w2 g u hb da xt xa xu dl) (s : Tap) (l : Fin 256) :
    sum2 (loN t) w0 w1 w2 g u hb da s (ix2 0 l)
      = s (ix2 0 l) + ∑ x : Fin 256, grad A DA W (256 * t + x.val) (q + l.val) * rd2 A (256 * t + x.val) (q + l.val) := by
  unfold sum2 k0_pay38 k0_pay8
  pointwise
  simp only [grad_chunk C, C.hg]

end Cert.FfnBwdIdeal.KernelValue

end
-- ==== Proof.Ffn.Bwd.lean ====
/-
  The gate's gradient kernel: for the cotangent of the activation, the gradients of the joined gate and factor, and, added
  up over the grid, those of the taps: what the kernel's run leaves in its two arrays, for all inputs.
-/
module

public import proofs.«01_k».proof.Proof.Ffn.BwdPay

@[expose] public section

set_option maxRecDepth 16384

noncomputable section

open Idealize.ShloMosaic Idealize.ShloMosaic.TcCoe Idealize.SL.Sem
open Idealize.ShloMosaic.Pipeline (Dat)

namespace Cert.FfnSpec

open Cert.Common

/-- What a grid point adds to the sum for tap `k`: its 256 rows' gradients times the gate `2 - k` positions earlier. -/
def share (A : Wide) (DA : Cot) (W : Taps) (t k l : ℕ) : EReal :=
  ∑ x : Fin 256, grad A DA W (256 * t + x.val) l * back A (2 - k) (256 * t + x.val) l

/-- The sums for the taps over the first `n` rows. -/
def dtap (A : Wide) (DA : Cot) (W : Taps) (n k l : ℕ) : EReal :=
  if k < 3 then ∑ i ∈ Finset.range n, grad A DA W i l * back A (2 - k) i l else 0

/-- One entry of the gradient of the joined gate and factor. -/
def dwide (A : Wide) (DA : Cot) (W : Taps) (n l : ℕ) : EReal :=
  if l < 2816 then dgate A DA W n l else dfactor A DA W n (l - 2816)

theorem back_zero (A : Wide) (n l : ℕ) : back A 0 n l = rd2 A n l := by
  unfold back
  rw [if_neg (Nat.not_lt_zero _), Nat.sub_zero]

/-- One more point's share. -/
theorem dtap_add (A : Wide) (DA : Cot) (W : Taps) (t k l : ℕ) (hk : k < 3) :
    dtap A DA W (256 * t) k l + share A DA W t k l = dtap A DA W (256 * (t + 1)) k l := by
  unfold dtap share
  rw [if_pos hk, if_pos hk, Nat.mul_add, Finset.sum_range_add]
  exact congrArg _ (Finset.sum_range (fun i => grad A DA W (256 * t + i) l * back A (2 - k) (256 * t + i) l)).symm

end Cert.FfnSpec

namespace Cert.FfnBwdIdeal.KernelValue

open Cert.FfnBwdIdeal Cert.FfnBwdIdeal.Gen Cert.Common Cert.FfnSpec

variable (m : (ℓ : Loc nD τ sig) → Buf (Elt Ideal) ℓ) (ρ : Dev nD → PrngReg)

/-- The joined gate and factor, the cotangent of the activation, the taps. -/
abbrev argA (c : Dev nD) : Wide := m ((c : Thread nD τ).loc main_arg0)
abbrev argD (c : Dev nD) : Cot := m ((c : Thread nD τ).loc main_arg1)
abbrev argW (c : Dev nD) : Taps := m ((c : Thread nD τ).loc main_arg2)

/-- The grid's coordinate is the point's number. -/
theorem coord0 : ∀ t : Fin cfg0.N, (grid0.coords t 0).val = t.val :=
  (by decide +kernel : ∀ t : Fin grid0.N, (grid0.coords t 0).val = t.val)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, (t.val % 8 ≠ 0 → win0_1.index t 0 = 16 * t.val - 1) ∧ win0_1.index t 1 = 0 :=
  (by decide +kernel : ∀ t : Fin grid0.N, (t.val % 8 ≠ 0 → win0_1.index t 0 = 16 * t.val - 1) ∧ win0_1.index t 1 = 0)
theorem index2 : ∀ t : Fin cfg0.N, (t.val % 8 ≠ 7 → win0_2.index t 0 = 16 * t.val + 16) ∧ win0_2.index t 1 = 0 :=
  (by decide +kernel : ∀ t : Fin grid0.N, (t.val % 8 ≠ 7 → win0_2.index t 0 = 16 * t.val + 16) ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, (t.val % 8 ≠ 7 → win0_4.index t 0 = 16 * t.val + 16) ∧ win0_4.index t 1 = 0 :=
  (by decide +kernel : ∀ t : Fin grid0.N, (t.val % 8 ≠ 7 → win0_4.index t 0 = 16 * t.val + 16) ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

/-- Rows of the joined gate and factor in a point's block. -/
theorem gate_rows (c : Dev nD) (t : Fin cfg0.N) (a b p q : ℕ) (r : Fin p) (l : Fin q)
    (inb : ∀ k, (![a, b] : Fin 2 → ℕ) k + (![p, q] : Fin 2 → ℕ) k ≤ S256x5632.size k) :
    View.ld (iblk m c 0 t : Vec Ideal S256x5632 .bf16) (Rect.unit (s := S256x5632) ![a, b] ![p, q] inb) (ix2 r l) = rd2 (argA m c) (256 * t.val + (a + r.val)) (b + l.val) := by
  show iblk m c 0 t _ = _
  unfold iblk
  rw [View.read_apply]
  refine (eq_rd2' (argA m c) _).trans (rd2_congr _ ?_ ?_)
  · show win0_0.index t 0 * 256 + 1 * (a + 1 * r.val) = 256 * t.val + (a + r.val); rw [(index0 t).1]; omega
  · show win0_0.index t 1 * 5632 + 1 * (b + 1 * l.val) = b + l.val; rw [(index0 t).2]; omega

/-- The rows before a point's block, inside a sequence. -/
theorem gate_before (c : Dev nD) (t : Fin cfg0.N) (h : t.val % 8 ≠ 0) (a b p q : ℕ) (r : Fin p) (l : Fin q)
    (inb : ∀ k, (![a, b] : Fin 2 → ℕ) k + (![p, q] : Fin 2 → ℕ) k ≤ S16x5632.size k) :
    View.ld (iblk m c 1 t : Vec Ideal S16x5632 .bf16) (Rect.unit (s := S16x5632) ![a, b] ![p, q] inb) (ix2 r l) = rd2 (argA m c) (256 * t.val - 16 + (a + r.val)) (b + l.val) := by
  show iblk m c 1 t _ = _
  unfold iblk
  rw [View.read_apply]
  refine (eq_rd2' (argA m c) _).trans (rd2_congr _ ?_ ?_)
  · show win0_1.index t 0 * 16 + 1 * (a + 1 * r.val) = 256 * t.val - 16 + (a + r.val); rw [(index1 t).1 h]; omega
  · show win0_1.index t 1 * 5632 + 1 * (b + 1 * l.val) = b + l.val; rw [(index1 t).2]; omega

/-- The rows after a point's block, inside a sequence. -/
theorem gate_after (c : Dev nD) (t : Fin cfg0.N) (h : t.val % 8 ≠ 7) (a b p q : ℕ) (r : Fin p) (l : Fin q)
    (inb : ∀ k, (![a, b] : Fin 2 → ℕ) k + (![p, q] : Fin 2 → ℕ) k ≤ S16x5632.size k) :
    View.ld (iblk m c 2 t : Vec Ideal S16x5632 .bf16) (Rect.unit (s := S16x5632) ![a, b] ![p, q] inb) (ix2 r l) = rd2 (argA m c) (256 * t.val + 256 + (a + r.val)) (b + l.val) := by
  show iblk m c 2 t _ = _
  unfold iblk
  rw [View.read_apply]
  refine (eq_rd2' (argA m c) _).trans (rd2_congr _ ?_ ?_)
  · show win0_2.index t 0 * 16 + 1 * (a + 1 * r.val) = 256 * t.val + 256 + (a + r.val); rw [(index2 t).1 h]; omega
  · show win0_2.index t 1 * 5632 + 1 * (b + 1 * l.val) = b + l.val; rw [(index2 t).2]; omega

/-- The cotangent's rows in a point's block. -/
theorem cot_rows (c : Dev nD) (t : Fin cfg0.N) (a b p q : ℕ) (r : Fin p) (l : Fin q)
    (inb : ∀ k, (![a, b] : Fin 2 → ℕ) k + (![p, q] : Fin 2 → ℕ) k ≤ S256x2816.size k) :
    View.ld (iblk m c 3 t : Vec Ideal S256x2816 .bf16) (Rect.unit (s := S256x2816) ![a, b] ![p, q] inb) (ix2 r l) = rd2 (argD m c) (256 * t.val + (a + r.val)) (b + l.val) := by
  show iblk m c 3 t _ = _
  unfold iblk
  rw [View.read_apply]
  refine (eq_rd2' (argD m c) _).trans (rd2_congr _ ?_ ?_)
  · show win0_3.index t 0 * 256 + 1 * (a + 1 * r.val) = 256 * t.val + (a + r.val); rw [(index3 t).1]; omega
  · show win0_3.index t 1 * 2816 + 1 * (b + 1 * l.val) = b + l.val; rw [(index3 t).2]; omega

/-- The cotangent's rows after a point's block, inside a sequence. -/
theorem cot_after (c : Dev nD) (t : Fin cfg0.N) (h : t.val % 8 ≠ 7) (a b p q : ℕ) (r : Fin p) (l : Fin q)
    (inb : ∀ k, (![a, b] : Fin 2 → ℕ) k + (![p, q] : Fin 2 → ℕ) k ≤ S16x2816.size k) :
    View.ld (iblk m c 4 t : Vec Ideal S16x2816 .bf16) (Rect.unit (s := S16x2816) ![a, b] ![p, q] inb) (ix2 r l) = rd2 (argD m c) (256 * t.val + 256 + (a + r.val)) (b + l.val) := by
  show iblk m c 4 t _ = _
  unfold iblk
  rw [View.read_apply]
  refine (eq_rd2' (argD m c) _).trans (rd2_congr _ ?_ ?_)
  · show win0_4.index t 0 * 16 + 1 * (a + 1 * r.val) = 256 * t.val + 256 + (a + r.val); rw [(index4 t).1 h]; omega
  · show win0_4.index t 1 * 2816 + 1 * (b + 1 * l.val) = b + l.val; rw [(index4 t).2]; omega

/-- The taps. -/
theorem tap_rows (c : Dev nD) (t : Fin cfg0.N) (a b p q : ℕ) (r : Fin p) (l : Fin q)
    (inb : ∀ k, (![a, b] : Fin 2 → ℕ) k + (![p, q] : Fin 2 → ℕ) k ≤ S3x2816.size k) :
    View.ld (iblk m c 5 t : Vec Ideal S3x2816 .f32) (Rect.unit (s := S3x2816) ![a, b] ![p, q] inb) (ix2 r l) = rd2 (argW m c) (a + r.val) (b + l.val) := by
  show iblk m c 5 t _ = _
  unfold iblk
  rw [View.read_apply]
  refine (eq_rd2' (argW m c) _).trans (rd2_congr _ ?_ ?_)
  · show win0_5.index t 0 * 3 + 1 * (a + 1 * r.val) = a + r.val; rw [(index5 t).1]; omega
  · show win0_5.index t 1 * 2816 + 1 * (b + 1 * l.val) = b + l.val; rw [(index5 t).2]; omega

/-- A rectangle that lies inside an array. -/
theorem inside (a b p q M N : ℕ) (h : a + p ≤ M ∧ b + q ≤ N) :
    ∀ k, (![a, b] : Fin 2 → ℕ) k + (![p, q] : Fin 2 → ℕ) k ≤ (⟨2, ![M, N]⟩ : Shape).size k := by
  intro k
  match k with
  | ⟨0, _⟩ => exact h.1
  | ⟨1, _⟩ => exact h.2

section chunks

variable (c : Dev nD) (t : Fin cfg0.N) (q : ℕ) (hq : q + 256 ≤ 2816)

/-- The loads of one chunk: the taps, the gate, the factor, the gate's rows before, the cotangent, the gate's last rows, the
    rows after of gate, factor and cotangent. -/
abbrev ldW (k : ℕ) (hk : k + 1 ≤ 3) : Tap :=
  View.ld (iblk m c 5 t : Vec Ideal S3x2816 .f32) (Rect.unit (s := S3x2816) ![k, q] ![1, 256] (inside k q 1 256 3 2816 ⟨hk, hq⟩))
abbrev ldG : Sq := View.ld (iblk m c 0 t : Vec Ideal S256x5632 .bf16) (Rect.unit (s := S256x5632) ![0, q] ![256, 256] (inside 0 q 256 256 256 5632 ⟨by omega, by omega⟩))
abbrev ldU : Sq := View.ld (iblk m c 0 t : Vec Ideal S256x5632 .bf16) (Rect.unit (s := S256x5632) ![0, 2816 + q] ![256, 256] (inside 0 (2816 + q) 256 256 256 5632 ⟨by omega, by omega⟩))
abbrev ldB : Halo := View.ld (iblk m c 1 t : Vec Ideal S16x5632 .bf16) (Rect.unit (s := S16x5632) ![0, q] ![16, 256] (inside 0 q 16 256 16 5632 ⟨by omega, by omega⟩))
abbrev ldD : Sq := View.ld (iblk m c 3 t : Vec Ideal S256x2816 .bf16) (Rect.unit (s := S256x2816) ![0, q] ![256, 256] (inside 0 q 256 256 256 2816 ⟨by omega, by omega⟩))
abbrev ldT : Halo := View.ld (iblk m c 0 t : Vec Ideal S256x5632 .bf16) (Rect.unit (s := S256x5632) ![240, q] ![16, 256] (inside 240 q 16 256 256 5632 ⟨by omega, by omega⟩))
abbrev ldA : Halo := View.ld (iblk m c 2 t : Vec Ideal S16x5632 .bf16) (Rect.unit (s := S16x5632) ![0, q] ![16, 256] (inside 0 q 16 256 16 5632 ⟨by omega, by omega⟩))
abbrev ldX : Halo := View.ld (iblk m c 2 t : Vec Ideal S16x5632 .bf16) (Rect.unit (s := S16x5632) ![0, 2816 + q] ![16, 256] (inside 0 (2816 + q) 16 256 16 5632 ⟨by omega, by omega⟩))
abbrev ldL : Halo := View.ld (iblk m c 4 t : Vec Ideal S16x2816 .bf16) (Rect.unit (s := S16x2816) ![0, q] ![16, 256] (inside 0 q 16 256 16 2816 ⟨by omega, by omega⟩))

/-- They are the rows of the arguments. -/
theorem chunk : Chunk t.val q (argA m c) (argD m c) (argW m c) (ldW m c t q hq 0 (by omega)) (ldW m c t q hq 1 (by omega)) (ldW m c t q hq 2 (by omega))
    (ldG m c t q hq) (ldU m c t q hq) (ldB m c t q hq) (ldD m c t q hq) (ldT m c t q hq) (ldA m c t q hq) (ldX m c t q hq) (ldL m c t q hq) where
  lt := (by decide +kernel : ∀ t : Fin grid0.N, t.val < 32) t
  h0 l := tap_rows m c t 0 q 1 256 0 l _
  h1 l := tap_rows m c t 1 q 1 256 0 l _
  h2 l := tap_rows m c t 2 q 1 256 0 l _
  hg r l := (gate_rows m c t 0 q 256 256 r l _).trans (rd2_congr _ (by omega) rfl)
  hu r l := (gate_rows m c t 0 (2816 + q) 256 256 r l _).trans (rd2_congr _ (by omega) (by omega))
  hd r l := (cot_rows m c t 0 q 256 256 r l _).trans (rd2_congr _ (by omega) rfl)
  hb h r l := (gate_before m c t h 0 q 16 256 r l _).trans (rd2_congr _ (by omega) rfl)
  ht r l := (gate_rows m c t 240 q 16 256 r l _).trans (rd2_congr _ (by omega) rfl)
  ha h r l := (gate_after m c t h 0 q 16 256 r l _).trans (rd2_congr _ (by omega) rfl)
  hx h r l := (gate_after m c t h 0 (2816 + q) 16 256 r l _).trans (rd2_congr _ (by omega) (by omega))
  hl h r l := (cot_after m c t h 0 q 16 256 r l _).trans (rd2_congr _ (by omega) rfl)

/-- Whether a neighbouring block belongs to the same sequence, at a point. -/
theorem lo_at : k0_pay2 (F := Ideal) (grid0.coords t) = loN t.val := by rw [inner_lo, coord0]
theorem hi_at : k0_pay3 (F := Ideal) (grid0.coords t) = hiN t.val := by rw [inner_hi, coord0]

/-- One chunk's gradient of the gate, at its place in the output block. -/
theorem gate_piece (r : Fin 256) (l : Fin 5632) (h : 0 ≤ r.val ∧ r.val < 0 + 256 ∧ q ≤ l.val ∧ l.val < q + 256) :
    gateV (k0_pay2 (F := Ideal) (grid0.coords t)) (k0_pay3 (F := Ideal) (grid0.coords t)) (ldW m c t q hq 0 (by omega)) (ldW m c t q hq 1 (by omega)) (ldW m c t q hq 2 (by omega))
      (ldG m c t q hq) (ldU m c t q hq) (ldB m c t q hq) (ldD m c t q hq) (ldT m c t q hq) (ldA m c t q hq) (ldX m c t q hq) (ldL m c t q hq)
      (ix2 (n0 := 256) (n1 := 256) ⟨r.val - 0, by omega⟩ ⟨l.val - q, by omega⟩)
      = dwide (argA m c) (argD m c) (argW m c) (256 * t.val + r.val) l.val := by
  rw [lo_at, hi_at]
  refine (gate_chunk (chunk m c t q hq) _ _).trans ?_
  unfold dwide
  rw [if_pos (by omega)]
  exact congrArg (dgate _ _ _ _) (by show q + (l.val - q) = l.val; omega)

/-- One chunk's gradient of the factor, at its place in the output block. -/
theorem factor_piece (r : Fin 256) (l : Fin 5632) (h : 0 ≤ r.val ∧ r.val < 0 + 256 ∧ 2816 + q ≤ l.val ∧ l.val < 2816 + q + 256) :
    factorV (k0_pay2 (F := Ideal) (grid0.coords t)) (ldW m c t q hq 0 (by omega)) (ldW m c t q hq 1 (by omega)) (ldW m c t q hq 2 (by omega))
      (ldG m c t q hq) (ldB m c t q hq) (ldD m c t q hq) (ix2 (n0 := 256) (n1 := 256) ⟨r.val - 0, by omega⟩ ⟨l.val - (2816 + q), by omega⟩)
      = dwide (argA m c) (argD m c) (argW m c) (256 * t.val + r.val) l.val := by
  rw [lo_at]
  refine (factor_chunk (chunk m c t q hq) _ _).trans ?_
  unfold dwide
  rw [if_neg (by omega)]
  exact congrArg (dfactor _ _ _ _) (by show q + (l.val - (2816 + q)) = l.val - 2816; omega)

/-- One chunk's part of the sums for the taps. -/
theorem share0 (s : Tap) (l : Fin 256) :
    sum0 (k0_pay2 (F := Ideal) (grid0.coords t)) (ldW m c t q hq 0 (by omega)) (ldW m c t q hq 1 (by omega)) (ldW m c t q hq 2 (by omega))
      (ldG m c t q hq) (ldU m c t q hq) (ldB m c t q hq) (ldD m c t q hq) s (ix2 0 l)
      = s (ix2 0 l) + share (argA m c) (argD m c) (argW m c) t.val 0 (q + l.val) := by
  rw [lo_at]
  exact sum0_chunk (chunk m c t q hq) s l
theorem share1 (s : Tap) (l : Fin 256) :
    sum1 (k0_pay2 (F := Ideal) (grid0.coords t)) (ldW m c t q hq 0 (by omega)) (ldW m c t q hq 1 (by omega)) (ldW m c t q hq 2 (by omega))
      (ldG m c t q hq) (ldU m c t q hq) (ldB m c t q hq) (ldD m c t q hq) s (ix2 0 l)
      = s (ix2 0 l) + share (argA m c) (argD m c) (argW m c) t.val 1 (q + l.val) := by
  rw [lo_at]
  exact sum1_chunk (chunk m c t q hq) s l
theorem share2 (s : Tap) (l : Fin 256) :
    sum2 (k0_pay2 (F := Ideal) (grid0.coords t)) (ldW m c t q hq 0 (by omega)) (ldW m c t q hq 1 (by omega)) (ldW m c t q hq 2 (by omega))
      (ldG m c t q hq) (ldU m c t q hq) (ldB m c t q hq) (ldD m c t q hq) s (ix2 0 l)
      = s (ix2 0 l) + share (argA m c) (argD m c) (argW m c) t.val 2 (q + l.val) := by
  rw [lo_at]
  refine (sum2_chunk (chunk m c t q hq) s l).trans ?_
  simp only [share, Nat.sub_self, back_zero]

end chunks

/-- One store of a list, the last store first: an entry inside its rectangle is the payload's, any other that of the earlier
    stores. -/
theorem piece_step {M N : ℕ} {e : EltTy} (a b p q : ℕ)
    {inb : ∀ k, (![a, b] : Fin 2 → ℕ) k + (![p, q] : Fin 2 → ℕ) k ≤ (⟨2, ![M, N]⟩ : Shape).size k}
    {w : (⟨2, ![p, q]⟩ : Shape).Idx → Elt Ideal e} {L : List (View.Piece (Elt Ideal) ⟨2, ![M, N]⟩ e)} {r : Fin M} {l : Fin N} {X : Elt Ideal e}
    (hw : ∀ h : a ≤ r.val ∧ r.val < a + p ∧ b ≤ l.val ∧ l.val < b + q,
      w (ix2 (n0 := p) (n1 := q) ⟨r.val - a, by omega⟩ ⟨l.val - b, by omega⟩) = X)
    (hL : ¬ (a ≤ r.val ∧ r.val < a + p ∧ b ≤ l.val ∧ l.val < b + q) → View.canon L (ix2 r l) = X) :
    View.canon ((⟨Rect.unit (s := ⟨2, ![M, N]⟩) ![a, b] ![p, q] inb, w⟩ : View.Piece (Elt Ideal) ⟨2, ![M, N]⟩ e) :: L) (ix2 r l) = X := by
  rw [canon_unit2]
  split
  · rename_i h; exact hw h
  · rename_i h; exact hL h

/-- An accumulator after the first `s` of the 33 steps of a point, chunk by chunk and in a chunk tap by tap. -/
def Stage (base inc : ℕ → ℕ → EReal) (s : ℕ) (P : (⟨2, ![8, 2816]⟩ : Shape).Idx → EReal) : Prop :=
  ∀ (r : Fin 8) (l : Fin 2816), P (ix2 r l) = if r.val < 3 ∧ 3 * (l.val / 256) + r.val < s then base r.val l.val + inc r.val l.val else base r.val l.val

/-- A step's load: nothing was added yet where the step adds. -/
theorem Stage.before {base inc : ℕ → ℕ → EReal} {P : (⟨2, ![8, 2816]⟩ : Shape).Idx → EReal} (j k : ℕ) (H : Stage base inc (3 * j + k) P)
    (r : Fin 8) (l : Fin 2816) (x : Fin 256) (hr : r.val = k) (hl : l.val = 256 * j + x.val) : P (ix2 r l) = base k (256 * j + x.val) := by
  rw [H r l, if_neg (by omega), hr, hl]

/-- A step of the first point. -/
theorem Stage.first {base inc : ℕ → ℕ → EReal} {sg : RefSig} {κ : Kind} {sp : Space} {v : View sg κ sp ⟨2, ![8, 2816]⟩ .f32}
    {L : List (View.Piece (Elt Ideal) ⟨2, ![8, 2816]⟩ .f32)} {w : Tap} (j k : ℕ) (hk : k < 3) (hj : j < 11)
    {inb inb' : ∀ i, (![k, 256 * j] : Fin 2 → ℕ) i + (![1, 256] : Fin 2 → ℕ) i ≤ (⟨2, ![8, 2816]⟩ : Shape).size i}
    (hw : ∀ l : Fin 256, w (ix2 0 l) = v.readCov L (Rect.unit (s := ⟨2, ![8, 2816]⟩) ![k, 256 * j] ![1, 256] inb').toLoadRect (ix2 (n0 := 1) (n1 := 256) 0 l)
      + inc k (256 * j + l.val))
    (H : Stage base inc (3 * j + k) (View.canon L)) :
    Stage base inc (3 * j + k + 1) (View.canon ((⟨Rect.unit (s := ⟨2, ![8, 2816]⟩) ![k, 256 * j] ![1, 256] inb, w⟩
      : View.Piece (Elt Ideal) ⟨2, ![8, 2816]⟩ .f32) :: L)) := by
  intro r l
  rw [canon_unit2]
  split
  · rename_i h
    rw [if_pos (by omega)]
    have e : (⟨r.val - k, by omega⟩ : Fin 1) = 0 := Subsingleton.elim _ _
    rw [e, hw, readCov_unit2]
    have hr : r.val = k := by omega
    have hl : l.val = 256 * j + (l.val - 256 * j) := by omega
    rw [H.before j k _ _ ⟨l.val - 256 * j, by omega⟩ rfl rfl]
    rw [hr, ← hl]
  · rename_i h
    rw [H r l]
    exact if_congr (by omega) rfl rfl

/-- A step of a later point. -/
theorem Stage.next {base inc : ℕ → ℕ → EReal} {sg : RefSig} {κ : Kind} {sp : Space} {v : View sg κ sp ⟨2, ![8, 2816]⟩ .f32} {f : v.ty.Contents (Elt Ideal)}
    {L : List (View.Piece (Elt Ideal) ⟨2, ![8, 2816]⟩ .f32)} {w s : Tap} (j k : ℕ) (hk : k < 3) (hj : j < 11)
    {inb : ∀ i, (![k, 256 * j] : Fin 2 → ℕ) i + (![1, 256] : Fin 2 → ℕ) i ≤ (⟨2, ![8, 2816]⟩ : Shape).size i}
    (hw : ∀ l : Fin 256, w (ix2 0 l) = s (ix2 0 l) + inc k (256 * j + l.val)) (hs : ∀ l : Fin 256, s (ix2 0 l) = base k (256 * j + l.val))
    (H : Stage base inc (3 * j + k) (v.read (Elt Ideal) (v.writes (Elt Ideal) f L))) :
    Stage base inc (3 * j + k + 1) (v.read (Elt Ideal) (v.writes (Elt Ideal) f ((⟨Rect.unit (s := ⟨2, ![8, 2816]⟩) ![k, 256 * j] ![1, 256] inb, w⟩
      : View.Piece (Elt Ideal) ⟨2, ![8, 2816]⟩ .f32) :: L))) := by
  intro r l
  rw [read_writes_unit2]
  split
  · rename_i h
    rw [if_pos (by omega)]
    have e : (⟨r.val - k, by omega⟩ : Fin 1) = 0 := Subsingleton.elim _ _
    rw [e, hw, hs]
    have hr : r.val = k := by omega
    have hl : 256 * j + (l.val - 256 * j) = l.val := by omega
    show base k (256 * j + (l.val - 256 * j)) + inc k (256 * j + (l.val - 256 * j)) = _
    rw [hr, hl]
  · rename_i h
    rw [H r l]
    exact if_congr (by omega) rfl rfl

set_option maxHeartbeats 4000000 in
/-- The gradient of the joined gate and factor, in a point's output block: the first point. -/
theorem outs6_A (c : Dev nD) (t : Fin cfg0.N) (h0 : t.val % 32 = 0) (r : Fin 256) (l : Fin 5632) :
    (outsAt0 (F := Ideal) m c t.val t.isLt).1 (ix2 r l) = dwide (argA m c) (argD m c) (argW m c) (256 * t.val + r.val) l.val := by
  have hr := r.isLt
  have hl := l.isLt
  rw [outsAt0_A m c t h0]
  dsimp only
  unfold out0_A_6
  rw [View.read_writes_eq_canon _ _ _ (cover0_A_6 c _ _ _ _ _ _ _ _ _ _ _ _ _ _ _ _ _ _ _ _ _ _ _ _)]
  unfold kernelRun0_A
  dsimp only
  sl_unfold_words
  simp only [View.readAt_eq_ld, Memref.IsWhole.read_unread]
  refine piece_step 0 5376 256 256 (fun h => factor_piece m c t 2560 (by omega) r l h) fun n10 => ?_
  refine piece_step 0 2560 256 256 (fun h => gate_piece m c t 2560 (by omega) r l h) fun k10 => ?_
  refine piece_step 0 5120 256 256 (fun h => factor_piece m c t 2304 (by omega) r l h) fun n9 => ?_
  refine piece_step 0 2304 256 256 (fun h => gate_piece m c t 2304 (by omega) r l h) fun k9 => ?_
  refine piece_step 0 4864 256 256 (fun h => factor_piece m c t 2048 (by omega) r l h) fun n8 => ?_
  refine piece_step 0 2048 256 256 (fun h => gate_piece m c t 2048 (by omega) r l h) fun k8 => ?_
  refine piece_step 0 4608 256 256 (fun h => factor_piece m c t 1792 (by omega) r l h) fun n7 => ?_
  refine piece_step 0 1792 256 256 (fun h => gate_piece m c t 1792 (by omega) r l h) fun k7 => ?_
  refine piece_step 0 4352 256 256 (fun h => factor_piece m c t 1536 (by omega) r l h) fun n6 => ?_
  refine piece_step 0 1536 256 256 (fun h => gate_piece m c t 1536 (by omega) r l h) fun k6 => ?_
  refine piece_step 0 4096 256 256 (fun h => factor_piece m c t 1280 (by omega) r l h) fun n5 => ?_
  refine piece_step 0 1280 256 256 (fun h => gate_piece m c t 1280 (by omega) r l h) fun k5 => ?_
  refine piece_step 0 3840 256 256 (fun h => factor_piece m c t 1024 (by omega) r l h) fun n4 => ?_
  refine piece_step 0 1024 256 256 (fun h => gate_piece m c t 1024 (by omega) r l h) fun k4 => ?_
  refine piece_step 0 3584 256 256 (fun h => factor_piece m c t 768 (by omega) r l h) fun n3 => ?_
  refine piece_step 0 768 256 256 (fun h => gate_piece m c t 768 (by omega) r l h) fun k3 => ?_
  refine piece_step 0 3328 256 256 (fun h => factor_piece m c t 512 (by omega) r l h) fun n2 => ?_
  refine piece_step 0 512 256 256 (fun h => gate_piece m c t 512 (by omega) r l h) fun k2 => ?_
  refine piece_step 0 3072 256 256 (fun h => factor_piece m c t 256 (by omega) r l h) fun n1 => ?_
  refine piece_step 0 256 256 256 (fun h => gate_piece m c t 256 (by omega) r l h) fun k1 => ?_
  refine piece_step 0 2816 256 256 (fun h => factor_piece m c t 0 (by omega) r l h) fun n0 => ?_
  refine piece_step 0 0 256 256 (fun h => gate_piece m c t 0 (by omega) r l h) fun k0 => ?_
  exfalso
  omega

set_option maxHeartbeats 4000000 in
/-- The gradient of the joined gate and factor, in a point's output block. -/
theorem outs6_B (c : Dev nD) (t : Fin cfg0.N) (h0 : ¬ t.val % 32 = 0) (r : Fin 256) (l : Fin 5632) :
    (outsAt0 (F := Ideal) m c t.val t.isLt).1 (ix2 r l) = dwide (argA m c) (argD m c) (argW m c) (256 * t.val + r.val) l.val := by
  have hr := r.isLt
  have hl := l.isLt
  rw [outsAt0_B m c t h0]
  dsimp only
  unfold out0_B_6
  rw [View.read_writes_eq_canon _ _ _ (cover0_B_6 c _ _ _ _ _ _ _ _ _ _ _ _ _ _ _ _ _ _ _ _ _ _ _ _ _)]
  unfold kernelRun0_B
  dsimp only
  sl_unfold_words
  simp only [View.readAt_eq_ld, Memref.IsWhole.read_unread]
  refine piece_step 0 5376 256 256 (fun h => factor_piece m c t 2560 (by omega) r l h) fun n10 => ?_
  refine piece_step 0 2560 256 256 (fun h => gate_piece m c t 2560 (by omega) r l h) fun k10 => ?_
  refine piece_step 0 5120 256 256 (fun h => factor_piece m c t 2304 (by omega) r l h) fun n9 => ?_
  refine piece_step 0 2304 256 256 (fun h => gate_piece m c t 2304 (by omega) r l h) fun k9 => ?_
  refine piece_step 0 4864 256 256 (fun h => factor_piece m c t 2048 (by omega) r l h) fun n8 => ?_
  refine piece_step 0 2048 256 256 (fun h => gate_piece m c t 2048 (by omega) r l h) fun k8 => ?_
  refine piece_step 0 4608 256 256 (fun h => factor_piece m c t 1792 (by omega) r l h) fun n7 => ?_
  refine piece_step 0 1792 256 256 (fun h => gate_piece m c t 1792 (by omega) r l h) fun k7 => ?_
  refine piece_step 0 4352 256 256 (fun h => factor_piece m c t 1536 (by omega) r l h) fun n6 => ?_
  refine piece_step 0 1536 256 256 (fun h => gate_piece m c t 1536 (by omega) r l h) fun k6 => ?_
  refine piece_step 0 4096 256 256 (fun h => factor_piece m c t 1280 (by omega) r l h) fun n5 => ?_
  refine piece_step 0 1280 256 256 (fun h => gate_piece m c t 1280 (by omega) r l h) fun k5 => ?_
  refine piece_step 0 3840 256 256 (fun h => factor_piece m c t 1024 (by omega) r l h) fun n4 => ?_
  refine piece_step 0 1024 256 256 (fun h => gate_piece m c t 1024 (by omega) r l h) fun k4 => ?_
  refine piece_step 0 3584 256 256 (fun h => factor_piece m c t 768 (by omega) r l h) fun n3 => ?_
  refine piece_step 0 768 256 256 (fun h => gate_piece m c t 768 (by omega) r l h) fun k3 => ?_
  refine piece_step 0 3328 256 256 (fun h => factor_piece m c t 512 (by omega) r l h) fun n2 => ?_
  refine piece_step 0 512 256 256 (fun h => gate_piece m c t 512 (by omega) r l h) fun k2 => ?_
  refine piece_step 0 3072 256 256 (fun h => factor_piece m c t 256 (by omega) r l h) fun n1 => ?_
  refine piece_step 0 256 256 256 (fun h => gate_piece m c t 256 (by omega) r l h) fun k1 => ?_
  refine piece_step 0 2816 256 256 (fun h => factor_piece m c t 0 (by omega) r l h) fun n0 => ?_
  refine piece_step 0 0 256 256 (fun h => gate_piece m c t 0 (by omega) r l h) fun k0 => ?_
  exfalso
  omega

/-- The sums for the taps after the first point. -/
theorem outs7_A (c : Dev nD) (t : Fin cfg0.N) (h0 : t.val % 32 = 0) :
    Stage (fun _ _ => 0) (share (argA m c) (argD m c) (argW m c) t.val) 33 (outsAt0 (F := Ideal) m c t.val t.isLt).2 := by
  rw [outsAt0_A m c t h0]
  dsimp only
  unfold out0_A_7
  rw [View.read_writes_eq_canon _ _ _ (cover0_A_7 c _ _ _ _ _ _ _ _ _ _ _ _ _ _ _ _ _ _ _ _ _ _ _ _)]
  unfold kernelRun0_A
  dsimp only
  sl_unfold_words
  simp only [View.readAt_eq_ld, Memref.IsWhole.read_unread]
  refine Stage.first 10 2 (by omega) (by omega) (fun l => share2 m c t 2560 (by omega) _ l) ?_
  refine Stage.first 10 1 (by omega) (by omega) (fun l => share1 m c t 2560 (by omega) _ l) ?_
  refine Stage.first 10 0 (by omega) (by omega) (fun l => share0 m c t 2560 (by omega) _ l) ?_
  refine Stage.first 9 2 (by omega) (by omega) (fun l => share2 m c t 2304 (by omega) _ l) ?_
  refine Stage.first 9 1 (by omega) (by omega) (fun l => share1 m c t 2304 (by omega) _ l) ?_
  refine Stage.first 9 0 (by omega) (by omega) (fun l => share0 m c t 2304 (by omega) _ l) ?_
  refine Stage.first 8 2 (by omega) (by omega) (fun l => share2 m c t 2048 (by omega) _ l) ?_
  refine Stage.first 8 1 (by omega) (by omega) (fun l => share1 m c t 2048 (by omega) _ l) ?_
  refine Stage.first 8 0 (by omega) (by omega) (fun l => share0 m c t 2048 (by omega) _ l) ?_
  refine Stage.first 7 2 (by omega) (by omega) (fun l => share2 m c t 1792 (by omega) _ l) ?_
  refine Stage.first 7 1 (by omega) (by omega) (fun l => share1 m c t 1792 (by omega) _ l) ?_
  refine Stage.first 7 0 (by omega) (by omega) (fun l => share0 m c t 1792 (by omega) _ l) ?_
  refine Stage.first 6 2 (by omega) (by omega) (fun l => share2 m c t 1536 (by omega) _ l) ?_
  refine Stage.first 6 1 (by omega) (by omega) (fun l => share1 m c t 1536 (by omega) _ l) ?_
  refine Stage.first 6 0 (by omega) (by omega) (fun l => share0 m c t 1536 (by omega) _ l) ?_
  refine Stage.first 5 2 (by omega) (by omega) (fun l => share2 m c t 1280 (by omega) _ l) ?_
  refine Stage.first 5 1 (by omega) (by omega) (fun l => share1 m c t 1280 (by omega) _ l) ?_
  refine Stage.first 5 0 (by omega) (by omega) (fun l => share0 m c t 1280 (by omega) _ l) ?_
  refine Stage.first 4 2 (by omega) (by omega) (fun l => share2 m c t 1024 (by omega) _ l) ?_
  refine Stage.first 4 1 (by omega) (by omega) (fun l => share1 m c t 1024 (by omega) _ l) ?_
  refine Stage.first 4 0 (by omega) (by omega) (fun l => share0 m c t 1024 (by omega) _ l) ?_
  refine Stage.first 3 2 (by omega) (by omega) (fun l => share2 m c t 768 (by omega) _ l) ?_
  refine Stage.first 3 1 (by omega) (by omega) (fun l => share1 m c t 768 (by omega) _ l) ?_
  refine Stage.first 3 0 (by omega) (by omega) (fun l => share0 m c t 768 (by omega) _ l) ?_
  refine Stage.first 2 2 (by omega) (by omega) (fun l => share2 m c t 512 (by omega) _ l) ?_
  refine Stage.first 2 1 (by omega) (by omega) (fun l => share1 m c t 512 (by omega) _ l) ?_
  refine Stage.first 2 0 (by omega) (by omega) (fun l => share0 m c t 512 (by omega) _ l) ?_
  refine Stage.first 1 2 (by omega) (by omega) (fun l => share2 m c t 256 (by omega) _ l) ?_
  refine Stage.first 1 1 (by omega) (by omega) (fun l => share1 m c t 256 (by omega) _ l) ?_
  refine Stage.first 1 0 (by omega) (by omega) (fun l => share0 m c t 256 (by omega) _ l) ?_
  refine Stage.first 0 2 (by omega) (by omega) (fun l => share2 m c t 0 (by omega) _ l) ?_
  refine Stage.first 0 1 (by omega) (by omega) (fun l => share1 m c t 0 (by omega) _ l) ?_
  refine Stage.first 0 0 (by omega) (by omega) (fun l => share0 m c t 0 (by omega) _ l) ?_
  intro r l
  rw [canon_unit2, dif_pos (by omega), if_neg (by omega)]
  unfold k0_pay7
  pointwise

/-- The sums for the taps after a later point, from those after the point before. -/
theorem outs7_B (c : Dev nD) (t : Fin cfg0.N) (h0 : ¬ t.val % 32 = 0) (base : ℕ → ℕ → EReal)
    (hb : ∀ (r : Fin 8) (l : Fin 2816), (outsAt0 (F := Ideal) m c (t.val - 1) (lt_of_le_of_lt (Nat.sub_le _ _) t.isLt)).2 (ix2 r l) = base r.val l.val) :
    Stage base (share (argA m c) (argD m c) (argW m c) t.val) 33 (outsAt0 (F := Ideal) m c t.val t.isLt).2 := by
  have old : ∀ (k q : ℕ) (inb : ∀ i, (![k, q] : Fin 2 → ℕ) i + (![1, 256] : Fin 2 → ℕ) i ≤ S8x2816.size i) (l : Fin 256),
      View.ld (outsAt0 (F := Ideal) m c (t.val - 1) (lt_of_le_of_lt (Nat.sub_le _ _) t.isLt)).2 (Rect.unit (s := S8x2816) ![k, q] ![1, 256] inb) (ix2 (n0 := 1) (n1 := 256) 0 l)
        = base k (q + l.val) := fun k q inb l =>
    (congrArg (outsAt0 (F := Ideal) m c (t.val - 1) (lt_of_le_of_lt (Nat.sub_le _ _) t.isLt)).2 (funext fun i => Fin.ext (by
      match i with
      | ⟨0, _⟩ => show k + 1 * 0 = k; omega
      | ⟨1, _⟩ => show q + 1 * l.val = q + l.val; omega))).trans
      (hb ⟨k, Nat.lt_of_succ_le (inb 0)⟩ ⟨q + l.val, lt_of_lt_of_le (Nat.add_lt_add_left l.isLt q) (inb 1)⟩)
  rw [outsAt0_B m c t h0]
  dsimp only
  unfold out0_B_7
  unfold kernelRun0_B
  dsimp only
  sl_unfold_words
  simp only [View.readAt_eq_ld, Memref.IsWhole.read_unread]
  refine Stage.next 10 2 (by omega) (by omega) (fun l => share2 m c t 2560 (by omega) _ l) (fun l => old 2 2560 _ l) ?_
  refine Stage.next 10 1 (by omega) (by omega) (fun l => share1 m c t 2560 (by omega) _ l) (fun l => old 1 2560 _ l) ?_
  refine Stage.next 10 0 (by omega) (by omega) (fun l => share0 m c t 2560 (by omega) _ l) (fun l => old 0 2560 _ l) ?_
  refine Stage.next 9 2 (by omega) (by omega) (fun l => share2 m c t 2304 (by omega) _ l) (fun l => old 2 2304 _ l) ?_
  refine Stage.next 9 1 (by omega) (by omega) (fun l => share1 m c t 2304 (by omega) _ l) (fun l => old 1 2304 _ l) ?_
  refine Stage.next 9 0 (by omega) (by omega) (fun l => share0 m c t 2304 (by omega) _ l) (fun l => old 0 2304 _ l) ?_
  refine Stage.next 8 2 (by omega) (by omega) (fun l => share2 m c t 2048 (by omega) _ l) (fun l => old 2 2048 _ l) ?_
  refine Stage.next 8 1 (by omega) (by omega) (fun l => share1 m c t 2048 (by omega) _ l) (fun l => old 1 2048 _ l) ?_
  refine Stage.next 8 0 (by omega) (by omega) (fun l => share0 m c t 2048 (by omega) _ l) (fun l => old 0 2048 _ l) ?_
  refine Stage.next 7 2 (by omega) (by omega) (fun l => share2 m c t 1792 (by omega) _ l) (fun l => old 2 1792 _ l) ?_
  refine Stage.next 7 1 (by omega) (by omega) (fun l => share1 m c t 1792 (by omega) _ l) (fun l => old 1 1792 _ l) ?_
  refine Stage.next 7 0 (by omega) (by omega) (fun l => share0 m c t 1792 (by omega) _ l) (fun l => old 0 1792 _ l) ?_
  refine Stage.next 6 2 (by omega) (by omega) (fun l => share2 m c t 1536 (by omega) _ l) (fun l => old 2 1536 _ l) ?_
  refine Stage.next 6 1 (by omega) (by omega) (fun l => share1 m c t 1536 (by omega) _ l) (fun l => old 1 1536 _ l) ?_
  refine Stage.next 6 0 (by omega) (by omega) (fun l => share0 m c t 1536 (by omega) _ l) (fun l => old 0 1536 _ l) ?_
  refine Stage.next 5 2 (by omega) (by omega) (fun l => share2 m c t 1280 (by omega) _ l) (fun l => old 2 1280 _ l) ?_
  refine Stage.next 5 1 (by omega) (by omega) (fun l => share1 m c t 1280 (by omega) _ l) (fun l => old 1 1280 _ l) ?_
  refine Stage.next 5 0 (by omega) (by omega) (fun l => share0 m c t 1280 (by omega) _ l) (fun l => old 0 1280 _ l) ?_
  refine Stage.next 4 2 (by omega) (by omega) (fun l => share2 m c t 1024 (by omega) _ l) (fun l => old 2 1024 _ l) ?_
  refine Stage.next 4 1 (by omega) (by omega) (fun l => share1 m c t 1024 (by omega) _ l) (fun l => old 1 1024 _ l) ?_
  refine Stage.next 4 0 (by omega) (by omega) (fun l => share0 m c t 1024 (by omega) _ l) (fun l => old 0 1024 _ l) ?_
  refine Stage.next 3 2 (by omega) (by omega) (fun l => share2 m c t 768 (by omega) _ l) (fun l => old 2 768 _ l) ?_
  refine Stage.next 3 1 (by omega) (by omega) (fun l => share1 m c t 768 (by omega) _ l) (fun l => old 1 768 _ l) ?_
  refine Stage.next 3 0 (by omega) (by omega) (fun l => share0 m c t 768 (by omega) _ l) (fun l => old 0 768 _ l) ?_
  refine Stage.next 2 2 (by omega) (by omega) (fun l => share2 m c t 512 (by omega) _ l) (fun l => old 2 512 _ l) ?_
  refine Stage.next 2 1 (by omega) (by omega) (fun l => share1 m c t 512 (by omega) _ l) (fun l => old 1 512 _ l) ?_
  refine Stage.next 2 0 (by omega) (by omega) (fun l => share0 m c t 512 (by omega) _ l) (fun l => old 0 512 _ l) ?_
  refine Stage.next 1 2 (by omega) (by omega) (fun l => share2 m c t 256 (by omega) _ l) (fun l => old 2 256 _ l) ?_
  refine Stage.next 1 1 (by omega) (by omega) (fun l => share1 m c t 256 (by omega) _ l) (fun l => old 1 256 _ l) ?_
  refine Stage.next 1 0 (by omega) (by omega) (fun l => share0 m c t 256 (by omega) _ l) (fun l => old 0 256 _ l) ?_
  refine Stage.next 0 2 (by omega) (by omega) (fun l => share2 m c t 0 (by omega) _ l) (fun l => old 2 0 _ l) ?_
  refine Stage.next 0 1 (by omega) (by omega) (fun l => share1 m c t 0 (by omega) _ l) (fun l => old 1 0 _ l) ?_
  refine Stage.next 0 0 (by omega) (by omega) (fun l => share0 m c t 0 (by omega) _ l) (fun l => old 0 0 _ l) ?_
  intro r l
  rw [View.writes_nil, Memref.IsWhole.read_unread, if_neg (by omega)]
  exact hb r l

/-- The sums for the taps after grid point `n`. -/
theorem outs7 (c : Dev nD) : ∀ (n : ℕ) (hn : n < cfg0.N) (r : Fin 8) (l : Fin 2816),
    (outsAt0 (F := Ideal) m c n hn).2 (ix2 r l) = dtap (argA m c) (argD m c) (argW m c) (256 * (n + 1)) r.val l.val
  | 0, hn, r, l => by
    have hl := l.isLt
    refine (outs7_A m c ⟨0, hn⟩ rfl r l).trans ?_
    by_cases hr : r.val < 3
    · rw [if_pos (by omega), ← dtap_add _ _ _ _ _ _ hr]
      refine congrArg (· + _) ?_
      unfold dtap
      rw [if_pos hr]
      rfl
    · rw [if_neg (by omega)]
      unfold dtap
      rw [if_neg hr]
  | n + 1, hn, r, l => by
    have hN : cfg0.N = 32 := N_0
    have hl := l.isLt
    have h0 : ¬(⟨n + 1, hn⟩ : Fin cfg0.N).val % 32 = 0 := by dsimp only; omega
    refine (outs7_B m c ⟨n + 1, hn⟩ h0 (dtap (argA m c) (argD m c) (argW m c) (256 * (n + 1)))
      (fun r l => outs7 c n (Nat.lt_of_succ_lt hn) r l) r l).trans ?_
    by_cases hr : r.val < 3
    · rw [if_pos (by omega), dtap_add _ _ _ _ _ _ hr]
    · rw [if_neg (by omega)]
      unfold dtap
      rw [if_neg hr, if_neg hr]

/-- The gradient of the joined gate and factor, in any point's output block. -/
theorem outs6 (c : Dev nD) (t : Fin cfg0.N) (r : Fin 256) (l : Fin 5632) :
    (outsAt0 (F := Ideal) m c t.val t.isLt).1 (ix2 r l) = dwide (argA m c) (argD m c) (argW m c) (256 * t.val + r.val) l.val := by
  by_cases h0 : t.val % 32 = 0
  · exact outs6_A m c t h0 r l
  · exact outs6_B m c t h0 r l

/-- The gradient of the joined gate and factor, as an array. -/
def wideArr (A : Wide) (DA : Cot) (W : Taps) : Vec Ideal S8192x5632 .bf16 := fun j => dwide A DA W (j 0).val (j 1).val

/-- The array after the run. -/
theorem final6 (c : Dev nD) : (dats m 0 c).arrAt 6 cfg0.N = wideArr (argA m c) (argD m c) (argW m c) := by
  have hN : cfg0.N = 32 := N_0
  refine (dats m 0 c).arrAt_eq_of_cover 6 _ (fun t _ => ?_) fun i => ?_
  · rw [Value.flushed6]
    funext j
    obtain ⟨r, l, hj⟩ : ∃ (r : Fin 256) (l : Fin 5632), j = ix2 r l := ⟨j 0, j 1, eq_ix2 j⟩
    rw [hj]
    show (outsAt0 m c t.val t.isLt).1 (ix2 r l) = wideArr (argA m c) (argD m c) (argW m c) (((cfg0.win 6).blk t).view.emb (ix2 r l))
    refine (outs6 m c t r l).trans ?_
    unfold wideArr
    refine congr (congrArg _ ?_) ?_
    · show _ = win0_6.index t 0 * 256 + 1 * r.val; rw [(index6 t).1]; omega
    · show _ = win0_6.index t 1 * 5632 + 1 * l.val; rw [(index6 t).2]; omega
  · have h0 : (i 0 : Nat) < 8192 := (i 0).isLt
    have h1 : (i 1 : Nat) < 5632 := (i 1).isLt
    let p : Fin cfg0.N := ⟨(i 0).val / 256, by omega⟩
    have hp : p.val = (i 0).val / 256 := rfl
    refine ⟨p, (by decide +kernel : ∀ t : Fin grid0.N, (cfg0.win 6).flush t = true) _, ?_⟩
    show i ∈ ((View.whole main_v0_0).slice (win0_6.rect p)).set
    rw [View.set_slice_whole, Rect.mem_set_unit]
    intro a
    match a with
    | ⟨0, _⟩ =>
      show win0_6.index p 0 * 256 ≤ (i 0 : Nat) ∧ (i 0 : Nat) < win0_6.index p 0 * 256 + 256
      rw [(index6 p).1, hp]; omega
    | ⟨1, _⟩ =>
      show win0_6.index p 1 * 5632 ≤ (i 1 : Nat) ∧ (i 1 : Nat) < win0_6.index p 1 * 5632 + 5632
      rw [(index6 p).2]; omega

/-- The gradients of the taps, as an array of eight rows of which the last five are 0. -/
def tapArr (A : Wide) (DA : Cot) (W : Taps) : Vec Ideal S8x2816 .f32 := fun j => dtap A DA W 8192 (j 0).val (j 1).val

/-- The array after the run. -/
theorem final7 (c : Dev nD) : (dats m 0 c).arrAt 7 cfg0.N = tapArr (argA m c) (argD m c) (argW m c) := by
  have hN : cfg0.N = 32 := N_0
  refine (dats m 0 c).arrAt_eq_of_cover 7 _ (fun t hf => ?_) fun i => ?_
  · have h31 : t.val = 31 := by
      have h := (flush0_7 t).mp hf
      omega
    show (cfg0.win 7).cut (grid0.coords t) ((dats m 0 c).after 7 t) = _
    rw [after0_7]
    funext j
    obtain ⟨r, l, hj⟩ : ∃ (r : Fin 8) (l : Fin 2816), j = ix2 r l := ⟨j 0, j 1, eq_ix2 j⟩
    rw [hj]
    show (outsAt0 m c t.val t.isLt).2 (ix2 r l) = tapArr _ _ _ (((cfg0.win 7).blk t).view.emb (ix2 r l))
    refine (outs7 m c t.val t.isLt r l).trans ?_
    unfold tapArr
    rw [h31]
    refine congr (congrArg _ ?_) ?_
    · show _ = win0_7.index t 0 * 8 + 1 * r.val; rw [(index7 t).1]; omega
    · show _ = win0_7.index t 1 * 2816 + 1 * l.val; rw [(index7 t).2]; omega
  · have h0 : (i 0 : Nat) < 8 := (i 0).isLt
    have h1 : (i 1 : Nat) < 2816 := (i 1).isLt
    let p : Fin cfg0.N := ⟨31, by omega⟩
    refine ⟨p, (flush0_7 _).mpr rfl, ?_⟩
    show i ∈ ((View.whole main_v0_1).slice (win0_7.rect p)).set
    rw [View.set_slice_whole, Rect.mem_set_unit]
    intro a
    match a with
    | ⟨0, _⟩ =>
      show win0_7.index p 0 * 8 ≤ (i 0 : Nat) ∧ (i 0 : Nat) < win0_7.index p 0 * 8 + 8
      rw [(index7 p).1]; omega
    | ⟨1, _⟩ =>
      show win0_7.index p 1 * 2816 ≤ (i 1 : Nat) ∧ (i 1 : Nat) < win0_7.index p 1 * 2816 + 2816
      rw [(index7 p).2]; omega

end Cert.FfnBwdIdeal.KernelValue

end
-- ==== Proof.Ffn.BwdClaim.lean ====
/-
  The gate's gradient: the reference's run, read entry by entry, and its equality with the kernel's run for all inputs
  whose cotangent and factor are finite.
-/
module

public import proofs.«01_k».proof.Defs
public import proofs.«01_k».proof.Proof.Common.Sums
public import proofs.«01_k».proof.Proof.Ffn.Bwd
public import proofs.«01_k».proof.Proof.Gen.FfnBwdRefIdeal.Run
public import proofs.«01_k».proof.Proof.Gen.FfnBwdRefIdeal.Read
public import Idealize.ShloMosaic.Lib.ReduceAll

@[expose] public section

set_option maxRecDepth 16384

noncomputable section

open Idealize.ShloMosaic Idealize.ShloMosaic.TcCoe Idealize.SL.Sem

namespace Cert.FfnSpec

open Cert.Common

/-- The logistic function of a real number is one, and its limits. -/
theorem sig_coe (x : ℝ) : ∃ s : ℝ, sig (x : EReal) = (s : EReal) := by
  refine ⟨(1 + Real.exp (-x))⁻¹, ?_⟩
  have e : (1 : EReal) + Ideal.exp (-(x : EReal)) = ((1 + Real.exp (-x) : ℝ) : EReal) := by
    rw [← EReal.coe_neg]
    show (1 : EReal) + ((Real.exp (-x) : ℝ) : EReal) = _
    rw [EReal.coe_add]
    rfl
  have h : (1 + Real.exp (-x)) ≠ 0 := by positivity
  unfold sig Ideal.div
  rw [e, if_neg (fun h' => h (EReal.coe_eq_zero.mp h')), one_mul, ← EReal.coe_inv]
theorem sig_top : sig ⊤ = 1 := by
  unfold sig Ideal.div
  have e : (1 : EReal) + Ideal.exp (-⊤) = 1 := by
    rw [EReal.neg_top]
    show (1 : EReal) + 0 = 1
    rw [add_zero]
  rw [e, if_neg one_ne_zero, one_mul]
  exact (EReal.coe_inv 1).symm.trans (by norm_num)
theorem sig_bot : sig ⊥ = 0 := by
  unfold sig Ideal.div
  have e : (1 : EReal) + Ideal.exp (-⊥) = ⊤ := by
    rw [EReal.neg_bot]
    show (1 : EReal) + ⊤ = ⊤
    exact EReal.add_top_of_ne_bot (by decide)
  rw [e, if_neg (by decide), one_mul, EReal.inv_top]

/-- The derivative of `g · sig g` times a finite number, in the reference's form and in the kernel's. -/
theorem grad_law (d : ℝ) (g : EReal) :
    (d : EReal) * sig g + g * d * (sig g * (1 - sig g)) = d * (sig g * (1 + g * (1 - sig g))) := by
  induction g with
  | bot => rw [sig_bot]; simp
  | top =>
    rw [sig_top]
    have e : (1 : EReal) - 1 = 0 := by
      show ((1 : ℝ) : EReal) - ((1 : ℝ) : EReal) = 0
      rw [← EReal.coe_sub]
      simp
    rw [e]
    simp
  | coe x =>
    obtain ⟨s, hs⟩ := sig_coe x
    rw [hs]
    have e : (1 : EReal) = ((1 : ℝ) : EReal) := rfl
    rw [e]
    simp only [← EReal.coe_mul, ← EReal.coe_add, ← EReal.coe_sub]
    congr 1
    ring

end Cert.FfnSpec

/-! ## The reference -/

namespace Cert.FfnBwdRefIdeal.RefValue

open Cert.FfnBwdRefIdeal Cert.FfnBwdRefIdeal.Read Cert.Common Cert.FfnSpec Cert.FfnBwdIdeal.KernelValue

variable (A : Wide) (DA : Cot) (W : Taps)

section
variable (b : Fin 4) (s : Fin 2048) (l : Fin 2816)

/-- The gate, the factor and the cotangent. -/
theorem ref_g : val_main_v2 (F := Ideal) A (ix3 b s l) = rd2 A (b.val * 2048 + s.val) l.val := by
  unfold val_main_v2 val_main_v1 val_main_v0
  pointwise
  exact eq_rd2 A _ _
theorem ref_u : val_main_v3 (F := Ideal) A (ix3 b s l) = rd2 A (b.val * 2048 + s.val) (2816 + l.val) := by
  unfold val_main_v3 val_main_v1 val_main_v0
  pointwise
  exact eq_rd2 A _ _
theorem ref_d : val_main_v35 (F := Ideal) DA (ix3 b s l) = rd2 DA (b.val * 2048 + s.val) l.val := by
  unfold val_main_v35 val_main_v34
  pointwise
  exact eq_rd2 DA _ _

/-- The gate one and two positions earlier. -/
theorem ref_g2 : val_main_v9 (F := Ideal) A (ix3 b s l) = back A 2 (b.val * 2048 + s.val) l.val := by
  have hs := s.isLt
  unfold val_main_v9 val_main_v7 val_main_v8 val_main_cst
  pointwise
  simp only [ref_g]
  unfold back
  split_ifs <;> first | (exfalso; omega) | rfl | exact rd2_congr _ (by show b.val * 2048 + (s.val - 2) = _; omega) rfl
theorem ref_g1 : val_main_v19 (F := Ideal) A (ix3 b s l) = back A 1 (b.val * 2048 + s.val) l.val := by
  have hs := s.isLt
  unfold val_main_v19 val_main_v17 val_main_v18 val_main_cst_1
  pointwise
  simp only [ref_g]
  unfold back
  split_ifs <;> first | (exfalso; omega) | rfl | exact rd2_congr _ (by show b.val * 2048 + (s.val - 1) = _; omega) rfl

/-- The taps, spread over all rows. -/
theorem ref_w0 : val_main_v12 (F := Ideal) W (ix3 b s l) = rd2 W 0 l.val := by
  unfold val_main_v12 val_main_v11 val_main_v5 val_main_v4
  pointwise
  exact eq_rd2 W _ _
theorem ref_w1 : val_main_v22 (F := Ideal) W (ix3 b s l) = rd2 W 1 l.val := by
  unfold val_main_v22 val_main_v21 val_main_v15 val_main_v14
  pointwise
  exact eq_rd2 W _ _
theorem ref_w2 : val_main_v28 (F := Ideal) W (ix3 b s l) = rd2 W 2 l.val := by
  unfold val_main_v28 val_main_v27 val_main_v26 val_main_v25
  pointwise
  exact eq_rd2 W _ _

/-- The convolved gate: the reference adds the taps' products first to last. -/
theorem ref_conv : val_main_v30 (F := Ideal) A W (ix3 b s l) = conv A W (b.val * 2048 + s.val) l.val := by
  unfold val_main_v30 val_main_v29 val_main_v24 val_main_v23 val_main_v13
  pointwise
  rw [ref_w0, ref_w1, ref_w2, ref_g, ref_g1, ref_g2]
  unfold conv
  rw [add_comm, add_comm (rd2 W 0 l.val * _), add_assoc]

/-- Its logistic function. -/
theorem ref_sig : val_main_v31_2 (F := Ideal) A W (ix3 b s l) = Cert.FfnSpec.sig (conv A W (b.val * 2048 + s.val) l.val) := by
  unfold val_main_v31_2 val_main_call0_v4 val_main_call0_v3 val_main_call0_v2 val_main_call0_v1 val_main_call0_v0
    val_main_call0_cst val_main_call0_cst_0
  pointwise
  rw [ref_conv]
  rfl

/-- The gradient of the factor. -/
theorem ref_factor : val_main_v36 (F := Ideal) A DA W (ix3 b s l) = dfactor A DA W (b.val * 2048 + s.val) l.val := by
  unfold val_main_v36 val_main_v31_0
  pointwise
  rw [ref_conv, ref_sig, ref_d]
  unfold dfactor
  rw [mul_comm]

end

/-- Every entry of the cotangent and of the factor is finite. -/
def Finite : Prop := (∀ n l, ∃ x : ℝ, rd2 DA n l = (x : EReal)) ∧ ∀ n l, ∃ x : ℝ, rd2 A n (2816 + l) = (x : EReal)

section
variable (b : Fin 4) (s : Fin 2048) (l : Fin 2816) (hf : Finite A DA)
include hf

/-- The gradient at the convolved gate: here the two forms of the derivative meet. -/
theorem ref_grad : val_main_v38 (F := Ideal) A DA W (ix3 b s l) = grad A DA W (b.val * 2048 + s.val) l.val := by
  unfold val_main_v38 val_main_call1_v2 val_main_call1_v1 val_main_call1_v0 val_main_v37 val_main_v31_1 val_main_call0_v7 val_main_call0_v6 val_main_call0_cst_1
  pointwise
  rw [ref_conv, ref_sig, ref_d, ref_u]
  unfold grad
  obtain ⟨x, hx⟩ := hf.1 (b.val * 2048 + s.val) l.val
  obtain ⟨y, hy⟩ := hf.2 (b.val * 2048 + s.val) l.val
  rw [hx, hy, ← EReal.coe_mul]
  exact grad_law (x * y) _

/-- The gradient times a tap, one and two positions later. -/
theorem ref_later1 : val_main_v55 (F := Ideal) A DA W (ix3 b s l) = rd2 W 1 l.val * later A DA W 1 (b.val * 2048 + s.val) l.val := by
  have hs := s.isLt
  unfold val_main_v55 val_main_v54 val_main_v48 val_main_v47 val_main_cst_8 val_main_v21 val_main_v15 val_main_v14
  pointwise
  simp only [ref_grad A DA W _ _ _ hf]
  unfold later
  by_cases h : s.val < 2047
  · rw [dif_pos h, if_neg (by omega)]
    exact congr (congrArg HMul.hMul (eq_rd2 W _ _)) (congrArg (fun n => grad A DA W n l.val) (by omega))
  · rw [dif_neg h, if_pos (by omega), mul_zero]
theorem ref_later2 : val_main_v68 (F := Ideal) A DA W (ix3 b s l) = rd2 W 0 l.val * later A DA W 2 (b.val * 2048 + s.val) l.val := by
  have hs := s.isLt
  unfold val_main_v68 val_main_v67 val_main_v61 val_main_v60 val_main_cst_12 val_main_v11 val_main_v5 val_main_v4
  pointwise
  simp only [ref_grad A DA W _ _ _ hf]
  unfold later
  by_cases h : s.val < 2046
  · rw [dif_pos h, if_neg (by omega)]
    exact congr (congrArg HMul.hMul (eq_rd2 W _ _)) (congrArg (fun n => grad A DA W n l.val) (by omega))
  · rw [dif_neg h, if_pos (by omega), mul_zero]

/-- The gradient of the gate. -/
theorem ref_gate : val_main_v69 (F := Ideal) A DA W (ix3 b s l) = dgate A DA W (b.val * 2048 + s.val) l.val := by
  unfold val_main_v69 val_main_v56 val_main_v40 val_main_v39 val_main_v27 val_main_v26 val_main_v25
  pointwise
  rw [ref_later1 A DA W _ _ _ hf, ref_later2 A DA W _ _ _ hf, ref_grad A DA W _ _ _ hf]
  unfold dgate
  exact congrArg (· * _ + _ + _) (eq_rd2 W _ _)

/-- The gradient of gate and factor, joined. -/
theorem ref_wide (n : Fin 8192) (k : Fin 5632) : val_main_v75 (F := Ideal) A DA W (ix2 n k) = dwide A DA W n.val k.val := by
  have hn := n.isLt
  have hk := k.isLt
  have e : n.val / 2048 * 2048 + n.val % 2048 = n.val := by omega
  unfold val_main_v75 val_main_v74 val_main_v73
  pointwise
  simp only [ref_gate A DA W _ _ _ hf, ref_factor]
  rw [e]
  unfold dwide
  by_cases h : k.val < 2816
  · rw [dif_pos h, if_pos h]
  · rw [dif_neg h, if_neg h]

/-- The sums over all positions, for the three taps. -/
theorem ref_total2 : val_main_v42 (F := Ideal) A DA W (ix1 l) = dtap A DA W 8192 2 l.val := by
  unfold val_main_v42 val_main_cst_3
  pointwise
  rw [hostReduceAdd_01, zero_add]
  unfold val_main_v41
  pointwise
  simp only [ref_grad A DA W _ _ _ hf, ref_g]
  unfold dtap
  rw [if_pos (by omega)]
  exact (Finset.sum_congr rfl fun _ _ => Finset.sum_congr rfl fun _ _ => by rw [← back_zero]).trans (sum_rows 4 2048 fun n => grad A DA W n l.val * back A (2 - 2) n l.val)
theorem ref_total1 : val_main_v50 (F := Ideal) A DA W (ix1 l) = dtap A DA W 8192 1 l.val := by
  unfold val_main_v50 val_main_cst_6
  pointwise
  rw [hostReduceAdd_01, zero_add]
  unfold val_main_v49
  pointwise
  simp only [ref_grad A DA W _ _ _ hf, ref_g1]
  unfold dtap
  rw [if_pos (by omega)]
  exact (sum_rows 4 2048 fun n => grad A DA W n l.val * back A (2 - 1) n l.val)
theorem ref_total0 : val_main_v63 (F := Ideal) A DA W (ix1 l) = dtap A DA W 8192 0 l.val := by
  unfold val_main_v63 val_main_cst_10
  pointwise
  rw [hostReduceAdd_01, zero_add]
  unfold val_main_v62
  pointwise
  simp only [ref_grad A DA W _ _ _ hf, ref_g2]
  unfold dtap
  rw [if_pos (by omega)]
  exact (sum_rows 4 2048 fun n => grad A DA W n l.val * back A (2 - 0) n l.val)
theorem ref_sum2 : val_main_v44 (F := Ideal) A DA W (ix1 l) = dtap A DA W 8192 2 l.val := by
  unfold val_main_v44 val_main_cst_4
  pointwise
  rw [hostReduceAdd_01, zero_add]
  simp only [Fintype.sum_unique]
  unfold val_main_v43
  pointwise
  exact ref_total2 A DA W l hf
theorem ref_sum1 : val_main_v52 (F := Ideal) A DA W (ix1 l) = dtap A DA W 8192 1 l.val := by
  unfold val_main_v52 val_main_cst_7
  pointwise
  rw [hostReduceAdd_01, zero_add]
  simp only [Fintype.sum_unique]
  unfold val_main_v51
  pointwise
  exact ref_total1 A DA W l hf
theorem ref_sum0 : val_main_v65 (F := Ideal) A DA W (ix1 l) = dtap A DA W 8192 0 l.val := by
  unfold val_main_v65 val_main_cst_11
  pointwise
  rw [hostReduceAdd_01, zero_add]
  simp only [Fintype.sum_unique]
  unfold val_main_v64
  pointwise
  exact ref_total0 A DA W l hf

/-- The gradients of the taps, each in its row, and five rows of zeros. -/
theorem ref_taps (r : Fin 8) : val_main_v76 (F := Ideal) A DA W (ix2 r l) = dtap A DA W 8192 r.val l.val := by
  unfold val_main_v76 val_main_v72 val_main_v71 val_main_v59 val_main_v58 val_main_v46 val_main_v45 val_main_v57 val_main_v70
    val_main_cst_5 val_main_cst_9 val_main_cst_13 val_main_call2_v0 val_main_c
  pointwise
  rw [ref_sum0 A DA W l hf, ref_sum1 A DA W l hf, ref_sum2 A DA W l hf]
  match r with
  | ⟨0, _⟩ => simp
  | ⟨1, _⟩ => simp
  | ⟨2, _⟩ => simp
  | ⟨n + 3, h⟩ =>
    rw [dif_neg (by dsimp only; omega)]
    unfold dtap
    rw [if_neg (by dsimp only; omega)]
    show (((0 : ℤ) : ℝ) : EReal) = 0
    simp

end

end Cert.FfnBwdRefIdeal.RefValue

namespace Cert.FfnBwdClaim

open Cert.Common Cert.FfnSpec Cert.FfnBwdIdeal.KernelValue Cert.FfnBwdRefIdeal.RefValue Cert.FfnBwdRefIdeal.Read

/-- The side conditions of the precondition's operations. -/
theorem preFacts : Cert.Pre_finite_cotangent.Facts := ⟨by decide, by decide, by decide, by decide, by decide⟩

/-- A number between the two infinities is finite. -/
theorem finite_of_cmp {x : EReal} (h : Ideal.cmp .olt x (Ideal.ofBits .f32 0x7F800000#32) = 1#1)
    (h' : Ideal.cmp .ogt x (Ideal.ofBits .f32 0xFF800000#32) = 1#1) : ∃ r : ℝ, x = (r : EReal) := by
  have e : Ideal.ofBits .f32 0x7F800000#32 = ⊤ := by simp [Ideal.ofBits, Ideal.ieee]
  have e' : Ideal.ofBits .f32 0xFF800000#32 = ⊥ := by simp [Ideal.ofBits, Ideal.ieee]
  rw [e] at h
  rw [e'] at h'
  induction x with
  | bot => simp [Ideal.cmp] at h'
  | top => simp [Ideal.cmp] at h
  | coe r => exact ⟨r, rfl⟩

/-- The precondition says so of every entry of the cotangent and of the factor. -/
theorem finite_of_pre (A : Wide) (DA : Cot) (W : Taps)
    (h : (@Cert.Pre_finite_cotangent.fn preFacts Ideal _ A DA W) = fun _ => 1#1) : Finite A DA := by
  have h0 := congrFun h (fun a => a.elim0)
  have hs : Subsingleton Cert.Pre_finite_cotangent.S_.Idx := ⟨fun a b => funext fun i => i.elim0⟩
  unfold Cert.Pre_finite_cotangent.fn at h0
  dsimp only at h0
  obtain ⟨ha, hb⟩ := IntOp.andi_eq_one.1 h0
  have hA := Host.reduce_andi_all _ _ _ _ _ ha
  have hB := Host.reduce_andi_all _ _ _ _ _ hb
  constructor
  · intro n l
    unfold rd2
    split
    · rename_i hnl
      obtain ⟨h1, h2⟩ := IntOp.andi_eq_one.1 (hB (ix2 ⟨n, hnl.1⟩ ⟨l, hnl.2⟩))
      exact finite_of_cmp h1 h2
    · exact ⟨0, rfl⟩
  · intro n l
    by_cases hnl : n < 8192 ∧ l < 2816
    · obtain ⟨h1, h2⟩ := IntOp.andi_eq_one.1 (hA (ix2 ⟨n, hnl.1⟩ ⟨l, hnl.2⟩))
      obtain ⟨x, hx⟩ := finite_of_cmp h1 h2
      refine ⟨x, Eq.trans ?_ hx⟩
      pointwise
      exact (eq_rd2 A ⟨n, hnl.1⟩ ⟨2816 + l, by omega⟩).symm
    · refine ⟨0, ?_⟩
      unfold rd2
      rw [dif_neg (by omega)]
      rfl

/-- The reference's results as arrays. -/
theorem ref_wideArr (A : Wide) (DA : Cot) (W : Taps) (hf : Finite A DA) : val_main_v75 (F := Ideal) A DA W = wideArr A DA W := by
  funext j
  obtain ⟨r, l, rfl⟩ : ∃ (r : Fin 8192) (l : Fin 5632), j = ix2 r l := ⟨j 0, j 1, eq_ix2 j⟩
  exact ref_wide A DA W hf r l
theorem ref_tapArr (A : Wide) (DA : Cot) (W : Taps) (hf : Finite A DA) : val_main_v76 (F := Ideal) A DA W = tapArr A DA W := by
  funext j
  obtain ⟨r, l, rfl⟩ : ∃ (r : Fin 8) (l : Fin 2816), j = ix2 r l := ⟨j 0, j 1, eq_ix2 j⟩
  exact ref_taps A DA W l hf r

/-- Both programs end with the same two arrays where the cotangent and the factor are finite. -/
theorem algebraic : Cert.algebraic_FfnBwdIdeal_FfnBwdRefIdeal_pre_finite_cotangent (hFfnBwdIdeal := Cert.FfnBwdIdeal.Gen.facts)
    (hFfnBwdRefIdeal := Cert.FfnBwdRefIdeal.Gen.facts) (hPre_finite_cotangent := preFacts) := fun m g m' g' hp hag =>
  ⟨fun c => wideArr (argA m c) (argD m c) (argW m c),
    fun c => tapArr (argA m c) (argD m c) (argW m c),
    (θ_run _ _ _).mono (fun _ h c => ⟨(h c).1.trans (final6 m c), (h c).2.1.trans (final7 m c), (h c).2.2⟩)
      (Cert.FfnBwdIdeal.Value.run_blocks m g),
    (θ_run _ _ _).mono (fun _ h c => by
      obtain ⟨e0, e1, e2⟩ := hag c
      obtain ⟨h0, h1, h2⟩ := h c
      have hf := finite_of_pre (argA m c) (argD m c) (argW m c) (hp c)
      refine ⟨h0.trans ?_, h1.trans ?_, h2⟩
      · rw [val_main_v75_eq, e0, e1, e2]
        exact ref_wideArr _ _ _ hf
      · rw [val_main_v76_eq, e0, e1, e2]
        exact ref_tapArr _ _ _ hf) (Cert.FfnBwdRefIdeal.Value.run m' g')⟩

end Cert.FfnBwdClaim

end
-- ==== Proof.lean ====
module

public import proofs.«01_k».proof.Defs
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Gen.FfnInDw.Frame
public import proofs.«01_k».proof.Proof.Gen.FfnInDwIdeal.Frame
public import proofs.«01_k».proof.Proof.Gen.FfnInDwIdeal.Value
public import proofs.«01_k».proof.Proof.Gen.FfnInDwRefIdeal.Run
public import proofs.«01_k».proof.Proof.Gen.FfnInDwRefIdeal.Read
public import proofs.«01_k».proof.Proof.Gen.FfnDownDw.Frame
public import proofs.«01_k».proof.Proof.Gen.FfnDownDwIdeal.Frame
public import proofs.«01_k».proof.Proof.Gen.FfnDownDwIdeal.Value
public import proofs.«01_k».proof.Proof.Gen.FfnDownDwRefIdeal.Run
public import proofs.«01_k».proof.Proof.Gen.FfnDownDwRefIdeal.Read
public import proofs.«01_k».proof.Proof.Gen.ConvInDw.Frame
public import proofs.«01_k».proof.Proof.Gen.ConvInDwIdeal.Frame
public import proofs.«01_k».proof.Proof.Gen.ConvInDwIdeal.Value
public import proofs.«01_k».proof.Proof.Gen.ConvInDwRefIdeal.Run
public import proofs.«01_k».proof.Proof.Gen.ConvInDwRefIdeal.Read
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.QkvDw.Frame
public import proofs.«01_k».proof.Proof.Gen.QkvDwIdeal.Frame
public import proofs.«01_k».proof.Proof.Gen.QkvDwIdeal.Value
public import proofs.«01_k».proof.Proof.Gen.QkvDwRefIdeal.Run
public import proofs.«01_k».proof.Proof.Gen.QkvDwRefIdeal.Read
public import proofs.«01_k».proof.Proof.Gen.FfnDownDx.Frame
public import proofs.«01_k».proof.Proof.Gen.FfnDownDxIdeal.Frame
public import proofs.«01_k».proof.Proof.Gen.FfnDownDxIdeal.Value
public import proofs.«01_k».proof.Proof.Gen.FfnDownDxRefIdeal.Run
public import proofs.«01_k».proof.Proof.Gen.FfnDownDxRefIdeal.Read
public import proofs.«01_k».proof.Proof.Gen.ConvOutDx.Frame
public import proofs.«01_k».proof.Proof.Gen.ConvOutDxIdeal.Frame
public import proofs.«01_k».proof.Proof.Gen.ConvOutDxIdeal.Value
public import proofs.«01_k».proof.Proof.Gen.ConvOutDxRefIdeal.Run
public import proofs.«01_k».proof.Proof.Gen.ConvOutDxRefIdeal.Read
public import proofs.«01_k».proof.Proof.Gen.AttnOutDx.Frame
public import proofs.«01_k».proof.Proof.Gen.AttnOutDxIdeal.Frame
public import proofs.«01_k».proof.Proof.Gen.AttnOutDxIdeal.Value
public import proofs.«01_k».proof.Proof.Gen.AttnOutDxRefIdeal.Run
public import proofs.«01_k».proof.Proof.Gen.AttnOutDxRefIdeal.Read
public import proofs.«01_k».proof.Proof.Gen.ConvIn.Frame
public import proofs.«01_k».proof.Proof.Gen.ConvInIdeal.Frame
public import proofs.«01_k».proof.Proof.Gen.ConvInIdeal.Value
public import proofs.«01_k».proof.Proof.Gen.ConvInRefIdeal.Run
public import proofs.«01_k».proof.Proof.Gen.ConvInRefIdeal.Read
public import proofs.«01_k».proof.Proof.Gen.ConvOut.Frame
public import proofs.«01_k».proof.Proof.Gen.ConvOutIdeal.Frame
public import proofs.«01_k».proof.Proof.Gen.ConvOutIdeal.Value
public import proofs.«01_k».proof.Proof.Gen.ConvOutRefIdeal.Run
public import proofs.«01_k».proof.Proof.Gen.ConvOutRefIdeal.Read
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.FfnNorm.Frame
public import proofs.«01_k».proof.Proof.Gen.FfnNormIdeal.Frame
public import proofs.«01_k».proof.Proof.Gen.FfnNormRefIdeal.Run
public import proofs.«01_k».proof.Proof.Gen.FfnNormRefIdeal.Read
public import proofs.«01_k».proof.Proof.Gen.ConvNorm.Frame
public import proofs.«01_k».proof.Proof.Gen.ConvNormIdeal.Frame
public import proofs.«01_k».proof.Proof.Gen.ConvNormRefIdeal.Run
public import proofs.«01_k».proof.Proof.Gen.ConvNormRefIdeal.Read
public import proofs.«01_k».proof.Proof.Gen.QkvNorm.Frame
public import proofs.«01_k».proof.Proof.Gen.QkvNormIdeal.Frame
public import proofs.«01_k».proof.Proof.Gen.QkvNormRefIdeal.Run
public import proofs.«01_k».proof.Proof.Gen.QkvNormRefIdeal.Read
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.ConvGate.Frame
public import proofs.«01_k».proof.Proof.Gen.ConvGateIdeal.Frame
public import proofs.«01_k».proof.Proof.Gen.ConvGateIdeal.Value
public import proofs.«01_k».proof.Proof.Gen.ConvGateRefIdeal.Run
public import proofs.«01_k».proof.Proof.Gen.ConvGateRefIdeal.Read
public import proofs.«01_k».proof.Proof.Gen.FirstNorm.Frame
public import proofs.«01_k».proof.Proof.Gen.FirstNormIdeal.Frame
public import proofs.«01_k».proof.Proof.Gen.FirstNormIdeal.Value
public import proofs.«01_k».proof.Proof.Gen.FirstNormRefIdeal.Run
public import proofs.«01_k».proof.Proof.Gen.FirstNormRefIdeal.Read
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadRefIdeal.Read
public import proofs.«01_k».proof.Proof.Gen.AdamwSmall.Frame
public import proofs.«01_k».proof.Proof.Gen.AdamwSmallIdeal.Frame
public import proofs.«01_k».proof.Proof.Gen.AdamwSmallIdeal.Value
public import proofs.«01_k».proof.Proof.Gen.AdamwSmallRefIdeal.Run
public import proofs.«01_k».proof.Proof.Gen.AdamwSmallRefIdeal.Read
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Conv.Claim
public import proofs.«01_k».proof.Proof.Mm.FfnInDw
public import proofs.«01_k».proof.Proof.Mm.FfnDownDw
public import proofs.«01_k».proof.Proof.Mm.ConvInDw
public import proofs.«01_k».proof.Proof.Mm.OutDw
public import proofs.«01_k».proof.Proof.Mm.QkvDw
public import proofs.«01_k».proof.Proof.Mm.FfnDownDx
public import proofs.«01_k».proof.Proof.Mm.ConvOutDx
public import proofs.«01_k».proof.Proof.Mm.AttnOutDx
public import proofs.«01_k».proof.Proof.Mm.ConvIn
public import proofs.«01_k».proof.Proof.Mm.ConvOut
public import proofs.«01_k».proof.Proof.Mm.Qkv
public import proofs.«01_k».proof.Proof.Mm.AttnOut
public import proofs.«01_k».proof.Proof.Mm.FfnIn
public import proofs.«01_k».proof.Proof.Norm.FfnNorm
public import proofs.«01_k».proof.Proof.Norm.ConvNorm
public import proofs.«01_k».proof.Proof.Norm.QkvNorm
public import proofs.«01_k».proof.Proof.Ffn.Out
public import proofs.«01_k».proof.Proof.Conv.Gate
public import proofs.«01_k».proof.Proof.Norm.First
public import proofs.«01_k».proof.Proof.Norm.LossHead
public import proofs.«01_k».proof.Proof.Norm.Adamw
public import proofs.«01_k».proof.Proof.Ffn.BwdClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference of ConvBwd runs on the host alone: its run, and no counters to speak of. -/
theorem ConvRefIdeal_frame : Cert.quiescent_ConvRefIdeal (hConvRefIdeal := Cert.ConvRefIdeal.Gen.facts) := fun m g _ =>
  (θ_run _ _ _).mono (fun r h => ⟨fun c => (h c).2.2, sem_eq_zero_of_no_sems rfl r.2⟩) (Cert.ConvRefIdeal.Value.run m g)

/-- The reference of FfnInDw runs on the host alone: its run, and no counters to speak of. -/
theorem FfnInDwRefIdeal_frame : Cert.quiescent_FfnInDwRefIdeal (hFfnInDwRefIdeal := Cert.FfnInDwRefIdeal.Gen.facts) := fun m g _ =>
  (θ_run _ _ _).mono (fun r h => ⟨fun c => (h c).2, sem_eq_zero_of_no_sems rfl r.2⟩) (Cert.FfnInDwRefIdeal.Value.run m g)

/-- The reference of FfnDownDw runs on the host alone: its run, and no counters to speak of. -/
theorem FfnDownDwRefIdeal_frame : Cert.quiescent_FfnDownDwRefIdeal (hFfnDownDwRefIdeal := Cert.FfnDownDwRefIdeal.Gen.facts) := fun m g _ =>
  (θ_run _ _ _).mono (fun r h => ⟨fun c => (h c).2, sem_eq_zero_of_no_sems rfl r.2⟩) (Cert.FfnDownDwRefIdeal.Value.run m g)

/-- The reference of ConvInDw runs on the host alone: its run, and no counters to speak of. -/
theorem ConvInDwRefIdeal_frame : Cert.quiescent_ConvInDwRefIdeal (hConvInDwRefIdeal := Cert.ConvInDwRefIdeal.Gen.facts) := fun m g _ =>
  (θ_run _ _ _).mono (fun r h => ⟨fun c => (h c).2, sem_eq_zero_of_no_sems rfl r.2⟩) (Cert.ConvInDwRefIdeal.Value.run m g)

/-- The reference of OutDw runs on the host alone: its run, and no counters to speak of. -/
theorem OutDwRefIdeal_frame : Cert.quiescent_OutDwRefIdeal (hOutDwRefIdeal := Cert.OutDwRefIdeal.Gen.facts) := fun m g _ =>
  (θ_run _ _ _).mono (fun r h => ⟨fun c => (h c).2, sem_eq_zero_of_no_sems rfl r.2⟩) (Cert.OutDwRefIdeal.Value.run m g)

/-- The reference of QkvDw runs on the host alone: its run, and no counters to speak of. -/
theorem QkvDwRefIdeal_frame : Cert.quiescent_QkvDwRefIdeal (hQkvDwRefIdeal := Cert.QkvDwRefIdeal.Gen.facts) := fun m g _ =>
  (θ_run _ _ _).mono (fun r h => ⟨fun c => (h c).2, sem_eq_zero_of_no_sems rfl r.2⟩) (Cert.QkvDwRefIdeal.Value.run m g)

/-- The reference of FfnDownDx runs on the host alone: its run, and no counters to speak of. -/
theorem FfnDownDxRefIdeal_frame : Cert.quiescent_FfnDownDxRefIdeal (hFfnDownDxRefIdeal := Cert.FfnDownDxRefIdeal.Gen.facts) := fun m g _ =>
  (θ_run _ _ _).mono (fun r h => ⟨fun c => (h c).2, sem_eq_zero_of_no_sems rfl r.2⟩) (Cert.FfnDownDxRefIdeal.Value.run m g)

/-- The reference of ConvOutDx runs on the host alone: its run, and no counters to speak of. -/
theorem ConvOutDxRefIdeal_frame : Cert.quiescent_ConvOutDxRefIdeal (hConvOutDxRefIdeal := Cert.ConvOutDxRefIdeal.Gen.facts) := fun m g _ =>
  (θ_run _ _ _).mono (fun r h => ⟨fun c => (h c).2, sem_eq_zero_of_no_sems rfl r.2⟩) (Cert.ConvOutDxRefIdeal.Value.run m g)

/-- The reference of AttnOutDx runs on the host alone: its run, and no counters to speak of. -/
theorem AttnOutDxRefIdeal_frame : Cert.quiescent_AttnOutDxRefIdeal (hAttnOutDxRefIdeal := Cert.AttnOutDxRefIdeal.Gen.facts) := fun m g _ =>
  (θ_run _ _ _).mono (fun r h => ⟨fun c => (h c).2, sem_eq_zero_of_no_sems rfl r.2⟩) (Cert.AttnOutDxRefIdeal.Value.run m g)

/-- The reference of ConvIn runs on the host alone: its run, and no counters to speak of. -/
theorem ConvInRefIdeal_frame : Cert.quiescent_ConvInRefIdeal (hConvInRefIdeal := Cert.ConvInRefIdeal.Gen.facts) := fun m g _ =>
  (θ_run _ _ _).mono (fun r h => ⟨fun c => (h c).2, sem_eq_zero_of_no_sems rfl r.2⟩) (Cert.ConvInRefIdeal.Value.run m g)

/-- The reference of ConvOut runs on the host alone: its run, and no counters to speak of. -/
theorem ConvOutRefIdeal_frame : Cert.quiescent_ConvOutRefIdeal (hConvOutRefIdeal := Cert.ConvOutRefIdeal.Gen.facts) := fun m g _ =>
  (θ_run _ _ _).mono (fun r h => ⟨fun c => (h c).2.2, sem_eq_zero_of_no_sems rfl r.2⟩) (Cert.ConvOutRefIdeal.Value.run m g)

/-- The reference of Qkv runs on the host alone: its run, and no counters to speak of. -/
theorem QkvRefIdeal_frame : Cert.quiescent_QkvRefIdeal (hQkvRefIdeal := Cert.QkvRefIdeal.Gen.facts) := fun m g _ =>
  (θ_run _ _ _).mono (fun r h => ⟨fun c => (h c).2, sem_eq_zero_of_no_sems rfl r.2⟩) (Cert.QkvRefIdeal.Value.run m g)

/-- The reference of AttnOut runs on the host alone: its run, and no counters to speak of. -/
theorem AttnOutRefIdeal_frame : Cert.quiescent_AttnOutRefIdeal (hAttnOutRefIdeal := Cert.AttnOutRefIdeal.Gen.facts) := fun m g _ =>
  (θ_run _ _ _).mono (fun r h => ⟨fun c => (h c).2.2, sem_eq_zero_of_no_sems rfl r.2⟩) (Cert.AttnOutRefIdeal.Value.run m g)

/-- The reference of FfnIn runs on the host alone: its run, and no counters to speak of. -/
theorem FfnInRefIdeal_frame : Cert.quiescent_FfnInRefIdeal (hFfnInRefIdeal := Cert.FfnInRefIdeal.Gen.facts) := fun m g _ =>
  (θ_run _ _ _).mono (fun r h => ⟨fun c => (h c).2, sem_eq_zero_of_no_sems rfl r.2⟩) (Cert.FfnInRefIdeal.Value.run m g)

/-- The reference of FfnNorm runs on the host alone: its run, and no counters to speak of. -/
theorem FfnNormRefIdeal_frame : Cert.quiescent_FfnNormRefIdeal (hFfnNormRefIdeal := Cert.FfnNormRefIdeal.Gen.facts) := fun m g _ =>
  (θ_run _ _ _).mono (fun r h => ⟨fun c => (h c).2.2.2.2, sem_eq_zero_of_no_sems rfl r.2⟩) (Cert.FfnNormRefIdeal.Value.run m g)

/-- The reference of ConvNorm runs on the host alone: its run, and no counters to speak of. -/
theorem ConvNormRefIdeal_frame : Cert.quiescent_ConvNormRefIdeal (hConvNormRefIdeal := Cert.ConvNormRefIdeal.Gen.facts) := fun m g _ =>
  (θ_run _ _ _).mono (fun r h => ⟨fun c => (h c).2.2.2.2, sem_eq_zero_of_no_sems rfl r.2⟩) (Cert.ConvNormRefIdeal.Value.run m g)

/-- The reference of QkvNorm runs on the host alone: its run, and no counters to speak of. -/
theorem QkvNormRefIdeal_frame : Cert.quiescent_QkvNormRefIdeal (hQkvNormRefIdeal := Cert.QkvNormRefIdeal.Gen.facts) := fun m g _ =>
  (θ_run _ _ _).mono (fun r h => ⟨fun c => (h c).2.2.2.2, sem_eq_zero_of_no_sems rfl r.2⟩) (Cert.QkvNormRefIdeal.Value.run m g)

/-- The reference of FfnOut runs on the host alone: its run, and no counters to speak of. -/
theorem FfnOutRefIdeal_frame : Cert.quiescent_FfnOutRefIdeal (hFfnOutRefIdeal := Cert.FfnOutRefIdeal.Gen.facts) := fun m g _ =>
  (θ_run _ _ _).mono (fun r h => ⟨fun c => (h c).2.2.2, sem_eq_zero_of_no_sems rfl r.2⟩) (Cert.FfnOutRefIdeal.Value.run m g)

/-- The reference of ConvGate runs on the host alone: its run, and no counters to speak of. -/
theorem ConvGateRefIdeal_frame : Cert.quiescent_ConvGateRefIdeal (hConvGateRefIdeal := Cert.ConvGateRefIdeal.Gen.facts) := fun m g _ =>
  (θ_run _ _ _).mono (fun r h => ⟨fun c => (h c).2, sem_eq_zero_of_no_sems rfl r.2⟩) (Cert.ConvGateRefIdeal.Value.run m g)

/-- The reference of FirstNorm runs on the host alone: its run, and no counters to speak of. -/
theorem FirstNormRefIdeal_frame : Cert.quiescent_FirstNormRefIdeal (hFirstNormRefIdeal := Cert.FirstNormRefIdeal.Gen.facts) := fun m g _ =>
  (θ_run _ _ _).mono (fun r h => ⟨fun c => (h c).2, sem_eq_zero_of_no_sems rfl r.2⟩) (Cert.FirstNormRefIdeal.Value.run m g)

/-- The reference of LossHead runs on the host alone: its run, and no counters to speak of. -/
theorem LossHeadRefIdeal_frame : Cert.quiescent_LossHeadRefIdeal (hLossHeadRefIdeal := Cert.LossHeadRefIdeal.Gen.facts) := fun m g _ =>
  (θ_run _ _ _).mono (fun r h => ⟨fun c => (h c).2.2.2.2, sem_eq_zero_of_no_sems rfl r.2⟩) (Cert.LossHeadRefIdeal.Value.run m g)

/-- The reference of AdamwSmall runs on the host alone: its run, and no counters to speak of. -/
theorem AdamwSmallRefIdeal_frame : Cert.quiescent_AdamwSmallRefIdeal (hAdamwSmallRefIdeal := Cert.AdamwSmallRefIdeal.Gen.facts) := fun m g _ =>
  (θ_run _ _ _).mono (fun r h => ⟨fun c => (h c).2.2.2, sem_eq_zero_of_no_sems rfl r.2⟩) (Cert.AdamwSmallRefIdeal.Value.run m g)

/-- The reference of FfnBwd runs on the host alone: its run, and no counters to speak of. -/
theorem FfnBwdRefIdeal_frame : Cert.quiescent_FfnBwdRefIdeal (hFfnBwdRefIdeal := Cert.FfnBwdRefIdeal.Gen.facts) := fun m g _ =>
  (θ_run _ _ _).mono (fun r h => ⟨fun c => (h c).2.2, sem_eq_zero_of_no_sems rfl r.2⟩) (Cert.FfnBwdRefIdeal.Value.run m g)

/-- All the claims. -/
theorem claim : Cert.Claim := ⟨Cert.ConvBwd.Gen.facts, Cert.ConvBwdIdeal.Gen.facts, Cert.ConvRefIdeal.Gen.facts,
  Cert.FfnInDw.Gen.facts, Cert.FfnInDwIdeal.Gen.facts, Cert.FfnInDwRefIdeal.Gen.facts,
  Cert.FfnDownDw.Gen.facts, Cert.FfnDownDwIdeal.Gen.facts, Cert.FfnDownDwRefIdeal.Gen.facts,
  Cert.ConvInDw.Gen.facts, Cert.ConvInDwIdeal.Gen.facts, Cert.ConvInDwRefIdeal.Gen.facts,
  Cert.OutDw.Gen.facts, Cert.OutDwIdeal.Gen.facts, Cert.OutDwRefIdeal.Gen.facts,
  Cert.QkvDw.Gen.facts, Cert.QkvDwIdeal.Gen.facts, Cert.QkvDwRefIdeal.Gen.facts,
  Cert.FfnDownDx.Gen.facts, Cert.FfnDownDxIdeal.Gen.facts, Cert.FfnDownDxRefIdeal.Gen.facts,
  Cert.ConvOutDx.Gen.facts, Cert.ConvOutDxIdeal.Gen.facts, Cert.ConvOutDxRefIdeal.Gen.facts,
  Cert.AttnOutDx.Gen.facts, Cert.AttnOutDxIdeal.Gen.facts, Cert.AttnOutDxRefIdeal.Gen.facts,
  Cert.ConvIn.Gen.facts, Cert.ConvInIdeal.Gen.facts, Cert.ConvInRefIdeal.Gen.facts,
  Cert.ConvOut.Gen.facts, Cert.ConvOutIdeal.Gen.facts, Cert.ConvOutRefIdeal.Gen.facts,
  Cert.Qkv.Gen.facts, Cert.QkvIdeal.Gen.facts, Cert.QkvRefIdeal.Gen.facts,
  Cert.AttnOut.Gen.facts, Cert.AttnOutIdeal.Gen.facts, Cert.AttnOutRefIdeal.Gen.facts,
  Cert.FfnIn.Gen.facts, Cert.FfnInIdeal.Gen.facts, Cert.FfnInRefIdeal.Gen.facts,
  Cert.FfnNorm.Gen.facts, Cert.FfnNormIdeal.Gen.facts, Cert.FfnNormRefIdeal.Gen.facts,
  Cert.ConvNorm.Gen.facts, Cert.ConvNormIdeal.Gen.facts, Cert.ConvNormRefIdeal.Gen.facts,
  Cert.QkvNorm.Gen.facts, Cert.QkvNormIdeal.Gen.facts, Cert.QkvNormRefIdeal.Gen.facts,
  Cert.FfnOut.Gen.facts, Cert.FfnOutIdeal.Gen.facts, Cert.FfnOutRefIdeal.Gen.facts,
  Cert.ConvGate.Gen.facts, Cert.ConvGateIdeal.Gen.facts, Cert.ConvGateRefIdeal.Gen.facts,
  Cert.FirstNorm.Gen.facts, Cert.FirstNormIdeal.Gen.facts, Cert.FirstNormRefIdeal.Gen.facts,
  Cert.LossHead.Gen.facts, Cert.LossHeadIdeal.Gen.facts, Cert.LossHeadRefIdeal.Gen.facts,
  Cert.AdamwSmall.Gen.facts, Cert.AdamwSmallIdeal.Gen.facts, Cert.AdamwSmallRefIdeal.Gen.facts,
  Cert.FfnBwd.Gen.facts, Cert.FfnBwdIdeal.Gen.facts, Cert.FfnBwdRefIdeal.Gen.facts,
  Cert.FfnBwdClaim.preFacts,
  fun m g _ => Cert.ConvBwd.Gen.frame m g, fun m g _ => Cert.ConvBwdIdeal.Gen.frame m g, ConvRefIdeal_frame,
  fun m g _ => Cert.FfnInDw.Gen.frame m g, fun m g _ => Cert.FfnInDwIdeal.Gen.frame m g, FfnInDwRefIdeal_frame,
  fun m g _ => Cert.FfnDownDw.Gen.frame m g, fun m g _ => Cert.FfnDownDwIdeal.Gen.frame m g, FfnDownDwRefIdeal_frame,
  fun m g _ => Cert.ConvInDw.Gen.frame m g, fun m g _ => Cert.ConvInDwIdeal.Gen.frame m g, ConvInDwRefIdeal_frame,
  fun m g _ => Cert.OutDw.Gen.frame m g, fun m g _ => Cert.OutDwIdeal.Gen.frame m g, OutDwRefIdeal_frame,
  fun m g _ => Cert.QkvDw.Gen.frame m g, fun m g _ => Cert.QkvDwIdeal.Gen.frame m g, QkvDwRefIdeal_frame,
  fun m g _ => Cert.FfnDownDx.Gen.frame m g, fun m g _ => Cert.FfnDownDxIdeal.Gen.frame m g, FfnDownDxRefIdeal_frame,
  fun m g _ => Cert.ConvOutDx.Gen.frame m g, fun m g _ => Cert.ConvOutDxIdeal.Gen.frame m g, ConvOutDxRefIdeal_frame,
  fun m g _ => Cert.AttnOutDx.Gen.frame m g, fun m g _ => Cert.AttnOutDxIdeal.Gen.frame m g, AttnOutDxRefIdeal_frame,
  fun m g _ => Cert.ConvIn.Gen.frame m g, fun m g _ => Cert.ConvInIdeal.Gen.frame m g, ConvInRefIdeal_frame,
  fun m g _ => Cert.ConvOut.Gen.frame m g, fun m g _ => Cert.ConvOutIdeal.Gen.frame m g, ConvOutRefIdeal_frame,
  fun m g _ => Cert.Qkv.Gen.frame m g, fun m g _ => Cert.QkvIdeal.Gen.frame m g, QkvRefIdeal_frame,
  fun m g _ => Cert.AttnOut.Gen.frame m g, fun m g _ => Cert.AttnOutIdeal.Gen.frame m g, AttnOutRefIdeal_frame,
  fun m g _ => Cert.FfnIn.Gen.frame m g, fun m g _ => Cert.FfnInIdeal.Gen.frame m g, FfnInRefIdeal_frame,
  fun m g _ => Cert.FfnNorm.Gen.frame m g, fun m g _ => Cert.FfnNormIdeal.Gen.frame m g, FfnNormRefIdeal_frame,
  fun m g _ => Cert.ConvNorm.Gen.frame m g, fun m g _ => Cert.ConvNormIdeal.Gen.frame m g, ConvNormRefIdeal_frame,
  fun m g _ => Cert.QkvNorm.Gen.frame m g, fun m g _ => Cert.QkvNormIdeal.Gen.frame m g, QkvNormRefIdeal_frame,
  fun m g _ => Cert.FfnOut.Gen.frame m g, fun m g _ => Cert.FfnOutIdeal.Gen.frame m g, FfnOutRefIdeal_frame,
  fun m g _ => Cert.ConvGate.Gen.frame m g, fun m g _ => Cert.ConvGateIdeal.Gen.frame m g, ConvGateRefIdeal_frame,
  fun m g _ => Cert.FirstNorm.Gen.frame m g, fun m g _ => Cert.FirstNormIdeal.Gen.frame m g, FirstNormRefIdeal_frame,
  fun m g _ => Cert.LossHead.Gen.frame m g, fun m g _ => Cert.LossHeadIdeal.Gen.frame m g, LossHeadRefIdeal_frame,
  fun m g _ => Cert.AdamwSmall.Gen.frame m g, fun m g _ => Cert.AdamwSmallIdeal.Gen.frame m g, AdamwSmallRefIdeal_frame,
  fun m g _ => Cert.FfnBwd.Gen.frame m g, fun m g _ => Cert.FfnBwdIdeal.Gen.frame m g, fun m g _ => Cert.FfnBwdIdeal.Gen.frame m g, FfnBwdRefIdeal_frame, fun m g _ => FfnBwdRefIdeal_frame m g trivial,
  trivial, Cert.ConvClaim.algebraic,
  trivial, Cert.FfnInDwClaim.algebraic,
  trivial, Cert.FfnDownDwClaim.algebraic,
  trivial, Cert.ConvInDwClaim.algebraic,
  trivial, Cert.OutDwClaim.algebraic,
  trivial, Cert.QkvDwClaim.algebraic,
  trivial, Cert.FfnDownDxClaim.algebraic,
  trivial, Cert.ConvOutDxClaim.algebraic,
  trivial, Cert.AttnOutDxClaim.algebraic,
  trivial, Cert.ConvInClaim.algebraic,
  trivial, Cert.ConvOutClaim.algebraic,
  trivial, Cert.QkvClaim.algebraic,
  trivial, Cert.AttnOutClaim.algebraic,
  trivial, Cert.FfnInClaim.algebraic,
  trivial, Cert.FfnNormClaim.algebraic,
  trivial, Cert.ConvNormClaim.algebraic,
  trivial, Cert.QkvNormClaim.algebraic,
  trivial, Cert.FfnOutClaim.algebraic,
  trivial, Cert.ConvGateClaim.algebraic,
  trivial, Cert.FirstNormClaim.algebraic,
  trivial, Cert.LossHeadClaim.algebraic,
  trivial, Cert.AdamwSmallClaim.algebraic,
  trivial, Cert.FfnBwdClaim.algebraic⟩

end Cert.Proof

end
